-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v18_0)) (v1 : (c : Dev Cert.Kernel10Ideal.nD) → Buf (Elt Ideal) ((c.tc : Thread Cert.Kernel10Ideal.nD Cert.Kernel10Ideal.τ).loc Cert.Kernel10Ideal.main_v18_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v18_0) = v0 c
          ∧ r.2.mem ((c.tc : Thread Cert.Kernel10Ideal.nD Cert.Kernel10Ideal.τ).loc Cert.Kernel10Ideal.main_v18_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v72) = v0 c
          ∧ r.2.mem ((c.tc : Thread Cert.Reference10Ideal.nD Cert.Reference10Ideal.τ).loc Cert.Reference10Ideal.main_v73) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v36) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v35) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v19) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel10_Kernel10Ideal
    ∧ algebraic_Kernel10Ideal_Reference10Ideal (hKernel10Ideal := hKernel10Ideal) (hReference10Ideal := hReference10Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S8192x2560 : Shape := ⟨2, ![8192, 2560]⟩
abbrev S8704x24 : Shape := ⟨2, ![8704, 24]⟩
abbrev S24 : Shape := ⟨1, ![24]⟩
abbrev S8704x24x64 : Shape := ⟨3, ![8704, 24, 64]⟩
abbrev S8704x1536 : Shape := ⟨2, ![8704, 1536]⟩
abbrev S24x64 : Shape := ⟨2, ![24, 64]⟩
abbrev S1536 : Shape := ⟨1, ![1536]⟩
abbrev S1x1536 : Shape := ⟨2, ![1, 1536]⟩
abbrev S8192x1536 : Shape := ⟨2, ![8192, 1536]⟩
abbrev S12x128x128 : Shape := ⟨3, ![12, 128, 128]⟩
abbrev S128x1536 : Shape := ⟨2, ![128, 1536]⟩
abbrev S128x512 : Shape := ⟨2, ![128, 512]⟩
abbrev S128x128 : Shape := ⟨2, ![128, 128]⟩
abbrev S1x128 : Shape := ⟨2, ![1, 128]⟩
abbrev S128x1 : Shape := ⟨2, ![128, 1]⟩
abbrev S1x128x128 : Shape := ⟨3, ![1, 128, 128]⟩

abbrev nBuf : Space → Nat
  | .hbm => 20
  | .vmem => 15
  | .smem => 0
  | _ => 0

abbrev bufTy : (tb : Table) → Fin (tcTables nBuf tb) → BufTy
  | .hbm, ⟨0, _⟩ => ⟨S8192x2560, .f32⟩
  | .hbm, ⟨1, _⟩ => ⟨S8704x24, .f32⟩
  | .hbm, ⟨2, _⟩ => ⟨S24, .f32⟩
  | .hbm, ⟨3, _⟩ => ⟨S24, .f32⟩
  | .hbm, ⟨4, _⟩ => ⟨S24, .f32⟩
  | .hbm, ⟨5, _⟩ => ⟨S8704x24x64, .f32⟩
  | .hbm, ⟨6, _⟩ => ⟨S8704x1536, .f32⟩
  | .hbm, ⟨7, _⟩ => ⟨S24x64, .f32⟩
  | .hbm, ⟨8, _⟩ => ⟨S1536, .f32⟩
  | .hbm, ⟨9, _⟩ => ⟨S1x1536, .f32⟩
  | .hbm, ⟨10, _⟩ => ⟨S24x64, .f32⟩
  | .hbm, ⟨11, _⟩ => ⟨S1536, .f32⟩
  | .hbm, ⟨12, _⟩ => ⟨S1536, .f32⟩
  | .hbm, ⟨13, _⟩ => ⟨S1x1536, .f32⟩
  | .hbm, ⟨14, _⟩ => ⟨S1x1536, .f32⟩
  | .hbm, ⟨15, _⟩ => ⟨S24x64, .f32⟩
  | .hbm, ⟨16, _⟩ => ⟨S1536, .f32⟩
  | .hbm, ⟨17, _⟩ => ⟨S1x1536, .f32⟩
  | .hbm, ⟨18, _⟩ => ⟨S8192x1536, .f32⟩
  | .hbm, ⟨19, _⟩ => ⟨S12x128x128, .f32⟩
  | .local _ .vmem, ⟨0, _⟩ => ⟨S128x1536, .f32⟩
  | .local _ .vmem, ⟨1, _⟩ => ⟨S128x1536, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x1536, .f32⟩
  | .local _ .vmem, ⟨7, _⟩ => ⟨S128x1536, .f32⟩
  | .local _ .vmem, ⟨8, _⟩ => ⟨S1x1536, .f32⟩
  | .local _ .vmem, ⟨9, _⟩ => ⟨S1x1536, .f32⟩
  | .local _ .vmem, ⟨10, _⟩ => ⟨S1x1536, .f32⟩
  | .local _ .vmem, ⟨11, _⟩ => ⟨S128x1536, .f32⟩
  | .local _ .vmem, ⟨12, _⟩ => ⟨S128x1536, .f32⟩
  | .local _ .vmem, ⟨13, _⟩ => ⟨S12x128x128, .f32⟩
  | .local _ .vmem, ⟨14, _⟩ => ⟨S12x128x128, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v1082 : BitVec 1 := Scalar.cmpi .eq arg0 c63_i32
  let v1083 : BitVec 32 := Scalar.extui v1082
  let c0_i32_380 : BitVec 32 := 0#32
  let v1084 : BitVec 1 := Scalar.cmpi .ne v1083 c0_i32_380
  v1084

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S12x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x2560 : Shape := ⟨2, ![8192, 2560]⟩
abbrev S8704x24 : Shape := ⟨2, ![8704, 24]⟩
abbrev S24 : Shape := ⟨1, ![24]⟩
abbrev S8192x1536 : Shape := ⟨2, ![8192, 1536]⟩
abbrev S8192x24x64 : Shape := ⟨3, ![8192, 24, 64]⟩
abbrev S8192x512 : Shape := ⟨2, ![8192, 512]⟩
abbrev S8192x4x128 : Shape := ⟨3, ![8192, 4, 128]⟩
abbrev S8192x24 : Shape := ⟨2, ![8192, 24]⟩
abbrev S1x24 : Shape := ⟨2, ![1, 24]⟩
abbrev S_ : Shape := ⟨0, ![]⟩
abbrev S24x64x128 : Shape := ⟨3, ![24, 64, 128]⟩
abbrev S8192x24x1 : Shape := ⟨3, ![8192, 24, 1]⟩
abbrev S64x128x4x6x64 : Shape := ⟨5, ![64, 128, 4, 6, 64]⟩
abbrev S64x128x4x128 : Shape := ⟨4, ![64, 128, 4, 128]⟩
abbrev S64x128x4x6 : Shape := ⟨4, ![64, 128, 4, 6]⟩
abbrev S64x4x6x128 : Shape := ⟨4, ![64, 4, 6, 128]⟩
abbrev S128x128 : Shape := ⟨2, ![128, 128]⟩
abbrev S64x4x6x128x1 : Shape := ⟨5, ![64, 4, 6, 128, 1]⟩
abbrev S64x4x6x1x128 : Shape := ⟨5, ![64, 4, 6, 1, 128]⟩
abbrev S64x4x6x128x128 : Shape := ⟨5, ![64, 4, 6, 128, 128]⟩
abbrev S64x4x128x128 : Shape := ⟨4, ![64, 4, 128, 128]⟩
abbrev S64x4x1x128x128 : Shape := ⟨5, ![64, 4, 1, 128, 128]⟩
abbrev S64x4x6x64x128 : Shape := ⟨5, ![64, 4, 6, 64, 128]⟩
abbrev S64x4x6x1 : Shape := ⟨4, ![64, 4, 6, 1]⟩
abbrev S64x128x4x6x1 : Shape := ⟨5, ![64, 128, 4, 6, 1]⟩
abbrev S64x4x6 : Shape := ⟨3, ![64, 4, 6]⟩
abbrev S4x6x64x128 : Shape := ⟨4, ![4, 6, 64, 128]⟩
abbrev S1x4x6x64x128 : Shape := ⟨5, ![1, 4, 6, 64, 128]⟩
abbrev S1x4x6 : Shape := ⟨3, ![1, 4, 6]⟩
abbrev S4x6 : Shape := ⟨2, ![4, 6]⟩
abbrev S4x6x1x1 : Shape := ⟨4, ![4, 6, 1, 1]⟩
abbrev S24x1 : Shape := ⟨2, ![24, 1]⟩
abbrev S1x24x1 : Shape := ⟨3, ![1, 24, 1]⟩
abbrev S12x128x128 : Shape := ⟨3, ![12, 128, 128]⟩

abbrev nBuf : Space → Nat
  | .hbm => 142
  | .vmem => 0
  | .smem => 0
  | _ => 0

abbrev hbmTy0_0 (i : Nat) : BufTy := match i % 128 with
  | 0 => ⟨S8192x2560, .f32⟩
  | 1 => ⟨S8704x24, .f32⟩
  | 2 => ⟨S24, .f32⟩
  | 3 => ⟨S24, .f32⟩
  | 4 => ⟨S24, .f32⟩
  | 5 => ⟨S8192x1536, .f32⟩
  | 6 => ⟨S8192x24x64, .f32⟩
  | 7 => ⟨S8192x512, .f32⟩
  | 8 => ⟨S8192x4x128, .f32⟩
  | 9 => ⟨S8192x512, .f32⟩
  | 10 => ⟨S8192x4x128, .f32⟩
  | 11 => ⟨S8192x24, .f32⟩
  | 12 => ⟨S1x24, .f32⟩
  | 13 => ⟨S8192x24, .f32⟩
  | 14 => ⟨S8192x24, .f32⟩
  | 15 => ⟨S_, .f32⟩
  | 16 => ⟨S8192x24, .f32⟩
  | 17 => ⟨S8192x24, .f32⟩
  | 18 => ⟨S8192x24, .f32⟩
  | 19 => ⟨S8192x24, .f32⟩
  | 20 => ⟨S8192x24, .i1⟩
  | 21 => ⟨S8192x24, .f32⟩
  | 22 => ⟨S8192x24, .f32⟩
  | 23 => ⟨S8192x24, .f32⟩
  | 24 => ⟨S8192x24, .f32⟩
  | 25 => ⟨S8192x24, .f32⟩
  | 26 => ⟨S8192x24, .f32⟩
  | 27 => ⟨S8192x24, .f32⟩
  | 28 => ⟨S8192x24, .f32⟩
  | 29 => ⟨S24, .f32⟩
  | 30 => ⟨S24, .f32⟩
  | 31 => ⟨S_, .f32⟩
  | 32 => ⟨S24x64x128, .f32⟩
  | 33 => ⟨S8192x24x1, .f32⟩
  | 34 => ⟨S8192x24x64, .f32⟩
  | 35 => ⟨S8192x24x64, .f32⟩
  | 36 => ⟨S1x24, .f32⟩
  | 37 => ⟨S8192x24, .f32⟩
  | 38 => ⟨S8192x24, .f32⟩
  | 39 => ⟨S64x128x4x6x64, .f32⟩
  | 40 => ⟨S64x128x4x128, .f32⟩
  | 41 => ⟨S64x128x4x128, .f32⟩
  | 42 => ⟨S64x128x4x6, .f32⟩
  | 43 => ⟨S64x4x6x128, .f32⟩
  | 44 => ⟨S_, .f32⟩
  | 45 => ⟨S_, .f32⟩
  | 46 => ⟨S64x4x6x128, .f32⟩
  | 47 => ⟨S_, .i1⟩
  | 48 => ⟨S128x128, .i1⟩
  | 49 => ⟨S128x128, .i32⟩
  | 50 => ⟨S_, .i32⟩
  | 51 => ⟨S128x128, .i32⟩
  | 52 => ⟨S128x128, .i32⟩
  | 53 => ⟨S128x128, .i32⟩
  | 54 => ⟨S128x128, .i1⟩
  | 55 => ⟨S_, .i1⟩
  | 56 => ⟨S128x128, .i1⟩
  | 57 => ⟨S128x128, .i1⟩
  | 58 => ⟨S64x4x6x128x1, .f32⟩
  | 59 => ⟨S64x4x6x1x128, .f32⟩
  | 60 => ⟨S64x4x6x128x128, .f32⟩
  | 61 => ⟨S64x4x6x128x128, .f32⟩
  | 62 => ⟨S64x4x6x128x128, .f32⟩
  | 63 => ⟨S_, .f32⟩
  | 64 => ⟨S_, .f32⟩
  | 65 => ⟨S64x4x6x128x128, .i1⟩
  | 66 => ⟨S64x4x6x128x128, .f32⟩
  | 67 => ⟨S64x4x6x128x128, .f32⟩
  | 68 => ⟨S64x4x6x128x128, .f32⟩
  | 69 => ⟨S_, .f32⟩
  | 70 => ⟨S_, .f32⟩
  | 71 => ⟨S64x4x6x128x128, .i1⟩
  | 72 => ⟨S64x4x6x128x128, .f32⟩
  | 73 => ⟨S64x4x6x128x128, .f32⟩
  | 74 => ⟨S64x4x128x128, .f32⟩
  | 75 => ⟨S64x4x1x128x128, .f32⟩
  | 76 => ⟨S64x4x6x128x128, .f32⟩
  | 77 => ⟨S64x4x6x128x128, .f32⟩
  | 78 => ⟨S64x4x6x64x128, .f32⟩
  | 79 => ⟨S64x128x4x6x64, .f32⟩
  | 80 => ⟨S64x4x6x1, .f32⟩
  | 81 => ⟨S64x4x6x128, .f32⟩
  | 82 => ⟨S64x4x6x128, .f32⟩
  | 83 => ⟨S64x4x6x128, .f32⟩
  | 84 => ⟨S64x128x4x6, .f32⟩
  | 85 => ⟨S64x128x4x6x1, .f32⟩
  | 86 => ⟨S64x128x4x6x64, .f32⟩
  | 87 => ⟨S64x128x4x6x64, .f32⟩
  | 88 => ⟨S64x4x6x64x128, .f32⟩
  | 89 => ⟨S64x4x6x1, .f32⟩
  | 90 => ⟨S64x4x6, .f32⟩
  | 91 => ⟨S64x4x6, .f32⟩
  | 92 => ⟨S4x6x64x128, .f32⟩
  | 93 => ⟨S_, .f32⟩
  | 94 => ⟨S64x4x6x64x128, .f32⟩
  | 95 => ⟨S_, .i32⟩
  | 96 => ⟨S64x4x6x64x128, .f32⟩
  | 97 => ⟨S64x4x6, .f32⟩
  | 98 => ⟨S_, .i32⟩
  | 99 => ⟨S4x6x64x128, .f32⟩
  | 100 => ⟨S64x4x6x64x128, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S1x4x6x64x128, .f32⟩
  | 108 => ⟨S4x6x64x128, .f32⟩
  | 109 => ⟨S_, .i32⟩
  | 110 => ⟨S_, .i32⟩
  | 111 => ⟨S1x4x6, .f32⟩
  | 112 => ⟨S4x6, .f32⟩
  | 113 => ⟨S4x6x1x1, .f32⟩
  | 114 => ⟨S4x6x64x128, .f32⟩
  | 115 => ⟨S4x6x64x128, .f32⟩
  | 116 => ⟨S4x6x64x128, .f32⟩
  | 117 => ⟨S1x4x6x64x128, .f32⟩
  | 118 => ⟨S_, .i32⟩
  | 119 => ⟨S_, .i32⟩
  | 120 => ⟨S_, .i32⟩
  | 121 => ⟨S_, .i32⟩
  | 122 => ⟨S64x4x6x64x128, .f32⟩
  | 123 => ⟨S_, .i32⟩
  | 124 => ⟨S_, .i32⟩
  | 125 => ⟨S64x4x6x64x128, .f32⟩
  | 126 => ⟨S64x128x4x6x64, .f32⟩
  | 127 => ⟨S64x4x6x128, .f32⟩
  | _ => ⟨S8192x2560, .f32⟩

abbrev hbmTy0_1 (i : Nat) : BufTy := match i % 128 with
  | 0 => ⟨S64x128x4x6, .f32⟩
  | 1 => ⟨S64x128x4x6x1, .f32⟩
  | 2 => ⟨S64x128x4x6x64, .f32⟩
  | 3 => ⟨S64x128x4x6x64, .f32⟩
  | 4 => ⟨S64x128x4x6x64, .f32⟩
  | 5 => ⟨S8192x24x64, .f32⟩
  | 6 => ⟨S24x64x128, .f32⟩
  | 7 => ⟨S24x1, .f32⟩
  | 8 => ⟨S1x24x1, .f32⟩
  | 9 => ⟨S8192x24x64, .f32⟩
  | 10 => ⟨S8192x24x64, .f32⟩
  | 11 => ⟨S8192x24x64, .f32⟩
  | 12 => ⟨S8192x1536, .f32⟩
  | 13 => ⟨S12x128x128, .f32⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_call0_cst : Ref sig .tc := ⟨.hbm, 44, rfl⟩
abbrev main_call1_call0_v0 : Ref sig .tc := ⟨.hbm, 45, rfl⟩
abbrev main_v25 : Ref sig .tc := ⟨.hbm, 46, rfl⟩
abbrev main_c : Ref sig .tc := ⟨.hbm, 47, rfl⟩
abbrev main_v26 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_c_0 : Ref sig .tc := ⟨.hbm, 55, rfl⟩
abbrev main_call2_v5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_0 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v33 : Ref sig .tc := ⟨.hbm, 67, rfl⟩
abbrev main_v34 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_2 : Ref sig .tc := ⟨.hbm, 93, rfl⟩
abbrev main_v55 : Ref sig .tc := ⟨.hbm, 94, rfl⟩
abbrev main_c_3 : Ref sig .tc := ⟨.hbm, 95, rfl⟩
abbrev main_v56_0 : Ref sig .tc := ⟨.hbm, 96, rfl⟩
abbrev main_v56_1 : Ref sig .tc := ⟨.hbm, 97, rfl⟩
abbrev main_v56_2 : Ref sig .tc := ⟨.hbm, 98, rfl⟩
abbrev main_v56_3 : Ref sig .tc := ⟨.hbm, 99, rfl⟩
abbrev main_v56_4 : Ref sig .tc := ⟨.hbm, 100, rfl⟩
abbrev main_while0c_c_8 : Ref sig .tc := ⟨.hbm, 101, rfl⟩
abbrev main_while0c_v74 : Ref sig .tc := ⟨.hbm, 102, rfl⟩
abbrev main_while0b_call5_c : Ref sig .tc := ⟨.hbm, 103, rfl⟩
abbrev main_while0b_call5_c_0 : Ref sig .tc := ⟨.hbm, 104, rfl⟩
abbrev main_while0b_call5_c_1 : Ref sig .tc := ⟨.hbm, 105, rfl⟩
abbrev main_while0b_call5_c_2 : Ref sig .tc := ⟨.hbm, 106, rfl⟩
abbrev main_while0b_call5_v0 : Ref sig .tc := ⟨.hbm, 107, rfl⟩
abbrev main_while0b_v74 : Ref sig .tc := ⟨.hbm, 108, rfl⟩
abbrev main_while0b_call6_c : Ref sig .tc := ⟨.hbm, 109, rfl⟩
abbrev main_while0b_call6_c_0 : Ref sig .tc := ⟨.hbm, 110, rfl⟩
abbrev main_while0b_call6_v0 : Ref sig .tc := ⟨.hbm, 111, rfl⟩
abbrev main_while0b_v75 : Ref sig .tc := ⟨.hbm, 112, rfl⟩
abbrev main_while0b_v76 : Ref sig .tc := ⟨.hbm, 113, rfl⟩
abbrev main_while0b_v77 : Ref sig .tc := ⟨.hbm, 114, rfl⟩
abbrev main_while0b_v78 : Ref sig .tc := ⟨.hbm, 115, rfl⟩
abbrev main_while0b_v79 : Ref sig .tc := ⟨.hbm, 116, rfl⟩
abbrev main_while0b_call7_v0 : Ref sig .tc := ⟨.hbm, 117, rfl⟩
abbrev main_while0b_call7_c : Ref sig .tc := ⟨.hbm, 118, rfl⟩
abbrev main_while0b_call7_c_0 : Ref sig .tc := ⟨.hbm, 119, rfl⟩
abbrev main_while0b_call7_c_1 : Ref sig .tc := ⟨.hbm, 120, rfl⟩
abbrev main_while0b_call7_c_2 : Ref sig .tc := ⟨.hbm, 121, rfl⟩
abbrev main_while0b_v80 : Ref sig .tc := ⟨.hbm, 122, rfl⟩
abbrev main_while0b_c_8 : Ref sig .tc := ⟨.hbm, 123, rfl⟩
abbrev main_while0b_v81 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8704x2048 : Shape := ⟨2, ![8704, 2048]⟩
abbrev S2x2048 : Shape := ⟨2, ![2, 2048]⟩
abbrev S2x2048x11008 : Shape := ⟨3, ![2, 2048, 11008]⟩
abbrev S2x5504x2048 : Shape := ⟨3, ![2, 5504, 2048]⟩
abbrev S2048 : Shape := ⟨1, ![2048]⟩
abbrev S1x2048 : Shape := ⟨2, ![1, 2048]⟩
abbrev S2x2048x5504 : Shape := ⟨3, ![2, 2048, 5504]⟩
abbrev S_ : Shape := ⟨0, ![]⟩
abbrev S2x2048x5632 : Shape := ⟨3, ![2, 2048, 5632]⟩
abbrev S2x5632x2048 : Shape := ⟨3, ![2, 5632, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 25
  | .vmem => 16
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S2x2048x11008, .f32⟩
  | .hbm, ⟨3, _⟩ => ⟨S2x5504x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S2x2048x5504, .f32⟩
  | .hbm, ⟨8, _⟩ => ⟨S_, .i32⟩
  | .hbm, ⟨9, _⟩ => ⟨S_, .f32⟩
  | .hbm, ⟨10, _⟩ => ⟨S2x2048x5632, .f32⟩
  | .hbm, ⟨11, _⟩ => ⟨S2x2048x5632, .bf16⟩
  | .hbm, ⟨12, _⟩ => ⟨S2x2048x5504, .f32⟩
  | .hbm, ⟨13, _⟩ => ⟨S_, .i32⟩
  | .hbm, ⟨14, _⟩ => ⟨S_, .f32⟩
  | .hbm, ⟨15, _⟩ => ⟨S2x2048x5632, .f32⟩
  | .hbm, ⟨16, _⟩ => ⟨S2x2048x5632, .bf16⟩
  | .hbm, ⟨17, _⟩ => ⟨S_, .i32⟩
  | .hbm, ⟨18, _⟩ => ⟨S_, .f32⟩
  | .hbm, ⟨19, _⟩ => ⟨S2x5632x2048, .f32⟩
  | .hbm, ⟨20, _⟩ => ⟨S2x5632x2048, .bf16⟩
  | .hbm, ⟨21, _⟩ => ⟨S1x2048, .f32⟩
  | .hbm, ⟨22, _⟩ => ⟨S1x2048, .f32⟩
  | .hbm, ⟨23, _⟩ => ⟨S8704x2048, .f32⟩
  | .hbm, ⟨24, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![17, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_20 : BitVec 32 := 0#32
  let v30 : BitVec 1 := Scalar.cmpi .ne v29 c0_i32_20
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8704x2048 : Shape := ⟨2, ![8704, 2048]⟩
abbrev S2x2048 : Shape := ⟨2, ![2, 2048]⟩
abbrev S2x2048x11008 : Shape := ⟨3, ![2, 2048, 11008]⟩
abbrev S2x5504x2048 : Shape := ⟨3, ![2, 5504, 2048]⟩
abbrev S2048 : Shape := ⟨1, ![2048]⟩
abbrev S1x2048 : Shape := ⟨2, ![1, 2048]⟩
abbrev S_ : Shape := ⟨0, ![]⟩
abbrev S8704 : Shape := ⟨1, ![8704]⟩
abbrev S8704x1 : Shape := ⟨2, ![8704, 1]⟩
abbrev S1x2048x11008 : Shape := ⟨3, ![1, 2048, 11008]⟩
abbrev S2048x11008 : Shape := ⟨2, ![2048, 11008]⟩
abbrev S1x5504x2048 : Shape := ⟨3, ![1, 5504, 2048]⟩
abbrev S5504x2048 : Shape := ⟨2, ![5504, 2048]⟩
abbrev S8704x11008 : Shape := ⟨2, ![8704, 11008]⟩
abbrev S8704x5504 : Shape := ⟨2, ![8704, 5504]⟩

abbrev nBuf : Space → Nat
  | .hbm => 61
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S2x2048x11008, .f32⟩
  | .hbm, ⟨3, _⟩ => ⟨S2x5504x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S8704x2048, .f32⟩
  | .hbm, ⟨8, _⟩ => ⟨S_, .f32⟩
  | .hbm, ⟨9, _⟩ => ⟨S8704, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x1, .f32⟩
  | .hbm, ⟨18, _⟩ => ⟨S8704x2048, .f32⟩
  | .hbm, ⟨19, _⟩ => ⟨S8704x2048, .f32⟩
  | .hbm, ⟨20, _⟩ => ⟨S1x2048, .f32⟩
  | .hbm, ⟨21, _⟩ => ⟨S8704x2048, .f32⟩
  | .hbm, ⟨22, _⟩ => ⟨S8704x2048, .f32⟩
  | .hbm, ⟨23, _⟩ => ⟨S1x2048x11008, .f32⟩
  | .hbm, ⟨24, _⟩ => ⟨S2048x11008, .f32⟩
  | .hbm, ⟨25, _⟩ => ⟨S1x5504x2048, .f32⟩
  | .hbm, ⟨26, _⟩ => ⟨S5504x2048, .f32⟩
  | .hbm, ⟨27, _⟩ => ⟨S8704x11008, .f32⟩
  | .hbm, ⟨28, _⟩ => ⟨S8704x5504, .f32⟩
  | .hbm, ⟨29, _⟩ => ⟨S8704x5504, .f32⟩
  | .hbm, ⟨30, _⟩ => ⟨S8704x5504, .f32⟩
  | .hbm, ⟨31, _⟩ => ⟨S8704x5504, .f32⟩
  | .hbm, ⟨32, _⟩ => ⟨S_, .f32⟩
  | .hbm, ⟨33, _⟩ => ⟨S8704x5504, .f32⟩
  | .hbm, ⟨34, _⟩ => ⟨S8704x5504, .f32⟩
  | .hbm, ⟨35, _⟩ => ⟨S_, .f32⟩
  | .hbm, ⟨36, _⟩ => ⟨S8704x5504, .f32⟩
  | .hbm, ⟨37, _⟩ => ⟨S8704x5504, .f32⟩
  | .hbm, ⟨38, _⟩ => ⟨S8704x5504, .f32⟩
  | .hbm, ⟨39, _⟩ => ⟨S8704x5504, .f32⟩
  | .hbm, ⟨40, _⟩ => ⟨S8704x2048, .f32⟩
  | .hbm, ⟨41, _⟩ => ⟨S_, .f32⟩
  | .hbm, ⟨42, _⟩ => ⟨S8704x2048, .f32⟩
  | .hbm, ⟨43, _⟩ => ⟨S8704x2048, .f32⟩
  | .hbm, ⟨44, _⟩ => ⟨S8704x2048, .f32⟩
  | .hbm, ⟨45, _⟩ => ⟨S8704x2048, .f32⟩
  | .hbm, ⟨46, _⟩ => ⟨S_, .f32⟩
  | .hbm, ⟨47, _⟩ => ⟨S8704, .f32⟩
  | .hbm, ⟨48, _⟩ => ⟨S8704x1, .f32⟩
  | .hbm, ⟨49, _⟩ => ⟨S_, .f32⟩
  | .hbm, ⟨50, _⟩ => ⟨S8704x1, .f32⟩
  | .hbm, ⟨51, _⟩ => ⟨S8704x1, .f32⟩
  | .hbm, ⟨52, _⟩ => ⟨S_, .f32⟩
  | .hbm, ⟨53, _⟩ => ⟨S8704x1, .f32⟩
  | .hbm, ⟨54, _⟩ => ⟨S8704x1, .f32⟩
  | .hbm, ⟨55, _⟩ => ⟨S8704x1, .f32⟩
  | .hbm, ⟨56, _⟩ => ⟨S8704x2048, .f32⟩
  | .hbm, ⟨57, _⟩ => ⟨S8704x2048, .f32⟩
  | .hbm, ⟨58, _⟩ => ⟨S1x2048, .f32⟩
  | .hbm, ⟨59, _⟩ => ⟨S8704x2048, .f32⟩
  | .hbm, ⟨60, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel3.lean ====
abbrev S8704x2048 : Shape := ⟨2, ![8704, 2048]⟩
abbrev S2x2048 : Shape := ⟨2, ![2, 2048]⟩
abbrev S1x2048x4176 : Shape := ⟨3, ![1, 2048, 4176]⟩
abbrev S1x2048 : Shape := ⟨2, ![1, 2048]⟩
abbrev S2048 : Shape := ⟨1, ![2048]⟩
abbrev S2048x4176 : Shape := ⟨2, ![2048, 4176]⟩
abbrev S2048x1536 : Shape := ⟨2, ![2048, 1536]⟩
abbrev S2048x512 : Shape := ⟨2, ![2048, 512]⟩
abbrev S2048x1024 : Shape := ⟨2, ![2048, 1024]⟩
abbrev S2048x64 : Shape := ⟨2, ![2048, 64]⟩
abbrev S2048x16 : Shape := ⟨2, ![2048, 16]⟩
abbrev S_ : Shape := ⟨0, ![]⟩
abbrev S2048x48 : Shape := ⟨2, ![2048, 48]⟩
abbrev S2048x4224 : Shape := ⟨2, ![2048, 4224]⟩
abbrev S8704x4224 : Shape := ⟨2, ![8704, 4224]⟩
abbrev S512x2048 : Shape := ⟨2, ![512, 2048]⟩
abbrev S2048x1408 : Shape := ⟨2, ![2048, 1408]⟩
abbrev S512x1408 : Shape := ⟨2, ![512, 1408]⟩
abbrev S512 : Shape := ⟨1, ![512]⟩
abbrev S512x1 : Shape := ⟨2, ![512, 1]⟩

abbrev nBuf : Space → Nat
  | .hbm => 19
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S1x2048x4176, .f32⟩
  | .hbm, ⟨3, _⟩ => ⟨S1x2048, .f32⟩
  | .hbm, ⟨4, _⟩ => ⟨S2048, .f32⟩
  | .hbm, ⟨5, _⟩ => ⟨S2048x4176, .f32⟩
  | .hbm, ⟨6, _⟩ => ⟨S2048x1536, .f32⟩
  | .hbm, ⟨7, _⟩ => ⟨S2048x512, .f32⟩
  | .hbm, ⟨8, _⟩ => ⟨S2048x1024, .f32⟩
  | .hbm, ⟨9, _⟩ => ⟨S2048x512, .f32⟩
  | .hbm, ⟨10, _⟩ => ⟨S2048x512, .f32⟩
  | .hbm, ⟨11, _⟩ => ⟨S2048x64, .f32⟩
  | .hbm, ⟨12, _⟩ => ⟨S2048x16, .f32⟩
  | .hbm, ⟨13, _⟩ => ⟨S_, .f32⟩
  | .hbm, ⟨14, _⟩ => ⟨S2048x48, .f32⟩
  | .hbm, ⟨15, _⟩ => ⟨S2048x4224, .f32⟩
  | .hbm, ⟨16, _⟩ => ⟨S2048x4224, .bf16⟩
  | .hbm, ⟨17, _⟩ => ⟨S1x2048, .f32⟩
  | .hbm, ⟨18, _⟩ => ⟨S8704x4224, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1408, .bf16⟩
  | .local _ .vmem, ⟨4, _⟩ => ⟨S2048x1408, .bf16⟩
  | .local _ .vmem, ⟨5, _⟩ => ⟨S512x1408, .f32⟩
  | .local _ .vmem, ⟨6, _⟩ => ⟨S512x1408, .f32⟩
  | .local _ .vmem, ⟨7, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8704x2048 : Shape := ⟨2, ![8704, 2048]⟩
abbrev S2x2048 : Shape := ⟨2, ![2, 2048]⟩
abbrev S1x2048x4176 : Shape := ⟨3, ![1, 2048, 4176]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S2048x4176 : Shape := ⟨2, ![2048, 4176]⟩
abbrev S8704x4176 : Shape := ⟨2, ![8704, 4176]⟩
abbrev S8704x1536 : Shape := ⟨2, ![8704, 1536]⟩
abbrev S8704x512 : Shape := ⟨2, ![8704, 512]⟩
abbrev S8704x1024 : Shape := ⟨2, ![8704, 1024]⟩
abbrev S8704x64 : Shape := ⟨2, ![8704, 64]⟩
abbrev S8704x16 : Shape := ⟨2, ![8704, 16]⟩
abbrev S8704x48 : Shape := ⟨2, ![8704, 48]⟩
abbrev S8704x4224 : Shape := ⟨2, ![8704, 4224]⟩

abbrev nBuf : Space → Nat
  | .hbm => 33
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S1x2048x4176, .f32⟩
  | .hbm, ⟨3, _⟩ => ⟨S1x2048, .f32⟩
  | .hbm, ⟨4, _⟩ => ⟨S2048, .f32⟩
  | .hbm, ⟨5, _⟩ => ⟨S8704x2048, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x2048, .f32⟩
  | .hbm, ⟨17, _⟩ => ⟨S8704x2048, .f32⟩
  | .hbm, ⟨18, _⟩ => ⟨S1x2048, .f32⟩
  | .hbm, ⟨19, _⟩ => ⟨S8704x2048, .f32⟩
  | .hbm, ⟨20, _⟩ => ⟨S8704x2048, .f32⟩
  | .hbm, ⟨21, _⟩ => ⟨S2048x4176, .f32⟩
  | .hbm, ⟨22, _⟩ => ⟨S8704x4176, .f32⟩
  | .hbm, ⟨23, _⟩ => ⟨S8704x1536, .f32⟩
  | .hbm, ⟨24, _⟩ => ⟨S8704x512, .f32⟩
  | .hbm, ⟨25, _⟩ => ⟨S8704x512, .f32⟩
  | .hbm, ⟨26, _⟩ => ⟨S8704x1024, .f32⟩
  | .hbm, ⟨27, _⟩ => ⟨S8704x64, .f32⟩
  | .hbm, ⟨28, _⟩ => ⟨S8704x16, .f32⟩
  | .hbm, ⟨29, _⟩ => ⟨S8704x512, .f32⟩
  | .hbm, ⟨30, _⟩ => ⟨S_, .f32⟩
  | .hbm, ⟨31, _⟩ => ⟨S8704x48, .f32⟩
  | .hbm, ⟨32, _⟩ => ⟨S8704x4224, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel4.lean ====
abbrev S8704x2048 : Shape := ⟨2, ![8704, 2048]⟩
abbrev S2x2048 : Shape := ⟨2, ![2, 2048]⟩
abbrev S1x2048x4632 : Shape := ⟨3, ![1, 2048, 4632]⟩
abbrev S1x2048 : Shape := ⟨2, ![1, 2048]⟩
abbrev S2048 : Shape := ⟨1, ![2048]⟩
abbrev S2048x4632 : Shape := ⟨2, ![2048, 4632]⟩
abbrev S2048x1536 : Shape := ⟨2, ![2048, 1536]⟩
abbrev S2048x2560 : Shape := ⟨2, ![2048, 2560]⟩
abbrev S2048x512 : Shape := ⟨2, ![2048, 512]⟩
abbrev S2048x24 : Shape := ⟨2, ![2048, 24]⟩
abbrev S_ : Shape := ⟨0, ![]⟩
abbrev S2048x232 : Shape := ⟨2, ![2048, 232]⟩
abbrev S2048x4864 : Shape := ⟨2, ![2048, 4864]⟩
abbrev S8704x4864 : Shape := ⟨2, ![8704, 4864]⟩
abbrev S512x2048 : Shape := ⟨2, ![512, 2048]⟩
abbrev S2048x2432 : Shape := ⟨2, ![2048, 2432]⟩
abbrev S512x2432 : Shape := ⟨2, ![512, 2432]⟩
abbrev S512 : Shape := ⟨1, ![512]⟩
abbrev S512x1 : Shape := ⟨2, ![512, 1]⟩

abbrev nBuf : Space → Nat
  | .hbm => 16
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S1x2048x4632, .f32⟩
  | .hbm, ⟨3, _⟩ => ⟨S1x2048, .f32⟩
  | .hbm, ⟨4, _⟩ => ⟨S2048, .f32⟩
  | .hbm, ⟨5, _⟩ => ⟨S2048x4632, .f32⟩
  | .hbm, ⟨6, _⟩ => ⟨S2048x1536, .f32⟩
  | .hbm, ⟨7, _⟩ => ⟨S2048x2560, .f32⟩
  | .hbm, ⟨8, _⟩ => ⟨S2048x512, .f32⟩
  | .hbm, ⟨9, _⟩ => ⟨S2048x24, .f32⟩
  | .hbm, ⟨10, _⟩ => ⟨S_, .f32⟩
  | .hbm, ⟨11, _⟩ => ⟨S2048x232, .f32⟩
  | .hbm, ⟨12, _⟩ => ⟨S2048x4864, .f32⟩
  | .hbm, ⟨13, _⟩ => ⟨S2048x4864, .bf16⟩
  | .hbm, ⟨14, _⟩ => ⟨S1x2048, .f32⟩
  | .hbm, ⟨15, _⟩ => ⟨S8704x4864, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2432, .bf16⟩
  | .local _ .vmem, ⟨4, _⟩ => ⟨S2048x2432, .bf16⟩
  | .local _ .vmem, ⟨5, _⟩ => ⟨S512x2432, .f32⟩
  | .local _ .vmem, ⟨6, _⟩ => ⟨S512x2432, .f32⟩
  | .local _ .vmem, ⟨7, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8704x2048 : Shape := ⟨2, ![8704, 2048]⟩
abbrev S2x2048 : Shape := ⟨2, ![2, 2048]⟩
abbrev S1x2048x4632 : Shape := ⟨3, ![1, 2048, 4632]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S2048x4632 : Shape := ⟨2, ![2048, 4632]⟩
abbrev S8704x4632 : Shape := ⟨2, ![8704, 4632]⟩
abbrev S8704x1536 : Shape := ⟨2, ![8704, 1536]⟩
abbrev S8704x2560 : Shape := ⟨2, ![8704, 2560]⟩
abbrev S8704x24 : Shape := ⟨2, ![8704, 24]⟩
abbrev S8704x512 : Shape := ⟨2, ![8704, 512]⟩
abbrev S8704x232 : Shape := ⟨2, ![8704, 232]⟩
abbrev S8704x4864 : Shape := ⟨2, ![8704, 4864]⟩

abbrev nBuf : Space → Nat
  | .hbm => 30
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S1x2048x4632, .f32⟩
  | .hbm, ⟨3, _⟩ => ⟨S1x2048, .f32⟩
  | .hbm, ⟨4, _⟩ => ⟨S2048, .f32⟩
  | .hbm, ⟨5, _⟩ => ⟨S8704x2048, .f32⟩
  | .hbm, ⟨6, _⟩ => ⟨S_, .f32⟩
  | .hbm, ⟨7, _⟩ => ⟨S8704, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S8704x1, .f32⟩
  | .hbm, ⟨16, _⟩ => ⟨S8704x2048, .f32⟩
  | .hbm, ⟨17, _⟩ => ⟨S8704x2048, .f32⟩
  | .hbm, ⟨18, _⟩ => ⟨S1x2048, .f32⟩
  | .hbm, ⟨19, _⟩ => ⟨S8704x2048, .f32⟩
  | .hbm, ⟨20, _⟩ => ⟨S8704x2048, .f32⟩
  | .hbm, ⟨21, _⟩ => ⟨S2048x4632, .f32⟩
  | .hbm, ⟨22, _⟩ => ⟨S8704x4632, .f32⟩
  | .hbm, ⟨23, _⟩ => ⟨S8704x1536, .f32⟩
  | .hbm, ⟨24, _⟩ => ⟨S8704x2560, .f32⟩
  | .hbm, ⟨25, _⟩ => ⟨S8704x24, .f32⟩
  | .hbm, ⟨26, _⟩ => ⟨S8704x512, .f32⟩
  | .hbm, ⟨27, _⟩ => ⟨S_, .f32⟩
  | .hbm, ⟨28, _⟩ => ⟨S8704x232, .f32⟩
  | .hbm, ⟨29, _⟩ => ⟨S8704x4864, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel5.lean ====
abbrev S1x256x2048 : Shape := ⟨3, ![1, 256, 2048]⟩
abbrev S2x2048 : Shape := ⟨2, ![2, 2048]⟩
abbrev S2x2048x1024 : Shape := ⟨3, ![2, 2048, 1024]⟩
abbrev S256x2048 : Shape := ⟨2, ![256, 2048]⟩
abbrev S1x2048 : Shape := ⟨2, ![1, 2048]⟩
abbrev S2048 : Shape := ⟨1, ![2048]⟩
abbrev S1x2048x1024 : Shape := ⟨3, ![1, 2048, 1024]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 5
  | .smem => 0
  | _ => 0

abbrev bufTy : (tb : Table) → Fin (tcTables nBuf tb) → BufTy
  | .hbm, ⟨0, _⟩ => ⟨S1x256x2048, .f32⟩
  | .hbm, ⟨1, _⟩ => ⟨S2x2048, .f32⟩
  | .hbm, ⟨2, _⟩ => ⟨S2x2048x1024, .f32⟩
  | .hbm, ⟨3, _⟩ => ⟨S256x2048, .f32⟩
  | .hbm, ⟨4, _⟩ => ⟨S1x2048, .f32⟩
  | .hbm, ⟨5, _⟩ => ⟨S2048, .f32⟩
  | .hbm, ⟨6, _⟩ => ⟨S1x2048x1024, .f32⟩
  | .hbm, ⟨7, _⟩ => ⟨S2048x1024, .f32⟩
  | .hbm, ⟨8, _⟩ => ⟨S2048x1024, .bf16⟩
  | .hbm, ⟨9, _⟩ => ⟨S1x2048, .f32⟩
  | .hbm, ⟨10, _⟩ => ⟨S256x1024, .f32⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S256x1024, .f32⟩
  | .local _ .vmem, ⟨4, _⟩ => ⟨S256x2048, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference5Ideal.lean ====
abbrev S1x256x2048 : Shape := ⟨3, ![1, 256, 2048]⟩
abbrev S2x2048 : Shape := ⟨2, ![2, 2048]⟩
abbrev S2x2048x1024 : Shape := ⟨3, ![2, 2048, 1024]⟩
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048x1024 : Shape := ⟨3, ![1, 2048, 1024]⟩
abbrev S2048x1024 : Shape := ⟨2, ![2048, 1024]⟩
abbrev S256x1024 : Shape := ⟨2, ![256, 1024]⟩
abbrev S256x512 : Shape := ⟨2, ![256, 512]⟩

abbrev nBuf : Space → Nat
  | .hbm => 28
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S2x2048, .f32⟩
  | .hbm, ⟨2, _⟩ => ⟨S2x2048x1024, .f32⟩
  | .hbm, ⟨3, _⟩ => ⟨S256x2048, .f32⟩
  | .hbm, ⟨4, _⟩ => ⟨S1x2048, .f32⟩
  | .hbm, ⟨5, _⟩ => ⟨S2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S256x2048, .f32⟩
  | .hbm, ⟨21, _⟩ => ⟨S256x2048, .f32⟩
  | .hbm, ⟨22, _⟩ => ⟨S1x2048x1024, .f32⟩
  | .hbm, ⟨23, _⟩ => ⟨S2048x1024, .f32⟩
  | .hbm, ⟨24, _⟩ => ⟨S256x1024, .f32⟩
  | .hbm, ⟨25, _⟩ => ⟨S256x512, .f32⟩
  | .hbm, ⟨26, _⟩ => ⟨S256x512, .f32⟩
  | .hbm, ⟨27, _⟩ => ⟨S256x1024, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel6.lean ====
abbrev S8704x2048 : Shape := ⟨2, ![8704, 2048]⟩
abbrev S8704x1536 : Shape := ⟨2, ![8704, 1536]⟩
abbrev S8704x512 : Shape := ⟨2, ![8704, 512]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S1536x2048 : Shape := ⟨2, ![1536, 2048]⟩
abbrev S512x2048 : Shape := ⟨2, ![512, 2048]⟩
abbrev S512x1536 : Shape := ⟨2, ![512, 1536]⟩
abbrev S512x512 : Shape := ⟨2, ![512, 512]⟩

abbrev nBuf : Space → Nat
  | .hbm => 13
  | .vmem => 10
  | .smem => 0
  | _ => 0

abbrev bufTy : (tb : Table) → Fin (tcTables nBuf tb) → BufTy
  | .hbm, ⟨0, _⟩ => ⟨S8704x2048, .f32⟩
  | .hbm, ⟨1, _⟩ => ⟨S8704x1536, .f32⟩
  | .hbm, ⟨2, _⟩ => ⟨S8704x512, .f32⟩
  | .hbm, ⟨3, _⟩ => ⟨S2x2048x2048, .f32⟩
  | .hbm, ⟨4, _⟩ => ⟨S8704x1536, .bf16⟩
  | .hbm, ⟨5, _⟩ => ⟨S8704x512, .bf16⟩
  | .hbm, ⟨6, _⟩ => ⟨S1x2048x2048, .f32⟩
  | .hbm, ⟨7, _⟩ => ⟨S2048x2048, .f32⟩
  | .hbm, ⟨8, _⟩ => ⟨S1536x2048, .f32⟩
  | .hbm, ⟨9, _⟩ => ⟨S1536x2048, .bf16⟩
  | .hbm, ⟨10, _⟩ => ⟨S512x2048, .f32⟩
  | .hbm, ⟨11, _⟩ => ⟨S512x2048, .bf16⟩
  | .hbm, ⟨12, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S1536x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8704x2048 : Shape := ⟨2, ![8704, 2048]⟩
abbrev S8704x1536 : Shape := ⟨2, ![8704, 1536]⟩
abbrev S8704x512 : Shape := ⟨2, ![8704, 512]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x1536, .f32⟩
  | .hbm, ⟨2, _⟩ => ⟨S8704x512, .f32⟩
  | .hbm, ⟨3, _⟩ => ⟨S2x2048x2048, .f32⟩
  | .hbm, ⟨4, _⟩ => ⟨S8704x2048, .f32⟩
  | .hbm, ⟨5, _⟩ => ⟨S1x2048x2048, .f32⟩
  | .hbm, ⟨6, _⟩ => ⟨S2048x2048, .f32⟩
  | .hbm, ⟨7, _⟩ => ⟨S8704x2048, .f32⟩
  | .hbm, ⟨8, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S2x2048x11008 : Shape := ⟨3, ![2, 2048, 11008]⟩
abbrev S2x2048x5632 : Shape := ⟨3, ![2, 2048, 5632]⟩
abbrev S1x2048x128 : Shape := ⟨3, ![1, 2048, 128]⟩
abbrev S2048x128 : Shape := ⟨2, ![2048, 128]⟩

abbrev nBuf : Space → Nat
  | .hbm => 3
  | .vmem => 8
  | .smem => 0
  | _ => 0

abbrev bufTy : (tb : Table) → Fin (tcTables nBuf tb) → BufTy
  | .hbm, ⟨0, _⟩ => ⟨S2x2048x11008, .f32⟩
  | .hbm, ⟨1, _⟩ => ⟨S2x2048x5632, .bf16⟩
  | .hbm, ⟨2, _⟩ => ⟨S2x2048x5632, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | _, _ => ⟨S2x2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 44], ![false, false]⟩

def cc0_transform_0 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c43_i32 : BitVec 32 := 43#32
  let v1 : BitVec 32 := Scalar.addi c43_i32 v0
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x2048x11008 : Shape := ⟨3, ![2, 2048, 11008]⟩
abbrev S2x2048x5504 : Shape := ⟨3, ![2, 2048, 5504]⟩
abbrev S_ : Shape := ⟨0, ![]⟩
abbrev S2x2048x5632 : Shape := ⟨3, ![2, 2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x11008, .f32⟩
  | .hbm, ⟨1, _⟩ => ⟨S2x2048x5504, .f32⟩
  | .hbm, ⟨2, _⟩ => ⟨S2x2048x5504, .f32⟩
  | .hbm, ⟨3, _⟩ => ⟨S_, .i32⟩
  | .hbm, ⟨4, _⟩ => ⟨S_, .f32⟩
  | .hbm, ⟨5, _⟩ => ⟨S2x2048x5632, .f32⟩
  | .hbm, ⟨6, _⟩ => ⟨S2x2048x5632, .bf16⟩
  | .hbm, ⟨7, _⟩ => ⟨S_, .i32⟩
  | .hbm, ⟨8, _⟩ => ⟨S_, .f32⟩
  | .hbm, ⟨9, _⟩ => ⟨S2x2048x5632, .f32⟩
  | .hbm, ⟨10, _⟩ => ⟨S2x2048x5632, .bf16⟩
  | _, _ => ⟨S2x2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call1_v0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel8.lean ====
abbrev S2x5504x2048 : Shape := ⟨3, ![2, 5504, 2048]⟩
abbrev S2x5632x2048 : Shape := ⟨3, ![2, 5632, 2048]⟩
abbrev S1x128x2048 : Shape := ⟨3, ![1, 128, 2048]⟩
abbrev S128x2048 : Shape := ⟨2, ![128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S2x5504x2048, .f32⟩
  | .hbm, ⟨1, _⟩ => ⟨S2x5632x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x128x2048, .bf16⟩
  | .local _ .vmem, ⟨3, _⟩ => ⟨S1x128x2048, .bf16⟩
  | _, _ => ⟨S2x5504x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 44], ![false, false]⟩

def cc0_transform_0 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference8Ideal.lean ====
abbrev S2x5504x2048 : Shape := ⟨3, ![2, 5504, 2048]⟩
abbrev S_ : Shape := ⟨0, ![]⟩
abbrev S2x5632x2048 : Shape := ⟨3, ![2, 5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x5504x2048, .f32⟩
  | .hbm, ⟨1, _⟩ => ⟨S_, .i32⟩
  | .hbm, ⟨2, _⟩ => ⟨S_, .f32⟩
  | .hbm, ⟨3, _⟩ => ⟨S2x5632x2048, .f32⟩
  | .hbm, ⟨4, _⟩ => ⟨S2x5632x2048, .bf16⟩
  | _, _ => ⟨S2x5504x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S128x4x2560 : Shape := ⟨3, ![128, 4, 2560]⟩
abbrev S512x24 : Shape := ⟨2, ![512, 24]⟩
abbrev S24 : Shape := ⟨1, ![24]⟩
abbrev S128x24x64x128 : Shape := ⟨4, ![128, 24, 64, 128]⟩
abbrev S512x24x64 : Shape := ⟨3, ![512, 24, 64]⟩
abbrev S512x1536 : Shape := ⟨2, ![512, 1536]⟩
abbrev S24x64 : Shape := ⟨2, ![24, 64]⟩
abbrev S1536 : Shape := ⟨1, ![1536]⟩
abbrev S1x1536 : Shape := ⟨2, ![1, 1536]⟩
abbrev S128x4x1536 : Shape := ⟨3, ![128, 4, 1536]⟩
abbrev S_ : Shape := ⟨0, ![]⟩
abbrev S128x8x1536 : Shape := ⟨3, ![128, 8, 1536]⟩
abbrev S1024x1536 : Shape := ⟨2, ![1024, 1536]⟩
abbrev S128x8x2560 : Shape := ⟨3, ![128, 8, 2560]⟩
abbrev S1024x2560 : Shape := ⟨2, ![1024, 2560]⟩
abbrev S128x128 : Shape := ⟨2, ![128, 128]⟩
abbrev S1x128 : Shape := ⟨2, ![1, 128]⟩
abbrev S16x2x64x128 : Shape := ⟨4, ![16, 2, 64, 128]⟩
abbrev S128x1 : Shape := ⟨2, ![128, 1]⟩
abbrev S1x2x64x128 : Shape := ⟨4, ![1, 2, 64, 128]⟩
abbrev S2x64x128 : Shape := ⟨3, ![2, 64, 128]⟩
abbrev S8x128 : Shape := ⟨2, ![8, 128]⟩

abbrev nBuf : Space → Nat
  | .hbm => 30
  | .vmem => 20
  | .smem => 0
  | _ => 0

abbrev bufTy : (tb : Table) → Fin (tcTables nBuf tb) → BufTy
  | .hbm, ⟨0, _⟩ => ⟨S128x4x2560, .f32⟩
  | .hbm, ⟨1, _⟩ => ⟨S512x24, .f32⟩
  | .hbm, ⟨2, _⟩ => ⟨S24, .f32⟩
  | .hbm, ⟨3, _⟩ => ⟨S24, .f32⟩
  | .hbm, ⟨4, _⟩ => ⟨S24, .f32⟩
  | .hbm, ⟨5, _⟩ => ⟨S128x24x64x128, .f32⟩
  | .hbm, ⟨6, _⟩ => ⟨S512x24x64, .f32⟩
  | .hbm, ⟨7, _⟩ => ⟨S512x1536, .f32⟩
  | .hbm, ⟨8, _⟩ => ⟨S24x64, .f32⟩
  | .hbm, ⟨9, _⟩ => ⟨S1536, .f32⟩
  | .hbm, ⟨10, _⟩ => ⟨S1x1536, .f32⟩
  | .hbm, ⟨11, _⟩ => ⟨S24x64, .f32⟩
  | .hbm, ⟨12, _⟩ => ⟨S1536, .f32⟩
  | .hbm, ⟨13, _⟩ => ⟨S1536, .f32⟩
  | .hbm, ⟨14, _⟩ => ⟨S1x1536, .f32⟩
  | .hbm, ⟨15, _⟩ => ⟨S1x1536, .f32⟩
  | .hbm, ⟨16, _⟩ => ⟨S24x64, .f32⟩
  | .hbm, ⟨17, _⟩ => ⟨S1536, .f32⟩
  | .hbm, ⟨18, _⟩ => ⟨S1x1536, .f32⟩
  | .hbm, ⟨19, _⟩ => ⟨S128x4x1536, .f32⟩
  | .hbm, ⟨20, _⟩ => ⟨S_, .i32⟩
  | .hbm, ⟨21, _⟩ => ⟨S_, .f32⟩
  | .hbm, ⟨22, _⟩ => ⟨S128x8x1536, .f32⟩
  | .hbm, ⟨23, _⟩ => ⟨S1024x1536, .f32⟩
  | .hbm, ⟨24, _⟩ => ⟨S_, .i32⟩
  | .hbm, ⟨25, _⟩ => ⟨S_, .f32⟩
  | .hbm, ⟨26, _⟩ => ⟨S128x8x2560, .f32⟩
  | .hbm, ⟨27, _⟩ => ⟨S1024x2560, .f32⟩
  | .hbm, ⟨28, _⟩ => ⟨S1024x1536, .f32⟩
  | .hbm, ⟨29, _⟩ => ⟨S128x24x64x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S16x2x64x128, .f32⟩
  | .local _ .vmem, ⟨15, _⟩ => ⟨S16x2x64x128, .f32⟩
  | .local _ .vmem, ⟨16, _⟩ => ⟨S128x128, .f32⟩
  | .local _ .vmem, ⟨17, _⟩ => ⟨S128x128, .f32⟩
  | .local _ .vmem, ⟨18, _⟩ => ⟨S16x2x64x128, .f32⟩
  | .local _ .vmem, ⟨19, _⟩ => ⟨S16x2x64x128, .f32⟩
  | _, _ => ⟨S128x4x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32 : BitVec 32 := 12#32
  let v17 : BitVec 32 := Scalar.addi c12_i32 v16
  let c0_i32_4 : BitVec 32 := 0#32
  ![arg0.toNat, v17.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c0_i32_4 : BitVec 32 := 0#32
  ![arg0.toNat, v17.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S16x2x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x2x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference10Ideal.lean ====
abbrev S128x4x2560 : Shape := ⟨3, ![128, 4, 2560]⟩
abbrev S512x24 : Shape := ⟨2, ![512, 24]⟩
abbrev S24 : Shape := ⟨1, ![24]⟩
abbrev S128x24x64x128 : Shape := ⟨4, ![128, 24, 64, 128]⟩
abbrev S128x4x1536 : Shape := ⟨3, ![128, 4, 1536]⟩
abbrev S128x4x512 : Shape := ⟨3, ![128, 4, 512]⟩
abbrev S128x4x4x6x64 : Shape := ⟨5, ![128, 4, 4, 6, 64]⟩
abbrev S128x4x4x128 : Shape := ⟨4, ![128, 4, 4, 128]⟩
abbrev S128x4x24 : Shape := ⟨3, ![128, 4, 24]⟩
abbrev S1x1x24 : Shape := ⟨3, ![1, 1, 24]⟩
abbrev S_ : Shape := ⟨0, ![]⟩
abbrev S128x4x6x64x128 : Shape := ⟨5, ![128, 4, 6, 64, 128]⟩
abbrev S128x4x4x6 : Shape := ⟨4, ![128, 4, 4, 6]⟩
abbrev S128x4x4x6x1 : Shape := ⟨5, ![128, 4, 4, 6, 1]⟩
abbrev S128x4x6x4 : Shape := ⟨4, ![128, 4, 6, 4]⟩
abbrev S4x4 : Shape := ⟨2, ![4, 4]⟩
abbrev S128x4x6x4x1 : Shape := ⟨5, ![128, 4, 6, 4, 1]⟩
abbrev S128x4x6x1x4 : Shape := ⟨5, ![128, 4, 6, 1, 4]⟩
abbrev S128x4x6x4x4 : Shape := ⟨5, ![128, 4, 6, 4, 4]⟩
abbrev S128x4x4x4 : Shape := ⟨4, ![128, 4, 4, 4]⟩
abbrev S128x4x1x4x4 : Shape := ⟨5, ![128, 4, 1, 4, 4]⟩
abbrev S128x4x6x64x4 : Shape := ⟨5, ![128, 4, 6, 64, 4]⟩
abbrev S128x4x6x1 : Shape := ⟨4, ![128, 4, 6, 1]⟩
abbrev S128x4x6 : Shape := ⟨3, ![128, 4, 6]⟩
abbrev S128x4x6x1x1 : Shape := ⟨5, ![128, 4, 6, 1, 1]⟩
abbrev S4x6 : Shape := ⟨2, ![4, 6]⟩
abbrev S4x6x1 : Shape := ⟨3, ![4, 6, 1]⟩
abbrev S1x1x4x6x1 : Shape := ⟨5, ![1, 1, 4, 6, 1]⟩
abbrev S128x8x1536 : Shape := ⟨3, ![128, 8, 1536]⟩
abbrev S1024x1536 : Shape := ⟨2, ![1024, 1536]⟩

abbrev nBuf : Space → Nat
  | .hbm => 114
  | .vmem => 0
  | .smem => 0
  | _ => 0

abbrev bufTy : (tb : Table) → Fin (tcTables nBuf tb) → BufTy
  | .hbm, ⟨0, _⟩ => ⟨S128x4x2560, .f32⟩
  | .hbm, ⟨1, _⟩ => ⟨S512x24, .f32⟩
  | .hbm, ⟨2, _⟩ => ⟨S24, .f32⟩
  | .hbm, ⟨3, _⟩ => ⟨S24, .f32⟩
  | .hbm, ⟨4, _⟩ => ⟨S24, .f32⟩
  | .hbm, ⟨5, _⟩ => ⟨S128x24x64x128, .f32⟩
  | .hbm, ⟨6, _⟩ => ⟨S128x4x1536, .f32⟩
  | .hbm, ⟨7, _⟩ => ⟨S128x4x512, .f32⟩
  | .hbm, ⟨8, _⟩ => ⟨S128x4x512, .f32⟩
  | .hbm, ⟨9, _⟩ => ⟨S128x4x4x6x64, .f32⟩
  | .hbm, ⟨10, _⟩ => ⟨S128x4x4x128, .f32⟩
  | .hbm, ⟨11, _⟩ => ⟨S128x4x4x128, .f32⟩
  | .hbm, ⟨12, _⟩ => ⟨S128x4x24, .f32⟩
  | .hbm, ⟨13, _⟩ => ⟨S1x1x24, .f32⟩
  | .hbm, ⟨14, _⟩ => ⟨S128x4x24, .f32⟩
  | .hbm, ⟨15, _⟩ => ⟨S128x4x24, .f32⟩
  | .hbm, ⟨16, _⟩ => ⟨S_, .f32⟩
  | .hbm, ⟨17, _⟩ => ⟨S128x4x24, .f32⟩
  | .hbm, ⟨18, _⟩ => ⟨S128x4x24, .f32⟩
  | .hbm, ⟨19, _⟩ => ⟨S128x4x24, .f32⟩
  | .hbm, ⟨20, _⟩ => ⟨S128x4x24, .f32⟩
  | .hbm, ⟨21, _⟩ => ⟨S128x4x24, .i1⟩
  | .hbm, ⟨22, _⟩ => ⟨S128x4x24, .f32⟩
  | .hbm, ⟨23, _⟩ => ⟨S128x4x24, .f32⟩
  | .hbm, ⟨24, _⟩ => ⟨S128x4x24, .f32⟩
  | .hbm, ⟨25, _⟩ => ⟨S128x4x24, .f32⟩
  | .hbm, ⟨26, _⟩ => ⟨S128x4x24, .f32⟩
  | .hbm, ⟨27, _⟩ => ⟨S128x4x24, .f32⟩
  | .hbm, ⟨28, _⟩ => ⟨S128x4x24, .f32⟩
  | .hbm, ⟨29, _⟩ => ⟨S128x4x24, .f32⟩
  | .hbm, ⟨30, _⟩ => ⟨S24, .f32⟩
  | .hbm, ⟨31, _⟩ => ⟨S24, .f32⟩
  | .hbm, ⟨32, _⟩ => ⟨S128x4x6x64x128, .f32⟩
  | .hbm, ⟨33, _⟩ => ⟨S1x1x24, .f32⟩
  | .hbm, ⟨34, _⟩ => ⟨S128x4x24, .f32⟩
  | .hbm, ⟨35, _⟩ => ⟨S128x4x24, .f32⟩
  | .hbm, ⟨36, _⟩ => ⟨S128x4x4x6, .f32⟩
  | .hbm, ⟨37, _⟩ => ⟨S128x4x4x6, .f32⟩
  | .hbm, ⟨38, _⟩ => ⟨S128x4x4x6x1, .f32⟩
  | .hbm, ⟨39, _⟩ => ⟨S128x4x4x6x64, .f32⟩
  | .hbm, ⟨40, _⟩ => ⟨S128x4x4x6x64, .f32⟩
  | .hbm, ⟨41, _⟩ => ⟨S128x4x6x4, .f32⟩
  | .hbm, ⟨42, _⟩ => ⟨S_, .f32⟩
  | .hbm, ⟨43, _⟩ => ⟨S_, .f32⟩
  | .hbm, ⟨44, _⟩ => ⟨S128x4x6x4, .f32⟩
  | .hbm, ⟨45, _⟩ => ⟨S_, .i1⟩
  | .hbm, ⟨46, _⟩ => ⟨S4x4, .i1⟩
  | .hbm, ⟨47, _⟩ => ⟨S4x4, .i32⟩
  | .hbm, ⟨48, _⟩ => ⟨S_, .i32⟩
  | .hbm, ⟨49, _⟩ => ⟨S4x4, .i32⟩
  | .hbm, ⟨50, _⟩ => ⟨S4x4, .i32⟩
  | .hbm, ⟨51, _⟩ => ⟨S4x4, .i32⟩
  | .hbm, ⟨52, _⟩ => ⟨S4x4, .i1⟩
  | .hbm, ⟨53, _⟩ => ⟨S_, .i1⟩
  | .hbm, ⟨54, _⟩ => ⟨S4x4, .i1⟩
  | .hbm, ⟨55, _⟩ => ⟨S4x4, .i1⟩
  | .hbm, ⟨56, _⟩ => ⟨S128x4x6x4x1, .f32⟩
  | .hbm, ⟨57, _⟩ => ⟨S128x4x6x1x4, .f32⟩
  | .hbm, ⟨58, _⟩ => ⟨S128x4x6x4x4, .f32⟩
  | .hbm, ⟨59, _⟩ => ⟨S128x4x6x4x4, .f32⟩
  | .hbm, ⟨60, _⟩ => ⟨S128x4x6x4x4, .f32⟩
  | .hbm, ⟨61, _⟩ => ⟨S_, .f32⟩
  | .hbm, ⟨62, _⟩ => ⟨S_, .f32⟩
  | .hbm, ⟨63, _⟩ => ⟨S128x4x6x4x4, .i1⟩
  | .hbm, ⟨64, _⟩ => ⟨S128x4x6x4x4, .f32⟩
  | .hbm, ⟨65, _⟩ => ⟨S128x4x6x4x4, .f32⟩
  | .hbm, ⟨66, _⟩ => ⟨S128x4x6x4x4, .f32⟩
  | .hbm, ⟨67, _⟩ => ⟨S_, .f32⟩
  | .hbm, ⟨68, _⟩ => ⟨S_, .f32⟩
  | .hbm, ⟨69, _⟩ => ⟨S128x4x6x4x4, .i1⟩
  | .hbm, ⟨70, _⟩ => ⟨S128x4x6x4x4, .f32⟩
  | .hbm, ⟨71, _⟩ => ⟨S128x4x6x4x4, .f32⟩
  | .hbm, ⟨72, _⟩ => ⟨S128x4x4x4, .f32⟩
  | .hbm, ⟨73, _⟩ => ⟨S128x4x1x4x4, .f32⟩
  | .hbm, ⟨74, _⟩ => ⟨S128x4x6x4x4, .f32⟩
  | .hbm, ⟨75, _⟩ => ⟨S128x4x6x4x4, .f32⟩
  | .hbm, ⟨76, _⟩ => ⟨S128x4x6x64x4, .f32⟩
  | .hbm, ⟨77, _⟩ => ⟨S128x4x4x6x64, .f32⟩
  | .hbm, ⟨78, _⟩ => ⟨S128x4x6x1, .f32⟩
  | .hbm, ⟨79, _⟩ => ⟨S128x4x6x4, .f32⟩
  | .hbm, ⟨80, _⟩ => ⟨S128x4x6x4, .f32⟩
  | .hbm, ⟨81, _⟩ => ⟨S128x4x6x4, .f32⟩
  | .hbm, ⟨82, _⟩ => ⟨S128x4x4x6, .f32⟩
  | .hbm, ⟨83, _⟩ => ⟨S128x4x4x6x1, .f32⟩
  | .hbm, ⟨84, _⟩ => ⟨S128x4x4x6x64, .f32⟩
  | .hbm, ⟨85, _⟩ => ⟨S128x4x4x6x64, .f32⟩
  | .hbm, ⟨86, _⟩ => ⟨S128x4x6x64x128, .f32⟩
  | .hbm, ⟨87, _⟩ => ⟨S128x4x6x1, .f32⟩
  | .hbm, ⟨88, _⟩ => ⟨S128x4x6, .f32⟩
  | .hbm, ⟨89, _⟩ => ⟨S128x4x6, .f32⟩
  | .hbm, ⟨90, _⟩ => ⟨S128x4x6x1x1, .f32⟩
  | .hbm, ⟨91, _⟩ => ⟨S128x4x6x64x128, .f32⟩
  | .hbm, ⟨92, _⟩ => ⟨S128x4x6x64x128, .f32⟩
  | .hbm, ⟨93, _⟩ => ⟨S128x4x6x64x128, .f32⟩
  | .hbm, ⟨94, _⟩ => ⟨S128x4x6x64x4, .f32⟩
  | .hbm, ⟨95, _⟩ => ⟨S128x4x4x6x64, .f32⟩
  | .hbm, ⟨96, _⟩ => ⟨S128x4x6x4, .f32⟩
  | .hbm, ⟨97, _⟩ => ⟨S128x4x4x6, .f32⟩
  | .hbm, ⟨98, _⟩ => ⟨S128x4x4x6x1, .f32⟩
  | .hbm, ⟨99, _⟩ => ⟨S128x4x4x6x64, .f32⟩
  | .hbm, ⟨100, _⟩ => ⟨S128x4x4x6x64, .f32⟩
  | .hbm, ⟨101, _⟩ => ⟨S128x4x4x6x64, .f32⟩
  | .hbm, ⟨102, _⟩ => ⟨S4x6, .f32⟩
  | .hbm, ⟨103, _⟩ => ⟨S4x6x1, .f32⟩
  | .hbm, ⟨104, _⟩ => ⟨S1x1x4x6x1, .f32⟩
  | .hbm, ⟨105, _⟩ => ⟨S128x4x4x6x64, .f32⟩
  | .hbm, ⟨106, _⟩ => ⟨S128x4x4x6x64, .f32⟩
  | .hbm, ⟨107, _⟩ => ⟨S128x4x4x6x64, .f32⟩
  | .hbm, ⟨108, _⟩ => ⟨S128x4x1536, .f32⟩
  | .hbm, ⟨109, _⟩ => ⟨S_, .i32⟩
  | .hbm, ⟨110, _⟩ => ⟨S_, .f32⟩
  | .hbm, ⟨111, _⟩ => ⟨S128x8x1536, .f32⟩
  | .hbm, ⟨112, _⟩ => ⟨S1024x1536, .f32⟩
  | .hbm, ⟨113, _⟩ => ⟨S128x24x64x128, .f32⟩
  | _, _ => ⟨S128x4x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call1_call0_cst : Ref sig .tc := ⟨.hbm, 42, rfl⟩
abbrev main_call1_call0_v0 : Ref sig .tc := ⟨.hbm, 43, rfl⟩
abbrev main_v23 : Ref sig .tc := ⟨.hbm, 44, rfl⟩
abbrev main_c : Ref sig .tc := ⟨.hbm, 45, rfl⟩
abbrev main_v24 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_c_0 : Ref sig .tc := ⟨.hbm, 53, rfl⟩
abbrev main_call2_v5 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_v31 : Ref sig .tc := ⟨.hbm, 65, rfl⟩
abbrev main_v32 : Ref sig .tc := ⟨.hbm, 66, rfl⟩
abbrev main_cst_0 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_1 : Ref sig .tc := ⟨.hbm, 109, rfl⟩
abbrev main_call5_v0 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩

abbrev nD : Nat := 1
abbrev τ : Topo := Topo.v7x

variable {F : FTy → Type} [FloatOps F]
-- ==== Kernel12.lean ====
abbrev S8704x4864 : Shape := ⟨2, ![8704, 4864]⟩
abbrev S1x4x2560 : Shape := ⟨3, ![1, 4, 2560]⟩
abbrev S1x2560 : Shape := ⟨2, ![1, 2560]⟩
abbrev S1x8704x4864 : Shape := ⟨3, ![1, 8704, 4864]⟩
abbrev S_ : Shape := ⟨0, ![]⟩
abbrev S1x8x2560 : Shape := ⟨3, ![1, 8, 2560]⟩
abbrev S4x2560 : Shape := ⟨2, ![4, 2560]⟩
abbrev S2560 : Shape := ⟨1, ![2560]⟩
abbrev S1x8192x2560 : Shape := ⟨3, ![1, 8192, 2560]⟩
abbrev S1x1024x512 : Shape := ⟨3, ![1, 1024, 512]⟩
abbrev S1x8x512 : Shape := ⟨3, ![1, 8, 512]⟩
abbrev S4x512 : Shape := ⟨2, ![4, 512]⟩
abbrev S1x512 : Shape := ⟨2, ![1, 512]⟩
abbrev S8x512 : Shape := ⟨2, ![8, 512]⟩
abbrev S1024x512 : Shape := ⟨2, ![1024, 512]⟩
abbrev S1032x512 : Shape := ⟨2, ![1032, 512]⟩

abbrev nBuf : Space → Nat
  | .hbm => 10
  | .vmem => 11
  | .smem => 0
  | _ => 0

abbrev bufTy : (tb : Table) → Fin (tcTables nBuf tb) → BufTy
  | .hbm, ⟨0, _⟩ => ⟨S8704x4864, .f32⟩
  | .hbm, ⟨1, _⟩ => ⟨S1x4x2560, .f32⟩
  | .hbm, ⟨2, _⟩ => ⟨S1x2560, .f32⟩
  | .hbm, ⟨3, _⟩ => ⟨S1x8704x4864, .f32⟩
  | .hbm, ⟨4, _⟩ => ⟨S_, .f32⟩
  | .hbm, ⟨5, _⟩ => ⟨S1x8x2560, .f32⟩
  | .hbm, ⟨6, _⟩ => ⟨S4x2560, .f32⟩
  | .hbm, ⟨7, _⟩ => ⟨S2560, .f32⟩
  | .hbm, ⟨8, _⟩ => ⟨S1x2560, .f32⟩
  | .hbm, ⟨9, _⟩ => ⟨S1x8192x2560, .f32⟩
  | .local _ .vmem, ⟨0, _⟩ => ⟨S1x1024x512, .f32⟩
  | .local _ .vmem, ⟨1, _⟩ => ⟨S1x1024x512, .f32⟩
  | .local _ .vmem, ⟨2, _⟩ => ⟨S1x8x512, .f32⟩
  | .local _ .vmem, ⟨3, _⟩ => ⟨S1x8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S1x1024x512, .f32⟩
  | .local _ .vmem, ⟨9, _⟩ => ⟨S1x1024x512, .f32⟩
  | .local _ .vmem, ⟨10, _⟩ => ⟨S8x512, .f32⟩
  | _, _ => ⟨S8704x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 5, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference12Ideal.lean ====
abbrev S8704x4864 : Shape := ⟨2, ![8704, 4864]⟩
abbrev S1x4x2560 : Shape := ⟨3, ![1, 4, 2560]⟩
abbrev S1x2560 : Shape := ⟨2, ![1, 2560]⟩
abbrev S8192x2560 : Shape := ⟨2, ![8192, 2560]⟩
abbrev S1x8192x2560 : Shape := ⟨3, ![1, 8192, 2560]⟩
abbrev S_ : Shape := ⟨0, ![]⟩
abbrev S1x3x2560 : Shape := ⟨3, ![1, 3, 2560]⟩
abbrev S4x2560 : Shape := ⟨2, ![4, 2560]⟩
abbrev S2560 : Shape := ⟨1, ![2560]⟩
abbrev S1x8195x2560 : Shape := ⟨3, ![1, 8195, 2560]⟩
abbrev S1x1x2560 : Shape := ⟨3, ![1, 1, 2560]⟩

abbrev nBuf : Space → Nat
  | .hbm => 49
  | .vmem => 0
  | .smem => 0
  | _ => 0

abbrev bufTy : (tb : Table) → Fin (tcTables nBuf tb) → BufTy
  | .hbm, ⟨0, _⟩ => ⟨S8704x4864, .f32⟩
  | .hbm, ⟨1, _⟩ => ⟨S1x4x2560, .f32⟩
  | .hbm, ⟨2, _⟩ => ⟨S1x2560, .f32⟩
  | .hbm, ⟨3, _⟩ => ⟨S8192x2560, .f32⟩
  | .hbm, ⟨4, _⟩ => ⟨S1x8192x2560, .f32⟩
  | .hbm, ⟨5, _⟩ => ⟨S_, .f32⟩
  | .hbm, ⟨6, _⟩ => ⟨S1x3x2560, .f32⟩
  | .hbm, ⟨7, _⟩ => ⟨S4x2560, .f32⟩
  | .hbm, ⟨8, _⟩ => ⟨S2560, .f32⟩
  | .hbm, ⟨9, _⟩ => ⟨S1x8195x2560, .f32⟩
  | .hbm, ⟨10, _⟩ => ⟨S1x8192x2560, .f32⟩
  | .hbm, ⟨11, _⟩ => ⟨S1x2560, .f32⟩
  | .hbm, ⟨12, _⟩ => ⟨S2560, .f32⟩
  | .hbm, ⟨13, _⟩ => ⟨S1x1x2560, .f32⟩
  | .hbm, ⟨14, _⟩ => ⟨S1x8192x2560, .f32⟩
  | .hbm, ⟨15, _⟩ => ⟨S1x8192x2560, .f32⟩
  | .hbm, ⟨16, _⟩ => ⟨S1x1x2560, .f32⟩
  | .hbm, ⟨17, _⟩ => ⟨S1x8192x2560, .f32⟩
  | .hbm, ⟨18, _⟩ => ⟨S1x8192x2560, .f32⟩
  | .hbm, ⟨19, _⟩ => ⟨S1x8192x2560, .f32⟩
  | .hbm, ⟨20, _⟩ => ⟨S1x2560, .f32⟩
  | .hbm, ⟨21, _⟩ => ⟨S2560, .f32⟩
  | .hbm, ⟨22, _⟩ => ⟨S1x1x2560, .f32⟩
  | .hbm, ⟨23, _⟩ => ⟨S1x8192x2560, .f32⟩
  | .hbm, ⟨24, _⟩ => ⟨S1x8192x2560, .f32⟩
  | .hbm, ⟨25, _⟩ => ⟨S1x8192x2560, .f32⟩
  | .hbm, ⟨26, _⟩ => ⟨S1x8192x2560, .f32⟩
  | .hbm, ⟨27, _⟩ => ⟨S1x2560, .f32⟩
  | .hbm, ⟨28, _⟩ => ⟨S2560, .f32⟩
  | .hbm, ⟨29, _⟩ => ⟨S1x1x2560, .f32⟩
  | .hbm, ⟨30, _⟩ => ⟨S1x8192x2560, .f32⟩
  | .hbm, ⟨31, _⟩ => ⟨S1x8192x2560, .f32⟩
  | .hbm, ⟨32, _⟩ => ⟨S1x8192x2560, .f32⟩
  | .hbm, ⟨33, _⟩ => ⟨S1x8192x2560, .f32⟩
  | .hbm, ⟨34, _⟩ => ⟨S1x2560, .f32⟩
  | .hbm, ⟨35, _⟩ => ⟨S2560, .f32⟩
  | .hbm, ⟨36, _⟩ => ⟨S1x1x2560, .f32⟩
  | .hbm, ⟨37, _⟩ => ⟨S1x8192x2560, .f32⟩
  | .hbm, ⟨38, _⟩ => ⟨S1x8192x2560, .f32⟩
  | .hbm, ⟨39, _⟩ => ⟨S1x8192x2560, .f32⟩
  | .hbm, ⟨40, _⟩ => ⟨S1x8192x2560, .f32⟩
  | .hbm, ⟨41, _⟩ => ⟨S1x8192x2560, .f32⟩
  | .hbm, ⟨42, _⟩ => ⟨S_, .f32⟩
  | .hbm, ⟨43, _⟩ => ⟨S1x8192x2560, .f32⟩
  | .hbm, ⟨44, _⟩ => ⟨S1x8192x2560, .f32⟩
  | .hbm, ⟨45, _⟩ => ⟨S_, .f32⟩
  | .hbm, ⟨46, _⟩ => ⟨S1x8192x2560, .f32⟩
  | .hbm, ⟨47, _⟩ => ⟨S1x8192x2560, .f32⟩
  | .hbm, ⟨48, _⟩ => ⟨S1x8192x2560, .f32⟩
  | _, _ => ⟨S8704x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel13.lean ====
abbrev S128x4x2560 : Shape := ⟨3, ![128, 4, 2560]⟩
abbrev S1x128x3x2560 : Shape := ⟨4, ![1, 128, 3, 2560]⟩
abbrev S1x4x2560 : Shape := ⟨3, ![1, 4, 2560]⟩
abbrev S1x2560 : Shape := ⟨2, ![1, 2560]⟩
abbrev S_ : Shape := ⟨0, ![]⟩
abbrev S128x5x2560 : Shape := ⟨3, ![128, 5, 2560]⟩
abbrev S128x3x2560 : Shape := ⟨3, ![128, 3, 2560]⟩
abbrev S128x8x2560 : Shape := ⟨3, ![128, 8, 2560]⟩
abbrev S4x2560 : Shape := ⟨2, ![4, 2560]⟩
abbrev S2560 : Shape := ⟨1, ![2560]⟩
abbrev S1x8x2560 : Shape := ⟨3, ![1, 8, 2560]⟩
abbrev S8x2560 : Shape := ⟨2, ![8, 2560]⟩
abbrev S16x2560 : Shape := ⟨2, ![16, 2560]⟩

abbrev nBuf : Space → Nat
  | .hbm => 15
  | .vmem => 9
  | .smem => 0
  | _ => 0

abbrev bufTy : (tb : Table) → Fin (tcTables nBuf tb) → BufTy
  | .hbm, ⟨0, _⟩ => ⟨S128x4x2560, .f32⟩
  | .hbm, ⟨1, _⟩ => ⟨S1x128x3x2560, .f32⟩
  | .hbm, ⟨2, _⟩ => ⟨S1x4x2560, .f32⟩
  | .hbm, ⟨3, _⟩ => ⟨S1x2560, .f32⟩
  | .hbm, ⟨4, _⟩ => ⟨S_, .f32⟩
  | .hbm, ⟨5, _⟩ => ⟨S128x5x2560, .f32⟩
  | .hbm, ⟨6, _⟩ => ⟨S128x3x2560, .f32⟩
  | .hbm, ⟨7, _⟩ => ⟨S128x8x2560, .f32⟩
  | .hbm, ⟨8, _⟩ => ⟨S_, .i32⟩
  | .hbm, ⟨9, _⟩ => ⟨S_, .f32⟩
  | .hbm, ⟨10, _⟩ => ⟨S128x8x2560, .f32⟩
  | .hbm, ⟨11, _⟩ => ⟨S4x2560, .f32⟩
  | .hbm, ⟨12, _⟩ => ⟨S2560, .f32⟩
  | .hbm, ⟨13, _⟩ => ⟨S1x2560, .f32⟩
  | .hbm, ⟨14, _⟩ => ⟨S128x8x2560, .f32⟩
  | .local _ .vmem, ⟨0, _⟩ => ⟨S1x8x2560, .f32⟩
  | .local _ .vmem, ⟨1, _⟩ => ⟨S1x8x2560, .f32⟩
  | .local _ .vmem, ⟨2, _⟩ => ⟨S1x8x2560, .f32⟩
  | .local _ .vmem, ⟨3, _⟩ => ⟨S1x8x2560, .f32⟩
  | .local _ .vmem, ⟨4, _⟩ => ⟨S4x2560, .f32⟩
  | .local _ .vmem, ⟨5, _⟩ => ⟨S1x2560, .f32⟩
  | .local _ .vmem, ⟨6, _⟩ => ⟨S1x8x2560, .f32⟩
  | .local _ .vmem, ⟨7, _⟩ => ⟨S1x8x2560, .f32⟩
  | .local _ .vmem, ⟨8, _⟩ => ⟨S8x2560, .f32⟩
  | _, _ => ⟨S128x4x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![128, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x8x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S4x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1x8x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference13Ideal.lean ====
abbrev S128x4x2560 : Shape := ⟨3, ![128, 4, 2560]⟩
abbrev S1x128x3x2560 : Shape := ⟨4, ![1, 128, 3, 2560]⟩
abbrev S1x4x2560 : Shape := ⟨3, ![1, 4, 2560]⟩
abbrev S1x2560 : Shape := ⟨2, ![1, 2560]⟩
abbrev S_ : Shape := ⟨0, ![]⟩
abbrev S128x8x2560 : Shape := ⟨3, ![128, 8, 2560]⟩
abbrev S128x3x2560 : Shape := ⟨3, ![128, 3, 2560]⟩
abbrev S4x2560 : Shape := ⟨2, ![4, 2560]⟩
abbrev S2560 : Shape := ⟨1, ![2560]⟩
abbrev S128x11x2560 : Shape := ⟨3, ![128, 11, 2560]⟩
abbrev S1x1x2560 : Shape := ⟨3, ![1, 1, 2560]⟩

abbrev nBuf : Space → Nat
  | .hbm => 50
  | .vmem => 0
  | .smem => 0
  | _ => 0

abbrev bufTy : (tb : Table) → Fin (tcTables nBuf tb) → BufTy
  | .hbm, ⟨0, _⟩ => ⟨S128x4x2560, .f32⟩
  | .hbm, ⟨1, _⟩ => ⟨S1x128x3x2560, .f32⟩
  | .hbm, ⟨2, _⟩ => ⟨S1x4x2560, .f32⟩
  | .hbm, ⟨3, _⟩ => ⟨S1x2560, .f32⟩
  | .hbm, ⟨4, _⟩ => ⟨S_, .i32⟩
  | .hbm, ⟨5, _⟩ => ⟨S_, .f32⟩
  | .hbm, ⟨6, _⟩ => ⟨S128x8x2560, .f32⟩
  | .hbm, ⟨7, _⟩ => ⟨S128x3x2560, .f32⟩
  | .hbm, ⟨8, _⟩ => ⟨S4x2560, .f32⟩
  | .hbm, ⟨9, _⟩ => ⟨S2560, .f32⟩
  | .hbm, ⟨10, _⟩ => ⟨S128x11x2560, .f32⟩
  | .hbm, ⟨11, _⟩ => ⟨S128x8x2560, .f32⟩
  | .hbm, ⟨12, _⟩ => ⟨S1x2560, .f32⟩
  | .hbm, ⟨13, _⟩ => ⟨S2560, .f32⟩
  | .hbm, ⟨14, _⟩ => ⟨S1x1x2560, .f32⟩
  | .hbm, ⟨15, _⟩ => ⟨S128x8x2560, .f32⟩
  | .hbm, ⟨16, _⟩ => ⟨S128x8x2560, .f32⟩
  | .hbm, ⟨17, _⟩ => ⟨S1x1x2560, .f32⟩
  | .hbm, ⟨18, _⟩ => ⟨S128x8x2560, .f32⟩
  | .hbm, ⟨19, _⟩ => ⟨S128x8x2560, .f32⟩
  | .hbm, ⟨20, _⟩ => ⟨S128x8x2560, .f32⟩
  | .hbm, ⟨21, _⟩ => ⟨S1x2560, .f32⟩
  | .hbm, ⟨22, _⟩ => ⟨S2560, .f32⟩
  | .hbm, ⟨23, _⟩ => ⟨S1x1x2560, .f32⟩
  | .hbm, ⟨24, _⟩ => ⟨S128x8x2560, .f32⟩
  | .hbm, ⟨25, _⟩ => ⟨S128x8x2560, .f32⟩
  | .hbm, ⟨26, _⟩ => ⟨S128x8x2560, .f32⟩
  | .hbm, ⟨27, _⟩ => ⟨S128x8x2560, .f32⟩
  | .hbm, ⟨28, _⟩ => ⟨S1x2560, .f32⟩
  | .hbm, ⟨29, _⟩ => ⟨S2560, .f32⟩
  | .hbm, ⟨30, _⟩ => ⟨S1x1x2560, .f32⟩
  | .hbm, ⟨31, _⟩ => ⟨S128x8x2560, .f32⟩
  | .hbm, ⟨32, _⟩ => ⟨S128x8x2560, .f32⟩
  | .hbm, ⟨33, _⟩ => ⟨S128x8x2560, .f32⟩
  | .hbm, ⟨34, _⟩ => ⟨S128x8x2560, .f32⟩
  | .hbm, ⟨35, _⟩ => ⟨S1x2560, .f32⟩
  | .hbm, ⟨36, _⟩ => ⟨S2560, .f32⟩
  | .hbm, ⟨37, _⟩ => ⟨S1x1x2560, .f32⟩
  | .hbm, ⟨38, _⟩ => ⟨S128x8x2560, .f32⟩
  | .hbm, ⟨39, _⟩ => ⟨S128x8x2560, .f32⟩
  | .hbm, ⟨40, _⟩ => ⟨S128x8x2560, .f32⟩
  | .hbm, ⟨41, _⟩ => ⟨S128x8x2560, .f32⟩
  | .hbm, ⟨42, _⟩ => ⟨S128x8x2560, .f32⟩
  | .hbm, ⟨43, _⟩ => ⟨S_, .f32⟩
  | .hbm, ⟨44, _⟩ => ⟨S128x8x2560, .f32⟩
  | .hbm, ⟨45, _⟩ => ⟨S128x8x2560, .f32⟩
  | .hbm, ⟨46, _⟩ => ⟨S_, .f32⟩
  | .hbm, ⟨47, _⟩ => ⟨S128x8x2560, .f32⟩
  | .hbm, ⟨48, _⟩ => ⟨S128x8x2560, .f32⟩
  | .hbm, ⟨49, _⟩ => ⟨S128x8x2560, .f32⟩
  | _, _ => ⟨S128x4x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel14.lean ====
abbrev S8704x1536 : Shape := ⟨2, ![8704, 1536]⟩
abbrev S8704x4864 : Shape := ⟨2, ![8704, 4864]⟩
abbrev S1x1536 : Shape := ⟨2, ![1, 1536]⟩
abbrev S1536 : Shape := ⟨1, ![1536]⟩
abbrev S512x1536 : Shape := ⟨2, ![512, 1536]⟩
abbrev S512x384 : Shape := ⟨2, ![512, 384]⟩
abbrev S512 : Shape := ⟨1, ![512]⟩
abbrev S512x1 : Shape := ⟨2, ![512, 1]⟩
abbrev S1x384 : Shape := ⟨2, ![1, 384]⟩

abbrev nBuf : Space → Nat
  | .hbm => 6
  | .vmem => 7
  | .smem => 0
  | _ => 0

abbrev bufTy : (tb : Table) → Fin (tcTables nBuf tb) → BufTy
  | .hbm, ⟨0, _⟩ => ⟨S8704x1536, .f32⟩
  | .hbm, ⟨1, _⟩ => ⟨S8704x4864, .f32⟩
  | .hbm, ⟨2, _⟩ => ⟨S1x1536, .f32⟩
  | .hbm, ⟨3, _⟩ => ⟨S1536, .f32⟩
  | .hbm, ⟨4, _⟩ => ⟨S1x1536, .f32⟩
  | .hbm, ⟨5, _⟩ => ⟨S8704x1536, .bf16⟩
  | .local _ .vmem, ⟨0, _⟩ => ⟨S512x1536, .f32⟩
  | .local _ .vmem, ⟨1, _⟩ => ⟨S512x1536, .f32⟩
  | .local _ .vmem, ⟨2, _⟩ => ⟨S512x1536, .f32⟩
  | .local _ .vmem, ⟨3, _⟩ => ⟨S512x1536, .f32⟩
  | .local _ .vmem, ⟨4, _⟩ => ⟨S1x1536, .f32⟩
  | .local _ .vmem, ⟨5, _⟩ => ⟨S512x1536, .bf16⟩
  | .local _ .vmem, ⟨6, _⟩ => ⟨S512x1536, .bf16⟩
  | _, _ => ⟨S8704x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8704x1536 : Shape := ⟨2, ![8704, 1536]⟩
abbrev S8704x4864 : Shape := ⟨2, ![8704, 4864]⟩
abbrev S1x1536 : Shape := ⟨2, ![1, 1536]⟩
abbrev S_ : Shape := ⟨0, ![]⟩
abbrev S8704x4x384 : Shape := ⟨3, ![8704, 4, 384]⟩
abbrev S8704x4 : Shape := ⟨2, ![8704, 4]⟩
abbrev S8704x4x1 : Shape := ⟨3, ![8704, 4, 1]⟩
abbrev S1536 : Shape := ⟨1, ![1536]⟩

abbrev nBuf : Space → Nat
  | .hbm => 34
  | .vmem => 0
  | .smem => 0
  | _ => 0

abbrev bufTy : (tb : Table) → Fin (tcTables nBuf tb) → BufTy
  | .hbm, ⟨0, _⟩ => ⟨S8704x1536, .f32⟩
  | .hbm, ⟨1, _⟩ => ⟨S8704x4864, .f32⟩
  | .hbm, ⟨2, _⟩ => ⟨S1x1536, .f32⟩
  | .hbm, ⟨3, _⟩ => ⟨S8704x1536, .f32⟩
  | .hbm, ⟨4, _⟩ => ⟨S8704x1536, .f32⟩
  | .hbm, ⟨5, _⟩ => ⟨S8704x1536, .f32⟩
  | .hbm, ⟨6, _⟩ => ⟨S_, .f32⟩
  | .hbm, ⟨7, _⟩ => ⟨S8704x1536, .f32⟩
  | .hbm, ⟨8, _⟩ => ⟨S8704x1536, .f32⟩
  | .hbm, ⟨9, _⟩ => ⟨S_, .f32⟩
  | .hbm, ⟨10, _⟩ => ⟨S8704x1536, .f32⟩
  | .hbm, ⟨11, _⟩ => ⟨S8704x1536, .f32⟩
  | .hbm, ⟨12, _⟩ => ⟨S8704x1536, .f32⟩
  | .hbm, ⟨13, _⟩ => ⟨S8704x1536, .f32⟩
  | .hbm, ⟨14, _⟩ => ⟨S8704x4x384, .f32⟩
  | .hbm, ⟨15, _⟩ => ⟨S8704x4x384, .f32⟩
  | .hbm, ⟨16, _⟩ => ⟨S_, .f32⟩
  | .hbm, ⟨17, _⟩ => ⟨S8704x4, .f32⟩
  | .hbm, ⟨18, _⟩ => ⟨S8704x4x1, .f32⟩
  | .hbm, ⟨19, _⟩ => ⟨S_, .f32⟩
  | .hbm, ⟨20, _⟩ => ⟨S8704x4x1, .f32⟩
  | .hbm, ⟨21, _⟩ => ⟨S8704x4x1, .f32⟩
  | .hbm, ⟨22, _⟩ => ⟨S_, .f32⟩
  | .hbm, ⟨23, _⟩ => ⟨S8704x4x1, .f32⟩
  | .hbm, ⟨24, _⟩ => ⟨S8704x4x1, .f32⟩
  | .hbm, ⟨25, _⟩ => ⟨S8704x4x1, .f32⟩
  | .hbm, ⟨26, _⟩ => ⟨S8704x4x384, .f32⟩
  | .hbm, ⟨27, _⟩ => ⟨S8704x4x384, .f32⟩
  | .hbm, ⟨28, _⟩ => ⟨S8704x1536, .f32⟩
  | .hbm, ⟨29, _⟩ => ⟨S1536, .f32⟩
  | .hbm, ⟨30, _⟩ => ⟨S1x1536, .f32⟩
  | .hbm, ⟨31, _⟩ => ⟨S8704x1536, .f32⟩
  | .hbm, ⟨32, _⟩ => ⟨S8704x1536, .f32⟩
  | .hbm, ⟨33, _⟩ => ⟨S8704x1536, .bf16⟩
  | _, _ => ⟨S8704x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Proof.Spec.lean ====
module

public import Idealize.ShloMosaic.Lib.Pipeline.ValueKit
public import Idealize.ShloMosaic.Lib.Pointwise

@[expose] public section

noncomputable section

open Idealize.ShloMosaic Idealize.ShloMosaic.TcCoe Idealize.SL.Sem

namespace Cert.Scan

/-! ## The chunked scan, as a function of its arguments -/

/-- The softplus of a step. -/
def sp (v : EReal) : EReal := max v 0 + Ideal.log1p (Ideal.exp (-(FloatOps.absf (F := Ideal) (φ := .f32) v)))

/-- The row of a chunk's place. -/
def row (c : ℕ) (l : Fin 128) : Fin 8192 := ⟨(128 * c + l.val) % 8192, Nat.mod_lt _ (by decide)⟩

/-- The row of a place in a chunk of the grid. -/
theorem row_val (c : ℕ) (hc : c < 64) (l : Fin 128) : (row c l).val = 128 * c + l.val := Nat.mod_eq_of_lt (by omega)

/-- The head of a channel. -/
def hd (ch : Fin 1536) : Fin 24 := ⟨ch.val / 64, by omega⟩

/-- The group of a channel. -/
def grp (ch : Fin 1536) : Fin 4 := ⟨ch.val / 384, by omega⟩

/-- What the scan takes: the channels with the two projections, the raw steps, the bias, the logarithm of the rate and the skip. -/
structure Args where
  /-- channels, then keys, then readouts -/
  X : Fin 8192 → Fin 2560 → EReal
  /-- raw steps -/
  D : Fin 8704 → Fin 24 → EReal
  /-- bias of the steps -/
  b : Fin 24 → EReal
  /-- logarithm of the decay rate -/
  a : Fin 24 → EReal
  /-- skip -/
  k : Fin 24 → EReal

variable (A : Args)

/-- The input of a channel at a row. -/
def Args.xs (r : Fin 8192) (ch : Fin 1536) : EReal := A.X r ⟨ch.val, by omega⟩
/-- The key of a group at a row. -/
def Args.B (r : Fin 8192) (g : Fin 4) (n : Fin 128) : EReal := A.X r ⟨1536 + (128 * g.val + n.val), by omega⟩
/-- The readout of a group at a row. -/
def Args.C (r : Fin 8192) (g : Fin 4) (n : Fin 128) : EReal := A.X r ⟨2048 + (128 * g.val + n.val), by omega⟩
/-- The step of a head at a row. -/
def Args.dt (r : Fin 8192) (h : Fin 24) : EReal := sp (A.D ⟨r.val, by omega⟩ h + A.b h)
/-- The running sum of the steps times the rate inside a chunk. -/
def Args.ac (c : ℕ) (l : Fin 128) (h : Fin 24) : EReal :=
  ∑ s : Fin 128, if s.val ≤ l.val then A.dt (row c s) h * -Ideal.exp (A.a h) else 0
/-- What a chunk adds to the state. -/
def Args.U (c : ℕ) (ch : Fin 1536) (n : Fin 128) : EReal :=
  ∑ s : Fin 128, A.xs (row c s) ch * A.dt (row c s) (hd ch) * Ideal.exp (A.ac c 127 (hd ch) - A.ac c s (hd ch)) * A.B (row c s) (grp ch) n
/-- The state before a chunk. -/
def Args.H : ℕ → Fin 1536 → Fin 128 → EReal
  | 0 => fun _ _ => 0
  | c + 1 => fun ch n => Args.H c ch n * Ideal.exp (A.ac c 127 (hd ch)) + A.U c ch n
/-- The output of a channel at a chunk's place. -/
def Args.y (c : ℕ) (l : Fin 128) (ch : Fin 1536) : EReal :=
  (∑ s : Fin 128, ((∑ n : Fin 128, A.C (row c l) (grp ch) n * A.B (row c s) (grp ch) n)
        * (if s.val ≤ l.val then Ideal.exp (A.ac c l (hd ch) - A.ac c s (hd ch)) else 0))
      * (A.xs (row c s) ch * A.dt (row c s) (hd ch)))
    + A.k (hd ch) * A.xs (row c l) ch
    + (∑ n : Fin 128, A.C (row c l) (grp ch) n * A.H c ch n) * Ideal.exp (A.ac c l (hd ch))

end Cert.Scan

end
-- ==== Proof.Pair.lean ====
module

public import proofs.«01_k».proof.Proof.Gen.KernelIdeal.Value
public import proofs.«01_k».proof.Proof.Spec
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Scan

open Cert.Scan Cert.KernelIdeal Cert.KernelIdeal.Gen Cert.KernelIdeal.Value

/-! ## One pair of heads, as the body computes it -/

/-- The sums of the steps times the decay rate up to each row, by a product with the lower triangle of ones. -/
def ACS (d : FVec Ideal S128x128 .f32) (b a : FVec Ideal S1x128 .f32) : FVec Ideal S128x128 .f32 :=
  k0_pay12 k0_pay10 (k0_pay11 d b a) (constant S128x128 FTy.f32 0#32)

/-- The decay between two rows of the block, from a column and a row of the running sums. -/
def LM (A1 : FVec Ideal S128x1 .f32) (A2 : FVec Ideal S1x128 .f32) : FVec Ideal S128x128 .f32 :=
  select k0_pay3 (exp (select k0_pay3 (subf (broadcastTo S128x128 A1 broadcasts_S128x1_S128x128) (broadcastTo S128x128 A2 broadcasts_S1x128_S128x128))
    (broadcast S128x128 (Scalar.ofBits .f32 0x00000000#32)))) (broadcast S128x128 (Scalar.ofBits .f32 0x00000000#32))

/-- The first half's decay, from the first column. -/
def LMa (A : FVec Ideal S128x128 .f32) : FVec Ideal S128x128 .f32 :=
  LM (extractStridedSlice S128x1 ![0, 0] A slices_S128x128_o0_0_S128x1)
        (extractStridedSlice S1x128 ![0, 0] (transpose S128x128 [1, 0] A transposes_S128x128_p1_0_S128x128) slices_S128x128_o0_0_S1x128)

/-- The second half's decay, from its first column. -/
def LMb (A : FVec Ideal S128x128 .f32) : FVec Ideal S128x128 .f32 :=
  LM (extractStridedSlice S128x1 ![0, 64] A slices_S128x128_o0_64_S128x1)
        (extractStridedSlice S1x128 ![64, 0] (transpose S128x128 [1, 0] A transposes_S128x128_p1_0_S128x128) slices_S128x128_o64_0_S1x128)

/-- The product of the decayed scores with the scaled inputs. -/
def YD (cb xdt L : FVec Ideal S128x128 .f32) : FVec Ideal S128x128 .f32 :=
  matmul dot_S128x128_S128x128_S128x128_1_0_0_1_n_n none (truncf .bf16 (mulf cb L) bitsLt_bf16_f32) (truncf .bf16 xdt bitsLt_bf16_f32) (constant S128x128 .f32 0x00000000#32)

/-- The product of the readout with the carried state. -/
def YO (cm : FVec Ideal S128x128 .f32) (st : FVec Ideal S1x128x128 .f32) : FVec Ideal S128x128 .f32 :=
  matmul dot_S128x128_S128x128_S128x128_1_1_0_0_n_n none (k0_pay5 cm) (truncf .bf16 (k0_pay14 st) bitsLt_bf16_f32) (constant S128x128 .f32 0x00000000#32)

/-- One pair's output over the running sums, the scores, the scaled inputs and the state's readout. -/
def PYA (A cb xdt x k : FVec Ideal S128x128 .f32) (yo : FVec Ideal S128x128 .f32) : FVec Ideal S128x128 .f32 :=
  addf (addf (select (cmpi .slt (iota .tc S128x128 32 [1] iota_S128x128_d1_w32) (broadcast S128x128 64#32))
      (YD cb xdt (LMa A))
      (YD cb xdt (LMb A)))
    (mulf k x)) (mulf yo (exp A))

/-- One pair's output over what the body loads. -/
def PY (x bm cm d : FVec Ideal S128x128 .f32) (b a k : FVec Ideal S1x128 .f32) (st : FVec Ideal S1x128x128 .f32) : FVec Ideal S128x128 .f32 :=
  PYA (ACS d b a) (k0_pay6 bm cm) (k0_pay9 x d b) x (broadcastTo S128x128 (k0_pay7 k) broadcasts_S1x128_S128x128) (YO cm st)

/-- One pair's new state over what the body loads. -/
def PS (x bm d : FVec Ideal S128x128 .f32) (b a : FVec Ideal S1x128 .f32) (st : FVec Ideal S1x128x128 .f32) : FVec Ideal S1x128x128 .f32 :=
  k0_pay17 (k0_pay4 bm) (k0_pay9 x d b) (ACS d b a)
    (k0_pay13 k0_pay10 (k0_pay11 d b a) (constant S128x128 FTy.f32 0#32)) (k0_pay14 st) (k0_pay16 k0_pay10 (k0_pay11 d b a) (constant S128x128 FTy.f32 0#32))

/-! ## The same, index by index -/

/-- The triangle's comparison of two places, decided. -/
theorem sle_lit : ∀ l s : Fin 128, IntOp.cmpi CmpIPredicate.sle (BitVec.ofNat 32 s.val) (BitVec.ofNat 32 l.val) = if s.val ≤ l.val then 1#1 else 0#1 := by
  decide +kernel

/-- The comparison that tells a pair's two halves apart, decided. -/
theorem slt_lit : ∀ q : Fin 128, IntOp.cmpi CmpIPredicate.slt (BitVec.ofNat 32 q.val) 64#32 = if q.val < 64 then 1#1 else 0#1 := by
  decide +kernel

/-- Choosing by a decided comparison. -/
theorem select_lit {α : Type} (p : Prop) [Decidable p] (a b : α) : Scalar.select (if p then 1#1 else 0#1) a b = if p then a else b := by
  by_cases h : p <;> simp [h, Scalar.select]

/-- The body's step sizes, at an index. -/
theorem dt_apply (d : FVec Ideal S128x128 .f32) (b : FVec Ideal S1x128 .f32) (l q : Fin 128) :
    k0_pay8 (F := Ideal) d b (ix2 l q) = sp (d (ix2 l q) + b (ix2 0 q)) := by
  pointwise [k0_pay8]
  rw [zero_sub]
  rfl

/-- The scaled inputs, at an index. -/
theorem xdt_apply (x d : FVec Ideal S128x128 .f32) (b : FVec Ideal S1x128 .f32) (l q : Fin 128) :
    k0_pay9 (F := Ideal) x d b (ix2 l q) = x (ix2 l q) * sp (d (ix2 l q) + b (ix2 0 q)) := by
  rw [← dt_apply]
  rfl

/-- The running sums, at an index. -/
theorem acs_apply (d : FVec Ideal S128x128 .f32) (b a : FVec Ideal S1x128 .f32) (l q : Fin 128) :
    ACS d b a (ix2 l q) = ∑ s : Fin 128, if s.val ≤ l.val then sp (d (ix2 s q) + b (ix2 0 q)) * a (ix2 0 q) else 0 := by
  pointwise [ACS, k0_pay10, k0_pay11, k0_pay12, k0_pay3]
  simp only [sle_lit, select_lit, dt_apply]

/-- The decay between two rows, at an index. -/
theorem LM_apply (A1 : FVec Ideal S128x1 .f32) (A2 : FVec Ideal S1x128 .f32) (l q : Fin 128) :
    LM A1 A2 (ix2 l q) = if q.val ≤ l.val then Ideal.exp (A1 (ix2 l 0) - A2 (ix2 0 q)) else 0 := by
  pointwise [LM, k0_pay3]
  simp only [sle_lit, select_lit]
  by_cases h : q.val ≤ l.val <;> simp only [h, if_true, if_false]

/-- The decayed scores' product, at an index. -/
theorem YD_apply (cb xdt L : FVec Ideal S128x128 .f32) (l q : Fin 128) :
    YD cb xdt L (ix2 l q) = ∑ s : Fin 128, (cb (ix2 l s) * L (ix2 l s)) * xdt (ix2 s q) := by
  pointwise [YD]

/-- The scores, at an index. -/
theorem cb_apply (bm cm : FVec Ideal S128x128 .f32) (l s : Fin 128) :
    k0_pay6 bm cm (ix2 l s) = ∑ n : Fin 128, cm (ix2 l n) * bm (ix2 s n) := by
  pointwise [k0_pay6, k0_pay5, k0_pay4]

/-- The state's readout, at an index. -/
theorem YO_apply (cm : FVec Ideal S128x128 .f32) (st : FVec Ideal S1x128x128 .f32) (l q : Fin 128) :
    YO cm st (ix2 l q) = ∑ n : Fin 128, cm (ix2 l n) * st (ix3 0 q n) := by
  pointwise [YO, k0_pay5, k0_pay14]

/-- The first lane of the half a lane lies in. -/
def lane0 (q : Fin 128) : Fin 128 := if q.val < 64 then 0 else 64

/-- The decay taken from one column of the running sums. -/
theorem LM_col (A : FVec Ideal S128x128 .f32) (l s : Fin 128) :
    LMa A (ix2 l s)
      = if s.val ≤ l.val then Ideal.exp (A (ix2 l 0) - A (ix2 s 0)) else 0 := by
  unfold LMa
  rw [LM_apply]
  pointwise

/-- The decay taken from the second half's first column. -/
theorem LM_col' (A : FVec Ideal S128x128 .f32) (l s : Fin 128) :
    LMb A (ix2 l s)
      = if s.val ≤ l.val then Ideal.exp (A (ix2 l 64) - A (ix2 s 64)) else 0 := by
  unfold LMb
  rw [LM_apply]
  pointwise

/-- One pair's output, at an index. -/
theorem PYA_apply (A cb xdt x k : FVec Ideal S128x128 .f32) (yo : FVec Ideal S128x128 .f32) (l q : Fin 128) :
    PYA A cb xdt x k yo (ix2 l q) = (∑ s : Fin 128, (cb (ix2 l s) * (if s.val ≤ l.val then Ideal.exp (A (ix2 l (lane0 q)) - A (ix2 s (lane0 q))) else 0)) * xdt (ix2 s q))
      + k (ix2 l q) * x (ix2 l q) + yo (ix2 l q) * Ideal.exp (A (ix2 l q)) := by
  pointwise [PYA]
  simp only [slt_lit, select_lit, YD_apply, LM_col, LM_col', lane0]
  by_cases h : q.val < 64 <;> simp only [h, if_true, if_false]

end Cert.KernelIdeal.Scan

end
-- ==== Proof.Block.lean ====
module

public import proofs.«01_k».proof.Proof.Pair
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Scan

open Cert.Scan Cert.KernelIdeal Cert.KernelIdeal.Gen Cert.KernelIdeal.Value

/-! ## One grid point's two outputs over its whole input blocks -/

/-- The running sum of one channel up to a row. -/
def bac (x3 : Vec Ideal S128x1536 .f32) (x4 x5 : Vec Ideal S1x1536 .f32) (l : Fin 128) (ch : Fin 1536) : EReal :=
  ∑ s : Fin 128, if s.val ≤ l.val then sp (x3 (ix2 s ch) + x4 (ix2 0 ch)) * x5 (ix2 0 ch) else 0

/-- The first channel of the head a channel lies in. -/
def hch (ch : Fin 1536) : Fin 1536 := ⟨64 * (ch.val / 64), by omega⟩

/-- The column of the group's block a channel reads. -/
def gcol (ch : Fin 1536) (n : Fin 128) : Fin 512 := ⟨128 * (ch.val / 384) + n.val, by omega⟩

/-- The pair of heads a channel lies in. -/
def pair (ch : Fin 1536) : Fin 12 := ⟨ch.val / 128, by omega⟩

/-- The channel's lane in its pair. -/
def lane (ch : Fin 1536) : Fin 128 := ⟨ch.val % 128, by omega⟩

/-- The output of one row and channel. -/
def yB (x0 : Vec Ideal S128x1536 .f32) (x1 x2 : Vec Ideal S128x512 .f32) (x3 : Vec Ideal S128x1536 .f32) (x4 x5 x6 : Vec Ideal S1x1536 .f32)
    (st : Vec Ideal S12x128x128 .f32) (l : Fin 128) (ch : Fin 1536) : EReal :=
  (∑ s : Fin 128, ((∑ n : Fin 128, x2 (ix2 l (gcol ch n)) * x1 (ix2 s (gcol ch n)))
        * (if s.val ≤ l.val then Ideal.exp (bac x3 x4 x5 l (hch ch) - bac x3 x4 x5 s (hch ch)) else 0))
      * (x0 (ix2 s ch) * sp (x3 (ix2 s ch) + x4 (ix2 0 ch))))
    + x6 (ix2 0 ch) * x0 (ix2 l ch)
    + (∑ n : Fin 128, x2 (ix2 l (gcol ch n)) * st (ix3 (pair ch) (lane ch) n)) * Ideal.exp (bac x3 x4 x5 l ch)

/-- The new state of one channel and state column. -/
def sB (x0 : Vec Ideal S128x1536 .f32) (x1 : Vec Ideal S128x512 .f32) (x3 : Vec Ideal S128x1536 .f32) (x4 x5 : Vec Ideal S1x1536 .f32)
    (st : Vec Ideal S12x128x128 .f32) (ch : Fin 1536) (n : Fin 128) : EReal :=
  st (ix3 (pair ch) (lane ch) n) * Ideal.exp (bac x3 x4 x5 127 ch)
    + ∑ s : Fin 128, x0 (ix2 s ch) * sp (x3 (ix2 s ch) + x4 (ix2 0 ch)) * Ideal.exp (bac x3 x4 x5 127 ch - bac x3 x4 x5 s ch)
        * x1 (ix2 s (gcol ch n))

/-- The point's output block. -/
def YB (x0 : Vec Ideal S128x1536 .f32) (x1 x2 : Vec Ideal S128x512 .f32) (x3 : Vec Ideal S128x1536 .f32) (x4 x5 x6 : Vec Ideal S1x1536 .f32)
    (st : Vec Ideal S12x128x128 .f32) : Vec Ideal S128x1536 .f32 := fun j => yB x0 x1 x2 x3 x4 x5 x6 st (j 0) (j 1)

/-- The channel of a pair and a lane. -/
def chOf (k : Fin 12) (q : Fin 128) : Fin 1536 := ⟨128 * k.val + q.val, by omega⟩

/-- The state the point leaves. -/
def SB (x0 : Vec Ideal S128x1536 .f32) (x1 : Vec Ideal S128x512 .f32) (x3 : Vec Ideal S128x1536 .f32) (x4 x5 : Vec Ideal S1x1536 .f32)
    (st : Vec Ideal S12x128x128 .f32) : Vec Ideal S12x128x128 .f32 := fun j => sB x0 x1 x3 x4 x5 st (chOf (j 0) (j 1)) (j 2)

section
variable (k : ℕ) (hk : k < 12)

/-- A pair's columns of a block of all channels. -/
theorem ld_ch (x : Vec Ideal S128x1536 .f32) (h : ∀ a, ![0, 128 * k] a + ![128, 128] a ≤ S128x1536.size a) (s q : Fin 128) :
    View.ld x (Rect.unit (![0, 128 * k] : Fin 2 → ℕ) ![128, 128] h) (ix2 s q) = x (ix2 s (chOf ⟨k, hk⟩ q)) := by
  refine congrArg x (funext fun a => Fin.ext ?_)
  match a with
  | ⟨0, _⟩ => show 0 + 1 * s.val = s.val; omega
  | ⟨1, _⟩ => show 128 * k + 1 * q.val = 128 * k + q.val; omega

/-- A pair's columns of a row of all channels. -/
theorem ld_row (x : Vec Ideal S1x1536 .f32) (h : ∀ a, ![0, 128 * k] a + ![1, 128] a ≤ S1x1536.size a) (q : Fin 128) :
    View.ld x (Rect.unit (![0, 128 * k] : Fin 2 → ℕ) ![1, 128] h) (ix2 0 q) = x (ix2 0 (chOf ⟨k, hk⟩ q)) := by
  refine congrArg x (funext fun a => Fin.ext ?_)
  match a with
  | ⟨0, _⟩ => show 0 + 1 * 0 = 0; omega
  | ⟨1, _⟩ => show 128 * k + 1 * q.val = 128 * k + q.val; omega

/-- A pair's group's columns. -/
theorem ld_grp (x : Vec Ideal S128x512 .f32) (h : ∀ a, ![0, 128 * (k / 3)] a + ![128, 128] a ≤ S128x512.size a) (s q n : Fin 128) :
    View.ld x (Rect.unit (![0, 128 * (k / 3)] : Fin 2 → ℕ) ![128, 128] h) (ix2 s n) = x (ix2 s (gcol (chOf ⟨k, hk⟩ q) n)) := by
  refine congrArg x (funext fun a => Fin.ext ?_)
  match a with
  | ⟨0, _⟩ => show 0 + 1 * s.val = s.val; omega
  | ⟨1, _⟩ => show 128 * (k / 3) + 1 * n.val = 128 * ((128 * k + q.val) / 384) + n.val; omega

/-- The pair of a pair's channel. -/
theorem pair_chOf (k : Fin 12) (q : Fin 128) : pair (chOf k q) = k := Fin.ext (by show (128 * k.val + q.val) / 128 = k.val; omega)
/-- The lane of a pair's channel. -/
theorem lane_chOf (k : Fin 12) (q : Fin 128) : lane (chOf k q) = q := Fin.ext (by show (128 * k.val + q.val) % 128 = q.val; omega)
/-- A channel is its pair's and its lane's. -/
theorem chOf_pair (ch : Fin 1536) : chOf (pair ch) (lane ch) = ch := Fin.ext (by show 128 * (ch.val / 128) + ch.val % 128 = ch.val; omega)

/-- A pair's state. -/
theorem ld_st (x : Vec Ideal S12x128x128 .f32) (h : ∀ a, ![k, 0, 0] a + ![1, 128, 128] a ≤ S12x128x128.size a) (q n : Fin 128) :
    View.ld x (Rect.unit (![k, 0, 0] : Fin 3 → ℕ) ![1, 128, 128] h) (ix3 0 q n) = x (ix3 (pair (chOf ⟨k, hk⟩ q)) (lane (chOf ⟨k, hk⟩ q)) n) := by
  rw [pair_chOf, lane_chOf]
  refine congrArg x (funext fun a => Fin.ext ?_)
  match a with
  | ⟨0, _⟩ => show k + 1 * 0 = k; omega
  | ⟨1, _⟩ => show 0 + 1 * q.val = q.val; omega
  | ⟨2, _⟩ => show 0 + 1 * n.val = n.val; omega

variable (x0 : Vec Ideal S128x1536 .f32) (x1 x2 : Vec Ideal S128x512 .f32) (x3 : Vec Ideal S128x1536 .f32) (x4 x5 x6 : Vec Ideal S1x1536 .f32)
    (st : Vec Ideal S12x128x128 .f32)
    (hc : ∀ a, ![0, 128 * k] a + ![128, 128] a ≤ S128x1536.size a) (hr : ∀ a, ![0, 128 * k] a + ![1, 128] a ≤ S1x1536.size a)
    (hg : ∀ a, ![0, 128 * (k / 3)] a + ![128, 128] a ≤ S128x512.size a) (hs : ∀ a, ![k, 0, 0] a + ![1, 128, 128] a ≤ S12x128x128.size a)

/-- A pair's running sums are its channels'. -/
theorem acs_ld (l q : Fin 128) :
    ACS (View.ld x3 (Rect.unit (![0, 128 * k] : Fin 2 → ℕ) ![128, 128] hc)) (View.ld x4 (Rect.unit (![0, 128 * k] : Fin 2 → ℕ) ![1, 128] hr))
      (View.ld x5 (Rect.unit (![0, 128 * k] : Fin 2 → ℕ) ![1, 128] hr)) (ix2 l q) = bac x3 x4 x5 l (chOf ⟨k, hk⟩ q) := by
  rw [acs_apply]
  exact Finset.sum_congr rfl fun s _ => by rw [ld_ch k hk, ld_row k hk, ld_row k hk]

/-- The first lane of a lane's half is the first channel of its head. -/
theorem hch_chOf (k : Fin 12) (q : Fin 128) : hch (chOf k q) = chOf k (lane0 q) := Fin.ext (by
  show 64 * ((128 * k.val + q.val) / 64) = 128 * k.val + (lane0 q).val
  unfold lane0
  by_cases h : q.val < 64
  · rw [if_pos h]; show _ = 128 * k.val + 0; omega
  · rw [if_neg h]; show _ = 128 * k.val + 64; omega)

include hk in
/-- A pair's output, as the body computes it from its loads, is the block's at the pair's columns. -/
theorem pieceY (x : S128x128.Idx) :
    PY (View.ld x0 (Rect.unit (![0, 128 * k] : Fin 2 → ℕ) ![128, 128] hc)) (View.ld x1 (Rect.unit (![0, 128 * (k / 3)] : Fin 2 → ℕ) ![128, 128] hg))
      (View.ld x2 (Rect.unit (![0, 128 * (k / 3)] : Fin 2 → ℕ) ![128, 128] hg)) (View.ld x3 (Rect.unit (![0, 128 * k] : Fin 2 → ℕ) ![128, 128] hc))
      (View.ld x4 (Rect.unit (![0, 128 * k] : Fin 2 → ℕ) ![1, 128] hr)) (View.ld x5 (Rect.unit (![0, 128 * k] : Fin 2 → ℕ) ![1, 128] hr))
      (View.ld x6 (Rect.unit (![0, 128 * k] : Fin 2 → ℕ) ![1, 128] hr)) (View.ld st (Rect.unit (![k, 0, 0] : Fin 3 → ℕ) ![1, 128, 128] hs)) x
    = YB x0 x1 x2 x3 x4 x5 x6 st ((Rect.unit (s := S128x1536) (![0, 128 * k] : Fin 2 → ℕ) ![128, 128] hc).emb x) := by
  obtain ⟨l, q, rfl⟩ : ∃ (l q : Fin 128), x = ix2 l q := ⟨x 0, x 1, by funext a; match a with | ⟨0, _⟩ => rfl | ⟨1, _⟩ => rfl⟩
  have e : (Rect.unit (s := S128x1536) (![0, 128 * k] : Fin 2 → ℕ) ![128, 128] hc).emb (ix2 l q) = ix2 l (chOf ⟨k, hk⟩ q) := by
    funext a
    refine Fin.ext ?_
    match a with
    | ⟨0, _⟩ => show 0 + 1 * l.val = l.val; omega
    | ⟨1, _⟩ => show 128 * k + 1 * q.val = 128 * k + q.val; omega
  rw [e]
  show _ = yB x0 x1 x2 x3 x4 x5 x6 st l (chOf ⟨k, hk⟩ q)
  unfold PY yB
  rw [PYA_apply, YO_apply]
  simp only [acs_ld k hk]
  congr 1
  · congr 1
    · refine Finset.sum_congr rfl fun s _ => ?_
      rw [cb_apply, hch_chOf]
      congr 1
      · congr 1
        exact Finset.sum_congr rfl fun n _ => by rw [ld_grp k hk _ _ _ q, ld_grp k hk _ _ _ q]
      · rw [xdt_apply, ld_ch k hk, ld_ch k hk, ld_row k hk]
    · rw [ld_ch k hk, ← ld_row k hk x6 hr]
      congr 1
      pointwise [k0_pay7]
  · congr 1
    exact Finset.sum_congr rfl fun n _ => by rw [ld_grp k hk _ _ _ q, ld_st k hk]

include hk in
/-- A pair's new state, as the body computes it from its loads, is the block's at the pair. -/
theorem pieceS (x : S1x128x128.Idx) :
    PS (View.ld x0 (Rect.unit (![0, 128 * k] : Fin 2 → ℕ) ![128, 128] hc)) (View.ld x1 (Rect.unit (![0, 128 * (k / 3)] : Fin 2 → ℕ) ![128, 128] hg))
      (View.ld x3 (Rect.unit (![0, 128 * k] : Fin 2 → ℕ) ![128, 128] hc))
      (View.ld x4 (Rect.unit (![0, 128 * k] : Fin 2 → ℕ) ![1, 128] hr)) (View.ld x5 (Rect.unit (![0, 128 * k] : Fin 2 → ℕ) ![1, 128] hr))
      (View.ld st (Rect.unit (![k, 0, 0] : Fin 3 → ℕ) ![1, 128, 128] hs)) x
    = SB x0 x1 x3 x4 x5 st ((Rect.unit (s := S12x128x128) (![k, 0, 0] : Fin 3 → ℕ) ![1, 128, 128] hs).emb x) := by
  obtain ⟨q, n, rfl⟩ : ∃ (q n : Fin 128), x = ix3 0 q n := ⟨x 1, x 2, by
    funext a
    match a with
    | ⟨0, _⟩ => exact Fin.ext (by have := (x 0).isLt; change (x 0).val < 1 at this; show (x 0).val = 0; omega)
    | ⟨1, _⟩ => rfl
    | ⟨2, _⟩ => rfl⟩
  have e : (Rect.unit (s := S12x128x128) (![k, 0, 0] : Fin 3 → ℕ) ![1, 128, 128] hs).emb (ix3 0 q n) = ix3 ⟨k, hk⟩ q n := by
    funext a
    refine Fin.ext ?_
    match a with
    | ⟨0, _⟩ => show k + 1 * 0 = k; omega
    | ⟨1, _⟩ => show 0 + 1 * q.val = q.val; omega
    | ⟨2, _⟩ => show 0 + 1 * n.val = n.val; omega
  rw [e]
  show _ = sB x0 x1 x3 x4 x5 st (chOf ⟨k, hk⟩ q) n
  unfold sB
  have hA := acs_ld k hk x3 x4 x5 hc hr
  have hl : k0_pay13 (F := Ideal) k0_pay10 (k0_pay11 (View.ld x3 (Rect.unit (![0, 128 * k] : Fin 2 → ℕ) ![128, 128] hc)) (View.ld x4 (Rect.unit (![0, 128 * k] : Fin 2 → ℕ) ![1, 128] hr))
      (View.ld x5 (Rect.unit (![0, 128 * k] : Fin 2 → ℕ) ![1, 128] hr))) (constant S128x128 FTy.f32 0#32) (ix2 0 q) = bac x3 x4 x5 127 (chOf ⟨k, hk⟩ q) := by
    rw [← hA]
    pointwise [k0_pay13]
    rfl
  have hd : ∀ s, k0_pay9 (F := Ideal) (View.ld x0 (Rect.unit (![0, 128 * k] : Fin 2 → ℕ) ![128, 128] hc)) (View.ld x3 (Rect.unit (![0, 128 * k] : Fin 2 → ℕ) ![128, 128] hc))
      (View.ld x4 (Rect.unit (![0, 128 * k] : Fin 2 → ℕ) ![1, 128] hr)) (ix2 s q) = x0 (ix2 s (chOf ⟨k, hk⟩ q)) * sp (x3 (ix2 s (chOf ⟨k, hk⟩ q)) + x4 (ix2 0 (chOf ⟨k, hk⟩ q))) := fun s => by
    rw [xdt_apply, ld_ch k hk, ld_ch k hk, ld_row k hk]
  have hst := ld_st k hk st hs q n
  have hb := ld_grp k hk x1 hg
  rw [← hl, ← hst]
  simp only [← hd, ← hA, ← hb _ q]
  unfold PS
  generalize k0_pay9 (F := Ideal) _ _ _ = X
  generalize ACS _ _ _ = A
  pointwise [k0_pay17, k0_pay14, k0_pay16, k0_pay4]

end

end Cert.KernelIdeal.Scan

end
-- ==== Proof.Points.lean ====
module

public import proofs.«01_k».proof.Proof.Block
public import Idealize.ShloMosaic.Lib.Pipeline.ValueKit
public import Idealize.ShloMosaic.Lib.Pipeline.ReadBack
public import Idealize.ShloMosaic.Lib.Pointwise

@[expose] public section

set_option maxRecDepth 65536

noncomputable section

open Idealize.ShloMosaic Idealize.ShloMosaic.TcCoe Idealize.SL.Sem

namespace Cert.KernelIdeal.Scan

open Cert.KernelIdeal Cert.KernelIdeal.Gen Cert.KernelIdeal.Value

/-! ## What the grid points leave -/

variable (m : (ℓ : Loc nD τ sig) → Buf (Elt Ideal) ℓ) (c : Dev nD)

set_option maxHeartbeats 2000000 in
/-- A middle point's output block. -/
theorem stB_1 (t : Fin cfg0.N) (acc : Vec Ideal S128x1536 .f32 × Vec Ideal S12x128x128 .f32 × Vec Ideal S12x128x128 .f32)
    (h0 : ¬t.val % 64 = 0) (h1 : ¬t.val % 64 = 63) :
    (stAt0 m c t.val t.isLt acc).1 = YB (X0_0 m c t) (iblk m c 1 t) (iblk m c 2 t) (iblk m c 3 t) (iblk m c 4 t) (iblk m c 5 t) (iblk m c 6 t) acc.2.2 := by
  rw [stAt0_B m c t acc h0 h1]
  dsimp only
  frame_out
  simp only [read_unread_whole]
  funext y
  refine View.canon_apply_of_pieces (YB (X0_0 m c t) (iblk m c 1 t) (iblk m c 2 t) (iblk m c 3 t) (iblk m c 4 t) (iblk m c 5 t) (iblk m c 6 t) acc.2.2) _ (View.PiecesOf.mem ?_) y ?_
  · exact ⟨pieceY 11 (by decide) _ _ _ _ _ _ _ _ _ _ _ _, pieceY 10 (by decide) _ _ _ _ _ _ _ _ _ _ _ _, pieceY 9 (by decide) _ _ _ _ _ _ _ _ _ _ _ _, pieceY 8 (by decide) _ _ _ _ _ _ _ _ _ _ _ _, pieceY 7 (by decide) _ _ _ _ _ _ _ _ _ _ _ _, pieceY 6 (by decide) _ _ _ _ _ _ _ _ _ _ _ _, pieceY 5 (by decide) _ _ _ _ _ _ _ _ _ _ _ _, pieceY 4 (by decide) _ _ _ _ _ _ _ _ _ _ _ _, pieceY 3 (by decide) _ _ _ _ _ _ _ _ _ _ _ _, pieceY 2 (by decide) _ _ _ _ _ _ _ _ _ _ _ _, pieceY 1 (by decide) _ _ _ _ _ _ _ _ _ _ _ _, pieceY 0 (by decide) _ _ _ _ _ _ _ _ _ _ _ _, trivial⟩
  · exact View.cover_of_tiledL _ ![128, 128] (by sl_kernel_rfl) y

set_option maxHeartbeats 2000000 in
/-- A middle point's state. -/
theorem stB_2_2 (t : Fin cfg0.N) (acc : Vec Ideal S128x1536 .f32 × Vec Ideal S12x128x128 .f32 × Vec Ideal S12x128x128 .f32)
    (h0 : ¬t.val % 64 = 0) (h1 : ¬t.val % 64 = 63) :
    (stAt0 m c t.val t.isLt acc).2.2 = SB (X0_0 m c t) (iblk m c 1 t) (iblk m c 3 t) (iblk m c 4 t) (iblk m c 5 t) acc.2.2 := by
  rw [stAt0_B m c t acc h0 h1]
  dsimp only
  frame_out
  simp only [read_unread_whole]
  funext y
  refine View.canon_apply_of_pieces (SB (X0_0 m c t) (iblk m c 1 t) (iblk m c 3 t) (iblk m c 4 t) (iblk m c 5 t) acc.2.2) _ (View.PiecesOf.mem ?_) y ?_
  · exact ⟨pieceS 11 (by decide) _ _ _ _ _ _ _ _ _ _, pieceS 10 (by decide) _ _ _ _ _ _ _ _ _ _, pieceS 9 (by decide) _ _ _ _ _ _ _ _ _ _, pieceS 8 (by decide) _ _ _ _ _ _ _ _ _ _, pieceS 7 (by decide) _ _ _ _ _ _ _ _ _ _, pieceS 6 (by decide) _ _ _ _ _ _ _ _ _ _, pieceS 5 (by decide) _ _ _ _ _ _ _ _ _ _, pieceS 4 (by decide) _ _ _ _ _ _ _ _ _ _, pieceS 3 (by decide) _ _ _ _ _ _ _ _ _ _, pieceS 2 (by decide) _ _ _ _ _ _ _ _ _ _, pieceS 1 (by decide) _ _ _ _ _ _ _ _ _ _, pieceS 0 (by decide) _ _ _ _ _ _ _ _ _ _, trivial⟩
  · exact View.cover_of_tiledL _ ![1, 128, 128] (by sl_kernel_rfl) y

set_option maxHeartbeats 2000000 in
/-- The last point's output block. -/
theorem stC_1 (t : Fin cfg0.N) (acc : Vec Ideal S128x1536 .f32 × Vec Ideal S12x128x128 .f32 × Vec Ideal S12x128x128 .f32)
    (h0 : ¬t.val % 64 = 0) (h1 : t.val % 64 = 63) :
    (stAt0 m c t.val t.isLt acc).1 = YB (X0_0 m c t) (iblk m c 1 t) (iblk m c 2 t) (iblk m c 3 t) (iblk m c 4 t) (iblk m c 5 t) (iblk m c 6 t) acc.2.2 := by
  rw [stAt0_C m c t acc h0 h1]
  dsimp only
  frame_out
  simp only [read_unread_whole]
  funext y
  refine View.canon_apply_of_pieces (YB (X0_0 m c t) (iblk m c 1 t) (iblk m c 2 t) (iblk m c 3 t) (iblk m c 4 t) (iblk m c 5 t) (iblk m c 6 t) acc.2.2) _ (View.PiecesOf.mem ?_) y ?_
  · exact ⟨pieceY 11 (by decide) _ _ _ _ _ _ _ _ _ _ _ _, pieceY 10 (by decide) _ _ _ _ _ _ _ _ _ _ _ _, pieceY 9 (by decide) _ _ _ _ _ _ _ _ _ _ _ _, pieceY 8 (by decide) _ _ _ _ _ _ _ _ _ _ _ _, pieceY 7 (by decide) _ _ _ _ _ _ _ _ _ _ _ _, pieceY 6 (by decide) _ _ _ _ _ _ _ _ _ _ _ _, pieceY 5 (by decide) _ _ _ _ _ _ _ _ _ _ _ _, pieceY 4 (by decide) _ _ _ _ _ _ _ _ _ _ _ _, pieceY 3 (by decide) _ _ _ _ _ _ _ _ _ _ _ _, pieceY 2 (by decide) _ _ _ _ _ _ _ _ _ _ _ _, pieceY 1 (by decide) _ _ _ _ _ _ _ _ _ _ _ _, pieceY 0 (by decide) _ _ _ _ _ _ _ _ _ _ _ _, trivial⟩
  · exact View.cover_of_tiledL _ ![128, 128] (by sl_kernel_rfl) y

set_option maxHeartbeats 2000000 in
/-- The last point's state. -/
theorem stC_2_2 (t : Fin cfg0.N) (acc : Vec Ideal S128x1536 .f32 × Vec Ideal S12x128x128 .f32 × Vec Ideal S12x128x128 .f32)
    (h0 : ¬t.val % 64 = 0) (h1 : t.val % 64 = 63) :
    (stAt0 m c t.val t.isLt acc).2.2 = SB (X0_0 m c t) (iblk m c 1 t) (iblk m c 3 t) (iblk m c 4 t) (iblk m c 5 t) acc.2.2 := by
  rw [stAt0_C m c t acc h0 h1]
  dsimp only
  frame_out
  simp only [read_unread_whole]
  funext y
  refine View.canon_apply_of_pieces (SB (X0_0 m c t) (iblk m c 1 t) (iblk m c 3 t) (iblk m c 4 t) (iblk m c 5 t) acc.2.2) _ (View.PiecesOf.mem ?_) y ?_
  · exact ⟨pieceS 11 (by decide) _ _ _ _ _ _ _ _ _ _, pieceS 10 (by decide) _ _ _ _ _ _ _ _ _ _, pieceS 9 (by decide) _ _ _ _ _ _ _ _ _ _, pieceS 8 (by decide) _ _ _ _ _ _ _ _ _ _, pieceS 7 (by decide) _ _ _ _ _ _ _ _ _ _, pieceS 6 (by decide) _ _ _ _ _ _ _ _ _ _, pieceS 5 (by decide) _ _ _ _ _ _ _ _ _ _, pieceS 4 (by decide) _ _ _ _ _ _ _ _ _ _, pieceS 3 (by decide) _ _ _ _ _ _ _ _ _ _, pieceS 2 (by decide) _ _ _ _ _ _ _ _ _ _, pieceS 1 (by decide) _ _ _ _ _ _ _ _ _ _, pieceS 0 (by decide) _ _ _ _ _ _ _ _ _ _, trivial⟩
  · exact View.cover_of_tiledL _ ![1, 128, 128] (by sl_kernel_rfl) y

/-- The fill of the state at the first point is zero. -/
theorem fill_eq : (k0_pay2 : FVec Ideal S12x128x128 .f32) = fun _ => (0 : EReal) := by
  funext j
  pointwise [k0_pay2]

set_option maxHeartbeats 2000000 in
/-- The first point's output block. -/
theorem stA_1 (t : Fin cfg0.N) (acc : Vec Ideal S128x1536 .f32 × Vec Ideal S12x128x128 .f32 × Vec Ideal S12x128x128 .f32)
    (h0 : t.val % 64 = 0) (h1 : ¬t.val % 64 = 63) :
    (stAt0 m c t.val t.isLt acc).1 = YB (X0_0 m c t) (iblk m c 1 t) (iblk m c 2 t) (iblk m c 3 t) (iblk m c 4 t) (iblk m c 5 t) (iblk m c 6 t) (fun _ => 0) := by
  rw [stAt0_A m c t acc h0 h1]
  dsimp only
  frame_open
  simp (disch := decide) only [↓View.readCov_skip, ↓View.readCov_fill]
  frame_out
  rw [fill_eq]
  funext y
  refine View.canon_apply_of_pieces (YB (X0_0 m c t) (iblk m c 1 t) (iblk m c 2 t) (iblk m c 3 t) (iblk m c 4 t) (iblk m c 5 t) (iblk m c 6 t) (fun _ => 0)) _ (View.PiecesOf.mem ?_) y ?_
  · exact ⟨pieceY 11 (by decide) _ _ _ _ _ _ _ _ _ _ _ _, pieceY 10 (by decide) _ _ _ _ _ _ _ _ _ _ _ _, pieceY 9 (by decide) _ _ _ _ _ _ _ _ _ _ _ _, pieceY 8 (by decide) _ _ _ _ _ _ _ _ _ _ _ _, pieceY 7 (by decide) _ _ _ _ _ _ _ _ _ _ _ _, pieceY 6 (by decide) _ _ _ _ _ _ _ _ _ _ _ _, pieceY 5 (by decide) _ _ _ _ _ _ _ _ _ _ _ _, pieceY 4 (by decide) _ _ _ _ _ _ _ _ _ _ _ _, pieceY 3 (by decide) _ _ _ _ _ _ _ _ _ _ _ _, pieceY 2 (by decide) _ _ _ _ _ _ _ _ _ _ _ _, pieceY 1 (by decide) _ _ _ _ _ _ _ _ _ _ _ _, pieceY 0 (by decide) _ _ _ _ _ _ _ _ _ _ _ _, trivial⟩
  · exact View.cover_of_tiledL _ ![128, 128] (by sl_kernel_rfl) y

set_option maxHeartbeats 2000000 in
/-- The first point's state. -/
theorem stA_2_2 (t : Fin cfg0.N) (acc : Vec Ideal S128x1536 .f32 × Vec Ideal S12x128x128 .f32 × Vec Ideal S12x128x128 .f32)
    (h0 : t.val % 64 = 0) (h1 : ¬t.val % 64 = 63) :
    (stAt0 m c t.val t.isLt acc).2.2 = SB (X0_0 m c t) (iblk m c 1 t) (iblk m c 3 t) (iblk m c 4 t) (iblk m c 5 t) (fun _ => 0) := by
  rw [stAt0_A m c t acc h0 h1]
  dsimp only
  frame_open
  simp (disch := decide) only [↓View.readCov_skip, ↓View.readCov_fill]
  frame_out
  rw [fill_eq]
  funext y
  refine View.canon_append_of_piecesOf (SB (X0_0 m c t) (iblk m c 1 t) (iblk m c 3 t) (iblk m c 4 t) (iblk m c 5 t) (fun _ => 0)) [_] [_, _, _, _, _, _, _, _, _, _, _, _] ?_ y ?_
  · exact ⟨pieceS 11 (by decide) _ _ _ _ _ _ _ _ _ _, pieceS 10 (by decide) _ _ _ _ _ _ _ _ _ _, pieceS 9 (by decide) _ _ _ _ _ _ _ _ _ _, pieceS 8 (by decide) _ _ _ _ _ _ _ _ _ _, pieceS 7 (by decide) _ _ _ _ _ _ _ _ _ _, pieceS 6 (by decide) _ _ _ _ _ _ _ _ _ _, pieceS 5 (by decide) _ _ _ _ _ _ _ _ _ _, pieceS 4 (by decide) _ _ _ _ _ _ _ _ _ _, pieceS 3 (by decide) _ _ _ _ _ _ _ _ _ _, pieceS 2 (by decide) _ _ _ _ _ _ _ _ _ _, pieceS 1 (by decide) _ _ _ _ _ _ _ _ _ _, pieceS 0 (by decide) _ _ _ _ _ _ _ _ _ _, trivial⟩
  · exact View.cover_of_tiledL _ ![1, 128, 128] (by sl_kernel_rfl) y

/-- At the last point the state is written out. -/
theorem stC_2_1 (t : Fin cfg0.N) (acc : Vec Ideal S128x1536 .f32 × Vec Ideal S12x128x128 .f32 × Vec Ideal S12x128x128 .f32)
    (h0 : ¬t.val % 64 = 0) (h1 : t.val % 64 = 63) :
    (stAt0 m c t.val t.isLt acc).2.1 = (stAt0 m c t.val t.isLt acc).2.2 := by
  rw [stAt0_C m c t acc h0 h1]
  dsimp only
  frame_out
  rw [View.readCov_eq_canon']
  exact View.ld_unit_lit' _ _ (by decide)
end Cert.KernelIdeal.Scan

end
-- ==== Proof.Inputs.lean ====
module

public import proofs.«01_k».proof.Proof.Points
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Scan

open Cert.Scan Cert.KernelIdeal Cert.KernelIdeal.Gen Cert.KernelIdeal.Value

variable (m : (ℓ : Loc nD τ sig) → Buf (Elt Ideal) ℓ) (c : Dev nD)

/-- The printed index maps, decided over the grid. -/
theorem idxs : ∀ t : Fin cfg0.N, win0_0.index t = ![t.val, 0] ∧ win0_1.index t = ![t.val, 3] ∧ win0_2.index t = ![t.val, 4] ∧ win0_3.index t = ![t.val, 0]
   ∧ win0_4.index t = ![0, 0] ∧ win0_5.index t = ![0, 0] ∧ win0_6.index t = ![0, 0] :=
  (by decide +kernel : ∀ t : Fin grid0.N, _)

/-- A point's keys are the argument's rows. -/
theorem in1 (t : Fin cfg0.N) (s : Fin 128) (n : Fin 512) :
    (iblk m c 1 t : Vec Ideal S128x512 .f32) (ix2 s n) = (m ((c : Thread nD τ).loc main_arg0) : Vec Ideal S8192x2560 .f32) (ix2 ⟨128 * t.val + s.val, by have := lt_of_lt_of_eq t.isLt N_0; omega⟩ ⟨1536 + n.val, by omega⟩) := by
  blk_ext [iblk, V, idxs t, V_main_arg0]

/-- A point's readouts are the argument's rows. -/
theorem in2 (t : Fin cfg0.N) (s : Fin 128) (n : Fin 512) :
    (iblk m c 2 t : Vec Ideal S128x512 .f32) (ix2 s n) = (m ((c : Thread nD τ).loc main_arg0) : Vec Ideal S8192x2560 .f32) (ix2 ⟨128 * t.val + s.val, by have := lt_of_lt_of_eq t.isLt N_0; omega⟩ ⟨2048 + n.val, by omega⟩) := by
  blk_ext [iblk, V, idxs t, V_main_arg0]

/-- A point's channels are the argument's rows. -/
theorem in0 (t : Fin cfg0.N) (s : Fin 128) (n : Fin 1536) :
    (X0_0 m c t : Vec Ideal S128x1536 .f32) (ix2 s n) = (m ((c : Thread nD τ).loc main_arg0) : Vec Ideal S8192x2560 .f32) (ix2 ⟨128 * t.val + s.val, by have := lt_of_lt_of_eq t.isLt N_0; omega⟩ ⟨n.val, by omega⟩) := by
  unfold X0_0 Pipeline.Window.fill
  rw [dif_pos (moved0_0 t _)]
  have h0 := congrFun (idxs t).1 0
  have h1 := congrFun (idxs t).1 1
  show V m c main_arg0 _ = _
  rw [V_main_arg0]
  refine congrArg (m ((c : Thread nD τ).loc main_arg0)) (funext fun a => Fin.ext ?_)
  match a with
  | ⟨0, _⟩ =>
    show win0_0.index t (0 : Fin 2) * 128 + 1 * s.val = _
    rw [h0]
    show t.val * 128 + 1 * s.val = 128 * t.val + s.val
    omega
  | ⟨1, _⟩ =>
    show win0_0.index t (1 : Fin 2) * 1536 + 1 * n.val = _
    rw [h1]
    show 0 * 1536 + 1 * n.val = n.val
    omega

/-- A point's raw steps, each head's repeated over its channels. -/
theorem in3 (t : Fin cfg0.N) (s : Fin 128) (n : Fin 1536) :
    (iblk m c 3 t : Vec Ideal S128x1536 .f32) (ix2 s n) = (m ((c : Thread nD τ).loc main_arg1) : Vec Ideal S8704x24 .f32) (ix2 ⟨128 * t.val + s.val, by have := lt_of_lt_of_eq t.isLt N_0; omega⟩ ⟨n.val / 64, by omega⟩) := by
  blk_ext! [iblk, V, idxs t]

/-- The bias, each head's repeated over its channels. -/
theorem in4 (t : Fin cfg0.N) (n : Fin 1536) :
    (iblk m c 4 t : Vec Ideal S1x1536 .f32) (ix2 0 n) = (m ((c : Thread nD τ).loc main_arg2) : Vec Ideal S24 .f32) (ix1 ⟨n.val / 64, by omega⟩) := by
  blk_ext! [iblk, V, idxs t]

/-- The skip, each head's repeated over its channels. -/
theorem in6 (t : Fin cfg0.N) (n : Fin 1536) :
    (iblk m c 6 t : Vec Ideal S1x1536 .f32) (ix2 0 n) = (m ((c : Thread nD τ).loc main_arg4) : Vec Ideal S24 .f32) (ix1 ⟨n.val / 64, by omega⟩) := by
  blk_ext! [iblk, V, idxs t]

/-- The decay rate, each head's repeated over its channels. -/
theorem in5 (t : Fin cfg0.N) (n : Fin 1536) :
    (iblk m c 5 t : Vec Ideal S1x1536 .f32) (ix2 0 n) = -Ideal.exp ((m ((c : Thread nD τ).loc main_arg3) : Vec Ideal S24 .f32) (ix1 ⟨n.val / 64, by omega⟩)) := by
  blk_simp [iblk, idxs t]
  entry_read
  pointwise
  congr 2
  blk_ext [idxs t]
end Cert.KernelIdeal.Scan
end
-- ==== Proof.KernelValue.lean ====
module

public import proofs.«01_k».proof.Proof.Inputs
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Scan

open Cert.Scan Cert.KernelIdeal Cert.KernelIdeal.Gen Cert.KernelIdeal.Value

/-! ## The kernel's results as the scan of its arguments -/

variable (m : (ℓ : Loc nD τ sig) → Buf (Elt Ideal) ℓ) (c : Dev nD)

/-- The scan's arguments, as the memory holds them. -/
def args : Args where
  X r j := (m ((c : Thread nD τ).loc main_arg0) : Vec Ideal S8192x2560 .f32) (ix2 r j)
  D r h := (m ((c : Thread nD τ).loc main_arg1) : Vec Ideal S8704x24 .f32) (ix2 r h)
  b h := (m ((c : Thread nD τ).loc main_arg2) : Vec Ideal S24 .f32) (ix1 h)
  a h := (m ((c : Thread nD τ).loc main_arg3) : Vec Ideal S24 .f32) (ix1 h)
  k h := (m ((c : Thread nD τ).loc main_arg4) : Vec Ideal S24 .f32) (ix1 h)

/-- A point's channels. -/
theorem pt_xs (t : Fin cfg0.N) (s : Fin 128) (ch : Fin 1536) : (X0_0 m c t : Vec Ideal S128x1536 .f32) (ix2 s ch) = (args m c).xs (row t.val s) ch := by
  have hr := row_val t.val (lt_of_lt_of_eq t.isLt N_0) s
  rw [in0]
  exact congrArg (m ((c : Thread nD τ).loc main_arg0) : Vec Ideal S8192x2560 .f32) (congrArg₂ ix2 (Fin.ext hr.symm) rfl)

/-- A point's keys. -/
theorem pt_B (t : Fin cfg0.N) (s : Fin 128) (ch : Fin 1536) (n : Fin 128) :
    (iblk m c 1 t : Vec Ideal S128x512 .f32) (ix2 s (gcol ch n)) = (args m c).B (row t.val s) (grp ch) n := by
  have hr := row_val t.val (lt_of_lt_of_eq t.isLt N_0) s
  rw [in1]
  exact congrArg (m ((c : Thread nD τ).loc main_arg0) : Vec Ideal S8192x2560 .f32) (congrArg₂ ix2 (Fin.ext hr.symm) rfl)

/-- A point's readouts. -/
theorem pt_C (t : Fin cfg0.N) (s : Fin 128) (ch : Fin 1536) (n : Fin 128) :
    (iblk m c 2 t : Vec Ideal S128x512 .f32) (ix2 s (gcol ch n)) = (args m c).C (row t.val s) (grp ch) n := by
  have hr := row_val t.val (lt_of_lt_of_eq t.isLt N_0) s
  rw [in2]
  exact congrArg (m ((c : Thread nD τ).loc main_arg0) : Vec Ideal S8192x2560 .f32) (congrArg₂ ix2 (Fin.ext hr.symm) rfl)

/-- A point's raw steps. -/
theorem pt_D (t : Fin cfg0.N) (s : Fin 128) (ch : Fin 1536) :
    (iblk m c 3 t : Vec Ideal S128x1536 .f32) (ix2 s ch) = (args m c).D ⟨(row t.val s).val, by omega⟩ (hd ch) := by
  have hr := row_val t.val (lt_of_lt_of_eq t.isLt N_0) s
  rw [in3]
  exact congrArg (m ((c : Thread nD τ).loc main_arg1) : Vec Ideal S8704x24 .f32) (congrArg₂ ix2 (Fin.ext hr.symm) rfl)

/-- A head's first channel lies in the head. -/
theorem hd_hch (ch : Fin 1536) : hd (hch ch) = hd ch := Fin.ext (by show 64 * (ch.val / 64) / 64 = ch.val / 64; omega)

section
variable (x0 : Vec Ideal S128x1536 .f32) (x1 x2 : Vec Ideal S128x512 .f32) (x3 : Vec Ideal S128x1536 .f32) (x4 x5 x6 : Vec Ideal S1x1536 .f32)
    (st : Vec Ideal S12x128x128 .f32) (A : Args) (t : ℕ)
    (h0 : ∀ s ch, x0 (ix2 s ch) = A.xs (row t s) ch) (h1 : ∀ s ch n, x1 (ix2 s (gcol ch n)) = A.B (row t s) (grp ch) n)
    (h2 : ∀ s ch n, x2 (ix2 s (gcol ch n)) = A.C (row t s) (grp ch) n) (h3 : ∀ s ch, x3 (ix2 s ch) = A.D ⟨(row t s).val, by omega⟩ (hd ch))
    (h4 : ∀ ch, x4 (ix2 0 ch) = A.b (hd ch)) (h5 : ∀ ch, x5 (ix2 0 ch) = -Ideal.exp (A.a (hd ch))) (h6 : ∀ ch, x6 (ix2 0 ch) = A.k (hd ch))
    (hst : ∀ ch n, st (ix3 (pair ch) (lane ch) n) = A.H t ch n)

include h3 h4 h5 in
/-- The running sums of a block that holds a chunk of the arguments. -/
theorem bac_eq (l : Fin 128) (ch : Fin 1536) : bac x3 x4 x5 l ch = A.ac t l (hd ch) := by
  unfold bac Args.ac Args.dt
  exact Finset.sum_congr rfl fun s _ => by rw [h3, h4, h5]

include h0 h1 h2 h3 h4 h5 h6 hst in
/-- The output of a block that holds a chunk of the arguments and the state before it. -/
theorem yB_eq (l : Fin 128) (ch : Fin 1536) : yB x0 x1 x2 x3 x4 x5 x6 st l ch = A.y t l ch := by
  unfold yB Args.y
  simp only [bac_eq x3 x4 x5 A t h3 h4 h5, h0, h1, h2, h3, h4, h6, hst, hd_hch]
  rfl

include h0 h1 h3 h4 h5 hst in
/-- The state of a block that holds a chunk of the arguments and the state before it. -/
theorem sB_eq (ch : Fin 1536) (n : Fin 128) : sB x0 x1 x3 x4 x5 st ch n = A.H (t + 1) ch n := by
  unfold sB Args.H Args.U
  simp only [bac_eq x3 x4 x5 A t h3 h4 h5, h0, h1, h3, h4, hst]
  rfl

end

/-- A block of states, from the scan's. -/
def stOf (n : ℕ) : Vec Ideal S12x128x128 .f32 := fun j => (args m c).H n (chOf (j 0) (j 1)) (j 2)

/-- A state's block read at a channel. -/
theorem stOf_apply (n : ℕ) (ch : Fin 1536) (q : Fin 128) : stOf m c n (ix3 (pair ch) (lane ch) q) = (args m c).H n ch q := by
  show (args m c).H n (chOf (pair ch) (lane ch)) q = _
  rw [chOf_pair]

/-- A point's output, from the scan's state before it. -/
theorem pt_y (t : Fin cfg0.N) :
    YB (X0_0 m c t) (iblk m c 1 t) (iblk m c 2 t) (iblk m c 3 t) (iblk m c 4 t) (iblk m c 5 t) (iblk m c 6 t) (stOf m c t.val)
      = fun j => (args m c).y t.val (j 0) (j 1) := by
  funext j
  show yB _ _ _ _ _ _ _ _ (j 0) (j 1) = _
  exact yB_eq _ _ _ _ _ _ _ _ (args m c) t.val (pt_xs m c t) (pt_B m c t) (pt_C m c t) (pt_D m c t) (in4 m c t) (in5 m c t) (in6 m c t) (stOf_apply m c _) _ _

/-- A point's state, from the scan's state before it. -/
theorem pt_s (t : Fin cfg0.N) :
    SB (X0_0 m c t) (iblk m c 1 t) (iblk m c 3 t) (iblk m c 4 t) (iblk m c 5 t) (stOf m c t.val) = stOf m c (t.val + 1) := by
  funext j
  show sB _ _ _ _ _ _ (chOf (j 0) (j 1)) (j 2) = (args m c).H (t.val + 1) (chOf (j 0) (j 1)) (j 2)
  exact sB_eq _ _ _ _ _ _ (args m c) t.val (pt_xs m c t) (pt_B m c t) (pt_D m c t) (in4 m c t) (in5 m c t) (stOf_apply m c _) _ _

/-- The state before the first chunk is zero. -/
theorem stOf_zero : stOf m c 0 = fun _ => (0 : EReal) := rfl

/-- One step of the points' recursion, from the scan's state. -/
theorem st_step (t : Fin cfg0.N) (acc : Vec Ideal S128x1536 .f32 × Vec Ideal S12x128x128 .f32 × Vec Ideal S12x128x128 .f32)
    (h : t.val ≠ 0 → acc.2.2 = stOf m c t.val) :
    (stAt0 m c t.val t.isLt acc).1 = (fun j => (args m c).y t.val (j 0) (j 1)) ∧ (stAt0 m c t.val t.isLt acc).2.2 = stOf m c (t.val + 1)
      ∧ (t.val = 63 → (stAt0 m c t.val t.isLt acc).2.1 = stOf m c 64) := by
  have ht := lt_of_lt_of_eq t.isLt N_0
  by_cases h0 : t.val % 64 = 0
  · have e : t.val = 0 := by omega
    have h1 : ¬t.val % 64 = 63 := by omega
    have es : stOf m c t.val = fun _ => (0 : EReal) := by rw [e]; rfl
    refine ⟨(stA_1 m c t acc h0 h1).trans ?_, (stA_2_2 m c t acc h0 h1).trans ?_, fun h' => by omega⟩
    · rw [← es]; exact pt_y m c t
    · rw [← es]; exact pt_s m c t
  · have hs := h (by omega)
    by_cases h1 : t.val % 64 = 63
    · have e2 : (stAt0 m c t.val t.isLt acc).2.2 = stOf m c (t.val + 1) := (stC_2_2 m c t acc h0 h1).trans (by rw [hs]; exact pt_s m c t)
      refine ⟨(stC_1 m c t acc h0 h1).trans ?_, e2, fun h' => (stC_2_1 m c t acc h0 h1).trans (e2.trans ?_)⟩
      · rw [hs]; exact pt_y m c t
      · rw [h']
    · refine ⟨(stB_1 m c t acc h0 h1).trans ?_, (stB_2_2 m c t acc h0 h1).trans ?_, fun h' => by omega⟩
      · rw [hs]; exact pt_y m c t
      · rw [hs]; exact pt_s m c t

/-- What the points leave, from the first on. -/
theorem outs_eq : ∀ (n : ℕ) (hn : n < cfg0.N), (outsAt0 m c n hn).1 = (fun j => (args m c).y n (j 0) (j 1)) ∧ (outsAt0 m c n hn).2.2 = stOf m c (n + 1)
      ∧ (n = 63 → (outsAt0 m c n hn).2.1 = stOf m c 64)
  | 0, hn => by rw [outsAt0_zero]; exact st_step m c ⟨0, hn⟩ _ (fun h => absurd rfl h)
  | n + 1, hn => by
    rw [outsAt0_succ]
    exact st_step m c ⟨n + 1, hn⟩ _ (fun _ => (outs_eq n (Nat.lt_of_succ_lt hn)).2.1)

/-- The output array ends at the scan's output. -/
theorem G7_eq : G7 m c = fun i : S8192x1536.Idx => (args m c).y ((i 0).val / 128) ⟨(i 0).val % 128, Nat.mod_lt _ (by decide)⟩ (i 1) := by
  funext i
  have hi0 : (i 0).val < 8192 := (i 0).isLt
  have hi1 : (i 1).val < 1536 := (i 1).isLt
  have hp : pt7Of i = (i 0).val / 128 := by show 1 * ((i 0).val / 128 - 0) + 1 * ((i 1).val / 1536 - 0) = _; omega
  have hlt : pt7Of i < cfg0.N := by rw [hp]; exact lt_of_lt_of_eq (by omega) N_0.symm
  unfold G7
  rw [dif_pos hlt, ← outsAt0_sweep m c _ hlt, (outs_eq m c _ hlt).1]
  show (args m c).y (pt7Of i) ⟨(i 0).val % 128, _⟩ ⟨(i 1).val % 1536, _⟩ = _
  rw [hp]
  congr 1
  exact Fin.ext (Nat.mod_eq_of_lt hi1)

/-- The state array ends at the scan's last state. -/
theorem G8_eq : G8 m c = stOf m c 64 := by
  have h63 : (63 : ℕ) < cfg0.N := lt_of_lt_of_eq (by decide) N_0.symm
  have := (outs_eq m c 63 h63).2.2 rfl
  rw [← this, G8_last, outsAt0_sweep m c 63 h63]

end Cert.KernelIdeal.Scan

end
-- ==== Proof.RefScan.lean ====
module

public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.Scan

/-! ## The host's running sum along the last of four axes -/

/-- A fold of additions is the start plus the sum. -/
theorem foldl_add_sum {ι : Type} (f : ι → EReal) : ∀ (L : List ι) (v : EReal), L.foldl (fun r n => r + f n) v = v + (L.map f).sum
  | [], v => (add_zero v).symm
  | a :: L, v => by
    rw [List.foldl_cons, foldl_add_sum f L, List.map_cons, List.sum_cons, add_assoc]

/-- What a place of the window adds: the entry it lies over, or nothing where it lies over the padding. -/
def wnd {Nm1 : ℕ} (f : Fin (Nm1 + 1) → EReal) (l : ℕ) (w : (⟨4, ![1, 1, 1, Nm1 + 1]⟩ : Shape).Idx) : EReal :=
  if Nm1 ≤ l + (w 3).val then f ⟨(l + (w 3).val - Nm1) % (Nm1 + 1), Nat.mod_lt _ (Nat.succ_pos _)⟩ else 0

/-- The running sum of an array of rank four along its last axis, as the host states it: a window of the whole axis, padded low by one less. -/
theorem cumsum_last {a b d N Nm1 : ℕ} (hN : Nm1 + 1 = N) (x : FVec Ideal (⟨4, ![a, b, d, N]⟩ : Shape) .f32) (init : Vec Ideal (⟨0, ![]⟩ : Shape) .f32)
    (hi : ∀ i, init i = (0 : EReal))
    (h : (⟨4, ![a, b, d, N]⟩ : Shape).ReduceWindows (![1, 1, 1, N] : Fin 4 → ℕ) ![1, 1, 1, 1] ![0, 0, 0, Nm1] ![0, 0, 0, 0] ⟨4, ![a, b, d, N]⟩)
    (hu : 0 < (⟨0, ![]⟩ : Shape).numel) (i : Fin a) (j : Fin b) (k : Fin d) (l : Fin N) :
    Host.reduceWindowAdd ![1, 1, 1, N] ![1, 1, 1, 1] ![0, 0, 0, Nm1] ![0, 0, 0, 0] x init h hu (ix4 i j k l)
      = ∑ s : Fin N, if s.val ≤ l.val then x (ix4 i j k s) else (0 : EReal) := by
  subst hN
  have hl := l.isLt
  unfold Host.reduceWindowAdd
  rw [Ideal.hostReduceWindowAdd_def]
  unfold Ideal.hostReduceWindowAdd Host.reduceWindow
  dsimp only
  refine (foldl_add_sum _ _ _).trans ?_
  rw [hi, zero_add, ← Fin.sum_univ_def]
  refine (Finset.sum_congr rfl fun n _ => (?_ : _ = wnd (fun s => x (ix4 i j k s)) l.val
      ((Shape.rowMajor (⟨4, ![1, 1, 1, Nm1 + 1]⟩ : Shape)).symm n))).trans
    ((Equiv.sum_comp (Shape.rowMajor (⟨4, ![1, 1, 1, Nm1 + 1]⟩ : Shape)).symm (wnd (fun s => x (ix4 i j k s)) l.val)).trans ?_)
  · let w : (⟨4, ![1, 1, 1, Nm1 + 1]⟩ : Shape).Idx := (Shape.rowMajor (⟨4, ![1, 1, 1, Nm1 + 1]⟩ : Shape)).symm n
    show _ = wnd (fun s => x (ix4 i j k s)) l.val w
    unfold wnd
    have w0 : (w 0).val = 0 := Nat.lt_one_iff.mp (w 0).isLt
    have w1 : (w 1).val = 0 := Nat.lt_one_iff.mp (w 1).isLt
    have w2 : (w 2).val = 0 := Nat.lt_one_iff.mp (w 2).isLt
    have w3 : (w 3).val < Nm1 + 1 := (w 3).isLt
    have hi := i.isLt
    have hj := j.isLt
    have hk := k.isLt
    split
    · next hin =>
      have h3 : Nm1 ≤ l.val * 1 + (w 3).val ∧ _ := hin 3
      rw [if_pos (by omega)]
      refine congrArg x (funext fun q => Fin.ext ?_)
      match q with
      | ⟨0, _⟩ => show i.val * 1 + (w 0).val - 0 = i.val; omega
      | ⟨1, _⟩ => show j.val * 1 + (w 1).val - 0 = j.val; omega
      | ⟨2, _⟩ => show k.val * 1 + (w 2).val - 0 = k.val; omega
      | ⟨3, _⟩ => show l.val * 1 + (w 3).val - Nm1 = (l.val + (w 3).val - Nm1) % (Nm1 + 1); rw [Nat.mod_eq_of_lt (by omega), Nat.mul_one]
    · next hin =>
      rw [if_neg fun hle => hin fun q => by
        match q with
        | ⟨0, _⟩ => show 0 ≤ i.val * 1 + (w 0).val ∧ i.val * 1 + (w 0).val - 0 < a; omega
        | ⟨1, _⟩ => show 0 ≤ j.val * 1 + (w 1).val ∧ j.val * 1 + (w 1).val - 0 < b; omega
        | ⟨2, _⟩ => show 0 ≤ k.val * 1 + (w 2).val ∧ k.val * 1 + (w 2).val - 0 < d; omega
        | ⟨3, _⟩ => show Nm1 ≤ l.val * 1 + (w 3).val ∧ l.val * 1 + (w 3).val - Nm1 < Nm1 + 1; omega]
  unfold wnd
  rw [← Finset.sum_filter, ← Finset.sum_filter]
  refine Finset.sum_bij' (fun w _ => (⟨(l.val + (w 3).val - Nm1) % (Nm1 + 1), Nat.mod_lt _ (Nat.succ_pos _)⟩ : Fin (Nm1 + 1)))
    (fun s _ => ix4 0 0 0 ⟨(s.val + Nm1 - l.val) % (Nm1 + 1), Nat.mod_lt _ (Nat.succ_pos _)⟩) ?_ ?_ ?_ ?_ ?_
  · intro w hw
    have hw' := (Finset.mem_filter.mp hw).2
    have w3 : (w 3).val < Nm1 + 1 := (w 3).isLt
    refine Finset.mem_filter.mpr ⟨Finset.mem_univ _, ?_⟩
    show (l.val + (w 3).val - Nm1) % (Nm1 + 1) ≤ l.val
    rw [Nat.mod_eq_of_lt (by omega)]
    omega
  · intro s hs
    have hs' : s.val ≤ l.val := (Finset.mem_filter.mp hs).2
    refine Finset.mem_filter.mpr ⟨Finset.mem_univ _, ?_⟩
    show Nm1 ≤ l.val + (s.val + Nm1 - l.val) % (Nm1 + 1)
    rw [Nat.mod_eq_of_lt (by omega)]
    omega
  · intro w hw
    have hw' := (Finset.mem_filter.mp hw).2
    have w3 : (w 3).val < Nm1 + 1 := (w 3).isLt
    refine funext fun q => Fin.ext ?_
    match q with
    | ⟨0, _⟩ => exact (Nat.lt_one_iff.mp (w 0).isLt).symm
    | ⟨1, _⟩ => exact (Nat.lt_one_iff.mp (w 1).isLt).symm
    | ⟨2, _⟩ => exact (Nat.lt_one_iff.mp (w 2).isLt).symm
    | ⟨3, _⟩ =>
      show ((l.val + (w 3).val - Nm1) % (Nm1 + 1) + Nm1 - l.val) % (Nm1 + 1) = (w 3).val
      rw [Nat.mod_eq_of_lt (a := l.val + (w 3).val - Nm1) (by omega), Nat.mod_eq_of_lt (by omega)]
      omega
  · intro s hs
    have hs' : s.val ≤ l.val := (Finset.mem_filter.mp hs).2
    refine Fin.ext ?_
    show (l.val + (s.val + Nm1 - l.val) % (Nm1 + 1) - Nm1) % (Nm1 + 1) = s.val
    rw [Nat.mod_eq_of_lt (a := s.val + Nm1 - l.val) (by omega), Nat.mod_eq_of_lt (by omega)]
    omega
  · intro w _
    rfl

end Cert.Scan
-- ==== Proof.RefEntry.lean ====
module

public import proofs.«01_k».proof.Proof.RefScan
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Scan

open Cert.ReferenceIdeal Cert.ReferenceIdeal.Gen Cert.ReferenceIdeal.Value Cert.Scan Idealize.ShloMosaic.StableHlo

/-! ## What the reference holds when its loop begins -/

/-- The channel of a group, a head of the group and a place in the head. -/
def ch (g : Fin 4) (j : Fin 6) (p : Fin 64) : Fin 1536 := ⟨(g.val * 6 + j.val) * 64 + p.val, by omega⟩
/-- The head of a group and a head of the group. -/
def hg (g : Fin 4) (j : Fin 6) : Fin 24 := ⟨g.val * 6 + j.val, by omega⟩

theorem hd_ch (g : Fin 4) (j : Fin 6) (p : Fin 64) : hd (ch g j p) = hg g j := by
  apply Fin.ext; show ((g.val * 6 + j.val) * 64 + p.val) / 64 = g.val * 6 + j.val; omega
theorem grp_ch (g : Fin 4) (j : Fin 6) (p : Fin 64) : grp (ch g j p) = g := by
  apply Fin.ext; show ((g.val * 6 + j.val) * 64 + p.val) / 384 = g.val; omega

theorem add_eq {a a' b b' : EReal} (h : a = a') (h' : b = b') : a + b = a' + b' := h ▸ h' ▸ rfl
theorem sub_eq {a a' b b' : EReal} (h : a = a') (h' : b = b') : a - b = a' - b' := h ▸ h' ▸ rfl
theorem mul_eq {a a' b b' : EReal} (h : a = a') (h' : b = b') : a * b = a' * b' := h ▸ h' ▸ rfl

variable (V : Valuation τ sig (Elt Ideal)) (A : Args)

/-- The valuation holds the five arguments. -/
structure Holds : Prop where
  x : ∀ r j, (V (Proc.devRef .tc main_arg0) : Vec Ideal S8192x2560 .f32) (ix2 r j) = A.X r j
  d : ∀ r h, (V (Proc.devRef .tc main_arg1) : Vec Ideal S8704x24 .f32) (ix2 r h) = A.D r h
  b : ∀ h, (V (Proc.devRef .tc main_arg2) : Vec Ideal S24 .f32) (ix1 h) = A.b h
  a : ∀ h, (V (Proc.devRef .tc main_arg3) : Vec Ideal S24 .f32) (ix1 h) = A.a h
  k : ∀ h, (V (Proc.devRef .tc main_arg4) : Vec Ideal S24 .f32) (ix1 h) = A.k h

/-- The channels as heads. -/
theorem v1_at (H : Holds V A) (r : Fin 8192) (h : Fin 24) (p : Fin 64) :
    (after hostOps0 V (Proc.devRef .tc main_v1) : Vec Ideal S8192x24x64 .f32) (ix3 r h p) = A.xs r ⟨h.val * 64 + p.val, by omega⟩ := by
  after_results
  pointwise
  exact H.x _ _
/-- The keys. -/
theorem v3_at (H : Holds V A) (r : Fin 8192) (g : Fin 4) (n : Fin 128) :
    (after hostOps0 V (Proc.devRef .tc main_v3) : Vec Ideal S8192x4x128 .f32) (ix3 r g n) = A.B r g n := by
  after_results
  pointwise
  refine (H.x _ _).trans (congrArg (A.X r) (Fin.ext ?_))
  simp only []
  omega
/-- The readouts. -/
theorem v5_at (H : Holds V A) (r : Fin 8192) (g : Fin 4) (n : Fin 128) :
    (after hostOps0 V (Proc.devRef .tc main_v5) : Vec Ideal S8192x4x128 .f32) (ix3 r g n) = A.C r g n := by
  after_results
  pointwise
  refine (H.x _ _).trans (congrArg (A.X r) (Fin.ext ?_))
  simp only []
  omega
/-- The raw steps with their bias. -/
theorem v9_at (H : Holds V A) (r : Fin 8192) (h : Fin 24) :
    (after hostOps0 V (Proc.devRef .tc main_v9) : Vec Ideal S8192x24 .f32) (ix2 r h) = A.D ⟨r.val, by omega⟩ h + A.b h := by
  after_results
  pointwise
  exact add_eq (H.d _ _) (H.b _)

/-- The softplus. -/
theorem v10_at (r : Fin 8192) (h : Fin 24) :
    (after hostOps0_1 V (Proc.devRef .tc main_v10) : Vec Ideal S8192x24 .f32) (ix2 r h)
      = sp ((V (Proc.devRef .tc main_v9) : Vec Ideal S8192x24 .f32) (ix2 r h)) := by
  after_results
  simp only [TRef.toBuf, TRef.ofBuf, cast_eq]
  pointwise
  rw [if_neg (fun h => h rfl)]
  rfl

/-- The input times the step. -/
theorem v20_at (f1 : Fin 8192 → Fin 24 → Fin 64 → EReal) (f10 : Fin 8192 → Fin 24 → EReal)
    (h1 : ∀ r h p, (V (Proc.devRef .tc main_v1) : Vec Ideal S8192x24x64 .f32) (ix3 r h p) = f1 r h p)
    (h10 : ∀ r h, (V (Proc.devRef .tc main_v10) : Vec Ideal S8192x24 .f32) (ix2 r h) = f10 r h)
    (c : Fin 64) (l : Fin 128) (g : Fin 4) (j : Fin 6) (p : Fin 64) :
    (after hostOps0_2 V (Proc.devRef .tc main_v20) : Vec Ideal S64x128x4x6x64 .f32) (ix5 c l g j p)
      = f1 (row c.val l) (hg g j) p * f10 (row c.val l) (hg g j) := by
  have e : row c.val l = ⟨c.val * 128 + l.val, by omega⟩ := Fin.ext ((row_val _ c.isLt _).trans (by rw [Nat.mul_comm]))
  rw [e]
  after_results
  pointwise
  exact mul_eq (h1 _ _ _) (h10 _ _)
/-- The keys by chunks. -/
theorem v21_at (f : Fin 8192 → Fin 4 → Fin 128 → EReal)
    (h : ∀ r g n, (V (Proc.devRef .tc main_v3) : Vec Ideal S8192x4x128 .f32) (ix3 r g n) = f r g n) (c : Fin 64) (l : Fin 128) (g : Fin 4) (n : Fin 128) :
    (after hostOps0_2 V (Proc.devRef .tc main_v21) : Vec Ideal S64x128x4x128 .f32) (ix4 c l g n) = f (row c.val l) g n := by
  have e : row c.val l = ⟨c.val * 128 + l.val, by omega⟩ := Fin.ext ((row_val _ c.isLt _).trans (by rw [Nat.mul_comm]))
  rw [e]
  after_results
  pointwise
  exact h _ _ _
/-- The readouts by chunks. -/
theorem v22_at (f : Fin 8192 → Fin 4 → Fin 128 → EReal)
    (h : ∀ r g n, (V (Proc.devRef .tc main_v5) : Vec Ideal S8192x4x128 .f32) (ix3 r g n) = f r g n) (c : Fin 64) (l : Fin 128) (g : Fin 4) (n : Fin 128) :
    (after hostOps0_2 V (Proc.devRef .tc main_v22) : Vec Ideal S64x128x4x128 .f32) (ix4 c l g n) = f (row c.val l) g n := by
  have e : row c.val l = ⟨c.val * 128 + l.val, by omega⟩ := Fin.ext ((row_val _ c.isLt _).trans (by rw [Nat.mul_comm]))
  rw [e]
  after_results
  pointwise
  exact h _ _ _
/-- The steps times the rate, by chunks. -/
theorem v24_at (f10 : Fin 8192 → Fin 24 → EReal) (a : Fin 24 → EReal)
    (h10 : ∀ r h, (V (Proc.devRef .tc main_v10) : Vec Ideal S8192x24 .f32) (ix2 r h) = f10 r h)
    (ha : ∀ h, (V (Proc.devRef .tc main_arg3) : Vec Ideal S24 .f32) (ix1 h) = a h) (c : Fin 64) (l : Fin 128) (g : Fin 4) (j : Fin 6) :
    (after hostOps0_2 V (Proc.devRef .tc main_v24) : Vec Ideal S64x4x6x128 .f32) (ix4 c g j l)
      = f10 (row c.val l) (hg g j) * -Ideal.exp (a (hg g j)) := by
  have e : row c.val l = ⟨c.val * 128 + l.val, by omega⟩ := Fin.ext ((row_val _ c.isLt _).trans (by rw [Nat.mul_comm]))
  rw [e]
  after_results
  pointwise
  exact congrArg₂ (fun x y => x * -Ideal.exp y) (h10 _ _) (ha _)

/-- The running sum, of the array it runs along. -/
theorem cumsum_at (x : Vec Ideal S64x4x6x128 .f32) (init : Vec Ideal S_ .f32) (hi : ∀ i, init i = (0 : EReal)) (f : Fin 128 → EReal)
    (c : Fin 64) (l : Fin 128) (g : Fin 4) (j : Fin 6) (h : ∀ s, x (ix4 c g j s) = f s) :
    (Host.reduceWindowAdd (F := Ideal) (φ := .f32) ![1, 1, 1, 128] ![1, 1, 1, 1] ![0, 0, 0, 127] ![0, 0, 0, 0] x init
      reduceWindows_S64x4x6x128_S64x4x6x128_w1s1p0_0_w1s1p0_0_w1s1p0_0_w128s1p127_0 h_S_ : FVec Ideal S64x4x6x128 .f32) (ix4 c g j l)
      = ∑ s : Fin 128, if s.val ≤ l.val then f s else (0 : EReal) :=
  (cumsum_last (N := 128) (Nm1 := 127) rfl x init hi _ _ c g j l).trans
    (Finset.sum_congr (M := EReal) rfl fun s _ => if_congr Iff.rfl (h s) rfl)
/-- The running sum. -/
theorem v25_at (f : Fin 64 → Fin 4 → Fin 6 → Fin 128 → EReal)
    (h : ∀ c g j l, (V (Proc.devRef .tc main_v24) : Vec Ideal S64x4x6x128 .f32) (ix4 c g j l) = f c g j l)
    (c : Fin 64) (l : Fin 128) (g : Fin 4) (j : Fin 6) :
    (after hostOps0_3 V (Proc.devRef .tc main_v25) : Vec Ideal S64x4x6x128 .f32) (ix4 c g j l)
      = ∑ s : Fin 128, if s.val ≤ l.val then f c g j s else (0 : EReal) := by
  after_results
  simp only [TRef.toBuf, TRef.ofBuf, cast_eq]
  have hz : ∀ i, (broadcastInDim S_ ![] bcast_S_S_ (constant (F := Ideal) S_ FTy.f32 0#32) : Vec Ideal S_ .f32) i = (0 : EReal) := fun i => by pointwise
  exact cumsum_at _ _ hz (f c g j) c l g j (h c g j)

/-- The ones the mask is cut from. -/
theorem v26_at (l s : Fin 128) : (after hostOps0_4 V (Proc.devRef .tc main_v26) : IVec S128x128 1) (ix2 l s) = 1#1 := by
  after_results
  pointwise
/-- The order of two places, as the host compares them. -/
theorem sge_eq : ∀ l s : Fin 128, IntOp.cmpi CmpIPredicate.sge (IntOp.addi (BitVec.ofNat 32 l.val) 0#32) (BitVec.ofNat 32 s.val) = if s.val ≤ l.val then 1#1 else 0#1 := by
  decide +kernel
/-- The mask of the earlier places. -/
theorem v27_at (h : ∀ l s, (V (Proc.devRef .tc main_v26) : IVec S128x128 1) (ix2 l s) = 1#1) (l s : Fin 128) :
    (after hostOps0_5 V (Proc.devRef .tc main_v27) : IVec S128x128 1) (ix2 l s) = if s.val ≤ l.val then 1#1 else 0#1 := by
  after_results
  simp only [TRef.toBuf, TRef.ofBuf, cast_eq]
  pointwise
  rw [sge_eq, h]
  split <;> rfl
/-- The differences of the running sum. -/
theorem v32_at (f : Fin 64 → Fin 4 → Fin 6 → Fin 128 → EReal)
    (h : ∀ c g j l, (V (Proc.devRef .tc main_v25) : Vec Ideal S64x4x6x128 .f32) (ix4 c g j l) = f c g j l)
    (c : Fin 64) (g : Fin 4) (j : Fin 6) (l s : Fin 128) :
    (after hostOps0_6 V (Proc.devRef .tc main_v32) : Vec Ideal S64x4x6x128x128 .f32) (ix5 c g j l s) = f c g j l - f c g j s := by
  after_results
  pointwise
  exact sub_eq (h _ _ _ _) (h _ _ _ _)
/-- The differences, at the earlier places only. -/
theorem v33_at (f : Fin 64 → Fin 4 → Fin 6 → Fin 128 → Fin 128 → EReal)
    (h : ∀ c g j l s, (V (Proc.devRef .tc main_v32) : Vec Ideal S64x4x6x128x128 .f32) (ix5 c g j l s) = f c g j l s)
    (hm : ∀ l s, (V (Proc.devRef .tc main_v27) : IVec S128x128 1) (ix2 l s) = if s.val ≤ l.val then 1#1 else 0#1)
    (c : Fin 64) (g : Fin 4) (j : Fin 6) (l s : Fin 128) (hs : s.val ≤ l.val) :
    (after hostOps0_7 V (Proc.devRef .tc main_v33) : Vec Ideal S64x4x6x128x128 .f32) (ix5 c g j l s) = f c g j l s := by
  after_results
  simp only [TRef.toBuf, TRef.ofBuf, cast_eq]
  pointwise
  rw [hm, if_pos hs]
  exact h _ _ _ _ _
/-- The decay between two places. -/
theorem v34_at (c : Fin 64) (g : Fin 4) (j : Fin 6) (l s : Fin 128) (a : EReal)
    (h : (V (Proc.devRef .tc main_v33) : Vec Ideal S64x4x6x128x128 .f32) (ix5 c g j l s) = a) :
    (after hostOps0_8 V (Proc.devRef .tc main_v34) : Vec Ideal S64x4x6x128x128 .f32) (ix5 c g j l s) = Ideal.exp a := by
  after_results
  pointwise
  exact congrArg Ideal.exp h
/-- The zero the masked places take. -/
theorem cst1_at : (after hostOps0_8 V (Proc.devRef .tc main_cst_1) : Vec Ideal S_ .f32) ix0 = (0 : EReal) := by
  after_results
  pointwise
/-- The decay between two places, at the earlier places; nothing at the later. -/
theorem v35_at (f : Fin 64 → Fin 4 → Fin 6 → Fin 128 → Fin 128 → EReal)
    (h : ∀ c g j l s, s.val ≤ l.val → (V (Proc.devRef .tc main_v34) : Vec Ideal S64x4x6x128x128 .f32) (ix5 c g j l s) = f c g j l s)
    (hm : ∀ l s, (V (Proc.devRef .tc main_v27) : IVec S128x128 1) (ix2 l s) = if s.val ≤ l.val then 1#1 else 0#1)
    (h0 : (V (Proc.devRef .tc main_cst_1) : Vec Ideal S_ .f32) ix0 = (0 : EReal))
    (c : Fin 64) (g : Fin 4) (j : Fin 6) (l s : Fin 128) :
    (after hostOps0_9 V (Proc.devRef .tc main_v35) : Vec Ideal S64x4x6x128x128 .f32) (ix5 c g j l s) = if s.val ≤ l.val then f c g j l s else 0 := by
  after_results
  simp only [TRef.toBuf, TRef.ofBuf, cast_eq]
  pointwise
  rw [hm]
  by_cases hs : s.val ≤ l.val
  · rw [if_pos hs, if_pos hs]
    exact h _ _ _ _ _ hs
  · rw [if_neg hs, if_neg hs]
    exact h0

/-- What the chunks add to the state, before the loop's copy. -/
theorem v56_0_at (f20 : Fin 64 → Fin 128 → Fin 4 → Fin 6 → Fin 64 → EReal) (f25 : Fin 64 → Fin 4 → Fin 6 → Fin 128 → EReal) (f21 : Fin 64 → Fin 128 → Fin 4 → Fin 128 → EReal)
    (h20 : ∀ c l g j p, (V (Proc.devRef .tc main_v20) : Vec Ideal S64x128x4x6x64 .f32) (ix5 c l g j p) = f20 c l g j p)
    (h25 : ∀ c g j l, (V (Proc.devRef .tc main_v25) : Vec Ideal S64x4x6x128 .f32) (ix4 c g j l) = f25 c g j l)
    (h21 : ∀ c l g n, (V (Proc.devRef .tc main_v21) : Vec Ideal S64x128x4x128 .f32) (ix4 c l g n) = f21 c l g n)
    (c : Fin 64) (g : Fin 4) (j : Fin 6) (p : Fin 64) (n : Fin 128) :
    (after hostOps0_10 V (Proc.devRef .tc main_v56_0) : Vec Ideal S64x4x6x64x128 .f32) (ix5 c g j p n)
      = ∑ s : Fin 128, f20 c s g j p * Ideal.exp (f25 c g j 127 - f25 c g j s) * f21 c s g n := by
  after_results
  simp only [id_eq]
  pointwise
  exact Finset.sum_congr (M := EReal) rfl fun s _ => mul_eq (mul_eq (h20 _ _ _ _ _) (congrArg Ideal.exp (sub_eq (h25 _ _ _ _) (h25 _ _ _ _)))) (h21 _ _ _ _)
/-- The chunks' whole decays. -/
theorem v56_1_at (f25 : Fin 64 → Fin 4 → Fin 6 → Fin 128 → EReal)
    (h25 : ∀ c g j l, (V (Proc.devRef .tc main_v25) : Vec Ideal S64x4x6x128 .f32) (ix4 c g j l) = f25 c g j l)
    (c : Fin 64) (g : Fin 4) (j : Fin 6) :
    (after hostOps0_10 V (Proc.devRef .tc main_v56_1) : Vec Ideal S64x4x6 .f32) (ix3 c g j) = Ideal.exp (f25 c g j 127) := by
  after_results
  simp only [id_eq]
  pointwise
  exact congrArg Ideal.exp (h25 _ _ _ _)
/-- The loop's first state: what `main_v13` holds. -/
theorem v56_3_at (h13 : ∀ i, (V (Proc.devRef .tc main_v13) : Vec Ideal S24x64x128 .f32) i = (0 : EReal)) (g : Fin 4) (j : Fin 6) (p : Fin 64) (n : Fin 128) :
    (after hostOps0_10 V (Proc.devRef .tc main_v56_3) : Vec Ideal S4x6x64x128 .f32) (ix4 g j p n) = (0 : EReal) := by
  after_results
  simp only [id_eq]
  pointwise
  exact h13 _
/-- The starting state is nothing. -/
theorem v13_at (i : S24x64x128.Idx) : (after hostOps0_2 V (Proc.devRef .tc main_v13) : Vec Ideal S24x64x128 .f32) i = (0 : EReal) := by
  after_results
  pointwise
/-- The outputs inside the chunks. -/
theorem v41_at (f20 : Fin 64 → Fin 128 → Fin 4 → Fin 6 → Fin 64 → EReal) (f35 : Fin 64 → Fin 4 → Fin 6 → Fin 128 → Fin 128 → EReal) (f21 f22 : Fin 64 → Fin 128 → Fin 4 → Fin 128 → EReal)
    (h20 : ∀ c l g j p, (V (Proc.devRef .tc main_v20) : Vec Ideal S64x128x4x6x64 .f32) (ix5 c l g j p) = f20 c l g j p)
    (h35 : ∀ c g j l s, (V (Proc.devRef .tc main_v35) : Vec Ideal S64x4x6x128x128 .f32) (ix5 c g j l s) = f35 c g j l s)
    (h21 : ∀ c l g n, (V (Proc.devRef .tc main_v21) : Vec Ideal S64x128x4x128 .f32) (ix4 c l g n) = f21 c l g n)
    (h22 : ∀ c l g n, (V (Proc.devRef .tc main_v22) : Vec Ideal S64x128x4x128 .f32) (ix4 c l g n) = f22 c l g n)
    (c : Fin 64) (l : Fin 128) (g : Fin 4) (j : Fin 6) (p : Fin 64) :
    (after hostOps0_10 V (Proc.devRef .tc main_v41) : Vec Ideal S64x128x4x6x64 .f32) (ix5 c l g j p)
      = ∑ s : Fin 128, f20 c s g j p * ((∑ n : Fin 128, f22 c l g n * f21 c s g n) * f35 c g j l s) := by
  after_results
  pointwise
  exact Finset.sum_congr (M := EReal) rfl fun s _ => mul_eq (h20 _ _ _ _ _)
    (mul_eq (Finset.sum_congr (M := EReal) rfl fun n _ => mul_eq (h22 _ _ _ _) (h21 _ _ _ _)) (h35 _ _ _ _ _))

/-! ## The results, of what the loop leaves -/

/-- The reference's output. -/
theorem v72_at (f41 : Fin 64 → Fin 128 → Fin 4 → Fin 6 → Fin 64 → EReal) (f4 : Fin 64 → Fin 4 → Fin 6 → Fin 64 → Fin 128 → EReal)
    (f22 : Fin 64 → Fin 128 → Fin 4 → Fin 128 → EReal) (f25 : Fin 64 → Fin 4 → Fin 6 → Fin 128 → EReal) (f1 : Fin 8192 → Fin 24 → Fin 64 → EReal) (k : Fin 24 → EReal)
    (h41 : ∀ c l g j p, (V (Proc.devRef .tc main_v41) : Vec Ideal S64x128x4x6x64 .f32) (ix5 c l g j p) = f41 c l g j p)
    (h4 : ∀ c g j p n, (V (Proc.devRef .tc main_v56_4) : Vec Ideal S64x4x6x64x128 .f32) (ix5 c g j p n) = f4 c g j p n)
    (h22 : ∀ c l g n, (V (Proc.devRef .tc main_v22) : Vec Ideal S64x128x4x128 .f32) (ix4 c l g n) = f22 c l g n)
    (h25 : ∀ c g j l, (V (Proc.devRef .tc main_v25) : Vec Ideal S64x4x6x128 .f32) (ix4 c g j l) = f25 c g j l)
    (h1 : ∀ r h p, (V (Proc.devRef .tc main_v1) : Vec Ideal S8192x24x64 .f32) (ix3 r h p) = f1 r h p)
    (hk : ∀ h, (V (Proc.devRef .tc main_arg4) : Vec Ideal S24 .f32) (ix1 h) = k h) (r : Fin 8192) (i : Fin 1536) :
    (after hostOps0_11 V (Proc.devRef .tc main_v72) : Vec Ideal S8192x1536 .f32) (ix2 r i)
      = f41 ⟨r.val / 128, by omega⟩ ⟨r.val % 128, by omega⟩ ⟨i.val / 64 / 6, by omega⟩ ⟨i.val / 64 % 6, by omega⟩ ⟨i.val % 64, by omega⟩
        + (∑ n : Fin 128, f4 ⟨r.val / 128, by omega⟩ ⟨i.val / 64 / 6, by omega⟩ ⟨i.val / 64 % 6, by omega⟩ ⟨i.val % 64, by omega⟩ n * f22 ⟨r.val / 128, by omega⟩ ⟨r.val % 128, by omega⟩ ⟨i.val / 64 / 6, by omega⟩ n)
          * Ideal.exp (f25 ⟨r.val / 128, by omega⟩ ⟨i.val / 64 / 6, by omega⟩ ⟨i.val / 64 % 6, by omega⟩ ⟨r.val % 128, by omega⟩)
        + k ⟨i.val / 64, by omega⟩ * f1 r ⟨i.val / 64, by omega⟩ ⟨i.val % 64, by omega⟩ := by
  after_results
  pointwise
  exact add_eq (add_eq (h41 _ _ _ _ _) (mul_eq
      (Finset.sum_congr (M := EReal) rfl fun n _ => mul_eq (h4 _ _ _ _ _) (h22 _ _ _ _)) (congrArg Ideal.exp (h25 _ _ _ _))))
    (mul_eq (hk _) (h1 _ _ _))
/-- The reference's last state. -/
theorem v73_at (f : Fin 4 → Fin 6 → Fin 64 → Fin 128 → EReal)
    (h : ∀ g j p n, (V (Proc.devRef .tc main_v56_3) : Vec Ideal S4x6x64x128 .f32) (ix4 g j p n) = f g j p n) (q : Fin 12) (x n : Fin 128) :
    (after hostOps0_11 V (Proc.devRef .tc main_v73) : Vec Ideal S12x128x128 .f32) (ix3 q x n) = f ⟨(q.val * 2 + x.val / 64) / 6, by omega⟩ ⟨(q.val * 2 + x.val / 64) % 6, by omega⟩ ⟨x.val % 64, by omega⟩ n := by
  after_results
  pointwise
  exact h _ _ _ _

end Cert.ReferenceIdeal.Scan
-- ==== Proof.RefLoop.lean ====
module

public import proofs.«01_k».proof.Proof.RefEntry

@[expose] public section

set_option maxRecDepth 16384

noncomputable section

open Idealize.ShloMosaic Idealize.ShloMosaic.TcCoe Idealize.SL.Sem

namespace Cert.ReferenceIdeal.Scan

open Cert.ReferenceIdeal Cert.ReferenceIdeal.Gen Cert.ReferenceIdeal.Value Cert.Scan Idealize.ShloMosaic.StableHlo

/-! ## The reference's loop over the chunks -/

/-- The start a trip's slice takes, as the host clamps it. -/
theorem start_eq : ∀ k : Fin 64, (min (max (Scf.iv 0#32 1#32 k.val).toInt 0) ((64 - 1 : ℕ) : ℤ)).toNat = k.val := by decide +kernel
theorem start_zero (n : ℕ) : (min (max (0#32 : BitVec 32).toInt 0) ((n - n : ℕ) : ℤ)).toNat = 0 := by
  rw [Nat.sub_self]; rfl

/-- A trip's slice of the chunks' decays. -/
theorem slice3 (x : Vec Ideal S64x4x6 .f32) (v : IVec S_ 32) (k : Fin 64) (hv : v = fun _ => Scf.iv 0#32 1#32 k.val) :
    (Host.dynamicSlice S1x4x6 x (fun a => ((![v, constantI S_ 32 0#32, constantI S_ 32 0#32] : Fin 3 → (⟨S_, .i32⟩ : BufTy).Contents (Elt Ideal)) a (Shape.Idx.first h_S_)).toInt) sliceFits_S64x4x6_S1x4x6)
      = fun i => x (ix3 k (i 1) (i 2)) := by
  subst hv
  funext i
  unfold Host.dynamicSlice extractStridedSlice
  refine congrArg x (funext fun a => Fin.ext ?_)
  have h0 : (i 0).val = 0 := Nat.lt_one_iff.mp (i 0).isLt
  match a with
  | ⟨0, _⟩ => exact (congrArg₂ (· + ·) (start_eq k) h0)
  | ⟨1, _⟩ => exact (congrArg (· + (i 1).val) (start_zero 4)).trans (Nat.zero_add _)
  | ⟨2, _⟩ => exact (congrArg (· + (i 2).val) (start_zero 6)).trans (Nat.zero_add _)

/-- A trip's slice of what the chunks add. -/
theorem slice5 (x : Vec Ideal S64x4x6x64x128 .f32) (v : IVec S_ 32) (k : Fin 64) (hv : v = fun _ => Scf.iv 0#32 1#32 k.val) :
    (Host.dynamicSlice S1x4x6x64x128 x (fun a => ((![v, constantI S_ 32 0#32, constantI S_ 32 0#32, constantI S_ 32 0#32, constantI S_ 32 0#32] : Fin 5 → (⟨S_, .i32⟩ : BufTy).Contents (Elt Ideal)) a (Shape.Idx.first h_S_)).toInt) sliceFits_S64x4x6x64x128_S1x4x6x64x128)
      = fun i => x (ix5 k (i 1) (i 2) (i 3) (i 4)) := by
  subst hv
  funext i
  unfold Host.dynamicSlice extractStridedSlice
  refine congrArg x (funext fun a => Fin.ext ?_)
  have h0 : (i 0).val = 0 := Nat.lt_one_iff.mp (i 0).isLt
  match a with
  | ⟨0, _⟩ => exact (congrArg₂ (· + ·) (start_eq k) h0)
  | ⟨1, _⟩ => exact (congrArg (· + (i 1).val) (start_zero 4)).trans (Nat.zero_add _)
  | ⟨2, _⟩ => exact (congrArg (· + (i 2).val) (start_zero 6)).trans (Nat.zero_add _)
  | ⟨3, _⟩ => exact (congrArg (· + (i 3).val) (start_zero 64)).trans (Nat.zero_add _)
  | ⟨4, _⟩ => exact (congrArg (· + (i 4).val) (start_zero 128)).trans (Nat.zero_add _)

/-- A trip's write into the stack of states: the trip's own place takes the state, the others stay. -/
theorem update5 (x : Vec Ideal S64x4x6x64x128 .f32) (u : Vec Ideal S1x4x6x64x128 .f32) (v : IVec S_ 32) (k : Fin 64) (hv : v = fun _ => Scf.iv 0#32 1#32 k.val)
    (c : Fin 64) (g : Fin 4) (j : Fin 6) (p : Fin 64) (n : Fin 128) :
    (Host.dynamicUpdateSlice x u (fun a => ((![v, constantI S_ 32 0#32, constantI S_ 32 0#32, constantI S_ 32 0#32, constantI S_ 32 0#32] : Fin 5 → (⟨S_, .i32⟩ : BufTy).Contents (Elt Ideal)) a (Shape.Idx.first h_S_)).toInt) updateFits_S64x4x6x64x128_S1x4x6x64x128) (ix5 c g j p n)
      = if c = k then u (ix5 0 g j p n) else x (ix5 c g j p n) := by
  subst hv
  unfold Host.dynamicUpdateSlice updateSlice
  have e0 := start_eq k
  have e1 := start_zero 4
  have e2 := start_zero 6
  have e3 := start_zero 64
  have e4 := start_zero 128
  by_cases hc : c = k
  · subst hc
    rw [if_pos rfl, dif_pos ?_]
    · refine congrArg u (funext fun a => Fin.ext ?_)
      match a with
      | ⟨0, _⟩ => exact (congrArg (c.val - ·) e0).trans (Nat.sub_self _)
      | ⟨1, _⟩ => exact (congrArg (g.val - ·) e1)
      | ⟨2, _⟩ => exact (congrArg (j.val - ·) e2)
      | ⟨3, _⟩ => exact (congrArg (p.val - ·) e3)
      | ⟨4, _⟩ => exact (congrArg (n.val - ·) e4)
    · intro a
      match a with
      | ⟨0, _⟩ => exact ⟨e0.le, lt_of_lt_of_eq (Nat.lt_succ_self c.val) (congrArg (· + 1) e0).symm⟩
      | ⟨1, _⟩ => exact ⟨e1.le.trans (Nat.zero_le _), lt_of_lt_of_eq g.isLt ((congrArg (· + 4) e1).trans (Nat.zero_add _)).symm⟩
      | ⟨2, _⟩ => exact ⟨e2.le.trans (Nat.zero_le _), lt_of_lt_of_eq j.isLt ((congrArg (· + 6) e2).trans (Nat.zero_add _)).symm⟩
      | ⟨3, _⟩ => exact ⟨e3.le.trans (Nat.zero_le _), lt_of_lt_of_eq p.isLt ((congrArg (· + 64) e3).trans (Nat.zero_add _)).symm⟩
      | ⟨4, _⟩ => exact ⟨e4.le.trans (Nat.zero_le _), lt_of_lt_of_eq n.isLt ((congrArg (· + 128) e4).trans (Nat.zero_add _)).symm⟩
  · rw [if_neg hc, dif_neg ?_]
    intro hin
    have h0 := hin ⟨0, by decide⟩
    have hl : k.val ≤ c.val := (le_of_eq e0.symm).trans h0.1
    have hr : c.val < k.val + 1 := lt_of_lt_of_eq h0.2 (congrArg (· + 1) e0)
    exact hc (Fin.ext (by omega))

/-- One trip's state, of the arrays it reads. -/
theorem step3_of (y3 : Vec Ideal S4x6x64x128 .f32) (y1 : Vec Ideal S64x4x6 .f32) (y0 : Vec Ideal S64x4x6x64x128 .f32) (v : IVec S_ 32) (k : Fin 64) (hv : v = fun _ => Scf.iv 0#32 1#32 k.val)
    (f3 : Fin 4 → Fin 6 → Fin 64 → Fin 128 → EReal) (f1 : Fin 64 → Fin 4 → Fin 6 → EReal) (f0 : Fin 64 → Fin 4 → Fin 6 → Fin 64 → Fin 128 → EReal)
    (h3 : ∀ g j p n, y3 (ix4 g j p n) = f3 g j p n) (h1 : ∀ c g j, y1 (ix3 c g j) = f1 c g j) (h0 : ∀ c g j p n, y0 (ix5 c g j p n) = f0 c g j p n)
    (g : Fin 4) (j : Fin 6) (p : Fin 64) (n : Fin 128) :
    (addf (F := Ideal) (φ := .f32) (mulf y3 (broadcastInDim S4x6x64x128 ![0, 1, 2, 3] bcast_S4x6x1x1_S4x6x64x128_0_1_2_3 (broadcastInDim S4x6x1x1 ![0, 1] bcast_S4x6_S4x6x1x1_0_1 (shapeCast S4x6
        (Host.dynamicSlice S1x4x6 y1 (fun a => ((![v, constantI S_ 32 0#32, constantI S_ 32 0#32] : Fin 3 → (⟨S_, .i32⟩ : BufTy).Contents (Elt Ideal)) a (Shape.Idx.first h_S_)).toInt) sliceFits_S64x4x6_S1x4x6) shapeCasts_S1x4x6_S4x6))))
      (shapeCast S4x6x64x128 (Host.dynamicSlice S1x4x6x64x128 y0 (fun a => ((![v, constantI S_ 32 0#32, constantI S_ 32 0#32, constantI S_ 32 0#32, constantI S_ 32 0#32] : Fin 5 → (⟨S_, .i32⟩ : BufTy).Contents (Elt Ideal)) a (Shape.Idx.first h_S_)).toInt) sliceFits_S64x4x6x64x128_S1x4x6x64x128) shapeCasts_S1x4x6x64x128_S4x6x64x128) : Vec Ideal S4x6x64x128 .f32) (ix4 g j p n)
      = f3 g j p n * f1 k g j + f0 k g j p n := by
  rw [slice3 _ _ k hv, slice5 _ _ k hv]
  pointwise
  exact add_eq (mul_eq (h3 _ _ _ _) (h1 _ _ _)) (h0 _ _ _ _ _)

/-- One trip's state, of the states before it. -/
theorem step3 (V : Valuation τ sig (Elt Ideal)) (k : Fin 64) (hk : (V (Proc.devRef .tc main_v56_2) : IVec S_ 32) = fun _ => Scf.iv 0#32 1#32 k.val)
    (f3 : Fin 4 → Fin 6 → Fin 64 → Fin 128 → EReal) (f1 : Fin 64 → Fin 4 → Fin 6 → EReal) (f0 : Fin 64 → Fin 4 → Fin 6 → Fin 64 → Fin 128 → EReal)
    (h3 : ∀ g j p n, (V (Proc.devRef .tc main_v56_3) : Vec Ideal S4x6x64x128 .f32) (ix4 g j p n) = f3 g j p n)
    (h1 : ∀ c g j, (V (Proc.devRef .tc main_v56_1) : Vec Ideal S64x4x6 .f32) (ix3 c g j) = f1 c g j)
    (h0 : ∀ c g j p n, (V (Proc.devRef .tc main_v56_0) : Vec Ideal S64x4x6x64x128 .f32) (ix5 c g j p n) = f0 c g j p n)
    (g : Fin 4) (j : Fin 6) (p : Fin 64) (n : Fin 128) :
    (step_main_v56_3 V : Vec Ideal S4x6x64x128 .f32) (ix4 g j p n) = f3 g j p n * f1 k g j + f0 k g j p n := by
  unfold step_main_v56_3
  exact step3_of _ _ _ _ k hk f3 f1 f0 h3 h1 h0 g j p n

/-- One trip's stack of states. -/
theorem step4 (V : Valuation τ sig (Elt Ideal)) (k : Fin 64) (hk : (V (Proc.devRef .tc main_v56_2) : IVec S_ 32) = fun _ => Scf.iv 0#32 1#32 k.val)
    (c : Fin 64) (g : Fin 4) (j : Fin 6) (p : Fin 64) (n : Fin 128) :
    (step_main_v56_4 V : Vec Ideal S64x4x6x64x128 .f32) (ix5 c g j p n)
      = if c = k then (V (Proc.devRef .tc main_v56_3) : Vec Ideal S4x6x64x128 .f32) (ix4 g j p n) else (V (Proc.devRef .tc main_v56_4) : Vec Ideal S64x4x6x64x128 .f32) (ix5 c g j p n) := by
  unfold step_main_v56_4
  simp only [id_eq]
  refine (update5 _ _ _ k hk c g j p n).trans ?_
  pointwise

end Cert.ReferenceIdeal.Scan
-- ==== Proof.RefValue.lean ====
module

public import proofs.«01_k».proof.Proof.RefLoop

@[expose] public section

set_option maxRecDepth 16384

noncomputable section

open Idealize.ShloMosaic Idealize.ShloMosaic.TcCoe Idealize.SL.Sem

namespace Cert.ReferenceIdeal.Scan

open Cert.ReferenceIdeal Cert.ReferenceIdeal.Gen Cert.ReferenceIdeal.Value Cert.Scan Idealize.ShloMosaic.StableHlo

/-! ## The reference's results, as the scan of its arguments -/

variable (m : (ℓ : Loc nD τ sig) → Buf (Elt Ideal) ℓ) (c : Dev nD)

/-- The reference's arguments. -/
def args : Args where
  X r j := (m ((c : Thread nD τ).loc main_arg0) : Vec Ideal S8192x2560 .f32) (ix2 r j)
  D r h := (m ((c : Thread nD τ).loc main_arg1) : Vec Ideal S8704x24 .f32) (ix2 r h)
  b h := (m ((c : Thread nD τ).loc main_arg2) : Vec Ideal S24 .f32) (ix1 h)
  a h := (m ((c : Thread nD τ).loc main_arg3) : Vec Ideal S24 .f32) (ix1 h)
  k h := (m ((c : Thread nD τ).loc main_arg4) : Vec Ideal S24 .f32) (ix1 h)

/-- The buffers before the host's first stretch. -/
abbrev W0 : Valuation τ sig (Elt Ideal) := launchContents m c
/-- The buffers after the first stretch, and so on up to the loop. -/
abbrev W1 : Valuation τ sig (Elt Ideal) := after hostOps0 (W0 m c)
abbrev W2 : Valuation τ sig (Elt Ideal) := after hostOps0_1 (W1 m c)
abbrev W3 : Valuation τ sig (Elt Ideal) := after hostOps0_2 (W2 m c)
abbrev W4 : Valuation τ sig (Elt Ideal) := after hostOps0_3 (W3 m c)
abbrev W5 : Valuation τ sig (Elt Ideal) := after hostOps0_4 (W4 m c)
abbrev W6 : Valuation τ sig (Elt Ideal) := after hostOps0_5 (W5 m c)
abbrev W7 : Valuation τ sig (Elt Ideal) := after hostOps0_6 (W6 m c)
abbrev W8 : Valuation τ sig (Elt Ideal) := after hostOps0_7 (W7 m c)
abbrev W9 : Valuation τ sig (Elt Ideal) := after hostOps0_8 (W8 m c)
abbrev W10 : Valuation τ sig (Elt Ideal) := after hostOps0_9 (W9 m c)
abbrev W11 : Valuation τ sig (Elt Ideal) := after hostOps0_10 (W10 m c)

theorem entry_eq : entryContents preI m c = W11 m c := by
  simp only [entryContents, afterL_cons, afterL_nil]

/-- A buffer the later stretches leave alone is what it was before them. -/
theorem keep0 (r : Ref sig .tc) (h : r ∉ hostOps0_W) : W1 m c (Proc.devRef .tc r) = W0 m c (Proc.devRef .tc r) := after_of_writes_sub _ _ hostOps0_writes h
theorem keep1 (r : Ref sig .tc) (h : r ∉ hostOps0_1_W) : W2 m c (Proc.devRef .tc r) = W1 m c (Proc.devRef .tc r) := after_of_writes_sub _ _ hostOps0_1_writes h
theorem keep2 (r : Ref sig .tc) (h : r ∉ hostOps0_2_W) : W3 m c (Proc.devRef .tc r) = W2 m c (Proc.devRef .tc r) := after_of_writes_sub _ _ hostOps0_2_writes h
theorem keep3 (r : Ref sig .tc) (h : r ∉ hostOps0_3_W) : W4 m c (Proc.devRef .tc r) = W3 m c (Proc.devRef .tc r) := after_of_writes_sub _ _ hostOps0_3_writes h
theorem keep4 (r : Ref sig .tc) (h : r ∉ hostOps0_4_W) : W5 m c (Proc.devRef .tc r) = W4 m c (Proc.devRef .tc r) := after_of_writes_sub _ _ hostOps0_4_writes h
theorem keep5 (r : Ref sig .tc) (h : r ∉ hostOps0_5_W) : W6 m c (Proc.devRef .tc r) = W5 m c (Proc.devRef .tc r) := after_of_writes_sub _ _ hostOps0_5_writes h
theorem keep6 (r : Ref sig .tc) (h : r ∉ hostOps0_6_W) : W7 m c (Proc.devRef .tc r) = W6 m c (Proc.devRef .tc r) := after_of_writes_sub _ _ hostOps0_6_writes h
theorem keep7 (r : Ref sig .tc) (h : r ∉ hostOps0_7_W) : W8 m c (Proc.devRef .tc r) = W7 m c (Proc.devRef .tc r) := after_of_writes_sub _ _ hostOps0_7_writes h
theorem keep8 (r : Ref sig .tc) (h : r ∉ hostOps0_8_W) : W9 m c (Proc.devRef .tc r) = W8 m c (Proc.devRef .tc r) := after_of_writes_sub _ _ hostOps0_8_writes h
theorem keep9 (r : Ref sig .tc) (h : r ∉ hostOps0_9_W) : W10 m c (Proc.devRef .tc r) = W9 m c (Proc.devRef .tc r) := after_of_writes_sub _ _ hostOps0_9_writes h
theorem keep10 (r : Ref sig .tc) (h : r ∉ hostOps0_10_W) : W11 m c (Proc.devRef .tc r) = W10 m c (Proc.devRef .tc r) := after_of_writes_sub _ _ hostOps0_10_writes h

/-- What the stretches from the fourth to the tenth leave alone. -/
theorem keep3_9 (r : Ref sig .tc) (h3 : r ∉ hostOps0_3_W) (h4 : r ∉ hostOps0_4_W) (h5 : r ∉ hostOps0_5_W) (h6 : r ∉ hostOps0_6_W) (h7 : r ∉ hostOps0_7_W)
    (h8 : r ∉ hostOps0_8_W) (h9 : r ∉ hostOps0_9_W) : W10 m c (Proc.devRef .tc r) = W3 m c (Proc.devRef .tc r) :=
  (keep9 m c r h9).trans ((keep8 m c r h8).trans ((keep7 m c r h7).trans ((keep6 m c r h6).trans ((keep5 m c r h5).trans ((keep4 m c r h4).trans (keep3 m c r h3))))))
/-- What the stretches from the fifth to the tenth leave alone. -/
theorem keep4_9 (r : Ref sig .tc) (h4 : r ∉ hostOps0_4_W) (h5 : r ∉ hostOps0_5_W) (h6 : r ∉ hostOps0_6_W) (h7 : r ∉ hostOps0_7_W)
    (h8 : r ∉ hostOps0_8_W) (h9 : r ∉ hostOps0_9_W) : W10 m c (Proc.devRef .tc r) = W4 m c (Proc.devRef .tc r) :=
  (keep9 m c r h9).trans ((keep8 m c r h8).trans ((keep7 m c r h7).trans ((keep6 m c r h6).trans ((keep5 m c r h5).trans (keep4 m c r h4)))))

theorem holds : Holds (W0 m c) (args m c) := ⟨fun _ _ => rfl, fun _ _ => rfl, fun _ => rfl, fun _ => rfl, fun _ => rfl⟩

/-- The input times the step, of a chunk's place. -/
def xd (c0 : Fin 64) (l : Fin 128) (g : Fin 4) (j : Fin 6) (p : Fin 64) : EReal :=
  (args m c).xs (row c0.val l) (ch g j p) * (args m c).dt (row c0.val l) (hg g j)

theorem w2_v10 (r : Fin 8192) (h : Fin 24) : (W2 m c (Proc.devRef .tc main_v10) : Vec Ideal S8192x24 .f32) (ix2 r h) = (args m c).dt r h :=
  (v10_at (W1 m c) r h).trans (congrArg sp (v9_at _ _ (holds m c) r h))
theorem w2_v1 (r : Fin 8192) (h : Fin 24) (p : Fin 64) : (W2 m c (Proc.devRef .tc main_v1) : Vec Ideal S8192x24x64 .f32) (ix3 r h p) = (args m c).xs r ⟨h.val * 64 + p.val, by omega⟩ :=
  (congrFun (keep1 m c main_v1 (by decide +kernel)) _).trans (v1_at _ _ (holds m c) r h p)
theorem w3_v20 (c0 : Fin 64) (l : Fin 128) (g : Fin 4) (j : Fin 6) (p : Fin 64) :
    (W3 m c (Proc.devRef .tc main_v20) : Vec Ideal S64x128x4x6x64 .f32) (ix5 c0 l g j p) = xd m c c0 l g j p :=
  v20_at (W2 m c) _ _ (w2_v1 m c) (w2_v10 m c) c0 l g j p
theorem w3_v21 (c0 : Fin 64) (l : Fin 128) (g : Fin 4) (n : Fin 128) :
    (W3 m c (Proc.devRef .tc main_v21) : Vec Ideal S64x128x4x128 .f32) (ix4 c0 l g n) = (args m c).B (row c0.val l) g n :=
  v21_at (W2 m c) _ (fun r g n => (congrFun (keep1 m c main_v3 (by decide +kernel)) _).trans (v3_at _ _ (holds m c) r g n)) c0 l g n
theorem w3_v22 (c0 : Fin 64) (l : Fin 128) (g : Fin 4) (n : Fin 128) :
    (W3 m c (Proc.devRef .tc main_v22) : Vec Ideal S64x128x4x128 .f32) (ix4 c0 l g n) = (args m c).C (row c0.val l) g n :=
  v22_at (W2 m c) _ (fun r g n => (congrFun (keep1 m c main_v5 (by decide +kernel)) _).trans (v5_at _ _ (holds m c) r g n)) c0 l g n
theorem w3_v24 (c0 : Fin 64) (g : Fin 4) (j : Fin 6) (l : Fin 128) :
    (W3 m c (Proc.devRef .tc main_v24) : Vec Ideal S64x4x6x128 .f32) (ix4 c0 g j l) = (args m c).dt (row c0.val l) (hg g j) * -Ideal.exp ((args m c).a (hg g j)) :=
  v24_at (W2 m c) _ _ (w2_v10 m c) (fun h => (congrFun ((keep1 m c main_arg3 (by decide +kernel)).trans (keep0 m c main_arg3 (by decide +kernel))) _).trans ((holds m c).a h)) c0 l g j
theorem w4_v25 (c0 : Fin 64) (g : Fin 4) (j : Fin 6) (l : Fin 128) :
    (W4 m c (Proc.devRef .tc main_v25) : Vec Ideal S64x4x6x128 .f32) (ix4 c0 g j l) = (args m c).ac c0.val l (hg g j) :=
  v25_at (W3 m c) _ (w3_v24 m c) c0 l g j
theorem w6_v27 (l s : Fin 128) : (W6 m c (Proc.devRef .tc main_v27) : IVec S128x128 1) (ix2 l s) = if s.val ≤ l.val then 1#1 else 0#1 :=
  v27_at (W5 m c) (v26_at (W4 m c)) l s
theorem w7_v32 (c0 : Fin 64) (g : Fin 4) (j : Fin 6) (l s : Fin 128) :
    (W7 m c (Proc.devRef .tc main_v32) : Vec Ideal S64x4x6x128x128 .f32) (ix5 c0 g j l s) = (args m c).ac c0.val l (hg g j) - (args m c).ac c0.val s (hg g j) :=
  v32_at (W6 m c) (fun c0 g j l => (args m c).ac c0.val l (hg g j))
    (fun c0 g j l => (congrFun ((keep5 m c main_v25 (by decide +kernel)).trans (keep4 m c main_v25 (by decide +kernel))) _).trans (w4_v25 m c c0 g j l)) c0 g j l s
theorem w9_v34 (c0 : Fin 64) (g : Fin 4) (j : Fin 6) (l s : Fin 128) (hs : s.val ≤ l.val) :
    (W9 m c (Proc.devRef .tc main_v34) : Vec Ideal S64x4x6x128x128 .f32) (ix5 c0 g j l s) = Ideal.exp ((args m c).ac c0.val l (hg g j) - (args m c).ac c0.val s (hg g j)) :=
  v34_at (W8 m c) c0 g j l s _ (v33_at (W7 m c) _ (w7_v32 m c)
    (fun l s => (congrFun (keep6 m c main_v27 (by decide +kernel)) _).trans (w6_v27 m c l s)) c0 g j l s hs)
theorem w10_v35 (c0 : Fin 64) (g : Fin 4) (j : Fin 6) (l s : Fin 128) :
    (W10 m c (Proc.devRef .tc main_v35) : Vec Ideal S64x4x6x128x128 .f32) (ix5 c0 g j l s)
      = if s.val ≤ l.val then Ideal.exp ((args m c).ac c0.val l (hg g j) - (args m c).ac c0.val s (hg g j)) else 0 :=
  v35_at (W9 m c) (fun c0 g j l s => Ideal.exp ((args m c).ac c0.val l (hg g j) - (args m c).ac c0.val s (hg g j))) (w9_v34 m c)
    (fun l s => (congrFun ((keep8 m c main_v27 (by decide +kernel)).trans ((keep7 m c main_v27 (by decide +kernel)).trans (keep6 m c main_v27 (by decide +kernel)))) _).trans (w6_v27 m c l s))
    (cst1_at (W8 m c)) c0 g j l s

theorem w10_v20 (c0 : Fin 64) (l : Fin 128) (g : Fin 4) (j : Fin 6) (p : Fin 64) :
    (W10 m c (Proc.devRef .tc main_v20) : Vec Ideal S64x128x4x6x64 .f32) (ix5 c0 l g j p) = xd m c c0 l g j p :=
  (congrFun (keep3_9 m c main_v20 (by decide +kernel) (by decide +kernel) (by decide +kernel) (by decide +kernel) (by decide +kernel) (by decide +kernel) (by decide +kernel)) _).trans (w3_v20 m c c0 l g j p)
theorem w10_v21 (c0 : Fin 64) (l : Fin 128) (g : Fin 4) (n : Fin 128) :
    (W10 m c (Proc.devRef .tc main_v21) : Vec Ideal S64x128x4x128 .f32) (ix4 c0 l g n) = (args m c).B (row c0.val l) g n :=
  (congrFun (keep3_9 m c main_v21 (by decide +kernel) (by decide +kernel) (by decide +kernel) (by decide +kernel) (by decide +kernel) (by decide +kernel) (by decide +kernel)) _).trans (w3_v21 m c c0 l g n)
theorem w10_v22 (c0 : Fin 64) (l : Fin 128) (g : Fin 4) (n : Fin 128) :
    (W10 m c (Proc.devRef .tc main_v22) : Vec Ideal S64x128x4x128 .f32) (ix4 c0 l g n) = (args m c).C (row c0.val l) g n :=
  (congrFun (keep3_9 m c main_v22 (by decide +kernel) (by decide +kernel) (by decide +kernel) (by decide +kernel) (by decide +kernel) (by decide +kernel) (by decide +kernel)) _).trans (w3_v22 m c c0 l g n)
theorem w10_v25 (c0 : Fin 64) (g : Fin 4) (j : Fin 6) (l : Fin 128) :
    (W10 m c (Proc.devRef .tc main_v25) : Vec Ideal S64x4x6x128 .f32) (ix4 c0 g j l) = (args m c).ac c0.val l (hg g j) :=
  (congrFun (keep4_9 m c main_v25 (by decide +kernel) (by decide +kernel) (by decide +kernel) (by decide +kernel) (by decide +kernel) (by decide +kernel)) _).trans (w4_v25 m c c0 g j l)

/-- At the loop's entry: what each chunk adds. -/
theorem w11_0 (c0 : Fin 64) (g : Fin 4) (j : Fin 6) (p : Fin 64) (n : Fin 128) :
    (W11 m c (Proc.devRef .tc main_v56_0) : Vec Ideal S64x4x6x64x128 .f32) (ix5 c0 g j p n) = (args m c).U c0.val (ch g j p) n := by
  refine (v56_0_at (W10 m c) _ _ _ (w10_v20 m c) (w10_v25 m c) (w10_v21 m c) c0 g j p n).trans ?_
  unfold Args.U xd
  rw [hd_ch, grp_ch]
/-- At the loop's entry: each chunk's whole decay. -/
theorem w11_1 (c0 : Fin 64) (g : Fin 4) (j : Fin 6) :
    (W11 m c (Proc.devRef .tc main_v56_1) : Vec Ideal S64x4x6 .f32) (ix3 c0 g j) = Ideal.exp ((args m c).ac c0.val 127 (hg g j)) :=
  v56_1_at (W10 m c) _ (w10_v25 m c) c0 g j
/-- At the loop's entry: no state. -/
theorem w11_3 (g : Fin 4) (j : Fin 6) (p : Fin 64) (n : Fin 128) :
    (W11 m c (Proc.devRef .tc main_v56_3) : Vec Ideal S4x6x64x128 .f32) (ix4 g j p n) = (0 : EReal) :=
  v56_3_at (W10 m c) (fun i => (congrFun (keep3_9 m c main_v13 (by decide +kernel) (by decide +kernel) (by decide +kernel) (by decide +kernel) (by decide +kernel) (by decide +kernel) (by decide +kernel)) _).trans (v13_at (W2 m c) i)) g j p n
/-- At the loop's entry: the outputs inside the chunks. -/
theorem w11_41 (c0 : Fin 64) (l : Fin 128) (g : Fin 4) (j : Fin 6) (p : Fin 64) :
    (W11 m c (Proc.devRef .tc main_v41) : Vec Ideal S64x128x4x6x64 .f32) (ix5 c0 l g j p)
      = ∑ s : Fin 128, xd m c c0 s g j p * ((∑ n : Fin 128, (args m c).C (row c0.val l) g n * (args m c).B (row c0.val s) g n)
          * (if s.val ≤ l.val then Ideal.exp ((args m c).ac c0.val l (hg g j) - (args m c).ac c0.val s (hg g j)) else 0)) :=
  v41_at (W10 m c) _ _ _ _ (w10_v20 m c) (w10_v35 m c) (w10_v21 m c) (w10_v22 m c) c0 l g j p

/-! ## The loop -/

/-- The states before trip `k`: the running state, and the stack of the states the earlier trips began with. -/
theorem trip_inv : ∀ k : ℕ, k ≤ 64 →
    (∀ g j p n, (atK m k c (Proc.devRef .tc main_v56_3) : Vec Ideal S4x6x64x128 .f32) (ix4 g j p n) = (args m c).H k (ch g j p) n)
    ∧ (∀ c0 g j p n, c0.val < k → (atK m k c (Proc.devRef .tc main_v56_4) : Vec Ideal S64x4x6x64x128 .f32) (ix5 c0 g j p n) = (args m c).H c0.val (ch g j p) n)
    ∧ (atK m k c (Proc.devRef .tc main_v56_0) = W11 m c (Proc.devRef .tc main_v56_0))
    ∧ (atK m k c (Proc.devRef .tc main_v56_1) = W11 m c (Proc.devRef .tc main_v56_1))
  | 0, _ => by
    have e : atK m 0 c = W11 m c := entry_eq m c
    rw [e]
    exact ⟨fun g j p n => w11_3 m c g j p n, fun c0 g j p n h => absurd h (Nat.not_lt_zero _), rfl, rfl⟩
  | k + 1, hk => by
    obtain ⟨i3, i4, i0, i1⟩ := trip_inv k (by omega)
    have ha := trip_agree (atK m k c)
    have h3 := (ha main_v56_3 (by decide)).trans (STEP_main_v56_3 (atK m k c))
    have h4 := (ha main_v56_4 (by decide)).trans (STEP_main_v56_4 (atK m k c))
    have h0 := (ha main_v56_0 (by decide)).trans (STEP_main_v56_0 (atK m k c))
    have h1 := (ha main_v56_1 (by decide)).trans (STEP_main_v56_1 (atK m k c))
    have hv := atK_ctr m c k
    refine ⟨fun g j p n => (congrFun h3 _).trans ?_, fun c0 g j p n hc => (congrFun h4 _).trans ?_, h0.trans i0, h1.trans i1⟩
    · refine (step3 (atK m k c) ⟨k, hk⟩ hv (fun g j p n => (args m c).H k (ch g j p) n) (fun c0 g j => Ideal.exp ((args m c).ac c0.val 127 (hg g j)))
        (fun c0 g j p n => (args m c).U c0.val (ch g j p) n) i3 (fun c0 g j => (congrFun i1 _).trans (w11_1 m c c0 g j))
        (fun c0 g j p n => (congrFun i0 _).trans (w11_0 m c c0 g j p n)) g j p n).trans ?_
      show _ = (args m c).H k (ch g j p) n * Ideal.exp ((args m c).ac k 127 (hd (ch g j p))) + (args m c).U k (ch g j p) n
      rw [hd_ch]
    · refine (step4 (atK m k c) ⟨k, hk⟩ hv c0 g j p n).trans ?_
      by_cases e : c0 = ⟨k, hk⟩
      · rw [if_pos e, e]
        exact i3 g j p n
      · rw [if_neg e]
        exact i4 c0 g j p n (lt_of_le_of_ne (Nat.lt_succ_iff.mp hc) fun q => e (Fin.ext q))

/-- What the loop's trips leave alone. -/
theorem keepK (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) :
    ∀ k, atK m k c (Proc.devRef .tc r) = W11 m c (Proc.devRef .tc r)
  | 0 => congrFun (entry_eq m c) _
  | k + 1 => by
    rw [← keepK r hc h0 h1 h2 h3 h4 k]
    show afterL bodyI (after condOps (atK m k c)) (Proc.devRef .tc r) = _
    simp only [afterL_cons, afterL_nil]
    exact (after_of_writes_sub _ _ while0Ops0_4_writes h4).trans ((after_of_writes_sub _ _ while0Ops0_3_writes h3).trans ((after_of_writes_sub _ _ while0Ops0_2_writes h2).trans
      ((after_of_writes_sub _ _ while0Ops0_1_writes h1).trans ((after_of_writes_sub _ _ while0Ops0_writes h0).trans (after_of_writes_sub _ _ condOps_writes hc)))))

/-- The buffers after the loop. -/
abbrev Z : Valuation τ sig (Elt Ideal) := after condOps (atK m 64 c)

theorem z_of (r : Ref sig .tc) (hc : r ∉ condOps_W) : Z m c (Proc.devRef .tc r) = atK m 64 c (Proc.devRef .tc r) := after_of_writes_sub _ _ condOps_writes hc
theorem z_keep (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) :
    Z m c (Proc.devRef .tc r) = W11 m c (Proc.devRef .tc r) := (z_of m c r hc).trans (keepK m c r hc h0 h1 h2 h3 h4 64)

theorem final_eq : finalContents condOps preI bodyI postI 64 m c = after hostOps0_11 (Z m c) := by
  simp only [finalContents, afterL_cons, afterL_nil]

/-- The reference's last state. -/
theorem final_v73 (q : Fin 12) (x n : Fin 128) : (finalContents condOps preI bodyI postI 64 m c (Proc.devRef .tc main_v73) : Vec Ideal S12x128x128 .f32) (ix3 q x n)
    = (args m c).H 64 ⟨128 * q.val + x.val, by omega⟩ n := by
  rw [final_eq]
  refine (v73_at (Z m c) (fun g j p n => (args m c).H 64 (ch g j p) n)
    (fun g j p n => (congrFun (z_of m c main_v56_3 (by decide +kernel)) _).trans ((trip_inv m c 64 le_rfl).1 g j p n)) q x n).trans ?_
  refine (congrArg (fun q => (args m c).H 64 q n) (Fin.ext ?_))
  show ((q.val * 2 + x.val / 64) / 6 * 6 + (q.val * 2 + x.val / 64) % 6) * 64 + x.val % 64 = 128 * q.val + x.val
  omega

theorem add_swap (a b d : EReal) : a + b + d = a + d + b := add_right_comm a b d
/-- The reference's output. -/
theorem final_v72 (r : Fin 8192) (i : Fin 1536) : (finalContents condOps preI bodyI postI 64 m c (Proc.devRef .tc main_v72) : Vec Ideal S8192x1536 .f32) (ix2 r i)
    = (args m c).y (r.val / 128) ⟨r.val % 128, Nat.mod_lt _ (by decide)⟩ i := by
  rw [final_eq]
  have e := v72_at (Z m c) _ (fun c0 g j p n => (args m c).H c0.val (ch g j p) n) _ _ _ (args m c).k
    (fun c0 l g j p => (congrFun (z_keep m c main_v41 (by decide +kernel) (by decide +kernel) (by decide +kernel) (by decide +kernel) (by decide +kernel) (by decide +kernel)) _).trans (w11_41 m c c0 l g j p))
    (fun c0 g j p n => (congrFun (z_of m c main_v56_4 (by decide +kernel)) _).trans ((trip_inv m c 64 le_rfl).2.1 c0 g j p n c0.isLt))
    (fun c0 l g n => (congrFun ((z_keep m c main_v22 (by decide +kernel) (by decide +kernel) (by decide +kernel) (by decide +kernel) (by decide +kernel) (by decide +kernel)).trans (keep10 m c main_v22 (by decide +kernel))) _).trans (w10_v22 m c c0 l g n))
    (fun c0 g j l => (congrFun ((z_keep m c main_v25 (by decide +kernel) (by decide +kernel) (by decide +kernel) (by decide +kernel) (by decide +kernel) (by decide +kernel)).trans (keep10 m c main_v25 (by decide +kernel))) _).trans (w10_v25 m c c0 g j l))
    (fun r h p => (congrFun ((z_keep m c main_v1 (by decide +kernel) (by decide +kernel) (by decide +kernel) (by decide +kernel) (by decide +kernel) (by decide +kernel)).trans ((keep10 m c main_v1 (by decide +kernel)).trans
      ((keep3_9 m c main_v1 (by decide +kernel) (by decide +kernel) (by decide +kernel) (by decide +kernel) (by decide +kernel) (by decide +kernel) (by decide +kernel)).trans (keep2 m c main_v1 (by decide +kernel))))) _).trans (w2_v1 m c r h p))
    (fun h => (congrFun ((z_keep m c main_arg4 (by decide +kernel) (by decide +kernel) (by decide +kernel) (by decide +kernel) (by decide +kernel) (by decide +kernel)).trans ((keep10 m c main_arg4 (by decide +kernel)).trans
      ((keep3_9 m c main_arg4 (by decide +kernel) (by decide +kernel) (by decide +kernel) (by decide +kernel) (by decide +kernel) (by decide +kernel) (by decide +kernel)).trans ((keep2 m c main_arg4 (by decide +kernel)).trans
        ((keep1 m c main_arg4 (by decide +kernel)).trans (keep0 m c main_arg4 (by decide +kernel))))))) _).trans ((holds m c).k h))
    r i
  refine e.trans ?_
  obtain ⟨c0, hc0⟩ : ∃ c0 : Fin 64, c0 = ⟨r.val / 128, by omega⟩ := ⟨_, rfl⟩
  obtain ⟨l, hl⟩ : ∃ l : Fin 128, l = ⟨r.val % 128, by omega⟩ := ⟨_, rfl⟩
  obtain ⟨g, hg'⟩ : ∃ g : Fin 4, g = ⟨i.val / 64 / 6, by omega⟩ := ⟨_, rfl⟩
  obtain ⟨j, hj⟩ : ∃ j : Fin 6, j = ⟨i.val / 64 % 6, by omega⟩ := ⟨_, rfl⟩
  obtain ⟨p, hp⟩ : ∃ p : Fin 64, p = ⟨i.val % 64, by omega⟩ := ⟨_, rfl⟩
  have er : row c0.val l = r := by
    apply Fin.ext
    rw [row_val _ c0.isLt, hc0, hl]
    show 128 * (r.val / 128) + r.val % 128 = r.val
    omega
  have ec : ch g j p = i := by
    apply Fin.ext
    rw [hg', hj, hp]
    show (i.val / 64 / 6 * 6 + i.val / 64 % 6) * 64 + i.val % 64 = i.val
    omega
  have eh : hg g j = hd i := by rw [← hd_ch g j p, ec]
  have eg : grp i = g := by rw [← grp_ch g j p, ec]
  have ex : (⟨i.val / 64 * 64 + p.val, by omega⟩ : Fin 1536) = i := Fin.ext (by have q : p.val = i.val % 64 := congrArg Fin.val hp; show i.val / 64 * 64 + p.val = i.val; omega)
  have ec0 : r.val / 128 = c0.val := by rw [hc0]
  rw [← hc0, ← hl, ← hg', ← hj, ← hp, ec0]
  unfold Args.y xd
  rw [eg]
  simp only [ec, eh, er]
  refine (add_swap _ _ _).trans ?_
  refine add_eq (add_eq ?_ (mul_eq rfl (congrArg ((args m c).xs r) ex))) (mul_eq ?_ rfl)
  · exact Finset.sum_congr (M := EReal) rfl fun s _ => mul_comm (_ : EReal) _
  · exact Finset.sum_congr (M := EReal) rfl fun n _ => mul_comm (_ : EReal) _

/-! ## The run -/

/-- An argument is what it was at the start. -/
theorem final_arg (r : Ref sig .tc) (hl : ∀ V : Valuation τ sig (Elt Ideal), after hostOps0_11 V (Proc.devRef .tc r) = V (Proc.devRef .tc r))
    (hc : r ∉ condOps_W) (h0 : r ∉ while0Ops0_W) (h1 : r ∉ while0Ops0_1_W) (h2 : r ∉ while0Ops0_2_W) (h3 : r ∉ while0Ops0_3_W) (h4 : r ∉ while0Ops0_4_W)
    (g0 : r ∉ hostOps0_W) (g1 : r ∉ hostOps0_1_W) (g2 : r ∉ hostOps0_2_W) (g3 : r ∉ hostOps0_3_W) (g4 : r ∉ hostOps0_4_W) (g5 : r ∉ hostOps0_5_W) (g6 : r ∉ hostOps0_6_W)
    (g7 : r ∉ hostOps0_7_W) (g8 : r ∉ hostOps0_8_W) (g9 : r ∉ hostOps0_9_W) (g10 : r ∉ hostOps0_10_W) :
    finalContents condOps preI bodyI postI 64 m c (Proc.devRef .tc r) = m ((c : Thread nD τ).loc r) := by
  rw [final_eq]
  exact (hl _).trans ((z_keep m c r hc h0 h1 h2 h3 h4).trans ((keep10 m c r g10).trans ((keep3_9 m c r g3 g4 g5 g6 g7 g8 g9).trans ((keep2 m c r g2).trans ((keep1 m c r g1).trans (keep0 m c r g0))))))

/-- The reference ends with the scan's output and last state, and its arguments are kept. -/
theorem run (ρ : Dev nD → PrngReg) : θ_run defs (onTc (τ := τ) (main (F := Ideal))) ⟨m, fun _ => 0, ρ⟩ fun r => ∀ c : Dev nD,
    ((∀ q i, (r.2.mem ((c : Thread nD τ).loc main_v72) : Vec Ideal S8192x1536 .f32) (ix2 q i) = (args m c).y (q.val / 128) ⟨q.val % 128, Nat.mod_lt _ (by decide)⟩ i)
      ∧ ∀ q x n, (r.2.mem ((c : Thread nD τ).loc main_v73) : Vec Ideal S12x128x128 .f32) (ix3 q x n) = (args m c).H 64 ⟨128 * q.val + x.val, by omega⟩ n)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  refine (θ_run _ _ _).mono (fun r h c => ⟨⟨fun q i => ?_, fun q x n => ?_⟩, ?_, ?_, ?_, ?_, ?_⟩) (run_fold (F := Ideal) m ρ)
  · exact (congrFun (h c main_v72 (by decide)) _).trans (final_v72 m c q i)
  · exact (congrFun (h c main_v73 (by decide)) _).trans (final_v73 m c q x n)
  all_goals
    refine (h c _ (by decide)).trans (final_arg m c _ ?_ (by decide +kernel) (by decide +kernel) (by decide +kernel) (by decide +kernel) (by decide +kernel) (by decide +kernel)
      (by decide +kernel) (by decide +kernel) (by decide +kernel) (by decide +kernel) (by decide +kernel) (by decide +kernel) (by decide +kernel) (by decide +kernel)
      (by decide +kernel) (by decide +kernel) (by decide +kernel))
    intro V
    after_results

end Cert.ReferenceIdeal.Scan
-- ==== Proof.FfnSpec.lean ====
module

public import Idealize.ShloMosaic.Lib.Pipeline.ValueKit
public import Idealize.ShloMosaic.Lib.Pointwise

@[expose] public section

noncomputable section

open Idealize.ShloMosaic Idealize.ShloMosaic.TcCoe Idealize.SL.Sem

namespace Cert.Ffn

/-! ## The gated feed-forward half step with its norms, as a function of its arguments -/

/-- A row divided by the root of its mean square (the width is 2048, the summand under the root the smallest of the norm), times a gain. -/
def rms (x g : Fin 2048 → EReal) (k : Fin 2048) : EReal :=
  x k * Ideal.rsqrt (Ideal.div (∑ i, x i * x i) (Ideal.ofBits FTy.f32 1157627904#32) + Ideal.ofBits FTy.f32 897988541#32) * g k

/-- One hidden channel: the gate's product times its own sigmoid, times the other product. -/
def hid (n gate up : Fin 2048 → EReal) : EReal :=
  (∑ k, n k * gate k) * Ideal.div 1 (1 + Ideal.exp (-∑ k, n k * gate k)) * ∑ k, n k * up k

/-- What the half step takes: the rows, the gain, the gate's and the other columns side by side, the way down, the last gain. -/
structure Args where
  /-- rows -/
  x : Fin 8704 → Fin 2048 → EReal
  /-- gain of the first norm -/
  g : Fin 2048 → EReal
  /-- 5504 columns of the gate, then 5504 others -/
  W : Fin 2048 → Fin 11008 → EReal
  /-- way down -/
  D : Fin 5504 → Fin 2048 → EReal
  /-- gain of the last norm -/
  fg : Fin 2048 → EReal

variable (A : Args)

/-- The normed rows. -/
def Args.n (r : Fin 8704) : Fin 2048 → EReal := rms (A.x r) A.g

/-- The hidden channels. -/
def Args.a (r : Fin 8704) (f : Fin 5504) : EReal :=
  hid (A.n r) (fun k => A.W k ⟨f.val, by omega⟩) (fun k => A.W k ⟨5504 + f.val, by omega⟩)

/-- The rows after the half step. -/
def Args.o (r : Fin 8704) (d : Fin 2048) : EReal := A.x r d + Ideal.ofBits FTy.f32 1056964608#32 * ∑ f, A.a r f * A.D f d

/-- The rows after the half step, normed. -/
def Args.y (r : Fin 8704) : Fin 2048 → EReal := rms (A.o r) A.fg

/-- A hidden channel's share of an output, nothing past the last channel. -/
def Args.term (r : Fin 8704) (d : Fin 2048) (f : ℕ) : EReal := if h : f < 5504 then A.a r ⟨f, h⟩ * A.D ⟨f, h⟩ d else 0

/-- The shares of the first `n` blocks of 512 channels. -/
def Args.acc (n : ℕ) (r : Fin 8704) (d : Fin 2048) : EReal := ∑ f ∈ Finset.range (512 * n), A.term r d f

/-- No block, no share. -/
theorem Args.acc_zero (r : Fin 8704) (d : Fin 2048) : A.acc 0 r d = 0 := rfl

/-- One block more. -/
theorem Args.acc_succ (n : ℕ) (r : Fin 8704) (d : Fin 2048) : A.acc (n + 1) r d = A.acc n r d + ∑ q : Fin 512, A.term r d (512 * n + q.val) := by
  unfold Args.acc
  rw [Nat.mul_succ, Finset.sum_range_add, Finset.sum_range (fun q => A.term r d (512 * n + q))]

/-- Eleven blocks hold all the channels. -/
theorem Args.acc_full (r : Fin 8704) (d : Fin 2048) : A.acc 11 r d = ∑ f, A.a r f * A.D f d := by
  unfold Args.acc
  rw [show 512 * 11 = 5504 + 128 from rfl, Finset.sum_range_add]
  have h0 : ∑ q ∈ Finset.range 128, A.term r d (5504 + q) = 0 := Finset.sum_eq_zero fun q _ => dif_neg (by omega)
  rw [h0, add_zero, Finset.sum_range]
  exact Finset.sum_congr rfl fun f _ => dif_pos f.isLt

/-- The row of a block's place. -/
def row (i : ℕ) (p : Fin 512) : Fin 8704 := ⟨(512 * i + p.val) % 8704, Nat.mod_lt _ (by decide)⟩

/-- The row of a place in a block of the grid. -/
theorem row_val (i : ℕ) (hi : i < 17) (p : Fin 512) : (row i p).val = 512 * i + p.val := Nat.mod_eq_of_lt (by omega)

end Cert.Ffn

end
-- ==== Proof.FfnPoints.lean ====
module

public import proofs.«01_k».proof.Proof.FfnSpec
public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel2Ideal.Ffn

open Cert.Ffn Cert.Kernel2Ideal Cert.Kernel2Ideal.Gen Cert.Kernel2Ideal.Value

/-! ## What the grid points leave -/

variable (m : (ℓ : Loc nD τ sig) → Buf (Elt Ideal) ℓ) (c : Dev nD)

/-- What a point names: the two outputs' blocks, the normed rows and the sum so far. -/
abbrev St := Vec Ideal S512x2048 .f32 × Vec Ideal S512x2048 .f32 × Vec Ideal S512x2048 .bf16 × Vec Ideal S512x2048 .f32

set_option maxHeartbeats 2000000 in
/-- A row block's first point norms the rows. -/
theorem stA_n (t : Fin cfg0.N) (acc : St) (h0 : t.val % 11 = 0) (h1 : ¬t.val % 11 = 10) :
    (stAt0 m c t.val t.isLt acc).2.2.1 = k0_pay3 (iblk m c 0 t) (iblk m c 1 t) := by
  rw [stAt0_A m c t acc h0 h1]
  dsimp only
  frame_out

set_option maxHeartbeats 2000000 in
/-- A row block's first point starts the sum. -/
theorem stA_s (t : Fin cfg0.N) (acc : St) (h0 : t.val % 11 = 0) (h1 : ¬t.val % 11 = 10) :
    (stAt0 m c t.val t.isLt acc).2.2.2
      = k0_pay5 (k0_pay3 (iblk m c 0 t) (iblk m c 1 t)) (iblk m c 2 t) (iblk m c 3 t) (k0_pay4 (F := Ideal)) (iblk m c 4 t) := by
  rw [stAt0_A m c t acc h0 h1]
  dsimp only
  frame_out

/-- A later point keeps the normed rows. -/
theorem stB_n (t : Fin cfg0.N) (acc : St) (h0 : ¬t.val % 11 = 0) (h1 : ¬t.val % 11 = 10) :
    (stAt0 m c t.val t.isLt acc).2.2.1 = acc.2.2.1 := by
  rw [stAt0_B m c t acc h0 h1]
  rfl

set_option maxHeartbeats 2000000 in
/-- A later point adds its channels. -/
theorem stB_s (t : Fin cfg0.N) (acc : St) (h0 : ¬t.val % 11 = 0) (h1 : ¬t.val % 11 = 10) :
    (stAt0 m c t.val t.isLt acc).2.2.2
      = k0_pay5 acc.2.2.1 (iblk m c 2 t) (iblk m c 3 t) acc.2.2.2 (iblk m c 4 t) := by
  rw [stAt0_B m c t acc h0 h1]
  dsimp only
  frame_out
  simp only [read_unread_whole]

set_option maxHeartbeats 2000000 in
/-- The last point's rows. -/
theorem stC_o (t : Fin cfg0.N) (acc : St) (h0 : ¬t.val % 11 = 0) (h1 : t.val % 11 = 10) :
    (stAt0 m c t.val t.isLt acc).1
      = k0_pay1 (iblk m c 0 t) (k0_pay5 acc.2.2.1 (iblk m c 2 t) (iblk m c 3 t) acc.2.2.2 (iblk m c 4 t)) := by
  rw [stAt0_C m c t acc h0 h1]
  dsimp only
  frame_out
  simp only [read_unread_whole]

set_option maxHeartbeats 2000000 in
/-- The last point's normed rows. -/
theorem stC_y (t : Fin cfg0.N) (acc : St) (h0 : ¬t.val % 11 = 0) (h1 : t.val % 11 = 10) :
    (stAt0 m c t.val t.isLt acc).2.1
      = k0_pay2 (iblk m c 0 t) (k0_pay5 acc.2.2.1 (iblk m c 2 t) (iblk m c 3 t) acc.2.2.2 (iblk m c 4 t)) (iblk m c 5 t) := by
  rw [stAt0_C m c t acc h0 h1]
  dsimp only
  frame_out
  simp only [read_unread_whole]

end Cert.Kernel2Ideal.Ffn

end
-- ==== Proof.FfnInputs.lean ====
module

public import proofs.«01_k».proof.Proof.FfnPoints
public import Idealize.ShloMosaic.Lib.KernelVsHost

@[expose] public section

set_option maxRecDepth 16384

noncomputable section

open Idealize.ShloMosaic Idealize.ShloMosaic.TcCoe Idealize.SL.Sem

namespace Cert.Kernel2Ideal.Ffn

open Cert.Ffn Cert.Kernel2Ideal Cert.Kernel2Ideal.Gen Cert.Kernel2Ideal.Value

/-! ## What a grid point takes -/

variable (m : (ℓ : Loc nD τ sig) → Buf (Elt Ideal) ℓ) (c : Dev nD)

/-- The printed index maps, decided over the grid. -/
theorem idxs : ∀ t : Fin cfg0.N, win0_0.index t = ![t.val / 11, 0] ∧ win0_1.index t = ![0, 0] ∧ win0_2.index t = ![1, 0, t.val % 11]
   ∧ win0_3.index t = ![1, 0, t.val % 11] ∧ win0_4.index t = ![1, t.val % 11, 0] ∧ win0_5.index t = ![0, 0] :=
  (by decide +kernel : ∀ t : Fin grid0.N, _)

/-- A point's rows are the argument's. -/
theorem in0 (t : Fin cfg0.N) (p : Fin 512) (k : Fin 2048) :
    (iblk m c 0 t : Vec Ideal S512x2048 .f32) (ix2 p k)
      = (m ((c : Thread nD τ).loc main_arg0) : Vec Ideal S8704x2048 .f32) (ix2 ⟨512 * (t.val / 11) + p.val, by have := lt_of_lt_of_eq t.isLt N_0; omega⟩ k) := by
  blk_ext [iblk, V, idxs t, V_main_arg0]

/-- The gain the call takes. -/
theorem V_g : (V m c main_v10 : Vec Ideal S1x2048 .f32)
    = shapeCast S1x2048 (shapeCast S2048 (extractStridedSlice S1x2048 ![1, 0] (m ((c : Thread nD τ).loc main_arg1) : Vec Ideal S2x2048 .f32) slices_S2x2048_S1x2048_1_0)
        shapeCasts_S1x2048_S2048) shapeCasts_S2048_S1x2048 := by
  unfold V
  simp only [List.flatten_cons, List.flatten_nil, List.append_nil, List.cons_append, List.nil_append, hostOps0, hostOps0_1, hostOps0_2, hostOps0_3, hostOps0_4, hostOps0_5, hostOps0_6]
  simp only [StableHlo.TRef.binary, StableHlo.TRef.nullary, StableHlo.TRef.unary, StableHlo.TRef.toBuf, StableHlo.TRef.ofBuf, cast_eq]
  after_results
  rfl

/-- The last gain the call takes. -/
theorem V_fg : (V m c main_v11 : Vec Ideal S1x2048 .f32)
    = shapeCast S1x2048 (m ((c : Thread nD τ).loc main_arg4) : Vec Ideal S2048 .f32) shapeCasts_S2048_S1x2048 := by
  unfold V
  simp only [List.flatten_cons, List.flatten_nil, List.append_nil, List.cons_append, List.nil_append, hostOps0, hostOps0_1, hostOps0_2, hostOps0_3, hostOps0_4, hostOps0_5, hostOps0_6]
  simp only [StableHlo.TRef.binary, StableHlo.TRef.nullary, StableHlo.TRef.unary, StableHlo.TRef.toBuf, StableHlo.TRef.ofBuf, cast_eq]
  after_results
  rfl

/-- The gate's columns the call takes. -/
theorem V_wg : (V m c main_v4 : Vec Ideal S2x2048x5632 .bf16)
    = truncf .bf16 (pad S2x2048x5632 ![0, 0, 0] ![0, 0, 128] ![0, 0, 0]
        (extractStridedSlice S2x2048x5504 ![0, 0, 0] (m ((c : Thread nD τ).loc main_arg2) : FVec Ideal S2x2048x11008 .f32) slices_S2x2048x11008_S2x2048x5504_0_0_0)
        (sitofp (F := Ideal) .f32 (constantI S_ 32 0#32)) pads_S2x2048x5504_S2x2048x5632_000_000_01280 h_S_) bitsLt_bf16_f32 := by
  unfold V
  simp only [List.flatten_cons, List.flatten_nil, List.append_nil, List.cons_append, List.nil_append, hostOps0, hostOps0_1, hostOps0_2, hostOps0_3, hostOps0_4, hostOps0_5, hostOps0_6]
  simp only [StableHlo.TRef.binary, StableHlo.TRef.nullary, StableHlo.TRef.unary, StableHlo.TRef.toBuf, StableHlo.TRef.ofBuf, cast_eq]
  after_results

/-- The other columns the call takes. -/
theorem V_wu : (V m c main_v7 : Vec Ideal S2x2048x5632 .bf16)
    = truncf .bf16 (pad S2x2048x5632 ![0, 0, 0] ![0, 0, 128] ![0, 0, 0]
        (extractStridedSlice S2x2048x5504 ![0, 0, 5504] (m ((c : Thread nD τ).loc main_arg2) : FVec Ideal S2x2048x11008 .f32) slices_S2x2048x11008_S2x2048x5504_0_0_5504)
        (sitofp (F := Ideal) .f32 (constantI S_ 32 0#32)) pads_S2x2048x5504_S2x2048x5632_000_000_01280 h_S_) bitsLt_bf16_f32 := by
  unfold V
  simp only [List.flatten_cons, List.flatten_nil, List.append_nil, List.cons_append, List.nil_append, hostOps0, hostOps0_1, hostOps0_2, hostOps0_3, hostOps0_4, hostOps0_5, hostOps0_6]
  simp only [StableHlo.TRef.binary, StableHlo.TRef.nullary, StableHlo.TRef.unary, StableHlo.TRef.toBuf, StableHlo.TRef.ofBuf, cast_eq]
  after_results

/-- The way down the call takes. -/
theorem V_wd : (V m c main_v9 : Vec Ideal S2x5632x2048 .bf16)
    = truncf .bf16 (pad S2x5632x2048 ![0, 0, 0] ![0, 128, 0] ![0, 0, 0] (m ((c : Thread nD τ).loc main_arg3) : FVec Ideal S2x5504x2048 .f32)
        (sitofp (F := Ideal) .f32 (constantI S_ 32 0#32)) pads_S2x5504x2048_S2x5632x2048_000_01280_000 h_S_) bitsLt_bf16_f32 := by
  unfold V
  simp only [List.flatten_cons, List.flatten_nil, List.append_nil, List.cons_append, List.nil_append, hostOps0, hostOps0_1, hostOps0_2, hostOps0_3, hostOps0_4, hostOps0_5, hostOps0_6]
  simp only [StableHlo.TRef.binary, StableHlo.TRef.nullary, StableHlo.TRef.unary, StableHlo.TRef.toBuf, StableHlo.TRef.ofBuf, cast_eq]
  after_results

/-- Padded columns, read at a column of the operand. -/
theorem pad_col (w : Vec Ideal S2x2048x5504 .f32) (v : Vec Ideal S_ .f32) (k : Fin 2048) (f : Fin 5632) (h : f.val < 5504) :
    pad S2x2048x5632 ![0, 0, 0] ![0, 0, 128] ![0, 0, 0] w v pads_S2x2048x5504_S2x2048x5632_000_000_01280 h_S_ (ix3 1 k f) = w (ix3 1 k ⟨f.val, h⟩) :=
  pad_apply_of_inside _ _ _ w v _ _ _ _ (fun a => by
    match a with
    | ⟨0, _⟩ => rfl
    | ⟨1, _⟩ => exact (by show k.val = 0 + k.val * (0 + 1); omega)
    | ⟨2, _⟩ => exact (by show f.val = 0 + f.val * (0 + 1); omega))

/-- Padded rows, read at a row of the operand. -/
theorem pad_row (w : Vec Ideal S2x5504x2048 .f32) (v : Vec Ideal S_ .f32) (k : Fin 2048) (f : Fin 5632) (h : f.val < 5504) :
    pad S2x5632x2048 ![0, 0, 0] ![0, 128, 0] ![0, 0, 0] w v pads_S2x5504x2048_S2x5632x2048_000_01280_000 h_S_ (ix3 1 f k) = w (ix3 1 ⟨f.val, h⟩ k) :=
  pad_apply_of_inside _ _ _ w v _ _ _ _ (fun a => by
    match a with
    | ⟨0, _⟩ => rfl
    | ⟨1, _⟩ => exact (by show f.val = 0 + f.val * (0 + 1); omega)
    | ⟨2, _⟩ => exact (by show k.val = 0 + k.val * (0 + 1); omega))

/-- Padded rows, read past the operand. -/
theorem pad_row_out (w : Vec Ideal S2x5504x2048 .f32) (v : Vec Ideal S_ .f32) (k : Fin 2048) (f : Fin 5632) (h : ¬f.val < 5504) :
    pad S2x5632x2048 ![0, 0, 0] ![0, 128, 0] ![0, 0, 0] w v pads_S2x5504x2048_S2x5632x2048_000_01280_000 h_S_ (ix3 1 f k) = v (Shape.Idx.first h_S_) :=
  pad_apply_of_not_inside _ _ _ w v _ _ _ (1 : Fin 3) (fun hh => h (by
    have := hh.2.2
    have e : (f.val - 0) / (0 + 1) < 5504 := this
    omega))

/-- The first norm's gain is the layer's. -/
theorem in1 (t : Fin cfg0.N) (k : Fin 2048) :
    (iblk m c 1 t : Vec Ideal S1x2048 .f32) (ix2 0 k) = (m ((c : Thread nD τ).loc main_arg1) : Vec Ideal S2x2048 .f32) (ix2 1 k) := by
  have e : (iblk m c 1 t : Vec Ideal S1x2048 .f32) (ix2 0 k) = (V m c main_v10 : Vec Ideal S1x2048 .f32) (ix2 0 k) := by
    blk_ext [iblk, idxs t]
  refine e.trans ?_
  rw [V_g]
  pointwise

/-- The last norm's gain is the argument. -/
theorem in5 (t : Fin cfg0.N) (k : Fin 2048) :
    (iblk m c 5 t : Vec Ideal S1x2048 .f32) (ix2 0 k) = (m ((c : Thread nD τ).loc main_arg4) : Vec Ideal S2048 .f32) (ix1 k) := by
  have e : (iblk m c 5 t : Vec Ideal S1x2048 .f32) (ix2 0 k) = (V m c main_v11 : Vec Ideal S1x2048 .f32) (ix2 0 k) := by
    blk_ext [iblk, idxs t]
  refine e.trans ?_
  rw [V_fg]
  pointwise

/-- A point's channel in the padded weights. -/
def fcol (t : Fin cfg0.N) (q : Fin 512) : Fin 5632 := ⟨512 * (t.val % 11) + q.val, by omega⟩

/-- A point's gate columns. -/
theorem in2 (t : Fin cfg0.N) (k : Fin 2048) (q : Fin 512) (h : (fcol t q).val < 5504) :
    (iblk m c 2 t : Vec Ideal S1x2048x512 .bf16) (ix3 0 k q)
      = (m ((c : Thread nD τ).loc main_arg2) : Vec Ideal S2x2048x11008 .f32) (ix3 1 k ⟨(fcol t q).val, by omega⟩) := by
  have e : (iblk m c 2 t : Vec Ideal S1x2048x512 .bf16) (ix3 0 k q) = (V m c main_v4 : Vec Ideal S2x2048x5632 .bf16) (ix3 1 k (fcol t q)) := by
    unfold fcol
    blk_ext [iblk, idxs t]
  refine e.trans ?_
  rw [V_wg]
  refine (pad_col _ _ k (fcol t q) h).trans ?_
  pointwise

/-- A point's other columns. -/
theorem in3 (t : Fin cfg0.N) (k : Fin 2048) (q : Fin 512) (h : (fcol t q).val < 5504) :
    (iblk m c 3 t : Vec Ideal S1x2048x512 .bf16) (ix3 0 k q)
      = (m ((c : Thread nD τ).loc main_arg2) : Vec Ideal S2x2048x11008 .f32) (ix3 1 k ⟨5504 + (fcol t q).val, by omega⟩) := by
  have e : (iblk m c 3 t : Vec Ideal S1x2048x512 .bf16) (ix3 0 k q) = (V m c main_v7 : Vec Ideal S2x2048x5632 .bf16) (ix3 1 k (fcol t q)) := by
    unfold fcol
    blk_ext [iblk, idxs t]
  refine e.trans ?_
  rw [V_wu]
  refine (pad_col _ _ k (fcol t q) h).trans ?_
  pointwise

/-- A point's rows of the way down. -/
theorem in4 (t : Fin cfg0.N) (k : Fin 2048) (q : Fin 512) (h : (fcol t q).val < 5504) :
    (iblk m c 4 t : Vec Ideal S1x512x2048 .bf16) (ix3 0 q k)
      = (m ((c : Thread nD τ).loc main_arg3) : Vec Ideal S2x5504x2048 .f32) (ix3 1 ⟨(fcol t q).val, h⟩ k) := by
  have e : (iblk m c 4 t : Vec Ideal S1x512x2048 .bf16) (ix3 0 q k) = (V m c main_v9 : Vec Ideal S2x5632x2048 .bf16) (ix3 1 (fcol t q) k) := by
    unfold fcol
    blk_ext [iblk, idxs t]
  refine e.trans ?_
  rw [V_wd]
  exact pad_row _ _ k (fcol t q) h

/-- Past the last channel the way down is zero. -/
theorem in4_out (t : Fin cfg0.N) (k : Fin 2048) (q : Fin 512) (h : ¬(fcol t q).val < 5504) :
    (iblk m c 4 t : Vec Ideal S1x512x2048 .bf16) (ix3 0 q k) = (0 : EReal) := by
  have e : (iblk m c 4 t : Vec Ideal S1x512x2048 .bf16) (ix3 0 q k) = (V m c main_v9 : Vec Ideal S2x5632x2048 .bf16) (ix3 1 (fcol t q) k) := by
    unfold fcol
    blk_ext [iblk, idxs t]
  refine e.trans ?_
  rw [V_wd]
  refine (pad_row_out _ _ k (fcol t q) h).trans ?_
  show (((0#32 : BitVec 32).toInt : ℝ) : EReal) = 0
  simp

end Cert.Kernel2Ideal.Ffn

end
-- ==== Proof.FfnValue.lean ====
module

public import proofs.«01_k».proof.Proof.FfnInputs

@[expose] public section

set_option maxRecDepth 16384

noncomputable section

open Idealize.ShloMosaic Idealize.ShloMosaic.TcCoe Idealize.SL.Sem

namespace Cert.Kernel2Ideal.Ffn

open Cert.Ffn Cert.Kernel2Ideal Cert.Kernel2Ideal.Gen Cert.Kernel2Ideal.Value

/-! ## The call's results as the half step of its arguments -/

section
variable (x : Vec Ideal S512x2048 .f32) (s : Vec Ideal S512x2048 .f32) (n : Vec Ideal S512x2048 .bf16) (g fg : Vec Ideal S1x2048 .f32)
    (wg wu : Vec Ideal S1x2048x512 .bf16) (wd : Vec Ideal S1x512x2048 .bf16)

/-- The normed block, entry by entry. -/
theorem pay3_apply (p : Fin 512) (k : Fin 2048) :
    (k0_pay3 x g : FVec Ideal S512x2048 .bf16) (ix2 p k) = rms (fun i => x (ix2 p i)) (fun i => g (ix2 0 i)) k := by
  pointwise [k0_pay3]
  rfl

/-- The block of rows after the half step, entry by entry. -/
theorem pay1_apply (p : Fin 512) (k : Fin 2048) :
    (k0_pay1 x s : FVec Ideal S512x2048 .f32) (ix2 p k) = x (ix2 p k) + Ideal.ofBits FTy.f32 1056964608#32 * s (ix2 p k) := by
  pointwise [k0_pay1]

/-- The block of normed rows after the half step, entry by entry. -/
theorem pay2_apply (p : Fin 512) (k : Fin 2048) :
    (k0_pay2 x s fg : FVec Ideal S512x2048 .f32) (ix2 p k)
      = rms (fun i => x (ix2 p i) + Ideal.ofBits FTy.f32 1056964608#32 * s (ix2 p i)) (fun i => fg (ix2 0 i)) k := by
  pointwise [k0_pay2, k0_pay1]
  rfl

/-- A point's sum, entry by entry. -/
theorem pay5_apply (p : Fin 512) (d : Fin 2048) :
    (k0_pay5 n wg wu s wd : FVec Ideal S512x2048 .f32) (ix2 p d)
      = s (ix2 p d) + ∑ q : Fin 512, hid (fun k => n (ix2 p k)) (fun k => wg (ix3 0 k q)) (fun k => wu (ix3 0 k q)) * wd (ix3 0 q d) := by
  pointwise [k0_pay5]
  simp only [zero_sub]
  rfl

/-- The sum starts at zero. -/
theorem pay4_apply (p : Fin 512) (d : Fin 2048) : (k0_pay4 : FVec Ideal S512x2048 .f32) (ix2 p d) = (0 : EReal) := by
  pointwise [k0_pay4]

end

/-- A block of rows, read off a function of the rows. -/
def blk (f : Fin 8704 → Fin 2048 → EReal) (i : ℕ) : S512x2048.Idx → EReal := fun j => f (row i (j 0)) (j 1)

/-- A block that holds a function's rows entry by entry. -/
theorem eq_blk (f : Fin 8704 → Fin 2048 → EReal) (i : ℕ) (v : S512x2048.Idx → EReal) (h : ∀ (p : Fin 512) (k : Fin 2048), v (ix2 p k) = f (row i p) k) : v = blk f i := by
  funext y
  exact (congrArg v (eq_ix2 y)).trans (h (y 0) (y 1))

section
variable (x : Vec Ideal S512x2048 .f32) (s : Vec Ideal S512x2048 .f32) (n : Vec Ideal S512x2048 .bf16) (g fg : Vec Ideal S1x2048 .f32)
    (wg wu : Vec Ideal S1x2048x512 .bf16) (wd : Vec Ideal S1x512x2048 .bf16) (A : Args) (i j : ℕ)
    (hx : ∀ p k, x (ix2 p k) = A.x (row i p) k) (hg : ∀ k, g (ix2 0 k) = A.g k) (hfg : ∀ k, fg (ix2 0 k) = A.fg k)
    (hn : n = blk A.n i)
    (hwg : ∀ k (q : Fin 512) (h : 512 * j + q.val < 5504), wg (ix3 0 k q) = A.W k ⟨512 * j + q.val, by omega⟩)
    (hwu : ∀ k (q : Fin 512) (h : 512 * j + q.val < 5504), wu (ix3 0 k q) = A.W k ⟨5504 + (512 * j + q.val), by omega⟩)
    (hwd : ∀ d (q : Fin 512) (h : 512 * j + q.val < 5504), wd (ix3 0 q d) = A.D ⟨512 * j + q.val, h⟩ d)
    (hwd' : ∀ d (q : Fin 512), ¬512 * j + q.val < 5504 → wd (ix3 0 q d) = 0)

include hx hg in
/-- A block's rows, normed, are the arguments' normed rows. -/
theorem n_eq : (k0_pay3 x g : FVec Ideal S512x2048 .bf16) = blk A.n i := by
  refine eq_blk _ _ _ fun p k => (pay3_apply x g p k).trans ?_
  simp only [hx, hg]
  rfl

include hn hwg hwu hwd hwd' in
/-- One point's sum is the sum of one block of channels more. -/
theorem s_eq (hs : s = blk (A.acc j) i) : (k0_pay5 n wg wu s wd : FVec Ideal S512x2048 .f32) = blk (A.acc (j + 1)) i := by
  refine eq_blk _ _ _ fun p d => (pay5_apply s n wg wu wd p d).trans ?_
  rw [hs, hn]
  show A.acc j (row i p) d + _ = A.acc (j + 1) (row i p) d
  rw [Args.acc_succ]
  refine congrArg _ (Finset.sum_congr rfl fun q _ => ?_)
  unfold Args.term
  by_cases h : 512 * j + q.val < 5504
  · rw [dif_pos h, hwd _ q h]
    simp only [hwg _ q h, hwu _ q h]
    rfl
  · rw [dif_neg h, hwd' _ q h, mul_zero]

include hx in
/-- A block's rows after all the channels. -/
theorem o_eq (hs : s = blk (A.acc 11) i) : (k0_pay1 x s : FVec Ideal S512x2048 .f32) = blk A.o i := by
  refine eq_blk _ _ _ fun p k => (pay1_apply x s p k).trans ?_
  rw [hx, hs]
  show _ + _ * A.acc 11 (row i p) k = _
  rw [Args.acc_full]
  rfl

include hx hfg in
/-- A block's rows after all the channels, normed. -/
theorem y_eq (hs : s = blk (A.acc 11) i) : (k0_pay2 x s fg : FVec Ideal S512x2048 .f32) = blk A.y i := by
  refine eq_blk _ _ _ fun p k => (pay2_apply x s fg p k).trans ?_
  have e : ∀ k, s (ix2 p k) = A.acc 11 (row i p) k := fun k => by rw [hs]; rfl
  simp only [hx, hfg, e, Args.acc_full]
  rfl

end

variable (m : (ℓ : Loc nD τ sig) → Buf (Elt Ideal) ℓ) (c : Dev nD)

/-- The half step's arguments, as the memory holds them: the second layer's. -/
def args : Args where
  x r k := (m ((c : Thread nD τ).loc main_arg0) : Vec Ideal S8704x2048 .f32) (ix2 r k)
  g k := (m ((c : Thread nD τ).loc main_arg1) : Vec Ideal S2x2048 .f32) (ix2 1 k)
  W k f := (m ((c : Thread nD τ).loc main_arg2) : Vec Ideal S2x2048x11008 .f32) (ix3 1 k f)
  D f d := (m ((c : Thread nD τ).loc main_arg3) : Vec Ideal S2x5504x2048 .f32) (ix3 1 f d)
  fg k := (m ((c : Thread nD τ).loc main_arg4) : Vec Ideal S2048 .f32) (ix1 k)

/-- A point's rows. -/
theorem pt_x (t : Fin cfg0.N) (p : Fin 512) (k : Fin 2048) :
    (iblk m c 0 t : Vec Ideal S512x2048 .f32) (ix2 p k) = (args m c).x (row (t.val / 11) p) k := by
  have hr := row_val (t.val / 11) (by have := lt_of_lt_of_eq t.isLt N_0; omega) p
  rw [in0]
  exact congrArg (m ((c : Thread nD τ).loc main_arg0) : Vec Ideal S8704x2048 .f32) (congrArg₂ ix2 (Fin.ext hr.symm) rfl)

/-- One step of the points' recursion: the normed rows of the point's block and the sum of the channels so far. -/
theorem st_step (t : Fin cfg0.N) (acc : St)
    (h : t.val % 11 ≠ 0 → acc.2.2.1 = blk (args m c).n (t.val / 11) ∧ acc.2.2.2 = blk ((args m c).acc (t.val % 11)) (t.val / 11)) :
    (t.val % 11 ≠ 10 → (stAt0 m c t.val t.isLt acc).2.2.1 = blk (args m c).n (t.val / 11)
      ∧ (stAt0 m c t.val t.isLt acc).2.2.2 = blk ((args m c).acc (t.val % 11 + 1)) (t.val / 11))
    ∧ (t.val % 11 = 10 → (stAt0 m c t.val t.isLt acc).1 = blk (args m c).o (t.val / 11)
      ∧ (stAt0 m c t.val t.isLt acc).2.1 = blk (args m c).y (t.val / 11)) := by
  have hs : ∀ (n : Vec Ideal S512x2048 .bf16) (s : Vec Ideal S512x2048 .f32), n = blk (args m c).n (t.val / 11) →
      s = blk ((args m c).acc (t.val % 11)) (t.val / 11) →
      (k0_pay5 n (iblk m c 2 t) (iblk m c 3 t) s (iblk m c 4 t) : FVec Ideal S512x2048 .f32) = blk ((args m c).acc (t.val % 11 + 1)) (t.val / 11) :=
    fun n s hn e => s_eq s n _ _ _ (args m c) (t.val / 11) (t.val % 11) hn (fun k q h => in2 m c t k q h) (fun k q h => in3 m c t k q h)
      (fun d q h => in4 m c t d q h) (fun d q h => in4_out m c t d q h) e
  by_cases h0 : t.val % 11 = 0
  · have h1 : ¬t.val % 11 = 10 := by omega
    have hn : (k0_pay3 (iblk m c 0 t) (iblk m c 1 t) : FVec Ideal S512x2048 .bf16) = blk (args m c).n (t.val / 11) :=
      n_eq _ _ (args m c) _ (pt_x m c t) (in1 m c t)
    have e0 : (k0_pay4 (F := Ideal) : FVec Ideal S512x2048 .f32) = blk ((args m c).acc (t.val % 11)) (t.val / 11) := by
      rw [h0]
      exact eq_blk _ _ _ pay4_apply
    exact ⟨fun _ => ⟨(stA_n m c t acc h0 h1).trans hn, (stA_s m c t acc h0 h1).trans (hs _ _ hn e0)⟩, fun h' => absurd h' h1⟩
  · have hh := h h0
    by_cases h1 : t.val % 11 = 10
    · have e := hs _ _ hh.1 hh.2
      rw [h1] at e
      exact ⟨fun h' => absurd h1 h', fun _ => ⟨(stC_o m c t acc h0 h1).trans (o_eq _ _ (args m c) _ (pt_x m c t) e),
        (stC_y m c t acc h0 h1).trans (y_eq _ _ _ (args m c) _ (pt_x m c t) (in5 m c t) e)⟩⟩
    · exact ⟨fun _ => ⟨(stB_n m c t acc h0 h1).trans hh.1, (stB_s m c t acc h0 h1).trans (hs _ _ hh.1 hh.2)⟩, fun h' => absurd h' h1⟩

/-- What the points leave, from the first on. -/
theorem outs_eq : ∀ (n : ℕ) (hn : n < cfg0.N),
    (n % 11 ≠ 10 → (outsAt0 m c n hn).2.2.1 = blk (args m c).n (n / 11) ∧ (outsAt0 m c n hn).2.2.2 = blk ((args m c).acc (n % 11 + 1)) (n / 11))
    ∧ (n % 11 = 10 → (outsAt0 m c n hn).1 = blk (args m c).o (n / 11) ∧ (outsAt0 m c n hn).2.1 = blk (args m c).y (n / 11))
  | 0, hn => by rw [outsAt0_zero]; exact st_step m c ⟨0, hn⟩ _ (fun h => absurd rfl h)
  | n + 1, hn => by
    rw [outsAt0_succ]
    refine st_step m c ⟨n + 1, hn⟩ _ (fun h => ?_)
    have h' : (n + 1) % 11 ≠ 0 := h
    have ih := (outs_eq n (Nat.lt_of_succ_lt hn)).1 (by omega)
    have e1 : (n + 1) / 11 = n / 11 := by omega
    have e2 : (n + 1) % 11 = n % 11 + 1 := by omega
    show _ = blk _ ((n + 1) / 11) ∧ _ = blk ((args m c).acc ((n + 1) % 11)) ((n + 1) / 11)
    rw [e1, e2]
    exact ih

/-- A block's place, read in the array. -/
theorem blk_at (f : Fin 8704 → Fin 2048 → EReal) (i : S8704x2048.Idx) (j : S512x2048.Idx) (h0 : (j 0).val = (i 0).val % 512) (h1 : (j 1).val = (i 1).val % 2048) :
    blk f ((i 0).val / 512) j = f (i 0) (i 1) := by
  have hi0 : (i 0).val < 8704 := (i 0).isLt
  have hi1 : (i 1).val < 2048 := (i 1).isLt
  unfold blk
  have e0 : row ((i 0).val / 512) (j 0) = i 0 := Fin.ext ((row_val _ (by omega) (j 0)).trans (by omega))
  have e1 : j 1 = i 1 := Fin.ext (h1.trans (by omega))
  rw [e0, e1]

/-- The first array ends at the rows after the half step. -/
theorem G6_eq : G6 m c = fun i : S8704x2048.Idx => (args m c).o (i 0) (i 1) := by
  funext i
  have hi0 : (i 0).val < 8704 := (i 0).isLt
  have hi1 : (i 1).val < 2048 := (i 1).isLt
  have hr : run6Of i = (i 0).val / 512 := by show 1 * ((i 0).val / 512 - 0) + 1 * ((i 1).val / 2048 - 0) = _; omega
  have hp : pt6Of i = 11 * ((i 0).val / 512) + 10 := by show 11 * run6Of i + 10 = _; rw [hr]
  have hlt : pt6Of i < cfg0.N := by rw [hp]; exact lt_of_lt_of_eq (by omega) N_0.symm
  unfold G6
  rw [dif_pos hlt, ← outsAt0_sweep m c _ hlt, ((outs_eq m c _ hlt).2 (by rw [hp]; omega)).1]
  rw [show pt6Of i / 11 = (i 0).val / 512 by rw [hp]; omega]
  exact blk_at _ i _ rfl rfl

/-- The second array ends at the rows after the half step, normed. -/
theorem G7_eq : G7 m c = fun i : S8704x2048.Idx => (args m c).y (i 0) (i 1) := by
  funext i
  have hi0 : (i 0).val < 8704 := (i 0).isLt
  have hi1 : (i 1).val < 2048 := (i 1).isLt
  have hr : run7Of i = (i 0).val / 512 := by show 1 * ((i 0).val / 512 - 0) + 1 * ((i 1).val / 2048 - 0) = _; omega
  have hp : pt7Of i = 11 * ((i 0).val / 512) + 10 := by show 11 * run7Of i + 10 = _; rw [hr]
  have hlt : pt7Of i < cfg0.N := by rw [hp]; exact lt_of_lt_of_eq (by omega) N_0.symm
  unfold G7
  rw [dif_pos hlt, ← outsAt0_sweep m c _ hlt, ((outs_eq m c _ hlt).2 (by rw [hp]; omega)).2]
  rw [show pt7Of i / 11 = (i 0).val / 512 by rw [hp]; omega]
  exact blk_at _ i _ rfl rfl

end Cert.Kernel2Ideal.Ffn

end
-- ==== Proof.FfnRef.lean ====
module

public import proofs.«01_k».proof.Proof.FfnSpec
public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem

namespace Cert.Reference2Ideal.Ffn

open Cert.Ffn Cert.Reference2Ideal Cert.Reference2Ideal.Gen Cert.Reference2Ideal.Value

/-! ## The reference's results as the half step of its arguments -/

variable (m : (ℓ : Loc nD τ sig) → Buf (Elt Ideal) ℓ) (ρ : Dev nD → PrngReg) (c : Dev nD)

/-- The half step's arguments, as the memory holds them: the second layer's. -/
def args : Args where
  x r k := (m ((c.tc : Thread nD τ).loc main_arg0) : Vec Ideal S8704x2048 .f32) (ix2 r k)
  g k := (m ((c.tc : Thread nD τ).loc main_arg1) : Vec Ideal S2x2048 .f32) (ix2 1 k)
  W k f := (m ((c.tc : Thread nD τ).loc main_arg2) : Vec Ideal S2x2048x11008 .f32) (ix3 1 k f)
  D f d := (m ((c.tc : Thread nD τ).loc main_arg3) : Vec Ideal S2x5504x2048 .f32) (ix3 1 f d)
  fg k := (m ((c.tc : Thread nD τ).loc main_arg4) : Vec Ideal S2048 .f32) (ix1 k)

/-- The second result is the rows after the half step, normed. -/
theorem y_eq : res_out1 m c = fun i : S8704x2048.Idx => (args m c).y (i 0) (i 1) := by
  have e : ∀ r k, (res_out1 m c : Vec Ideal S8704x2048 .f32) (ix2 r k) = (args m c).y r k := fun r k => by
    pointwise [res_out1, res_main_v40]
    rfl
  funext i
  exact (congrArg (res_out1 m c) (eq_ix2 i)).trans (e (i 0) (i 1))

/-- The reference runs, leaves the half step's rows and their norms, and keeps its arguments. -/
theorem run : θ_run defs (onTc (τ := τ) (main (F := Ideal))) ⟨m, fun _ => 0, ρ⟩ fun r => ∀ c : Dev nD,
      r.2.mem ((c.tc : Thread nD τ).loc main_v27) = (fun i : S8704x2048.Idx => (args m c).o (i 0) (i 1))
      ∧ r.2.mem ((c.tc : Thread nD τ).loc main_v40) = (fun i : S8704x2048.Idx => (args m c).y (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans (y_eq m c), (h c).2.2⟩) (Value.run m ρ)
  refine funext fun i => (congrArg _ (eq_ix2 i)).trans ?_
  show _ = (args m c).o (i 0) (i 1)
  generalize i 0 = p
  generalize i 1 = k
  pointwise
  rfl

end Cert.Reference2Ideal.Ffn

end
-- ==== Proof.ProjSpec.lean ====
module

public import proofs.«01_k».proof.Proof.FfnSpec

@[expose] public section

noncomputable section

open Idealize.ShloMosaic Idealize.ShloMosaic.TcCoe Idealize.SL.Sem

namespace Cert.Proj

/-! ## The projections of normed rows, as functions of their arguments -/

/-- A normed row's product with a column. -/
def dot (x g : Fin 2048 → EReal) (w : Fin 2048 → EReal) : EReal := ∑ k, Cert.Ffn.rms x g k * w k

/-- The attention layer's columns as its projection's result holds them: queries, keys, the indexer's queries, values, the memory's queries, the indexer's key, its weights, empty lanes. -/
def pickA (f : Fin 4176 → EReal) (q : Fin 4224) : EReal :=
  if h : q.val < 1536 then f ⟨q.val, by omega⟩
  else if h : q.val - 1536 < 512 then f ⟨1536 + (q.val - 1536), by omega⟩
  else if h : q.val - 1536 - 512 < 1024 then f ⟨2560 + (q.val - 1536 - 512), by omega⟩
  else if h : q.val - 1536 - 512 - 1024 < 512 then f ⟨2048 + (q.val - 1536 - 512 - 1024), by omega⟩
  else if h : q.val - 1536 - 512 - 1024 - 512 < 512 then f ⟨3664 + (q.val - 1536 - 512 - 1024 - 512), by omega⟩
  else if h : q.val - 1536 - 512 - 1024 - 512 - 512 < 64 then f ⟨3584 + (q.val - 1536 - 512 - 1024 - 512 - 512), by omega⟩
  else if h : q.val - 1536 - 512 - 1024 - 512 - 512 - 64 < 16 then f ⟨3648 + (q.val - 1536 - 512 - 1024 - 512 - 512 - 64), by omega⟩
  else 0

/-- The state-space layer's columns as its projection's result holds them: gate, convolved channels, the memory's queries, steps, empty lanes. -/
def pickS (f : Fin 4632 → EReal) (q : Fin 4864) : EReal :=
  if h : q.val < 1536 then f ⟨q.val, by omega⟩
  else if h : q.val - 1536 < 2560 then f ⟨1536 + (q.val - 1536), by omega⟩
  else if h : q.val - 1536 - 2560 < 512 then f ⟨4120 + (q.val - 1536 - 2560), by omega⟩
  else if h : q.val - 1536 - 2560 - 512 < 24 then f ⟨4096 + (q.val - 1536 - 2560 - 512), by omega⟩
  else 0

variable (x g : Fin 2048 → EReal)

/-- Products with picked columns are the picked products. -/
theorem dot_pickA (w : Fin 2048 → Fin 4176 → EReal) (q : Fin 4224) : dot x g (fun k => pickA (w k) q) = pickA (fun j => dot x g fun k => w k j) q := by
  unfold pickA dot
  split_ifs <;> simp only [mul_zero, Finset.sum_const_zero]

/-- Products with picked columns are the picked products. -/
theorem dot_pickS (w : Fin 2048 → Fin 4632 → EReal) (q : Fin 4864) : dot x g (fun k => pickS (w k) q) = pickS (fun j => dot x g fun k => w k j) q := by
  unfold pickS dot
  split_ifs <;> simp only [mul_zero, Finset.sum_const_zero]

/-- A row's entries, zeros past the last. -/
def padTo {N : ℕ} (f : Fin N → EReal) (q : ℕ) : EReal := if h : q < N then f ⟨q, h⟩ else 0

/-- What a projection takes: the rows, the gain of their norm, the columns. -/
structure Args (N : ℕ) where
  /-- rows -/
  x : Fin 8704 → Fin 2048 → EReal
  /-- gain -/
  g : Fin 2048 → EReal
  /-- columns -/
  w : Fin 2048 → Fin N → EReal

/-- The normed rows. -/
def Args.n {N : ℕ} (A : Args N) (r : Fin 8704) : Fin 2048 → EReal := Cert.Ffn.rms (A.x r) A.g

/-- The normed rows' products with the columns. -/
def Args.z {N : ℕ} (A : Args N) (r : Fin 8704) (j : Fin N) : EReal := dot (A.x r) A.g fun k => A.w k j

/-- The attention layer's products, as its projection's result holds them. -/
def Args.a (A : Args 4176) (r : Fin 8704) : Fin 4224 → EReal := pickA (A.z r)

/-- The state-space layer's products, as its projection's result holds them. -/
def Args.s (A : Args 4632) (r : Fin 8704) : Fin 4864 → EReal := pickS (A.z r)

/-- What the memory's projection takes: its rows, the gain of their norm, the columns. -/
structure MemArgs where
  /-- rows -/
  x : Fin 256 → Fin 2048 → EReal
  /-- gain -/
  g : Fin 2048 → EReal
  /-- columns: 512 of keys, then 512 of values -/
  w : Fin 2048 → Fin 1024 → EReal

/-- The memory's normed rows' products with the columns. -/
def MemArgs.z (A : MemArgs) (r : Fin 256) (j : Fin 1024) : EReal := dot (A.x r) A.g fun k => A.w k j

/-- What the way out of a layer takes: the rows, the mixer's heads, the memory's heads, the columns. -/
structure OutArgs where
  /-- rows -/
  x : Fin 8704 → Fin 2048 → EReal
  /-- mixer's heads -/
  mix : Fin 8704 → Fin 1536 → EReal
  /-- memory's heads -/
  mem : Fin 8704 → Fin 512 → EReal
  /-- columns -/
  w : Fin 2048 → Fin 2048 → EReal

/-- The rows with the heads' products added. -/
def OutArgs.o (A : OutArgs) (r : Fin 8704) (d : Fin 2048) : EReal :=
  A.x r d + ∑ k : Fin 1536, A.mix r k * A.w ⟨k.val, by omega⟩ d + ∑ k : Fin 512, A.mem r k * A.w ⟨1536 + k.val, by omega⟩ d

/-- The mixer's and the memory's heads side by side. -/
def OutArgs.h (A : OutArgs) (r : Fin 8704) (k : Fin 2048) : EReal :=
  if h : k.val < 1536 then A.mix r ⟨k.val, h⟩ else A.mem r ⟨k.val - 1536, by omega⟩

/-- The heads' products, summed over all the heads at once. -/
theorem OutArgs.o_eq (A : OutArgs) (r : Fin 8704) (d : Fin 2048) : A.x r d + ∑ k, A.h r k * A.w k d = A.o r d := by
  unfold OutArgs.o
  rw [add_assoc]
  refine congrArg _ ((Fin.sum_univ_add (a := 1536) (b := 512) fun k : Fin (1536 + 512) => A.h r k * A.w k d).trans (congrArg₂ _ (Finset.sum_congr rfl fun k _ => ?_) (Finset.sum_congr rfl fun k _ => ?_)))
  · refine congrArg (· * _) ?_
    unfold OutArgs.h
    exact dif_pos k.isLt
  · refine congrArg (· * _) ?_
    unfold OutArgs.h
    have h : ¬(Fin.natAdd 1536 k).val < 1536 := by rw [Fin.val_natAdd]; omega
    exact (dif_neg h).trans (congrArg _ (Fin.ext (by show 1536 + k.val - 1536 = k.val; omega)))

/-- A block of `P × Q` entries of a function of a row and a column, the `i`-th from above, the `j`-th from the left. -/
def at2 {R C : ℕ} (P Q : ℕ) (f : Fin R → Fin C → EReal) (i j : ℕ) (p : Fin P) (q : Fin Q) : EReal :=
  if h : P * i + p.val < R ∧ Q * j + q.val < C then f ⟨P * i + p.val, h.1⟩ ⟨Q * j + q.val, h.2⟩ else 0

/-- An entry of a block, where the block lies inside. -/
theorem at2_eq {R C : ℕ} (P Q : ℕ) (f : Fin R → Fin C → EReal) (i j : ℕ) (p : Fin P) (q : Fin Q) (r : Fin R) (s : Fin C)
    (hr : r.val = P * i + p.val) (hs : s.val = Q * j + q.val) : at2 P Q f i j p q = f r s := by
  unfold at2
  rw [dif_pos ⟨hr ▸ r.isLt, hs ▸ s.isLt⟩]
  exact congrArg₂ f (Fin.ext hr.symm) (Fin.ext hs.symm)

end Cert.Proj

end
-- ==== Proof.ProjAKernel.lean ====
module

public import proofs.«01_k».proof.Proof.ProjSpec
public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel3Ideal.Proj

open Cert.Proj Cert.Kernel3Ideal Cert.Kernel3Ideal.Gen Cert.Kernel3Ideal.Value

/-! ## What a grid point takes -/

variable (m : (ℓ : Loc nD τ sig) → Buf (Elt Ideal) ℓ) (c : Dev nD)

/-- The columns side by side. -/
def pack (w : FVec Ideal S2048x4176 .f32) : FVec Ideal S2048x4224 .f32 :=
  concatenate S2048x4224 1 [⟨S2048x1536, extractStridedSlice S2048x1536 ![0, 0] w slices_S2048x4176_S2048x1536_0_0⟩,
    ⟨S2048x512, extractStridedSlice S2048x512 ![0, 1536] w slices_S2048x4176_S2048x512_0_1536⟩,
    ⟨S2048x1024, extractStridedSlice S2048x1024 ![0, 2560] w slices_S2048x4176_S2048x1024_0_2560⟩,
    ⟨S2048x512, extractStridedSlice S2048x512 ![0, 2048] w slices_S2048x4176_S2048x512_0_2048⟩,
    ⟨S2048x512, extractStridedSlice S2048x512 ![0, 3664] w slices_S2048x4176_S2048x512_0_3664⟩,
    ⟨S2048x64, extractStridedSlice S2048x64 ![0, 3584] w slices_S2048x4176_S2048x64_0_3584⟩,
    ⟨S2048x16, extractStridedSlice S2048x16 ![0, 3648] w slices_S2048x4176_S2048x16_0_3648⟩,
    ⟨S2048x48, broadcastInDim S2048x48 ![] bcast_S_S2048x48 (constant S_ .f32 0x00000000#32)⟩]
    concatenates_S2048x1536_S2048x512_S2048x1024_S2048x512_S2048x512_S2048x64_S2048x16_S2048x48_S2048x4224_d1

/-- The columns side by side, entry by entry. -/
theorem pack_apply (w : FVec Ideal S2048x4176 .f32) (k : Fin 2048) (q : Fin 4224) : pack w (ix2 k q) = pickA (fun j => w (ix2 k j)) q := by
  pointwise [pack]
  rfl

/-- The layer's columns, entry by entry. -/
theorem cols_apply (w : FVec Ideal S1x2048x4176 .f32) (k : Fin 2048) (j : Fin 4176) : (shapeCast S2048x4176 w shapeCasts_S1x2048x4176_S2048x4176 : FVec Ideal S2048x4176 .f32) (ix2 k j) = w (ix3 0 k j) := by
  pointwise

/-- The columns the call takes. -/
theorem V_w : (V m c main_v12 : Vec Ideal S2048x4224 .bf16) = truncf .bf16 (pack (shapeCast S2048x4176 (m ((c : Thread nD τ).loc main_arg2) : Vec Ideal S1x2048x4176 .f32) shapeCasts_S1x2048x4176_S2048x4176)) bitsLt_bf16_f32 := by
  unfold V
  simp only [List.flatten_cons, List.flatten_nil, List.append_nil, List.cons_append, List.nil_append, hostOps0]
  after_results
  rfl

/-- The gain the call takes. -/
theorem V_g : (V m c main_v13 : Vec Ideal S1x2048 .f32)
    = shapeCast S1x2048 (shapeCast S2048 (extractStridedSlice S1x2048 ![0, 0] (m ((c : Thread nD τ).loc main_arg1) : Vec Ideal S2x2048 .f32) slices_S2x2048_S1x2048_0_0)
        shapeCasts_S1x2048_S2048) shapeCasts_S2048_S1x2048 := by
  unfold V
  simp only [List.flatten_cons, List.flatten_nil, List.append_nil, List.cons_append, List.nil_append, hostOps0]
  after_results
  rfl

/-- The printed index maps, decided over the grid. -/
theorem idxs : ∀ t : Fin cfg0.N, win0_0.index t = ![t.val / 3, 0] ∧ win0_1.index t = ![0, 0] ∧ win0_2.index t = ![0, t.val % 3] :=
  (by decide +kernel : ∀ t : Fin grid0.N, _)

/-- A point's rows are the argument's. -/
theorem in0 (t : Fin cfg0.N) (p : Fin 512) (k : Fin 2048) :
    (iblk m c 0 t : Vec Ideal S512x2048 .f32) (ix2 p k)
      = (m ((c : Thread nD τ).loc main_arg0) : Vec Ideal S8704x2048 .f32) (ix2 ⟨512 * (t.val / 3) + p.val, by have := lt_of_lt_of_eq t.isLt N_0; omega⟩ k) := by
  blk_ext [iblk, V, idxs t, V_main_arg0]

/-- The norm's gain is the layer's. -/
theorem in1 (t : Fin cfg0.N) (k : Fin 2048) :
    (iblk m c 1 t : Vec Ideal S1x2048 .f32) (ix2 0 k) = (m ((c : Thread nD τ).loc main_arg1) : Vec Ideal S2x2048 .f32) (ix2 0 k) := by
  have e : (iblk m c 1 t : Vec Ideal S1x2048 .f32) (ix2 0 k) = (V m c main_v13 : Vec Ideal S1x2048 .f32) (ix2 0 k) := by
    blk_ext [iblk, idxs t]
  refine e.trans ?_
  rw [V_g]
  pointwise

/-- A point's column among all. -/
def col (t : Fin cfg0.N) (q : Fin 1408) : Fin 4224 := ⟨1408 * (t.val % 3) + q.val, by omega⟩

/-- A point's columns. -/
theorem in2 (t : Fin cfg0.N) (k : Fin 2048) (q : Fin 1408) :
    (iblk m c 2 t : Vec Ideal S2048x1408 .bf16) (ix2 k q)
      = pickA (fun j => (m ((c : Thread nD τ).loc main_arg2) : Vec Ideal S1x2048x4176 .f32) (ix3 0 k j)) (col t q) := by
  have e : (iblk m c 2 t : Vec Ideal S2048x1408 .bf16) (ix2 k q) = (V m c main_v12 : Vec Ideal S2048x4224 .bf16) (ix2 k (col t q)) := by
    unfold col
    blk_ext [iblk, idxs t]
  refine e.trans ?_
  rw [V_w]
  refine (pack_apply _ k (col t q)).trans (congrArg (fun f => pickA f (col t q)) (funext fun j => cols_apply _ k j))

/-! ## What the grid points leave -/

/-- What a point names: the output's block and the normed rows. -/
abbrev St := Vec Ideal S512x1408 .f32 × Vec Ideal S512x2048 .bf16

set_option maxHeartbeats 2000000 in
/-- A row block's first point norms the rows. -/
theorem stA_n (t : Fin cfg0.N) (acc : St) (h0 : t.val % 3 = 0) :
    (stAt0 m c t.val t.isLt acc).2 = k0_pay1 (iblk m c 0 t) (iblk m c 1 t) := by
  rw [stAt0_A m c t acc h0]
  dsimp only
  frame_out

set_option maxHeartbeats 2000000 in
/-- A row block's first point multiplies them. -/
theorem stA_o (t : Fin cfg0.N) (acc : St) (h0 : t.val % 3 = 0) :
    (stAt0 m c t.val t.isLt acc).1 = k0_pay2 (k0_pay1 (iblk m c 0 t) (iblk m c 1 t)) (iblk m c 2 t) := by
  rw [stAt0_A m c t acc h0]
  dsimp only
  frame_out

/-- A later point keeps the normed rows. -/
theorem stB_n (t : Fin cfg0.N) (acc : St) (h0 : ¬t.val % 3 = 0) : (stAt0 m c t.val t.isLt acc).2 = acc.2 := by
  rw [stAt0_B m c t acc h0]
  rfl

set_option maxHeartbeats 2000000 in
/-- A later point multiplies the kept rows. -/
theorem stB_o (t : Fin cfg0.N) (acc : St) (h0 : ¬t.val % 3 = 0) : (stAt0 m c t.val t.isLt acc).1 = k0_pay2 acc.2 (iblk m c 2 t) := by
  rw [stAt0_B m c t acc h0]
  dsimp only
  frame_out
  simp only [read_unread_whole]

section
variable (x : Vec Ideal S512x2048 .f32) (g : Vec Ideal S1x2048 .f32) (n : Vec Ideal S512x2048 .bf16) (w : Vec Ideal S2048x1408 .bf16)

/-- The normed block, entry by entry. -/
theorem pay1_apply (p : Fin 512) (k : Fin 2048) :
    (k0_pay1 x g : FVec Ideal S512x2048 .bf16) (ix2 p k) = Cert.Ffn.rms (fun i => x (ix2 p i)) (fun i => g (ix2 0 i)) k := by
  pointwise [k0_pay1]
  rfl

/-- The products' block, entry by entry. -/
theorem pay2_apply (p : Fin 512) (q : Fin 1408) : (k0_pay2 n w : FVec Ideal S512x1408 .f32) (ix2 p q) = ∑ k : Fin 2048, n (ix2 p k) * w (ix2 k q) := by
  pointwise [k0_pay2]

end

/-- The projection's arguments, as the memory holds them: the first layer's. -/
def args : Args 4176 where
  x r k := (m ((c : Thread nD τ).loc main_arg0) : Vec Ideal S8704x2048 .f32) (ix2 r k)
  g k := (m ((c : Thread nD τ).loc main_arg1) : Vec Ideal S2x2048 .f32) (ix2 0 k)
  w k j := (m ((c : Thread nD τ).loc main_arg2) : Vec Ideal S1x2048x4176 .f32) (ix3 0 k j)

/-- What the normed rows' scratch holds at a row block's points. -/
def Kept (i : ℕ) (n : Vec Ideal S512x2048 .bf16) : Prop := ∀ (p : Fin 512) (k : Fin 2048), n (ix2 p k) = at2 512 2048 (args m c).n i 0 p k

/-- A row block's first point leaves the rows normed. -/
theorem kept_first (t : Fin cfg0.N) : Kept m c (t.val / 3) (k0_pay1 (iblk m c 0 t) (iblk m c 1 t) : FVec Ideal S512x2048 .bf16) := fun p k => by
  refine (pay1_apply _ _ p k).trans ?_
  simp only [in0, in1]
  exact (at2_eq 512 2048 (args m c).n (t.val / 3) 0 p k _ k rfl (by omega)).symm

/-- A point's block of products over its row block's normed rows. -/
theorem out_eq (t : Fin cfg0.N) (n : Vec Ideal S512x2048 .bf16) (hn : Kept m c (t.val / 3) n) (p : Fin 512) (q : Fin 1408) :
    (k0_pay2 n (iblk m c 2 t) : FVec Ideal S512x1408 .f32) (ix2 p q) = at2 512 1408 (args m c).a (t.val / 3) (t.val % 3) p q := by
  have hr : 512 * (t.val / 3) + p.val < 8704 := by have := lt_of_lt_of_eq t.isLt N_0; omega
  refine (pay2_apply n _ p q).trans ?_
  have e : ∀ k, n (ix2 p k) = (args m c).n ⟨512 * (t.val / 3) + p.val, hr⟩ k := fun k =>
    (hn p k).trans (at2_eq 512 2048 (args m c).n (t.val / 3) 0 p k _ k rfl (by omega))
  simp only [e, in2]
  refine Eq.trans ?_ (at2_eq 512 1408 (args m c).a (t.val / 3) (t.val % 3) p q ⟨512 * (t.val / 3) + p.val, hr⟩ (col t q) rfl rfl).symm
  exact dot_pickA _ (args m c).g (args m c).w (col t q)

/-- One step of the points' recursion: the rows stay normed and the point's block holds its products. -/
theorem st_step (t : Fin cfg0.N) (acc : St) (h : t.val % 3 ≠ 0 → Kept m c (t.val / 3) acc.2) :
    Kept m c (t.val / 3) (stAt0 m c t.val t.isLt acc).2
    ∧ ∀ (p : Fin 512) (q : Fin 1408), (stAt0 m c t.val t.isLt acc).1 (ix2 p q) = at2 512 1408 (args m c).a (t.val / 3) (t.val % 3) p q := by
  by_cases h0 : t.val % 3 = 0
  · rw [stA_n m c t acc h0, stA_o m c t acc h0]
    exact ⟨kept_first m c t, out_eq m c t _ (kept_first m c t)⟩
  · rw [stB_n m c t acc h0, stB_o m c t acc h0]
    exact ⟨h h0, out_eq m c t _ (h h0)⟩

/-- What the points leave, from the first on. -/
theorem outs_eq : ∀ (n : ℕ) (hn : n < cfg0.N), Kept m c (n / 3) (outsAt0 m c n hn).2
    ∧ ∀ (p : Fin 512) (q : Fin 1408), (outsAt0 m c n hn).1 (ix2 p q) = at2 512 1408 (args m c).a (n / 3) (n % 3) p q
  | 0, hn => by rw [outsAt0_zero]; exact st_step m c ⟨0, hn⟩ _ (fun h => absurd rfl h)
  | n + 1, hn => by
    rw [outsAt0_succ]
    refine st_step m c ⟨n + 1, hn⟩ _ (fun h => ?_)
    have h' : (n + 1) % 3 ≠ 0 := h
    have e1 : (n + 1) / 3 = n / 3 := by omega
    show Kept m c ((n + 1) / 3) _
    rw [e1]
    exact (outs_eq n (Nat.lt_of_succ_lt hn)).1

/-- The array ends at the products. -/
theorem G3_eq : G3 m c = fun i : S8704x4224.Idx => (args m c).a (i 0) (i 1) := by
  funext i
  have hi0 : (i 0).val < 8704 := (i 0).isLt
  have hi1 : (i 1).val < 4224 := (i 1).isLt
  have hp : pt3Of i = 3 * ((i 0).val / 512) + (i 1).val / 1408 := by show 3 * ((i 0).val / 512 - 0) + 1 * ((i 1).val / 1408 - 0) = _; omega
  have hlt : pt3Of i < cfg0.N := by rw [hp]; exact lt_of_lt_of_eq (by omega) N_0.symm
  unfold G3
  rw [dif_pos hlt, ← outsAt0_sweep m c _ hlt]
  refine (congrArg _ (eq_ix2 (loc3Of i))).trans (((outs_eq m c _ hlt).2 (loc3Of i 0) (loc3Of i 1)).trans ?_)
  refine at2_eq 512 1408 (args m c).a _ _ _ _ (i 0) (i 1) ?_ ?_
  · show (i 0).val = 512 * (pt3Of i / 3) + (i 0).val % 512
    rw [hp]; omega
  · show (i 1).val = 1408 * (pt3Of i % 3) + (i 1).val % 1408
    rw [hp]; omega

end Cert.Kernel3Ideal.Proj

end
-- ==== Proof.ProjARef.lean ====
module

public import proofs.«01_k».proof.Proof.ProjSpec
public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference3Ideal.Proj

open Cert.Proj Cert.Reference3Ideal Cert.Reference3Ideal.Gen Cert.Reference3Ideal.Value

/-! ## The reference's result as the projection of its arguments -/

/-- The normed rows. -/
def normed (x : FVec Ideal S8704x2048 .f32) (g : FVec Ideal S2x2048 .f32) : FVec Ideal S8704x2048 .f32 :=
  mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast S2048 (extractStridedSlice S1x2048 ![0, 0] g slices_S2x2048_S1x2048_0_0) shapeCasts_S1x2048_S2048)))

/-- The normed rows, entry by entry. -/
theorem normed_apply (x : FVec Ideal S8704x2048 .f32) (g : FVec Ideal S2x2048 .f32) (r : Fin 8704) (k : Fin 2048) :
    normed x g (ix2 r k) = Cert.Ffn.rms (fun i => x (ix2 r i)) (fun i => g (ix2 0 i)) k := by
  pointwise [normed]
  rfl

/-- The layer's columns, entry by entry. -/
theorem cols_apply (w : FVec Ideal S1x2048x4176 .f32) (k : Fin 2048) (j : Fin 4176) : (shapeCast S2048x4176 w shapeCasts_S1x2048x4176_S2048x4176 : FVec Ideal S2048x4176 .f32) (ix2 k j) = w (ix3 0 k j) := by
  pointwise

/-- A product, entry by entry. -/
theorem dot_apply (a : FVec Ideal S8704x2048 .f32) (w : FVec Ideal S2048x4176 .f32) (k : Fin 8704) (j : Fin 4176) : (Host.dotGeneral dot_S8704x2048_S2048x4176_S8704x4176_1_0_0_1_n_n none a w : FVec Ideal S8704x4176 .f32) (ix2 k j) = ∑ i : Fin 2048, a (ix2 k i) * w (ix2 i j) := by
  pointwise

/-- The columns side by side. -/
def pack (z : FVec Ideal S8704x4176 .f32) : FVec Ideal S8704x4224 .f32 :=
  concatenate S8704x4224 1 [⟨S8704x1536, extractStridedSlice S8704x1536 ![0, 0] z slices_S8704x4176_S8704x1536_0_0⟩,
    ⟨S8704x512, extractStridedSlice S8704x512 ![0, 1536] z slices_S8704x4176_S8704x512_0_1536⟩,
    ⟨S8704x1024, extractStridedSlice S8704x1024 ![0, 2560] z slices_S8704x4176_S8704x1024_0_2560⟩,
    ⟨S8704x512, extractStridedSlice S8704x512 ![0, 2048] z slices_S8704x4176_S8704x512_0_2048⟩,
    ⟨S8704x512, extractStridedSlice S8704x512 ![0, 3664] z slices_S8704x4176_S8704x512_0_3664⟩,
    ⟨S8704x64, extractStridedSlice S8704x64 ![0, 3584] z slices_S8704x4176_S8704x64_0_3584⟩,
    ⟨S8704x16, extractStridedSlice S8704x16 ![0, 3648] z slices_S8704x4176_S8704x16_0_3648⟩,
    ⟨S8704x48, broadcastInDim S8704x48 ![] bcast_S_S8704x48 (constant S_ .f32 0x00000000#32)⟩]
    concatenates_S8704x1536_S8704x512_S8704x1024_S8704x512_S8704x512_S8704x64_S8704x16_S8704x48_S8704x4224_d1

/-- The columns side by side, entry by entry. -/
theorem pack_apply (w : FVec Ideal S8704x4176 .f32) (k : Fin 8704) (q : Fin 4224) : pack w (ix2 k q) = pickA (fun j => w (ix2 k j)) q := by
  pointwise [pack]
  rfl

variable (m : (ℓ : Loc nD τ sig) → Buf (Elt Ideal) ℓ) (ρ : Dev nD → PrngReg) (c : Dev nD)

/-- The normed rows' products. -/
def prod : FVec Ideal S8704x4176 .f32 :=
  Host.dotGeneral (φ₁ := .f32) (φ₂ := .f32) dot_S8704x2048_S2048x4176_S8704x4176_1_0_0_1_n_n none (normed (m ((c.tc : Thread nD τ).loc main_arg0)) (m ((c.tc : Thread nD τ).loc main_arg1)))
    (shapeCast S2048x4176 (m ((c.tc : Thread nD τ).loc main_arg2) : Vec Ideal S1x2048x4176 .f32) shapeCasts_S1x2048x4176_S2048x4176)

/-- The result's text. -/
theorem res_eq : (res_out0 m c : FVec Ideal S8704x4224 .f32) = pack (prod m c) := rfl

/-- The projection's arguments, as the memory holds them: the first layer's. -/
def args : Args 4176 where
  x r k := (m ((c.tc : Thread nD τ).loc main_arg0) : Vec Ideal S8704x2048 .f32) (ix2 r k)
  g k := (m ((c.tc : Thread nD τ).loc main_arg1) : Vec Ideal S2x2048 .f32) (ix2 0 k)
  w k j := (m ((c.tc : Thread nD τ).loc main_arg2) : Vec Ideal S1x2048x4176 .f32) (ix3 0 k j)

/-- The products, entry by entry. -/
theorem prod_apply (r : Fin 8704) (j : Fin 4176) : prod m c (ix2 r j) = (args m c).z r j := by
  unfold Args.z dot
  refine (dot_apply _ _ r j).trans (Finset.sum_congr rfl fun k _ => ?_)
  exact congrArg₂ (· * ·) (normed_apply _ _ r k) (cols_apply _ k j)

/-- The result is the products, in the result's order. -/
theorem out_eq : res_out0 m c = fun i : S8704x4224.Idx => (args m c).a (i 0) (i 1) := by
  funext i
  refine (congrFun (res_eq m c) i).trans ((congrArg _ (eq_ix2 i)).trans ((pack_apply _ (i 0) (i 1)).trans ?_))
  exact congrArg (fun f => pickA f (i 1)) (funext fun j => prod_apply m c (i 0) j)

/-- The reference runs, leaves the products, and keeps its arguments. -/
theorem run : θ_run defs (onTc (τ := τ) (main (F := Ideal))) ⟨m, fun _ => 0, ρ⟩ fun r => ∀ c : Dev nD,
      r.2.mem ((c.tc : Thread nD τ).loc main_v25) = (fun i : S8704x4224.Idx => (args m c).a (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (out_eq m c), (h c).2⟩) (Value.run m ρ)

end Cert.Reference3Ideal.Proj

end
-- ==== Proof.ProjSKernel.lean ====
module

public import proofs.«01_k».proof.Proof.ProjSpec
public import proofs.«01_k».proof.Proof.Gen.Kernel4Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel4Ideal.Proj

open Cert.Proj Cert.Kernel4Ideal Cert.Kernel4Ideal.Gen Cert.Kernel4Ideal.Value

/-! ## What a grid point takes -/

variable (m : (ℓ : Loc nD τ sig) → Buf (Elt Ideal) ℓ) (c : Dev nD)

/-- The columns side by side. -/
def pack (w : FVec Ideal S2048x4632 .f32) : FVec Ideal S2048x4864 .f32 :=
  concatenate S2048x4864 1 [⟨S2048x1536, extractStridedSlice S2048x1536 ![0, 0] w slices_S2048x4632_S2048x1536_0_0⟩,
    ⟨S2048x2560, extractStridedSlice S2048x2560 ![0, 1536] w slices_S2048x4632_S2048x2560_0_1536⟩,
    ⟨S2048x512, extractStridedSlice S2048x512 ![0, 4120] w slices_S2048x4632_S2048x512_0_4120⟩,
    ⟨S2048x24, extractStridedSlice S2048x24 ![0, 4096] w slices_S2048x4632_S2048x24_0_4096⟩,
    ⟨S2048x232, broadcastInDim S2048x232 ![] bcast_S_S2048x232 (constant S_ .f32 0x00000000#32)⟩]
    concatenates_S2048x1536_S2048x2560_S2048x512_S2048x24_S2048x232_S2048x4864_d1

/-- The columns side by side, entry by entry. -/
theorem pack_apply (w : FVec Ideal S2048x4632 .f32) (k : Fin 2048) (q : Fin 4864) : pack w (ix2 k q) = pickS (fun j => w (ix2 k j)) q := by
  pointwise [pack]
  rfl

/-- The layer's columns, entry by entry. -/
theorem cols_apply (w : FVec Ideal S1x2048x4632 .f32) (k : Fin 2048) (j : Fin 4632) : (shapeCast S2048x4632 w shapeCasts_S1x2048x4632_S2048x4632 : FVec Ideal S2048x4632 .f32) (ix2 k j) = w (ix3 0 k j) := by
  pointwise

/-- The columns the call takes. -/
theorem V_w : (V m c main_v9 : Vec Ideal S2048x4864 .bf16) = truncf .bf16 (pack (shapeCast S2048x4632 (m ((c : Thread nD τ).loc main_arg2) : Vec Ideal S1x2048x4632 .f32) shapeCasts_S1x2048x4632_S2048x4632)) bitsLt_bf16_f32 := by
  unfold V
  simp only [List.flatten_cons, List.flatten_nil, List.append_nil, List.cons_append, List.nil_append, hostOps0]
  after_results
  rfl

/-- The gain the call takes. -/
theorem V_g : (V m c main_v10 : Vec Ideal S1x2048 .f32)
    = shapeCast S1x2048 (shapeCast S2048 (extractStridedSlice S1x2048 ![1, 0] (m ((c : Thread nD τ).loc main_arg1) : Vec Ideal S2x2048 .f32) slices_S2x2048_S1x2048_1_0)
        shapeCasts_S1x2048_S2048) shapeCasts_S2048_S1x2048 := by
  unfold V
  simp only [List.flatten_cons, List.flatten_nil, List.append_nil, List.cons_append, List.nil_append, hostOps0]
  after_results
  rfl

/-- The printed index maps, decided over the grid. -/
theorem idxs : ∀ t : Fin cfg0.N, win0_0.index t = ![t.val / 2, 0] ∧ win0_1.index t = ![0, 0] ∧ win0_2.index t = ![0, t.val % 2] :=
  (by decide +kernel : ∀ t : Fin grid0.N, _)

/-- A point's rows are the argument's. -/
theorem in0 (t : Fin cfg0.N) (p : Fin 512) (k : Fin 2048) :
    (iblk m c 0 t : Vec Ideal S512x2048 .f32) (ix2 p k)
      = (m ((c : Thread nD τ).loc main_arg0) : Vec Ideal S8704x2048 .f32) (ix2 ⟨512 * (t.val / 2) + p.val, by have := lt_of_lt_of_eq t.isLt N_0; omega⟩ k) := by
  blk_ext [iblk, V, idxs t, V_main_arg0]

/-- The norm's gain is the layer's. -/
theorem in1 (t : Fin cfg0.N) (k : Fin 2048) :
    (iblk m c 1 t : Vec Ideal S1x2048 .f32) (ix2 0 k) = (m ((c : Thread nD τ).loc main_arg1) : Vec Ideal S2x2048 .f32) (ix2 1 k) := by
  have e : (iblk m c 1 t : Vec Ideal S1x2048 .f32) (ix2 0 k) = (V m c main_v10 : Vec Ideal S1x2048 .f32) (ix2 0 k) := by
    blk_ext [iblk, idxs t]
  refine e.trans ?_
  rw [V_g]
  pointwise

/-- A point's column among all. -/
def col (t : Fin cfg0.N) (q : Fin 2432) : Fin 4864 := ⟨2432 * (t.val % 2) + q.val, by omega⟩

/-- A point's columns. -/
theorem in2 (t : Fin cfg0.N) (k : Fin 2048) (q : Fin 2432) :
    (iblk m c 2 t : Vec Ideal S2048x2432 .bf16) (ix2 k q)
      = pickS (fun j => (m ((c : Thread nD τ).loc main_arg2) : Vec Ideal S1x2048x4632 .f32) (ix3 0 k j)) (col t q) := by
  have e : (iblk m c 2 t : Vec Ideal S2048x2432 .bf16) (ix2 k q) = (V m c main_v9 : Vec Ideal S2048x4864 .bf16) (ix2 k (col t q)) := by
    unfold col
    blk_ext [iblk, idxs t]
  refine e.trans ?_
  rw [V_w]
  refine (pack_apply _ k (col t q)).trans (congrArg (fun f => pickS f (col t q)) (funext fun j => cols_apply _ k j))

/-! ## What the grid points leave -/

/-- What a point names: the output's block and the normed rows. -/
abbrev St := Vec Ideal S512x2432 .f32 × Vec Ideal S512x2048 .bf16

set_option maxHeartbeats 2000000 in
/-- A row block's first point norms the rows. -/
theorem stA_n (t : Fin cfg0.N) (acc : St) (h0 : t.val % 2 = 0) :
    (stAt0 m c t.val t.isLt acc).2 = k0_pay1 (iblk m c 0 t) (iblk m c 1 t) := by
  rw [stAt0_A m c t acc h0]
  dsimp only
  frame_out

set_option maxHeartbeats 2000000 in
/-- A row block's first point multiplies them. -/
theorem stA_o (t : Fin cfg0.N) (acc : St) (h0 : t.val % 2 = 0) :
    (stAt0 m c t.val t.isLt acc).1 = k0_pay2 (k0_pay1 (iblk m c 0 t) (iblk m c 1 t)) (iblk m c 2 t) := by
  rw [stAt0_A m c t acc h0]
  dsimp only
  frame_out

/-- A later point keeps the normed rows. -/
theorem stB_n (t : Fin cfg0.N) (acc : St) (h0 : ¬t.val % 2 = 0) : (stAt0 m c t.val t.isLt acc).2 = acc.2 := by
  rw [stAt0_B m c t acc h0]
  rfl

set_option maxHeartbeats 2000000 in
/-- A later point multiplies the kept rows. -/
theorem stB_o (t : Fin cfg0.N) (acc : St) (h0 : ¬t.val % 2 = 0) : (stAt0 m c t.val t.isLt acc).1 = k0_pay2 acc.2 (iblk m c 2 t) := by
  rw [stAt0_B m c t acc h0]
  dsimp only
  frame_out
  simp only [read_unread_whole]

section
variable (x : Vec Ideal S512x2048 .f32) (g : Vec Ideal S1x2048 .f32) (n : Vec Ideal S512x2048 .bf16) (w : Vec Ideal S2048x2432 .bf16)

/-- The normed block, entry by entry. -/
theorem pay1_apply (p : Fin 512) (k : Fin 2048) :
    (k0_pay1 x g : FVec Ideal S512x2048 .bf16) (ix2 p k) = Cert.Ffn.rms (fun i => x (ix2 p i)) (fun i => g (ix2 0 i)) k := by
  pointwise [k0_pay1]
  rfl

/-- The products' block, entry by entry. -/
theorem pay2_apply (p : Fin 512) (q : Fin 2432) : (k0_pay2 n w : FVec Ideal S512x2432 .f32) (ix2 p q) = ∑ k : Fin 2048, n (ix2 p k) * w (ix2 k q) := by
  pointwise [k0_pay2]

end

/-- The projection's arguments, as the memory holds them: the second layer's. -/
def args : Args 4632 where
  x r k := (m ((c : Thread nD τ).loc main_arg0) : Vec Ideal S8704x2048 .f32) (ix2 r k)
  g k := (m ((c : Thread nD τ).loc main_arg1) : Vec Ideal S2x2048 .f32) (ix2 1 k)
  w k j := (m ((c : Thread nD τ).loc main_arg2) : Vec Ideal S1x2048x4632 .f32) (ix3 0 k j)

/-- What the normed rows' scratch holds at a row block's points. -/
def Kept (i : ℕ) (n : Vec Ideal S512x2048 .bf16) : Prop := ∀ (p : Fin 512) (k : Fin 2048), n (ix2 p k) = at2 512 2048 (args m c).n i 0 p k

/-- A row block's first point leaves the rows normed. -/
theorem kept_first (t : Fin cfg0.N) : Kept m c (t.val / 2) (k0_pay1 (iblk m c 0 t) (iblk m c 1 t) : FVec Ideal S512x2048 .bf16) := fun p k => by
  refine (pay1_apply _ _ p k).trans ?_
  simp only [in0, in1]
  exact (at2_eq 512 2048 (args m c).n (t.val / 2) 0 p k _ k rfl (by omega)).symm

/-- A point's block of products over its row block's normed rows. -/
theorem out_eq (t : Fin cfg0.N) (n : Vec Ideal S512x2048 .bf16) (hn : Kept m c (t.val / 2) n) (p : Fin 512) (q : Fin 2432) :
    (k0_pay2 n (iblk m c 2 t) : FVec Ideal S512x2432 .f32) (ix2 p q) = at2 512 2432 (args m c).s (t.val / 2) (t.val % 2) p q := by
  have hr : 512 * (t.val / 2) + p.val < 8704 := by have := lt_of_lt_of_eq t.isLt N_0; omega
  refine (pay2_apply n _ p q).trans ?_
  have e : ∀ k, n (ix2 p k) = (args m c).n ⟨512 * (t.val / 2) + p.val, hr⟩ k := fun k =>
    (hn p k).trans (at2_eq 512 2048 (args m c).n (t.val / 2) 0 p k _ k rfl (by omega))
  simp only [e, in2]
  refine Eq.trans ?_ (at2_eq 512 2432 (args m c).s (t.val / 2) (t.val % 2) p q ⟨512 * (t.val / 2) + p.val, hr⟩ (col t q) rfl rfl).symm
  exact dot_pickS _ (args m c).g (args m c).w (col t q)

/-- One step of the points' recursion: the rows stay normed and the point's block holds its products. -/
theorem st_step (t : Fin cfg0.N) (acc : St) (h : t.val % 2 ≠ 0 → Kept m c (t.val / 2) acc.2) :
    Kept m c (t.val / 2) (stAt0 m c t.val t.isLt acc).2
    ∧ ∀ (p : Fin 512) (q : Fin 2432), (stAt0 m c t.val t.isLt acc).1 (ix2 p q) = at2 512 2432 (args m c).s (t.val / 2) (t.val % 2) p q := by
  by_cases h0 : t.val % 2 = 0
  · rw [stA_n m c t acc h0, stA_o m c t acc h0]
    exact ⟨kept_first m c t, out_eq m c t _ (kept_first m c t)⟩
  · rw [stB_n m c t acc h0, stB_o m c t acc h0]
    exact ⟨h h0, out_eq m c t _ (h h0)⟩

/-- What the points leave, from the first on. -/
theorem outs_eq : ∀ (n : ℕ) (hn : n < cfg0.N), Kept m c (n / 2) (outsAt0 m c n hn).2
    ∧ ∀ (p : Fin 512) (q : Fin 2432), (outsAt0 m c n hn).1 (ix2 p q) = at2 512 2432 (args m c).s (n / 2) (n % 2) p q
  | 0, hn => by rw [outsAt0_zero]; exact st_step m c ⟨0, hn⟩ _ (fun h => absurd rfl h)
  | n + 1, hn => by
    rw [outsAt0_succ]
    refine st_step m c ⟨n + 1, hn⟩ _ (fun h => ?_)
    have h' : (n + 1) % 2 ≠ 0 := h
    have e1 : (n + 1) / 2 = n / 2 := by omega
    show Kept m c ((n + 1) / 2) _
    rw [e1]
    exact (outs_eq n (Nat.lt_of_succ_lt hn)).1

/-- The array ends at the products. -/
theorem G3_eq : G3 m c = fun i : S8704x4864.Idx => (args m c).s (i 0) (i 1) := by
  funext i
  have hi0 : (i 0).val < 8704 := (i 0).isLt
  have hi1 : (i 1).val < 4864 := (i 1).isLt
  have hp : pt3Of i = 2 * ((i 0).val / 512) + (i 1).val / 2432 := by show 2 * ((i 0).val / 512 - 0) + 1 * ((i 1).val / 2432 - 0) = _; omega
  have hlt : pt3Of i < cfg0.N := by rw [hp]; exact lt_of_lt_of_eq (by omega) N_0.symm
  unfold G3
  rw [dif_pos hlt, ← outsAt0_sweep m c _ hlt]
  refine (congrArg _ (eq_ix2 (loc3Of i))).trans (((outs_eq m c _ hlt).2 (loc3Of i 0) (loc3Of i 1)).trans ?_)
  refine at2_eq 512 2432 (args m c).s _ _ _ _ (i 0) (i 1) ?_ ?_
  · show (i 0).val = 512 * (pt3Of i / 2) + (i 0).val % 512
    rw [hp]; omega
  · show (i 1).val = 2432 * (pt3Of i % 2) + (i 1).val % 2432
    rw [hp]; omega

end Cert.Kernel4Ideal.Proj

end
-- ==== Proof.ProjSRef.lean ====
module

public import proofs.«01_k».proof.Proof.ProjSpec
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference4Ideal.Proj

open Cert.Proj Cert.Reference4Ideal Cert.Reference4Ideal.Gen Cert.Reference4Ideal.Value

/-! ## The reference's result as the projection of its arguments -/

/-- The normed rows. -/
def normed (x : FVec Ideal S8704x2048 .f32) (g : FVec Ideal S2x2048 .f32) : FVec Ideal S8704x2048 .f32 :=
  mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast S2048 (extractStridedSlice S1x2048 ![1, 0] g slices_S2x2048_S1x2048_1_0) shapeCasts_S1x2048_S2048)))

/-- The normed rows, entry by entry. -/
theorem normed_apply (x : FVec Ideal S8704x2048 .f32) (g : FVec Ideal S2x2048 .f32) (r : Fin 8704) (k : Fin 2048) :
    normed x g (ix2 r k) = Cert.Ffn.rms (fun i => x (ix2 r i)) (fun i => g (ix2 1 i)) k := by
  pointwise [normed]
  rfl

/-- The layer's columns, entry by entry. -/
theorem cols_apply (w : FVec Ideal S1x2048x4632 .f32) (k : Fin 2048) (j : Fin 4632) : (shapeCast S2048x4632 w shapeCasts_S1x2048x4632_S2048x4632 : FVec Ideal S2048x4632 .f32) (ix2 k j) = w (ix3 0 k j) := by
  pointwise

/-- A product, entry by entry. -/
theorem dot_apply (a : FVec Ideal S8704x2048 .f32) (w : FVec Ideal S2048x4632 .f32) (k : Fin 8704) (j : Fin 4632) : (Host.dotGeneral dot_S8704x2048_S2048x4632_S8704x4632_1_0_0_1_n_n none a w : FVec Ideal S8704x4632 .f32) (ix2 k j) = ∑ i : Fin 2048, a (ix2 k i) * w (ix2 i j) := by
  pointwise

/-- The columns side by side. -/
def pack (z : FVec Ideal S8704x4632 .f32) : FVec Ideal S8704x4864 .f32 :=
  concatenate S8704x4864 1 [⟨S8704x1536, extractStridedSlice S8704x1536 ![0, 0] z slices_S8704x4632_S8704x1536_0_0⟩,
    ⟨S8704x2560, extractStridedSlice S8704x2560 ![0, 1536] z slices_S8704x4632_S8704x2560_0_1536⟩,
    ⟨S8704x512, extractStridedSlice S8704x512 ![0, 4120] z slices_S8704x4632_S8704x512_0_4120⟩,
    ⟨S8704x24, extractStridedSlice S8704x24 ![0, 4096] z slices_S8704x4632_S8704x24_0_4096⟩,
    ⟨S8704x232, broadcastInDim S8704x232 ![] bcast_S_S8704x232 (constant S_ .f32 0x00000000#32)⟩]
    concatenates_S8704x1536_S8704x2560_S8704x512_S8704x24_S8704x232_S8704x4864_d1

/-- The columns side by side, entry by entry. -/
theorem pack_apply (w : FVec Ideal S8704x4632 .f32) (k : Fin 8704) (q : Fin 4864) : pack w (ix2 k q) = pickS (fun j => w (ix2 k j)) q := by
  pointwise [pack]
  rfl

variable (m : (ℓ : Loc nD τ sig) → Buf (Elt Ideal) ℓ) (ρ : Dev nD → PrngReg) (c : Dev nD)

/-- The normed rows' products. -/
def prod : FVec Ideal S8704x4632 .f32 :=
  Host.dotGeneral (φ₁ := .f32) (φ₂ := .f32) dot_S8704x2048_S2048x4632_S8704x4632_1_0_0_1_n_n none (normed (m ((c.tc : Thread nD τ).loc main_arg0)) (m ((c.tc : Thread nD τ).loc main_arg1)))
    (shapeCast S2048x4632 (m ((c.tc : Thread nD τ).loc main_arg2) : Vec Ideal S1x2048x4632 .f32) shapeCasts_S1x2048x4632_S2048x4632)

/-- The result's text. -/
theorem res_eq : (res_out0 m c : FVec Ideal S8704x4864 .f32) = pack (prod m c) := rfl

/-- The projection's arguments, as the memory holds them: the second layer's. -/
def args : Args 4632 where
  x r k := (m ((c.tc : Thread nD τ).loc main_arg0) : Vec Ideal S8704x2048 .f32) (ix2 r k)
  g k := (m ((c.tc : Thread nD τ).loc main_arg1) : Vec Ideal S2x2048 .f32) (ix2 1 k)
  w k j := (m ((c.tc : Thread nD τ).loc main_arg2) : Vec Ideal S1x2048x4632 .f32) (ix3 0 k j)

/-- The products, entry by entry. -/
theorem prod_apply (r : Fin 8704) (j : Fin 4632) : prod m c (ix2 r j) = (args m c).z r j := by
  unfold Args.z dot
  refine (dot_apply _ _ r j).trans (Finset.sum_congr rfl fun k _ => ?_)
  exact congrArg₂ (· * ·) (normed_apply _ _ r k) (cols_apply _ k j)

/-- The result is the products, in the result's order. -/
theorem out_eq : res_out0 m c = fun i : S8704x4864.Idx => (args m c).s (i 0) (i 1) := by
  funext i
  refine (congrFun (res_eq m c) i).trans ((congrArg _ (eq_ix2 i)).trans ((pack_apply _ (i 0) (i 1)).trans ?_))
  exact congrArg (fun f => pickS f (i 1)) (funext fun j => prod_apply m c (i 0) j)

/-- The reference runs, leaves the products, and keeps its arguments. -/
theorem run : θ_run defs (onTc (τ := τ) (main (F := Ideal))) ⟨m, fun _ => 0, ρ⟩ fun r => ∀ c : Dev nD,
      r.2.mem ((c.tc : Thread nD τ).loc main_v22) = (fun i : S8704x4864.Idx => (args m c).s (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (out_eq m c), (h c).2⟩) (Value.run m ρ)

end Cert.Reference4Ideal.Proj

end
-- ==== Proof.MemKernel.lean ====
module

public import proofs.«01_k».proof.Proof.ProjSpec
public import proofs.«01_k».proof.Proof.Gen.Kernel5Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel5Ideal.Proj

open Cert.Proj Cert.Kernel5Ideal Cert.Kernel5Ideal.Gen Cert.Kernel5Ideal.Value

/-! ## What the grid point takes -/

variable (m : (ℓ : Loc nD τ sig) → Buf (Elt Ideal) ℓ) (c : Dev nD)

/-- The printed index maps, decided over the grid. -/
theorem idxs : ∀ t : Fin cfg0.N, win0_0.index t = ![0, 0] ∧ win0_1.index t = ![0, 0] ∧ win0_2.index t = ![0, 0] ∧ win0_3.index t = ![0, 0] :=
  (by decide +kernel : ∀ t : Fin grid0.N, _)

/-- The rows the call takes. -/
theorem V_x : (V m c main_v0 : Vec Ideal S256x2048 .f32) = shapeCast S256x2048 (m ((c : Thread nD τ).loc main_arg0) : Vec Ideal S1x256x2048 .f32) shapeCasts_S1x256x2048_S256x2048 := by
  unfold V
  simp only [List.flatten_cons, List.flatten_nil, List.append_nil, List.cons_append, List.nil_append, hostOps0]
  after_results
  rfl

/-- The gain the call takes. -/
theorem V_g : (V m c main_v6 : Vec Ideal S1x2048 .f32)
    = shapeCast S1x2048 (shapeCast S2048 (extractStridedSlice S1x2048 ![1, 0] (m ((c : Thread nD τ).loc main_arg1) : Vec Ideal S2x2048 .f32) slices_S2x2048_S1x2048_1_0)
        shapeCasts_S1x2048_S2048) shapeCasts_S2048_S1x2048 := by
  unfold V
  simp only [List.flatten_cons, List.flatten_nil, List.append_nil, List.cons_append, List.nil_append, hostOps0]
  after_results
  rfl

/-- The layer's columns. -/
def cols (w : FVec Ideal S2x2048x1024 .f32) : FVec Ideal S2048x1024 .f32 :=
  shapeCast S2048x1024 (extractStridedSlice S1x2048x1024 ![1, 0, 0] w slices_S2x2048x1024_S1x2048x1024_1_0_0) shapeCasts_S1x2048x1024_S2048x1024

/-- The layer's columns, entry by entry. -/
theorem cols_apply (w : FVec Ideal S2x2048x1024 .f32) (k : Fin 2048) (q : Fin 1024) : cols w (ix2 k q) = w (ix3 1 k q) := by
  pointwise [cols]

/-- The columns the call takes. -/
theorem V_w : (V m c main_v5 : Vec Ideal S2048x1024 .bf16) = (truncf .bf16 (cols (m ((c : Thread nD τ).loc main_arg2))) bitsLt_bf16_f32 : FVec Ideal S2048x1024 .bf16) := by
  unfold V
  simp only [List.flatten_cons, List.flatten_nil, List.append_nil, List.cons_append, List.nil_append, hostOps0]
  after_results
  rfl

/-- The memory's rows, entry by entry. -/
theorem rows_apply (x : FVec Ideal S1x256x2048 .f32) (p : Fin 256) (k : Fin 2048) : (shapeCast S256x2048 x shapeCasts_S1x256x2048_S256x2048 : FVec Ideal S256x2048 .f32) (ix2 p k) = x (ix3 0 p k) := by
  pointwise

/-- The projection's arguments, as the memory holds them: the second layer's. -/
def args : MemArgs where
  x r k := (m ((c : Thread nD τ).loc main_arg0) : Vec Ideal S1x256x2048 .f32) (ix3 0 r k)
  g k := (m ((c : Thread nD τ).loc main_arg1) : Vec Ideal S2x2048 .f32) (ix2 1 k)
  w k j := (m ((c : Thread nD τ).loc main_arg2) : Vec Ideal S2x2048x1024 .f32) (ix3 1 k j)

/-- The point's rows. -/
theorem in0 (t : Fin cfg0.N) (p : Fin 256) (k : Fin 2048) : (iblk m c 0 t : Vec Ideal S256x2048 .f32) (ix2 p k) = (args m c).x p k := by
  have e : (iblk m c 0 t : Vec Ideal S256x2048 .f32) (ix2 p k) = (V m c main_v0 : Vec Ideal S256x2048 .f32) (ix2 p k) := by
    blk_ext [iblk, idxs t]
  exact e.trans ((congrFun (V_x m c) _).trans (rows_apply _ p k))

/-- The norm's gain is the layer's. -/
theorem in1 (t : Fin cfg0.N) (k : Fin 2048) : (iblk m c 1 t : Vec Ideal S1x2048 .f32) (ix2 0 k) = (args m c).g k := by
  have e : (iblk m c 1 t : Vec Ideal S1x2048 .f32) (ix2 0 k) = (V m c main_v6 : Vec Ideal S1x2048 .f32) (ix2 0 k) := by
    blk_ext [iblk, idxs t]
  refine e.trans ?_
  unfold args
  rw [V_g]
  pointwise

/-- The point's columns. -/
theorem in2 (t : Fin cfg0.N) (k : Fin 2048) (q : Fin 1024) : (iblk m c 2 t : Vec Ideal S2048x1024 .bf16) (ix2 k q) = (args m c).w k q := by
  have e : (iblk m c 2 t : Vec Ideal S2048x1024 .bf16) (ix2 k q) = (V m c main_v5 : Vec Ideal S2048x1024 .bf16) (ix2 k q) := by
    blk_ext [iblk, idxs t]
  exact e.trans ((congrFun (V_w m c) _).trans (cols_apply _ k q))

/-! ## What the grid point leaves -/

section
variable (x : Vec Ideal S256x2048 .f32) (g : Vec Ideal S1x2048 .f32) (n : Vec Ideal S256x2048 .bf16) (w : Vec Ideal S2048x1024 .bf16)

/-- The normed block, entry by entry. -/
theorem pay1_apply (p : Fin 256) (k : Fin 2048) :
    (k0_pay1 x g : FVec Ideal S256x2048 .bf16) (ix2 p k) = Cert.Ffn.rms (fun i => x (ix2 p i)) (fun i => g (ix2 0 i)) k := by
  pointwise [k0_pay1]
  rfl

/-- The products' block, entry by entry. -/
theorem pay2_apply (p : Fin 256) (q : Fin 1024) : (k0_pay2 n w : FVec Ideal S256x1024 .f32) (ix2 p q) = ∑ k : Fin 2048, n (ix2 p k) * w (ix2 k q) := by
  pointwise [k0_pay2]

end

/-- The point's block holds the products. -/
theorem out_eq (t : Fin cfg0.N) (p : Fin 256) (q : Fin 1024) :
    (k0_pay2 (k0_pay1 (iblk m c 0 t) (iblk m c 1 t)) (iblk m c 2 t) : FVec Ideal S256x1024 .f32) (ix2 p q) = (args m c).z p q := by
  refine (pay2_apply _ _ p q).trans ?_
  have e : ∀ k, (k0_pay1 (iblk m c 0 t) (iblk m c 1 t) : FVec Ideal S256x2048 .bf16) (ix2 p k) = Cert.Ffn.rms ((args m c).x p) (args m c).g k := fun k => by
    refine (pay1_apply _ _ p k).trans ?_
    simp only [in0, in1]
  simp only [e, in2]
  rfl

/-- The array ends at the products. -/
theorem final3 : (dats m 0 c).arrAt 3 cfg0.N = fun i : S256x1024.Idx => (args m c).z (i 0) (i 1) := by
  refine (dats m 0 c).arrAt_eq_of_covers 3 _ (by decide +kernel) fun t hf y => ?_
  blk_simp
  rw [after0_3]
  unfold outsAt0
  frame_out
  have hi : win0_3.index t = ![0, 0] := (idxs t).2.2.2
  refine (congrArg _ (eq_ix2 y)).trans ((out_eq m c t (y 0) (y 1)).trans (congrArg₂ (args m c).z (Fin.ext ?_) (Fin.ext ?_)))
  · show (y 0).val = win0_3.index t (0 : Fin 2) * 256 + 1 * (y 0).val
    rw [hi]
    show (y 0).val = 0 * 256 + 1 * (y 0).val
    omega
  · show (y 1).val = win0_3.index t (1 : Fin 2) * 1024 + 1 * (y 1).val
    rw [hi]
    show (y 1).val = 0 * 1024 + 1 * (y 1).val
    omega

end Cert.Kernel5Ideal.Proj

end
-- ==== Proof.MemRef.lean ====
module

public import proofs.«01_k».proof.Proof.ProjSpec
public import proofs.«01_k».proof.Proof.Gen.Reference5Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference5Ideal.Proj

open Cert.Proj Cert.Reference5Ideal Cert.Reference5Ideal.Gen Cert.Reference5Ideal.Value

/-! ## The reference's result as the projection of its arguments -/

/-- The memory's rows. -/
def rows (x : FVec Ideal S1x256x2048 .f32) : FVec Ideal S256x2048 .f32 := shapeCast S256x2048 x shapeCasts_S1x256x2048_S256x2048

/-- The memory's rows, entry by entry. -/
theorem rows_apply (x : FVec Ideal S1x256x2048 .f32) (p : Fin 256) (k : Fin 2048) : rows x (ix2 p k) = x (ix3 0 p k) := by
  pointwise [rows]

/-- The normed rows. -/
def normed (x : FVec Ideal S256x2048 .f32) (g : FVec Ideal S2x2048 .f32) : FVec Ideal S256x2048 .f32 :=
  mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 (broadcastInDim S1x2048 ![1] bcast_S2048_S1x2048_1 (shapeCast S2048 (extractStridedSlice S1x2048 ![1, 0] g slices_S2x2048_S1x2048_1_0) shapeCasts_S1x2048_S2048)))

/-- The normed rows, entry by entry. -/
theorem normed_apply (x : FVec Ideal S256x2048 .f32) (g : FVec Ideal S2x2048 .f32) (r : Fin 256) (k : Fin 2048) :
    normed x g (ix2 r k) = Cert.Ffn.rms (fun i => x (ix2 r i)) (fun i => g (ix2 1 i)) k := by
  pointwise [normed]
  rfl

/-- The layer's columns. -/
def cols (w : FVec Ideal S2x2048x1024 .f32) : FVec Ideal S2048x1024 .f32 :=
  shapeCast S2048x1024 (extractStridedSlice S1x2048x1024 ![1, 0, 0] w slices_S2x2048x1024_S1x2048x1024_1_0_0) shapeCasts_S1x2048x1024_S2048x1024

/-- The layer's columns, entry by entry. -/
theorem cols_apply (w : FVec Ideal S2x2048x1024 .f32) (k : Fin 2048) (q : Fin 1024) : cols w (ix2 k q) = w (ix3 1 k q) := by
  pointwise [cols]

/-- A product, entry by entry. -/
theorem dot_apply (a : FVec Ideal S256x2048 .f32) (w : FVec Ideal S2048x1024 .f32) (r : Fin 256) (j : Fin 1024) :
    (Host.dotGeneral dot_S256x2048_S2048x1024_S256x1024_1_0_0_1_n_n none a w : FVec Ideal S256x1024 .f32) (ix2 r j) = ∑ i : Fin 2048, a (ix2 r i) * w (ix2 i j) := by
  pointwise

/-- Keys and values side by side. -/
def halves (z : FVec Ideal S256x1024 .f32) : FVec Ideal S256x1024 .f32 :=
  concatenate S256x1024 1 [⟨S256x512, extractStridedSlice S256x512 ![0, 0] z slices_S256x1024_S256x512_0_0⟩,
    ⟨S256x512, extractStridedSlice S256x512 ![0, 512] z slices_S256x1024_S256x512_0_512⟩] concatenates_S256x512_S256x512_S256x1024_d1

/-- Keys and values side by side are the products. -/
theorem halves_apply (z : FVec Ideal S256x1024 .f32) (r : Fin 256) (j : Fin 1024) : halves z (ix2 r j) = z (ix2 r j) := by
  pointwise [halves]
  split_ifs
  · rfl
  all_goals exact congrArg (fun q => z (ix2 r q)) (Fin.ext (by show 512 + (j.val - 512) = j.val; omega))

variable (m : (ℓ : Loc nD τ sig) → Buf (Elt Ideal) ℓ) (ρ : Dev nD → PrngReg) (c : Dev nD)

/-- The projection's arguments, as the memory holds them: the second layer's. -/
def args : MemArgs where
  x r k := (m ((c.tc : Thread nD τ).loc main_arg0) : Vec Ideal S1x256x2048 .f32) (ix3 0 r k)
  g k := (m ((c.tc : Thread nD τ).loc main_arg1) : Vec Ideal S2x2048 .f32) (ix2 1 k)
  w k j := (m ((c.tc : Thread nD τ).loc main_arg2) : Vec Ideal S2x2048x1024 .f32) (ix3 1 k j)

/-- The normed rows' products. -/
def prod : FVec Ideal S256x1024 .f32 :=
  Host.dotGeneral (φ₁ := .f32) (φ₂ := .f32) dot_S256x2048_S2048x1024_S256x1024_1_0_0_1_n_n none
    (normed (rows (m ((c.tc : Thread nD τ).loc main_arg0))) (m ((c.tc : Thread nD τ).loc main_arg1))) (cols (m ((c.tc : Thread nD τ).loc main_arg2)))

/-- The products, entry by entry. -/
theorem prod_apply (r : Fin 256) (j : Fin 1024) : prod m c (ix2 r j) = (args m c).z r j := by
  unfold MemArgs.z dot
  refine (dot_apply _ _ r j).trans (Finset.sum_congr rfl fun k _ => ?_)
  refine congrArg₂ (· * ·) ((normed_apply _ _ r k).trans ?_) (cols_apply _ k j)
  simp only [rows_apply]
  rfl

/-- The result is the products. -/
theorem out_eq (i : S256x1024.Idx) : halves (prod m c) i = (args m c).z (i 0) (i 1) :=
  (congrArg _ (eq_ix2 i)).trans ((halves_apply _ (i 0) (i 1)).trans (prod_apply m c (i 0) (i 1)))

/-- The reference runs, leaves the products, and keeps its arguments. -/
theorem run : θ_run defs (onTc (τ := τ) (main (F := Ideal))) ⟨m, fun _ => 0, ρ⟩ fun r => ∀ c : Dev nD,
      r.2.mem ((c.tc : Thread nD τ).loc main_v21) = (fun i : S256x1024.Idx => (args m c).z (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun i => out_eq m c i), (h c).2⟩) (Value.run m ρ)

end Cert.Reference5Ideal.Proj

end
-- ==== Proof.OutKernel.lean ====
module

public import proofs.«01_k».proof.Proof.ProjSpec
public import proofs.«01_k».proof.Proof.Gen.Kernel6Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel6Ideal.Proj

open Cert.Proj Cert.Kernel6Ideal Cert.Kernel6Ideal.Gen Cert.Kernel6Ideal.Value

/-! ## What a grid point takes -/

variable (m : (ℓ : Loc nD τ sig) → Buf (Elt Ideal) ℓ) (c : Dev nD)

/-- The printed index maps, decided over the grid. -/
theorem idxs : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- A point's row among all. -/
def row (t : Fin cfg0.N) (p : Fin 512) : Fin 8704 := ⟨512 * t.val + p.val, by have := lt_of_lt_of_eq t.isLt N_0; omega⟩

/-- The mixer's heads the call takes. -/
theorem V_mix : (V m c main_v0 : Vec Ideal S8704x1536 .bf16) = (truncf .bf16 (m ((c : Thread nD τ).loc main_arg1) : FVec Ideal S8704x1536 .f32) bitsLt_bf16_f32 : FVec Ideal S8704x1536 .bf16) := by
  unfold V
  simp only [List.flatten_cons, List.flatten_nil, List.append_nil, List.cons_append, List.nil_append, hostOps0]
  after_results

/-- The memory's heads the call takes. -/
theorem V_mem : (V m c main_v1 : Vec Ideal S8704x512 .bf16) = (truncf .bf16 (m ((c : Thread nD τ).loc main_arg2) : FVec Ideal S8704x512 .f32) bitsLt_bf16_f32 : FVec Ideal S8704x512 .bf16) := by
  unfold V
  simp only [List.flatten_cons, List.flatten_nil, List.append_nil, List.cons_append, List.nil_append, hostOps0]
  after_results

/-- The layer's columns. -/
def cols (w : FVec Ideal S2x2048x2048 .f32) : FVec Ideal S2048x2048 .f32 :=
  shapeCast S2048x2048 (extractStridedSlice S1x2048x2048 ![1, 0, 0] w slices_S2x2048x2048_S1x2048x2048_1_0_0) shapeCasts_S1x2048x2048_S2048x2048

/-- The layer's columns, entry by entry. -/
theorem cols_apply (w : FVec Ideal S2x2048x2048 .f32) (k d : Fin 2048) : cols w (ix2 k d) = w (ix3 1 k d) := by
  pointwise [cols]

/-- The mixer's columns the call takes. -/
theorem V_w1 : (V m c main_v5 : Vec Ideal S1536x2048 .bf16)
    = truncf .bf16 (extractStridedSlice S1536x2048 ![0, 0] (cols (m ((c : Thread nD τ).loc main_arg3))) slices_S2048x2048_S1536x2048_0_0) bitsLt_bf16_f32 := by
  unfold V
  simp only [List.flatten_cons, List.flatten_nil, List.append_nil, List.cons_append, List.nil_append, hostOps0]
  after_results
  rfl

/-- The memory's columns the call takes. -/
theorem V_w2 : (V m c main_v7 : Vec Ideal S512x2048 .bf16)
    = truncf .bf16 (extractStridedSlice S512x2048 ![1536, 0] (cols (m ((c : Thread nD τ).loc main_arg3))) slices_S2048x2048_S512x2048_1536_0) bitsLt_bf16_f32 := by
  unfold V
  simp only [List.flatten_cons, List.flatten_nil, List.append_nil, List.cons_append, List.nil_append, hostOps0]
  after_results
  rfl

/-- A block of the mixer's columns, entry by entry. -/
theorem w1_apply (w : FVec Ideal S2048x2048 .f32) (k : Fin 1536) (d : Fin 2048) :
    (truncf .bf16 (extractStridedSlice S1536x2048 ![0, 0] w slices_S2048x2048_S1536x2048_0_0) bitsLt_bf16_f32 : FVec Ideal S1536x2048 .bf16) (ix2 k d) = w (ix2 ⟨k.val, by omega⟩ d) := by
  pointwise

/-- A block of the memory's columns, entry by entry. -/
theorem w2_apply (w : FVec Ideal S2048x2048 .f32) (k : Fin 512) (d : Fin 2048) :
    (truncf .bf16 (extractStridedSlice S512x2048 ![1536, 0] w slices_S2048x2048_S512x2048_1536_0) bitsLt_bf16_f32 : FVec Ideal S512x2048 .bf16) (ix2 k d) = w (ix2 ⟨1536 + k.val, by omega⟩ d) := by
  pointwise

/-- The way out's arguments, as the memory holds them: the second layer's. -/
def args : OutArgs where
  x r k := (m ((c : Thread nD τ).loc main_arg0) : Vec Ideal S8704x2048 .f32) (ix2 r k)
  mix r k := (m ((c : Thread nD τ).loc main_arg1) : Vec Ideal S8704x1536 .f32) (ix2 r k)
  mem r k := (m ((c : Thread nD τ).loc main_arg2) : Vec Ideal S8704x512 .f32) (ix2 r k)
  w k d := (m ((c : Thread nD τ).loc main_arg3) : Vec Ideal S2x2048x2048 .f32) (ix3 1 k d)

/-- A point's rows are the argument's. -/
theorem in0 (t : Fin cfg0.N) (p : Fin 512) (k : Fin 2048) : (iblk m c 0 t : Vec Ideal S512x2048 .f32) (ix2 p k) = (args m c).x (row t p) k := by
  unfold args row
  blk_ext [iblk, V, idxs t, V_main_arg0]

/-- A point's heads of the mixer. -/
theorem in1 (t : Fin cfg0.N) (p : Fin 512) (k : Fin 1536) : (iblk m c 1 t : Vec Ideal S512x1536 .bf16) (ix2 p k) = (args m c).mix (row t p) k := by
  have e : (iblk m c 1 t : Vec Ideal S512x1536 .bf16) (ix2 p k) = (V m c main_v0 : Vec Ideal S8704x1536 .bf16) (ix2 (row t p) k) := by
    unfold row
    blk_ext [iblk, idxs t]
  exact e.trans (congrFun (V_mix m c) _)

/-- A point's heads of the memory. -/
theorem in2 (t : Fin cfg0.N) (p : Fin 512) (k : Fin 512) : (iblk m c 2 t : Vec Ideal S512x512 .bf16) (ix2 p k) = (args m c).mem (row t p) k := by
  have e : (iblk m c 2 t : Vec Ideal S512x512 .bf16) (ix2 p k) = (V m c main_v1 : Vec Ideal S8704x512 .bf16) (ix2 (row t p) k) := by
    unfold row
    blk_ext [iblk, idxs t]
  exact e.trans (congrFun (V_mem m c) _)

/-- A point's columns for the mixer. -/
theorem in3 (t : Fin cfg0.N) (k : Fin 1536) (d : Fin 2048) : (iblk m c 3 t : Vec Ideal S1536x2048 .bf16) (ix2 k d) = (args m c).w ⟨k.val, by omega⟩ d := by
  have e : (iblk m c 3 t : Vec Ideal S1536x2048 .bf16) (ix2 k d) = (V m c main_v5 : Vec Ideal S1536x2048 .bf16) (ix2 k d) := by
    blk_ext [iblk, idxs t]
  exact e.trans ((congrFun (V_w1 m c) _).trans ((w1_apply _ k d).trans (cols_apply _ _ d)))

/-- A point's columns for the memory. -/
theorem in4 (t : Fin cfg0.N) (k : Fin 512) (d : Fin 2048) : (iblk m c 4 t : Vec Ideal S512x2048 .bf16) (ix2 k d) = (args m c).w ⟨1536 + k.val, by omega⟩ d := by
  have e : (iblk m c 4 t : Vec Ideal S512x2048 .bf16) (ix2 k d) = (V m c main_v7 : Vec Ideal S512x2048 .bf16) (ix2 k d) := by
    blk_ext [iblk, idxs t]
  exact e.trans ((congrFun (V_w2 m c) _).trans ((w2_apply _ k d).trans (cols_apply _ _ d)))

/-! ## What the grid points leave -/

/-- A point's block, entry by entry. -/
theorem pay1_apply (x : Vec Ideal S512x2048 .f32) (a : Vec Ideal S512x1536 .bf16) (u : Vec Ideal S1536x2048 .bf16) (b : Vec Ideal S512x512 .bf16) (v : Vec Ideal S512x2048 .bf16)
    (p : Fin 512) (d : Fin 2048) : (k0_pay1 x a u b v : FVec Ideal S512x2048 .f32) (ix2 p d)
      = x (ix2 p d) + ∑ k : Fin 1536, a (ix2 p k) * u (ix2 k d) + ∑ k : Fin 512, b (ix2 p k) * v (ix2 k d) := by
  pointwise [k0_pay1]

/-- A point's block holds its rows with the heads' products added. -/
theorem out_eq (t : Fin cfg0.N) (p : Fin 512) (d : Fin 2048) :
    (k0_pay1 (iblk m c 0 t) (iblk m c 1 t) (iblk m c 3 t) (iblk m c 2 t) (iblk m c 4 t) : FVec Ideal S512x2048 .f32) (ix2 p d) = (args m c).o (row t p) d := by
  refine (pay1_apply _ _ _ _ _ p d).trans ?_
  simp only [in0, in1, in2, in3, in4]
  rfl

/-- The array ends at the rows with the heads' products added. -/
theorem final5 : (dats m 0 c).arrAt 5 cfg0.N = fun i : S8704x2048.Idx => (args m c).o (i 0) (i 1) := by
  refine (dats m 0 c).arrAt_eq_of_covers 5 _ (by decide +kernel) fun t hf y => ?_
  blk_simp
  rw [after0_5]
  frame_out
  have hi : win0_5.index t = ![t.val, 0] := (idxs t).2.2.2.2.2
  refine (congrArg _ (eq_ix2 y)).trans ((out_eq m c t (y 0) (y 1)).trans (congrArg₂ (args m c).o (Fin.ext ?_) (Fin.ext ?_)))
  · show 512 * t.val + (y 0).val = win0_5.index t (0 : Fin 2) * 512 + 1 * (y 0).val
    rw [hi]
    show 512 * t.val + (y 0).val = t.val * 512 + 1 * (y 0).val
    omega
  · show (y 1).val = win0_5.index t (1 : Fin 2) * 2048 + 1 * (y 1).val
    rw [hi]
    show (y 1).val = 0 * 2048 + 1 * (y 1).val
    omega

end Cert.Kernel6Ideal.Proj

end
-- ==== Proof.OutRef.lean ====
module

public import proofs.«01_k».proof.Proof.ProjSpec
public import proofs.«01_k».proof.Proof.Gen.Reference6Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference6Ideal.Proj

open Cert.Proj Cert.Reference6Ideal Cert.Reference6Ideal.Gen Cert.Reference6Ideal.Value

/-! ## The reference's result as the way out of its arguments -/

/-- The heads side by side. -/
def heads (a : FVec Ideal S8704x1536 .f32) (b : FVec Ideal S8704x512 .f32) : FVec Ideal S8704x2048 .f32 :=
  concatenate S8704x2048 1 [⟨S8704x1536, a⟩, ⟨S8704x512, b⟩] concatenates_S8704x1536_S8704x512_S8704x2048_d1

/-- The heads side by side, entry by entry. -/
theorem heads_apply (a : FVec Ideal S8704x1536 .f32) (b : FVec Ideal S8704x512 .f32) (r : Fin 8704) (k : Fin 2048) :
    heads a b (ix2 r k) = if h : k.val < 1536 then a (ix2 r ⟨k.val, h⟩) else b (ix2 r ⟨k.val - 1536, by omega⟩) := by
  pointwise [heads]

/-- The layer's columns. -/
def cols (w : FVec Ideal S2x2048x2048 .f32) : FVec Ideal S2048x2048 .f32 :=
  shapeCast S2048x2048 (extractStridedSlice S1x2048x2048 ![1, 0, 0] w slices_S2x2048x2048_S1x2048x2048_1_0_0) shapeCasts_S1x2048x2048_S2048x2048

/-- The layer's columns, entry by entry. -/
theorem cols_apply (w : FVec Ideal S2x2048x2048 .f32) (k d : Fin 2048) : cols w (ix2 k d) = w (ix3 1 k d) := by
  pointwise [cols]

/-- The rows with a product added, entry by entry. -/
theorem sum_apply (x h : FVec Ideal S8704x2048 .f32) (w : FVec Ideal S2048x2048 .f32) (r : Fin 8704) (d : Fin 2048) :
    (addf x (Host.dotGeneral dot_S8704x2048_S2048x2048_S8704x2048_1_0_0_1_n_n none h w) : FVec Ideal S8704x2048 .f32) (ix2 r d)
      = x (ix2 r d) + ∑ k : Fin 2048, h (ix2 r k) * w (ix2 k d) := by
  pointwise

variable (m : (ℓ : Loc nD τ sig) → Buf (Elt Ideal) ℓ) (ρ : Dev nD → PrngReg) (c : Dev nD)

/-- The way out's arguments, as the memory holds them: the second layer's. -/
def args : OutArgs where
  x r k := (m ((c.tc : Thread nD τ).loc main_arg0) : Vec Ideal S8704x2048 .f32) (ix2 r k)
  mix r k := (m ((c.tc : Thread nD τ).loc main_arg1) : Vec Ideal S8704x1536 .f32) (ix2 r k)
  mem r k := (m ((c.tc : Thread nD τ).loc main_arg2) : Vec Ideal S8704x512 .f32) (ix2 r k)
  w k d := (m ((c.tc : Thread nD τ).loc main_arg3) : Vec Ideal S2x2048x2048 .f32) (ix3 1 k d)

/-- The heads are the arguments' heads. -/
theorem heads_eq (r : Fin 8704) (k : Fin 2048) :
    heads (m ((c.tc : Thread nD τ).loc main_arg1)) (m ((c.tc : Thread nD τ).loc main_arg2)) (ix2 r k) = (args m c).h r k :=
  heads_apply _ _ r k

/-- The result is the rows with the heads' products added. -/
theorem out_eq (i : S8704x2048.Idx) :
    (addf (m ((c.tc : Thread nD τ).loc main_arg0)) (Host.dotGeneral (φ₁ := .f32) (φ₂ := .f32) dot_S8704x2048_S2048x2048_S8704x2048_1_0_0_1_n_n none
      (heads (m ((c.tc : Thread nD τ).loc main_arg1)) (m ((c.tc : Thread nD τ).loc main_arg2))) (cols (m ((c.tc : Thread nD τ).loc main_arg3)))) : FVec Ideal S8704x2048 .f32) i
      = (args m c).o (i 0) (i 1) := by
  refine (congrArg _ (eq_ix2 i)).trans ((sum_apply _ _ _ (i 0) (i 1)).trans (Eq.trans ?_ ((args m c).o_eq (i 0) (i 1))))
  refine congrArg _ (Finset.sum_congr rfl fun k _ => ?_)
  exact congrArg₂ (· * ·) (heads_eq m c (i 0) k) (cols_apply _ k (i 1))

/-- The reference runs, leaves the rows with the heads' products added, and keeps its arguments. -/
theorem run : θ_run defs (onTc (τ := τ) (main (F := Ideal))) ⟨m, fun _ => 0, ρ⟩ fun r => ∀ c : Dev nD,
      r.2.mem ((c.tc : Thread nD τ).loc main_v4) = (fun i : S8704x2048.Idx => (args m c).o (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (funext fun i => out_eq m c i), (h c).2⟩) (Value.run m ρ)

end Cert.Reference6Ideal.Proj

end
-- ==== Proof.CastKernel.lean ====
module

public import proofs.«01_k».proof.Proof.ProjSpec
public import proofs.«01_k».proof.Proof.Gen.Kernel7Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel7Ideal.Cast

open Cert.Proj Cert.Kernel7Ideal Cert.Kernel7Ideal.Gen Cert.Kernel7Ideal.Value

/-! ## What a grid point takes and leaves -/

variable (m : (ℓ : Loc nD τ sig) → Buf (Elt Ideal) ℓ) (c : Dev nD)

/-- The printed index maps, decided over the grid. -/
theorem idxs : ∀ t : Fin cfg0.N, win0_0.index t = ![t.val / 44, 0, min (t.val % 44) 42] ∧ win0_1.index t = ![t.val / 44, 0, 43 + min (t.val % 44) 42]
    ∧ win0_2.index t = ![t.val / 44, 0, t.val % 44] ∧ win0_3.index t = ![t.val / 44, 0, t.val % 44] :=
  (by decide +kernel : ∀ t : Fin grid0.N, _)

/-- A point's test of its block of columns, decided over the grid. -/
theorem flag : ∀ t : Fin cfg0.N, Scalar.cmpi .slt (BitVec.ofNat 32 ((grid0.coords t) 1).val) 43#32 = if t.val % 44 < 43 then 1#1 else 0#1 :=
  (by decide +kernel : ∀ t : Fin grid0.N, _)

/-- A point that passes the test keeps its block. -/
theorem pay1_in (t : Fin cfg0.N) (v : Vec Ideal S1x2048x128 .f32) (h : t.val % 44 < 43) (k : Fin 2048) (q : Fin 128) :
    (k0_pay1 (grid0.coords t) v : FVec Ideal S1x2048x128 .bf16) (ix3 0 k q) = v (ix3 0 k q) := by
  have e : Scalar.cmpi .slt (BitVec.ofNat 32 ((grid0.coords t) 1).val) 43#32 = 1#1 := (flag t).trans (if_pos h)
  simp only [k0_pay1, e]
  pointwise

/-- A point that fails the test leaves zeros. -/
theorem pay1_out (t : Fin cfg0.N) (v : Vec Ideal S1x2048x128 .f32) (h : ¬t.val % 44 < 43) (k : Fin 2048) (q : Fin 128) :
    (k0_pay1 (grid0.coords t) v : FVec Ideal S1x2048x128 .bf16) (ix3 0 k q) = (0 : EReal) := by
  have e : Scalar.cmpi .slt (BitVec.ofNat 32 ((grid0.coords t) 1).val) 43#32 = 0#1 := (flag t).trans (if_neg h)
  simp only [k0_pay1, e]
  pointwise

/-- The other window's block is made the same way. -/
theorem pay2_eq (t : Fin cfg0.N) (v : Vec Ideal S1x2048x128 .f32) : (k0_pay2 (grid0.coords t) v : FVec Ideal S1x2048x128 .bf16) = k0_pay1 (grid0.coords t) v := rfl

/-- The weights, as the memory holds them. -/
def W (l : Fin 2) (k : Fin 2048) (f : Fin 11008) : EReal := (m ((c : Thread nD τ).loc main_arg0) : Vec Ideal S2x2048x11008 .f32) (ix3 l k f)

/-- A point's layer. -/
def lay (t : Fin cfg0.N) : Fin 2 := ⟨t.val / 44, by have := lt_of_lt_of_eq t.isLt N_0; omega⟩

/-- A point's gate columns are the weights'. -/
theorem in0 (t : Fin cfg0.N) (h : t.val % 44 < 43) (k : Fin 2048) (q : Fin 128) :
    (iblk m c 0 t : Vec Ideal S1x2048x128 .f32) (ix3 0 k q) = W m c (lay t) k ⟨128 * (t.val % 44) + q.val, by omega⟩ := by
  have hm : min (t.val % 44) 42 = t.val % 44 := by omega
  unfold W lay
  blk_ext [iblk, V, idxs t, V_main_arg0, hm]

/-- A point's other columns are the weights'. -/
theorem in1 (t : Fin cfg0.N) (h : t.val % 44 < 43) (k : Fin 2048) (q : Fin 128) :
    (iblk m c 1 t : Vec Ideal S1x2048x128 .f32) (ix3 0 k q) = W m c (lay t) k ⟨5504 + (128 * (t.val % 44) + q.val), by omega⟩ := by
  have hm : min (t.val % 44) 42 = t.val % 44 := by omega
  unfold W lay
  blk_ext [iblk, V, idxs t, V_main_arg0, hm]

/-- A point's block of gate columns, zeros past the last. -/
theorem out2_eq (t : Fin cfg0.N) (k : Fin 2048) (q : Fin 128) :
    (k0_pay1 (grid0.coords t) (iblk m c 0 t) : FVec Ideal S1x2048x128 .bf16) (ix3 0 k q)
      = padTo (fun f : Fin 5504 => W m c (lay t) k ⟨f.val, by omega⟩) (128 * (t.val % 44) + q.val) := by
  unfold padTo
  by_cases h : t.val % 44 < 43
  · rw [dif_pos (by omega)]
    exact (pay1_in t _ h k q).trans (in0 m c t h k q)
  · rw [dif_neg (by omega)]
    exact pay1_out t _ h k q

/-- A point's block of other columns, zeros past the last. -/
theorem out3_eq (t : Fin cfg0.N) (k : Fin 2048) (q : Fin 128) :
    (k0_pay2 (grid0.coords t) (iblk m c 1 t) : FVec Ideal S1x2048x128 .bf16) (ix3 0 k q)
      = padTo (fun f : Fin 5504 => W m c (lay t) k ⟨5504 + f.val, by omega⟩) (128 * (t.val % 44) + q.val) := by
  rw [pay2_eq]
  unfold padTo
  by_cases h : t.val % 44 < 43
  · rw [dif_pos (by omega)]
    exact (pay1_in t _ h k q).trans (in1 m c t h k q)
  · rw [dif_neg (by omega)]
    exact pay1_out t _ h k q

/-- A block's first axis has one entry. -/
theorem eq_ix (y : S1x2048x128.Idx) : y = ix3 0 (y 1) (y 2) := by
  refine (eq_ix3 y).trans (congrArg (fun a : Fin 1 => ix3 a (y 1) (y 2)) (Fin.ext ?_))
  have := (y 0).isLt
  show (y 0).val = 0
  exact Nat.lt_one_iff.mp this

/-- The first array ends at the gate's columns, zeros past the last. -/
theorem final2 : (dats m 0 c).arrAt 2 cfg0.N = fun i : S2x2048x5632.Idx => padTo (fun f : Fin 5504 => W m c (i 0) (i 1) ⟨f.val, by omega⟩) (i 2).val := by
  refine (dats m 0 c).arrAt_eq_of_covers 2 _ (by decide +kernel) fun t hf y => ?_
  blk_simp
  rw [after0_2]
  frame_out
  have hi : win0_2.index t = ![t.val / 44, 0, t.val % 44] := (idxs t).2.2.1
  have h0 : (y 0).val = 0 := Nat.lt_one_iff.mp (y 0).isLt
  have e0 : ((View.whole main_v0_0).slice (win0_2.rect t)).emb y 0 = lay t := Fin.ext (by
    show win0_2.index t (0 : Fin 3) * 1 + 1 * (y 0).val = t.val / 44
    rw [hi, h0]
    show t.val / 44 * 1 + 1 * 0 = t.val / 44
    omega)
  have e1 : ((View.whole main_v0_0).slice (win0_2.rect t)).emb y 1 = y 1 := Fin.ext (by
    show win0_2.index t (1 : Fin 3) * 2048 + 1 * (y 1).val = (y 1).val
    rw [hi]
    show 0 * 2048 + 1 * (y 1).val = (y 1).val
    omega)
  have e2 : win0_2.index t 2 * 128 + (y 2).val = 128 * (t.val % 44) + (y 2).val := by
    rw [hi]
    show t.val % 44 * 128 + (y 2).val = _
    omega
  rw [e0, e1, e2]
  exact (congrArg _ (eq_ix y)).trans (out2_eq m c t (y 1) (y 2))

/-- The second array ends at the other columns, zeros past the last. -/
theorem final3 : (dats m 0 c).arrAt 3 cfg0.N = fun i : S2x2048x5632.Idx => padTo (fun f : Fin 5504 => W m c (i 0) (i 1) ⟨5504 + f.val, by omega⟩) (i 2).val := by
  refine (dats m 0 c).arrAt_eq_of_covers 3 _ (by decide +kernel) fun t hf y => ?_
  blk_simp
  rw [after0_3]
  frame_out
  have hi : win0_3.index t = ![t.val / 44, 0, t.val % 44] := (idxs t).2.2.2
  have h0 : (y 0).val = 0 := Nat.lt_one_iff.mp (y 0).isLt
  have e0 : ((View.whole main_v0_1).slice (win0_3.rect t)).emb y 0 = lay t := Fin.ext (by
    show win0_3.index t (0 : Fin 3) * 1 + 1 * (y 0).val = t.val / 44
    rw [hi, h0]
    show t.val / 44 * 1 + 1 * 0 = t.val / 44
    omega)
  have e1 : ((View.whole main_v0_1).slice (win0_3.rect t)).emb y 1 = y 1 := Fin.ext (by
    show win0_3.index t (1 : Fin 3) * 2048 + 1 * (y 1).val = (y 1).val
    rw [hi]
    show 0 * 2048 + 1 * (y 1).val = (y 1).val
    omega)
  have e2 : win0_3.index t 2 * 128 + (y 2).val = 128 * (t.val % 44) + (y 2).val := by
    rw [hi]
    show t.val % 44 * 128 + (y 2).val = _
    omega
  rw [e0, e1, e2]
  exact (congrArg _ (eq_ix y)).trans (out3_eq m c t (y 1) (y 2))

end Cert.Kernel7Ideal.Cast

end
-- ==== Proof.CastRef.lean ====
module

public import proofs.«01_k».proof.Proof.ProjSpec
public import proofs.«01_k».proof.Proof.Gen.Reference7Ideal.Run
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.Reference7Ideal.Cast

open Cert.Proj Cert.Reference7Ideal Cert.Reference7Ideal.Gen Cert.Reference7Ideal.Value

/-! ## The reference's results as padded columns of its argument -/

/-- Padded columns. -/
def padded (w : FVec Ideal S2x2048x5504 .f32) : FVec Ideal S2x2048x5632 .bf16 :=
  truncf .bf16 (pad S2x2048x5632 ![0, 0, 0] ![0, 0, 128] ![0, 0, 0] w (sitofp (F := Ideal) .f32 (constantI S_ 32 0#32)) pads_S2x2048x5504_S2x2048x5632_000_000_01280 h_S_) bitsLt_bf16_f32

/-- Padded columns, entry by entry: zeros past the last. -/
theorem padded_apply (w : FVec Ideal S2x2048x5504 .f32) (l : Fin 2) (k : Fin 2048) (f : Fin 5632) :
    padded w (ix3 l k f) = padTo (fun j : Fin 5504 => w (ix3 l k j)) f.val := by
  show pad S2x2048x5632 ![0, 0, 0] ![0, 0, 128] ![0, 0, 0] w (sitofp (F := Ideal) .f32 (constantI S_ 32 0#32)) pads_S2x2048x5504_S2x2048x5632_000_000_01280 h_S_ (ix3 l k f) = _
  unfold padTo
  by_cases h : f.val < 5504
  · rw [dif_pos h]
    exact pad_apply_of_inside _ _ _ w _ _ _ _ (ix3 l k ⟨f.val, h⟩) (fun a => by
      match a with
      | ⟨0, _⟩ => exact (by show l.val = 0 + l.val * (0 + 1); omega)
      | ⟨1, _⟩ => exact (by show k.val = 0 + k.val * (0 + 1); omega)
      | ⟨2, _⟩ => exact (by show f.val = 0 + f.val * (0 + 1); omega))
  · rw [dif_neg h]
    refine (pad_apply_of_not_inside _ _ _ w _ _ _ _ (2 : Fin 3) (fun hh => h (by
      have := hh.2.2
      have e : (f.val - 0) / (0 + 1) < 5504 := this
      omega))).trans ?_
    show (((0#32 : BitVec 32).toInt : ℝ) : EReal) = 0
    simp

/-- The gate's columns, entry by entry. -/
theorem gate_apply (w : FVec Ideal S2x2048x11008 .f32) (l : Fin 2) (k : Fin 2048) (f : Fin 5504) :
    (extractStridedSlice S2x2048x5504 ![0, 0, 0] w slices_S2x2048x11008_S2x2048x5504_0_0_0 : FVec Ideal S2x2048x5504 .f32) (ix3 l k f) = w (ix3 l k ⟨f.val, by omega⟩) := by
  pointwise

/-- The other columns, entry by entry. -/
theorem up_apply (w : FVec Ideal S2x2048x11008 .f32) (l : Fin 2) (k : Fin 2048) (f : Fin 5504) :
    (extractStridedSlice S2x2048x5504 ![0, 0, 5504] w slices_S2x2048x11008_S2x2048x5504_0_0_5504 : FVec Ideal S2x2048x5504 .f32) (ix3 l k f) = w (ix3 l k ⟨5504 + f.val, by omega⟩) := by
  pointwise

variable (m : (ℓ : Loc nD τ sig) → Buf (Elt Ideal) ℓ) (ρ : Dev nD → PrngReg) (c : Dev nD)

/-- The weights, as the memory holds them. -/
def W (l : Fin 2) (k : Fin 2048) (f : Fin 11008) : EReal := (m ((c.tc : Thread nD τ).loc main_arg0) : Vec Ideal S2x2048x11008 .f32) (ix3 l k f)

/-- The first result is the gate's columns, zeros past the last. -/
theorem out0_eq (i : S2x2048x5632.Idx) :
    padded (extractStridedSlice S2x2048x5504 ![0, 0, 0] (m ((c.tc : Thread nD τ).loc main_arg0) : FVec Ideal S2x2048x11008 .f32) slices_S2x2048x11008_S2x2048x5504_0_0_0) i
      = padTo (fun f : Fin 5504 => W m c (i 0) (i 1) ⟨f.val, by omega⟩) (i 2).val :=
  (congrArg _ (eq_ix3 i)).trans ((padded_apply _ (i 0) (i 1) (i 2)).trans
    (congrArg (fun g => padTo g (i 2).val) (funext fun f => gate_apply _ (i 0) (i 1) f)))

/-- The second result is the other columns, zeros past the last. -/
theorem out1_eq (i : S2x2048x5632.Idx) :
    padded (extractStridedSlice S2x2048x5504 ![0, 0, 5504] (m ((c.tc : Thread nD τ).loc main_arg0) : FVec Ideal S2x2048x11008 .f32) slices_S2x2048x11008_S2x2048x5504_0_0_5504) i
      = padTo (fun f : Fin 5504 => W m c (i 0) (i 1) ⟨5504 + f.val, by omega⟩) (i 2).val :=
  (congrArg _ (eq_ix3 i)).trans ((padded_apply _ (i 0) (i 1) (i 2)).trans
    (congrArg (fun g => padTo g (i 2).val) (funext fun f => up_apply _ (i 0) (i 1) f)))

/-- The reference runs, leaves both padded halves, and keeps its argument. -/
theorem run : θ_run defs (onTc (τ := τ) (main (F := Ideal))) ⟨m, fun _ => 0, ρ⟩ fun r => ∀ c : Dev nD,
      r.2.mem ((c.tc : Thread nD τ).loc main_v3) = (fun i : S2x2048x5632.Idx => padTo (fun f : Fin 5504 => W m c (i 0) (i 1) ⟨f.val, by omega⟩) (i 2).val)
      ∧ r.2.mem ((c.tc : Thread nD τ).loc main_v5) = (fun i : S2x2048x5632.Idx => padTo (fun f : Fin 5504 => W m c (i 0) (i 1) ⟨5504 + f.val, by omega⟩) (i 2).val)
      ∧ r.2.mem ((c.tc : Thread nD τ).loc main_arg0) = m ((c.tc : Thread nD τ).loc main_arg0) :=
  (θ_run defs _ _).mono (fun r h c => ⟨(h c).1.trans (funext fun i => out0_eq m c i), (h c).2.1.trans (funext fun i => out1_eq m c i), (h c).2.2⟩) (Value.run m ρ)

end Cert.Reference7Ideal.Cast

end
-- ==== Proof.CastDownKernel.lean ====
module

public import proofs.«01_k».proof.Proof.ProjSpec
public import proofs.«01_k».proof.Proof.Gen.Kernel8Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel8Ideal.Cast

open Cert.Proj Cert.Kernel8Ideal Cert.Kernel8Ideal.Gen Cert.Kernel8Ideal.Value

/-! ## What a grid point takes and leaves -/

variable (m : (ℓ : Loc nD τ sig) → Buf (Elt Ideal) ℓ) (c : Dev nD)

/-- The printed index maps, decided over the grid. -/
theorem idxs : ∀ t : Fin cfg0.N, win0_0.index t = ![t.val / 44, min (t.val % 44) 42, 0] ∧ win0_1.index t = ![t.val / 44, t.val % 44, 0] :=
  (by decide +kernel : ∀ t : Fin grid0.N, _)

/-- A point's test of its block of rows, decided over the grid. -/
theorem flag : ∀ t : Fin cfg0.N, Scalar.cmpi .slt (BitVec.ofNat 32 ((grid0.coords t) 1).val) 43#32 = if t.val % 44 < 43 then 1#1 else 0#1 :=
  (by decide +kernel : ∀ t : Fin grid0.N, _)

/-- A point that passes the test keeps its block. -/
theorem pay1_in (t : Fin cfg0.N) (v : Vec Ideal S1x128x2048 .f32) (h : t.val % 44 < 43) (q : Fin 128) (d : Fin 2048) :
    (k0_pay1 (grid0.coords t) v : FVec Ideal S1x128x2048 .bf16) (ix3 0 q d) = v (ix3 0 q d) := by
  have e : Scalar.cmpi .slt (BitVec.ofNat 32 ((grid0.coords t) 1).val) 43#32 = 1#1 := (flag t).trans (if_pos h)
  simp only [k0_pay1, e]
  pointwise

/-- A point that fails the test leaves zeros. -/
theorem pay1_out (t : Fin cfg0.N) (v : Vec Ideal S1x128x2048 .f32) (h : ¬t.val % 44 < 43) (q : Fin 128) (d : Fin 2048) :
    (k0_pay1 (grid0.coords t) v : FVec Ideal S1x128x2048 .bf16) (ix3 0 q d) = (0 : EReal) := by
  have e : Scalar.cmpi .slt (BitVec.ofNat 32 ((grid0.coords t) 1).val) 43#32 = 0#1 := (flag t).trans (if_neg h)
  simp only [k0_pay1, e]
  pointwise

/-- The weights, as the memory holds them. -/
def W (l : Fin 2) (f : Fin 5504) (d : Fin 2048) : EReal := (m ((c : Thread nD τ).loc main_arg0) : Vec Ideal S2x5504x2048 .f32) (ix3 l f d)

/-- A point's layer. -/
def lay (t : Fin cfg0.N) : Fin 2 := ⟨t.val / 44, by have := lt_of_lt_of_eq t.isLt N_0; omega⟩

/-- A point's rows are the weights'. -/
theorem in0 (t : Fin cfg0.N) (h : t.val % 44 < 43) (q : Fin 128) (d : Fin 2048) :
    (iblk m c 0 t : Vec Ideal S1x128x2048 .f32) (ix3 0 q d) = W m c (lay t) ⟨128 * (t.val % 44) + q.val, by omega⟩ d := by
  have hm : min (t.val % 44) 42 = t.val % 44 := by omega
  unfold W lay
  blk_ext [iblk, V, idxs t, V_main_arg0, hm]

/-- A point's block of rows, zeros past the last. -/
theorem out_eq (t : Fin cfg0.N) (q : Fin 128) (d : Fin 2048) :
    (k0_pay1 (grid0.coords t) (iblk m c 0 t) : FVec Ideal S1x128x2048 .bf16) (ix3 0 q d)
      = padTo (fun f : Fin 5504 => W m c (lay t) f d) (128 * (t.val % 44) + q.val) := by
  unfold padTo
  by_cases h : t.val % 44 < 43
  · rw [dif_pos (by omega)]
    exact (pay1_in t _ h q d).trans (in0 m c t h q d)
  · rw [dif_neg (by omega)]
    exact pay1_out t _ h q d

/-- A block's first axis has one entry. -/
theorem eq_ix (y : S1x128x2048.Idx) : y = ix3 0 (y 1) (y 2) := by
  refine (eq_ix3 y).trans (congrArg (fun a : Fin 1 => ix3 a (y 1) (y 2)) (Fin.ext ?_))
  exact Nat.lt_one_iff.mp (y 0).isLt

/-- The array ends at the rows, zeros past the last. -/
theorem final1 : (dats m 0 c).arrAt 1 cfg0.N = fun i : S2x5632x2048.Idx => padTo (fun f : Fin 5504 => W m c (i 0) f (i 2)) (i 1).val := by
  refine (dats m 0 c).arrAt_eq_of_covers 1 _ (by decide +kernel) fun t hf y => ?_
  blk_simp
  rw [after0_1]
  frame_out
  have hi : win0_1.index t = ![t.val / 44, t.val % 44, 0] := (idxs t).2
  have h0 : (y 0).val = 0 := Nat.lt_one_iff.mp (y 0).isLt
  have e0 : ((View.whole main_v0).slice (win0_1.rect t)).emb y 0 = lay t := Fin.ext (by
    show win0_1.index t (0 : Fin 3) * 1 + 1 * (y 0).val = t.val / 44
    rw [hi, h0]
    show t.val / 44 * 1 + 1 * 0 = t.val / 44
    omega)
  have e2 : ((View.whole main_v0).slice (win0_1.rect t)).emb y 2 = y 2 := Fin.ext (by
    show win0_1.index t (2 : Fin 3) * 2048 + 1 * (y 2).val = (y 2).val
    rw [hi]
    show 0 * 2048 + 1 * (y 2).val = (y 2).val
    omega)
  have e1 : win0_1.index t 1 * 128 + (y 1).val = 128 * (t.val % 44) + (y 1).val := by
    rw [hi]
    show t.val % 44 * 128 + (y 1).val = _
    omega
  rw [e0, e1, e2]
  exact (congrArg _ (eq_ix y)).trans (out_eq m c t (y 1) (y 2))

end Cert.Kernel8Ideal.Cast

end
-- ==== Proof.CastDownRef.lean ====
module

public import proofs.«01_k».proof.Proof.ProjSpec
public import proofs.«01_k».proof.Proof.Gen.Reference8Ideal.Run
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.Reference8Ideal.Cast

open Cert.Proj Cert.Reference8Ideal Cert.Reference8Ideal.Gen Cert.Reference8Ideal.Value

/-! ## The reference's result as padded rows of its argument -/

/-- Padded rows. -/
def padded (w : FVec Ideal S2x5504x2048 .f32) : FVec Ideal S2x5632x2048 .bf16 :=
  truncf .bf16 (pad S2x5632x2048 ![0, 0, 0] ![0, 128, 0] ![0, 0, 0] w (sitofp (F := Ideal) .f32 (constantI S_ 32 0#32)) pads_S2x5504x2048_S2x5632x2048_000_01280_000 h_S_) bitsLt_bf16_f32

/-- Padded rows, entry by entry: zeros past the last. -/
theorem padded_apply (w : FVec Ideal S2x5504x2048 .f32) (l : Fin 2) (f : Fin 5632) (d : Fin 2048) :
    padded w (ix3 l f d) = padTo (fun j : Fin 5504 => w (ix3 l j d)) f.val := by
  show pad S2x5632x2048 ![0, 0, 0] ![0, 128, 0] ![0, 0, 0] w (sitofp (F := Ideal) .f32 (constantI S_ 32 0#32)) pads_S2x5504x2048_S2x5632x2048_000_01280_000 h_S_ (ix3 l f d) = _
  unfold padTo
  by_cases h : f.val < 5504
  · rw [dif_pos h]
    exact pad_apply_of_inside _ _ _ w _ _ _ _ (ix3 l ⟨f.val, h⟩ d) (fun a => by
      match a with
      | ⟨0, _⟩ => exact (by show l.val = 0 + l.val * (0 + 1); omega)
      | ⟨1, _⟩ => exact (by show f.val = 0 + f.val * (0 + 1); omega)
      | ⟨2, _⟩ => exact (by show d.val = 0 + d.val * (0 + 1); omega))
  · rw [dif_neg h]
    refine (pad_apply_of_not_inside _ _ _ w _ _ _ _ (1 : Fin 3) (fun hh => h (by
      have := hh.2.2
      have e : (f.val - 0) / (0 + 1) < 5504 := this
      omega))).trans ?_
    show (((0#32 : BitVec 32).toInt : ℝ) : EReal) = 0
    simp

variable (m : (ℓ : Loc nD τ sig) → Buf (Elt Ideal) ℓ) (ρ : Dev nD → PrngReg) (c : Dev nD)

/-- The weights, as the memory holds them. -/
def W (l : Fin 2) (f : Fin 5504) (d : Fin 2048) : EReal := (m ((c.tc : Thread nD τ).loc main_arg0) : Vec Ideal S2x5504x2048 .f32) (ix3 l f d)

/-- The result is the rows, zeros past the last. -/
theorem out_eq (i : S2x5632x2048.Idx) : padded (m ((c.tc : Thread nD τ).loc main_arg0)) i = padTo (fun f : Fin 5504 => W m c (i 0) f (i 2)) (i 1).val :=
  (congrArg _ (eq_ix3 i)).trans (padded_apply _ (i 0) (i 1) (i 2))

/-- The reference runs, leaves the padded rows, and keeps its argument. -/
theorem run : θ_run defs (onTc (τ := τ) (main (F := Ideal))) ⟨m, fun _ => 0, ρ⟩ fun r => ∀ c : Dev nD,
      r.2.mem ((c.tc : Thread nD τ).loc main_v1) = (fun i : S2x5632x2048.Idx => padTo (fun f : Fin 5504 => W m c (i 0) f (i 2)) (i 1).val)
      ∧ r.2.mem ((c.tc : Thread nD τ).loc main_arg0) = m ((c.tc : Thread nD τ).loc main_arg0) :=
  (θ_run defs _ _).mono (fun r h c => ⟨(h c).1.trans (funext fun i => out_eq m c i), (h c).2⟩) (Value.run m ρ)

end Cert.Reference8Ideal.Cast

end
-- ==== Proof.SampleSpec.lean ====
module

public import proofs.«01_k».proof.Proof.Spec

@[expose] public section

noncomputable section

open Idealize.ShloMosaic Idealize.ShloMosaic.TcCoe Idealize.SL.Sem

namespace Cert.Samp

open Cert.Scan

/-! ## The samples' scan, as a function of its arguments -/

/-- What the samples' scan takes: each sequence's channels with the two projections, the raw steps, the bias, the logarithm of the rate, the skip and the state. -/
structure Args where
  /-- channels, then keys, then readouts -/
  X : Fin 128 → Fin 4 → Fin 2560 → EReal
  /-- raw steps -/
  D : Fin 512 → Fin 24 → EReal
  /-- bias of the steps -/
  b : Fin 24 → EReal
  /-- logarithm of the rate -/
  a : Fin 24 → EReal
  /-- skip -/
  k : Fin 24 → EReal
  /-- state -/
  H : Fin 128 → Fin 24 → Fin 64 → Fin 128 → EReal

/-- The row of a token of a sequence. -/
def tok (b : Fin 128) (l : Fin 4) : Fin 512 := ⟨4 * b.val + l.val, by omega⟩
/-- The channel of a head's place. -/
def chan (h : Fin 24) (p : Fin 64) : Fin 1536 := ⟨64 * h.val + p.val, by omega⟩
/-- The group of a head. -/
def gr (h : Fin 24) : Fin 4 := ⟨h.val / 6, by omega⟩

variable (A : Args)

/-- The channels of a token. -/
def Args.xs (b : Fin 128) (l : Fin 4) (h : Fin 24) (p : Fin 64) : EReal := A.X b l ⟨64 * h.val + p.val, by omega⟩
/-- The keys of a token. -/
def Args.B (b : Fin 128) (l : Fin 4) (g : Fin 4) (n : Fin 128) : EReal := A.X b l ⟨1536 + (128 * g.val + n.val), by omega⟩
/-- The readouts of a token. -/
def Args.C (b : Fin 128) (l : Fin 4) (g : Fin 4) (n : Fin 128) : EReal := A.X b l ⟨2048 + (128 * g.val + n.val), by omega⟩
/-- The step of a token. -/
def Args.dt (b : Fin 128) (l : Fin 4) (h : Fin 24) : EReal := sp (A.D (tok b l) h + A.b h)
/-- The sum of the steps times the rate up to a token. -/
def Args.ac (b : Fin 128) (l : Fin 4) (h : Fin 24) : EReal := ∑ s : Fin 4, if s.val ≤ l.val then A.dt b s h * -Ideal.exp (A.a h) else 0
/-- The decay between two tokens: nothing towards a later one. -/
def Args.L (b : Fin 128) (l s : Fin 4) (h : Fin 24) : EReal := if s.val ≤ l.val then Ideal.exp (A.ac b l h - A.ac b s h) else 0
/-- A token's output: what the earlier tokens of its sequence give, what the state gives, and the skip. -/
def Args.y (b : Fin 128) (l : Fin 4) (h : Fin 24) (p : Fin 64) : EReal :=
  (∑ s : Fin 4, A.xs b s h p * A.dt b s h * ((∑ n : Fin 128, A.C b l (gr h) n * A.B b s (gr h) n) * A.L b l s h))
    + (∑ n : Fin 128, A.H b h p n * A.C b l (gr h) n) * Ideal.exp (A.ac b l h) + A.k h * A.xs b l h p
/-- The state a sequence leaves. -/
def Args.hf (b : Fin 128) (h : Fin 24) (p : Fin 64) (n : Fin 128) : EReal :=
  A.H b h p n * Ideal.exp (A.ac b 3 h) + ∑ s : Fin 4, A.xs b s h p * A.dt b s h * Ideal.exp (A.ac b 3 h - A.ac b s h) * A.B b s (gr h) n
/-- The outputs of all sequences, each in eight rows of which the last four hold nothing. -/
def Args.o (r : Fin 1024) (k : Fin 1536) : EReal :=
  if h : r.val % 8 < 4 then A.y ⟨r.val / 8, by omega⟩ ⟨r.val % 8, h⟩ ⟨k.val / 64, by omega⟩ ⟨k.val % 64, by omega⟩ else 0

end Cert.Samp

end
-- ==== Proof.SampleBody.lean ====
module

public import proofs.«01_k».proof.Proof.SampleSpec
public import proofs.«01_k».proof.Proof.Gen.Kernel10Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel10Ideal.Samp

open Cert.Samp Cert.Kernel10Ideal Cert.Kernel10Ideal.Gen Cert.Kernel10Ideal.Value
open Cert.Scan (sp)

/-! ## The body's masks -/

/-- The row of a sequence's place. -/
def row (j : Fin 16) (e : Fin 8) : Fin 128 := ⟨8 * j.val + e.val, by omega⟩

/-- Choosing by a decided comparison. -/
theorem select_lit {α : Type} (p : Prop) [Decidable p] (a b : α) : Scalar.select (if p then 1#1 else 0#1) a b = if p then a else b := by
  by_cases h : p <;> simp [h, Scalar.select]

/-- The mask of a sequence's earlier rows. -/
theorem low_apply (r s : Fin 128) : k0_pay4 (ix2 r s) = if s.val / 8 = r.val / 8 ∧ s.val ≤ r.val then 1#1 else 0#1 := by
  pointwise [k0_pay4, k0_pay3]
  revert r s
  decide +kernel
/-- The mask of a sequence's last row. -/
theorem last_apply (r s : Fin 128) : k0_pay5 (ix2 r s) = if s.val / 8 = r.val / 8 ∧ s.val % 8 = 7 then 1#1 else 0#1 := by
  pointwise [k0_pay5, k0_pay3]
  revert r s
  decide +kernel
/-- The mask of the rows that hold a token. -/
theorem held_apply (r s : Fin 128) : k0_pay6 (ix2 r s) = if r.val % 8 < 4 then 1#1 else 0#1 := by
  pointwise [k0_pay6]
  revert r
  decide +kernel

/-! ## The body's values over its blocks -/

variable (x bm cm d : FVec Ideal S128x128 .f32) (b a k : FVec Ideal S1x128 .f32)

/-- The steps. -/
theorem dt_apply (r q : Fin 128) : k0_pay14 k0_pay6 d (k0_pay13 b) (ix2 r q) = if r.val % 8 < 4 then sp (d (ix2 r q) + b (ix2 0 q)) else 0 := by
  pointwise [k0_pay14, k0_pay13]
  rw [held_apply, select_lit, zero_sub]
  rfl
/-- The running sums, over all rows. -/
def AC : FVec Ideal S128x128 .f32 := k0_pay16 k0_pay4 k0_pay6 (k0_pay10 d) (k0_pay11 a) (k0_pay13 b)
theorem AC_apply (r q : Fin 128) : AC d b a (ix2 r q)
    = ∑ s : Fin 128, if s.val / 8 = r.val / 8 ∧ s.val ≤ r.val then k0_pay14 k0_pay6 d (k0_pay13 b) (ix2 s q) * a (ix2 0 q) else 0 := by
  pointwise [AC, k0_pay16, k0_pay10, k0_pay11]
  simp only [low_apply, select_lit]
/-- The last running sum. -/
theorem last_sum (A : FVec Ideal S128x128 .f32) (r q : Fin 128) : k0_pay22 k0_pay5 A (ix2 r q)
    = ∑ s : Fin 128, if s.val / 8 = r.val / 8 ∧ s.val % 8 = 7 then A (ix2 s q) else 0 := by
  pointwise [k0_pay22]
  simp only [last_apply, select_lit]
/-- The scaled inputs. -/
theorem xdt_apply (r q : Fin 128) : k0_pay15 k0_pay6 x d (k0_pay13 b) (ix2 r q) = x (ix2 r q) * k0_pay14 k0_pay6 d (k0_pay13 b) (ix2 r q) := by
  pointwise [k0_pay15]
/-- The scores. -/
theorem cb_apply (r s : Fin 128) : k0_pay8 bm cm (ix2 r s) = ∑ n : Fin 128, cm (ix2 r n) * bm (ix2 s n) := by
  pointwise [k0_pay8, k0_pay7]
/-- The scaled inputs decayed to the end. -/
theorem xd_apply (E A : FVec Ideal S128x128 .f32) (q s : Fin 128) : k0_pay24 k0_pay5 E A (ix2 q s) = E (ix2 s q) * Ideal.exp (k0_pay22 k0_pay5 A (ix2 s q) - A (ix2 s q)) := by
  pointwise [k0_pay24]
/-- The whole decay. -/
theorem cd_apply (A : FVec Ideal S128x128 .f32) (q s : Fin 128) : k0_pay25 k0_pay5 A (ix2 q s) = Ideal.exp (k0_pay22 k0_pay5 A (ix2 s q)) := by
  pointwise [k0_pay25]

/-- The decay between two rows, from a column and a row of the running sums. -/
def LM (A1 : FVec Ideal S128x1 .f32) (A2 : FVec Ideal S1x128 .f32) : FVec Ideal S128x128 .f32 :=
  select k0_pay4 (exp (select k0_pay4 (subf (broadcastTo S128x128 A1 broadcasts_S128x1_S128x128) (broadcastTo S128x128 A2 broadcasts_S1x128_S128x128))
    (broadcast S128x128 (Scalar.ofBits .f32 0x00000000#32)))) (broadcast S128x128 (Scalar.ofBits .f32 0x00000000#32))
theorem LM_apply (A1 : FVec Ideal S128x1 .f32) (A2 : FVec Ideal S1x128 .f32) (r s : Fin 128) :
    LM A1 A2 (ix2 r s) = if s.val / 8 = r.val / 8 ∧ s.val ≤ r.val then Ideal.exp (A1 (ix2 r 0) - A2 (ix2 0 s)) else 0 := by
  pointwise [LM]
  simp only [low_apply, select_lit]
  by_cases h : s.val / 8 = r.val / 8 ∧ s.val ≤ r.val
  · simp only [if_pos h]
  · simp only [if_neg h]
/-- The first half's decay. -/
def LMa (A : FVec Ideal S128x128 .f32) : FVec Ideal S128x128 .f32 :=
  LM (extractStridedSlice S128x1 ![0, 0] A slices_S128x128_o0_0_S128x1) (extractStridedSlice S1x128 ![0, 0] (transpose S128x128 [1, 0] A transposes_S128x128_p1_0_S128x128) slices_S128x128_o0_0_S1x128)
/-- The second half's decay. -/
def LMb (A : FVec Ideal S128x128 .f32) : FVec Ideal S128x128 .f32 :=
  LM (extractStridedSlice S128x1 ![0, 64] A slices_S128x128_o0_64_S128x1) (extractStridedSlice S1x128 ![64, 0] (transpose S128x128 [1, 0] A transposes_S128x128_p1_0_S128x128) slices_S128x128_o64_0_S1x128)
theorem LMa_apply (A : FVec Ideal S128x128 .f32) (r s : Fin 128) : LMa A (ix2 r s) = if s.val / 8 = r.val / 8 ∧ s.val ≤ r.val then Ideal.exp (A (ix2 r 0) - A (ix2 s 0)) else 0 := by
  unfold LMa
  rw [LM_apply]
  pointwise
theorem LMb_apply (A : FVec Ideal S128x128 .f32) (r s : Fin 128) : LMb A (ix2 r s) = if s.val / 8 = r.val / 8 ∧ s.val ≤ r.val then Ideal.exp (A (ix2 r 64) - A (ix2 s 64)) else 0 := by
  unfold LMb
  rw [LM_apply]
  pointwise
/-- What the earlier rows give. -/
def YD (cb E L : FVec Ideal S128x128 .f32) : FVec Ideal S128x128 .f32 :=
  matmul dot_S128x128_S128x128_S128x128_1_0_0_1_n_n none (truncf .bf16 (mulf cb L) bitsLt_bf16_f32) (truncf .bf16 E bitsLt_bf16_f32) (constant S128x128 .f32 0x00000000#32)
theorem YD_apply (cb E L : FVec Ideal S128x128 .f32) (r q : Fin 128) : YD cb E L (ix2 r q) = ∑ s : Fin 128, (cb (ix2 r s) * L (ix2 r s)) * E (ix2 s q) := by
  pointwise [YD]
/-- The first lane of the half a lane lies in. -/
def lane0 (q : Fin 128) : Fin 128 := if q.val < 64 then 0 else 64
theorem slt_lit : ∀ q : Fin 128, IntOp.cmpi CmpIPredicate.slt (BitVec.ofNat 32 q.val) 64#32 = if q.val < 64 then 1#1 else 0#1 := by
  decide +kernel
/-- The earlier rows' part and the skip. -/
def YS (x cb E A : FVec Ideal S128x128 .f32) (k : FVec Ideal S1x128 .f32) : FVec Ideal S128x128 .f32 :=
  k0_pay21 (k0_pay9 x) (k0_pay12 k) (YD cb E (LMa A)) (YD cb E (LMb A)) (iota .tc S128x128 32 [1] iota_S128x128_d1_w32) 64#32
theorem YS_apply (x cb E A : FVec Ideal S128x128 .f32) (k : FVec Ideal S1x128 .f32) (r q : Fin 128) : YS x cb E A k (ix2 r q)
    = (∑ s : Fin 128, (cb (ix2 r s) * (if s.val / 8 = r.val / 8 ∧ s.val ≤ r.val then Ideal.exp (A (ix2 r (lane0 q)) - A (ix2 s (lane0 q))) else 0)) * E (ix2 s q)) + k (ix2 0 q) * x (ix2 r q) := by
  pointwise [YS, k0_pay21, k0_pay9, k0_pay12]
  simp only [slt_lit, select_lit, YD_apply, LMa_apply, LMb_apply, lane0]
  by_cases h : q.val < 64 <;> simp only [h, if_true, if_false]

/-! ## One sequence's part -/

/-- A sequence's rows of a block. -/
theorem sl_row (j : Fin 16) : S128x128.Slices ![8 * j.val, 0] S8x128 := by
  revert j; decide
/-- A sequence's column of a block. -/
theorem sl_col (j : Fin 16) : S128x128.Slices ![0, 8 * j.val] S128x1 := by
  revert j; decide
/-- A sequence's heads of a block of states. -/
theorem inb_seq (j : Fin 16) : ∀ a, ![j.val, 0, 0, 0] a + S1x2x64x128.size a ≤ S16x2x64x128.size a := by
  revert j; decide
/-- A sequence's state. -/
def stj (h : Vec Ideal S16x2x64x128 .f32) (j : Fin 16) : Vec Ideal S1x2x64x128 .f32 := View.ld h (Rect.unit (s := S16x2x64x128) ![j.val, 0, 0, 0] S1x2x64x128.size (inb_seq j))
theorem stj_apply (h : Vec Ideal S16x2x64x128 .f32) (j : Fin 16) (i : Fin 2) (p : Fin 64) (n : Fin 128) : stj h j (ix4 0 i p n) = h (ix4 j i p n) := by
  refine congrArg h (funext fun a => Fin.ext ?_)
  match a with
  | ⟨0, _⟩ => show j.val + 1 * 0 = j.val; omega
  | ⟨1, _⟩ => show 0 + 1 * i.val = i.val; omega
  | ⟨2, _⟩ => show 0 + 1 * p.val = p.val; omega
  | ⟨3, _⟩ => show 0 + 1 * n.val = n.val; omega

/-- What a sequence's state gives its rows. -/
def YO (j : Fin 16) (E C : FVec Ideal S128x128 .f32) (st : Vec Ideal S1x2x64x128 .f32) : FVec Ideal S8x128 .f32 :=
  mulf (matmul dot_S8x128_S128x128_S8x128_1_1_0_0_n_n none (truncf .bf16 (extractStridedSlice S8x128 ![8 * j.val, 0] C (sl_row j)) bitsLt_bf16_f32) (truncf .bf16 (k0_pay27 st) bitsLt_bf16_f32) (constant S8x128 .f32 0x00000000#32))
    (extractStridedSlice S8x128 ![8 * j.val, 0] E (sl_row j))
theorem YO_apply (j : Fin 16) (E C : FVec Ideal S128x128 .f32) (st : Vec Ideal S1x2x64x128 .f32) (e : Fin 8) (q : Fin 128) :
    YO j E C st (ix2 e q) = (∑ n : Fin 128, C (ix2 (row j e) n) * st (ix4 0 ⟨q.val / 64, by omega⟩ ⟨q.val % 64, by omega⟩ n)) * E (ix2 (row j e) q) := by
  unfold row
  pointwise [YO, k0_pay27]
/-- The state a sequence leaves. -/
def HN (j : Fin 16) (lo hi : BitVec 32) (K : FVec Ideal S128x128 .bf16) (XT CD : FVec Ideal S128x128 .f32) (st : Vec Ideal S1x2x64x128 .f32) : FVec Ideal S1x2x64x128 .f32 :=
  shapeCast S1x2x64x128 (shapeCast S2x64x128 (addf (mulf (k0_pay27 st) (broadcastTo S128x128 (extractStridedSlice S128x1 ![0, 8 * j.val] CD (sl_col j)) broadcasts_S128x1_S128x128))
    (matmul dot_S128x128_S128x128_S128x128_1_0_0_1_n_n none (truncf .bf16 (select (andi (cmpi .sge (iota .tc S128x128 32 [1] iota_S128x128_d1_w32) (broadcast S128x128 lo)) (cmpi .slt (iota .tc S128x128 32 [1] iota_S128x128_d1_w32) (broadcast S128x128 hi)))
      XT (broadcast S128x128 (Scalar.ofBits .f32 0x00000000#32))) bitsLt_bf16_f32) K (constant S128x128 .f32 0x00000000#32))) shapeCasts_S128x128_S2x64x128) shapeCasts_S2x64x128_S1x2x64x128
theorem seq_mask : ∀ (j : Fin 16) (s : Fin 128), IntOp.andi (IntOp.cmpi CmpIPredicate.sge (BitVec.ofNat 32 s.val) (BitVec.ofNat 32 (8 * j.val))) (IntOp.cmpi CmpIPredicate.slt (BitVec.ofNat 32 s.val) (BitVec.ofNat 32 (8 * j.val + 8)))
    = if s.val / 8 = j.val then 1#1 else 0#1 := by
  decide +kernel
theorem HN_apply (j : Fin 16) (K : FVec Ideal S128x128 .bf16) (XT CD : FVec Ideal S128x128 .f32) (st : Vec Ideal S1x2x64x128 .f32) (i : Fin 2) (p : Fin 64) (n : Fin 128) :
    HN j (BitVec.ofNat 32 (8 * j.val)) (BitVec.ofNat 32 (8 * j.val + 8)) K XT CD st (ix4 0 i p n) = st (ix4 0 i p n) * CD (ix2 ⟨i.val * 64 + p.val, by omega⟩ (row j 0))
      + ∑ s : Fin 128, if s.val / 8 = j.val then XT (ix2 ⟨i.val * 64 + p.val, by omega⟩ s) * K (ix2 s n) else 0 := by
  unfold row
  pointwise [HN, k0_pay27]
  simp only [seq_mask, select_lit]

/-- Sixteen sequences' rows, one under another. -/
def CAT (f : Fin 16 → FVec Ideal S8x128 .f32) : FVec Ideal S128x128 .f32 :=
  concatenate S128x128 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩, ⟨S8x128, f 8⟩, ⟨S8x128, f 9⟩, ⟨S8x128, f 10⟩, ⟨S8x128, f 11⟩, ⟨S8x128, f 12⟩, ⟨S8x128, f 13⟩, ⟨S8x128, f 14⟩, ⟨S8x128, f 15⟩]
    concatenates_S8x128_S8x128_S8x128_S8x128_S8x128_S8x128_S8x128_S8x128_S8x128_S8x128_S8x128_S8x128_S8x128_S8x128_S8x128_S8x128_S128x128_d0
theorem CAT_apply (f : Fin 16 → FVec Ideal S8x128 .f32) (j : Fin 16) (e : Fin 8) (q : Fin 128) : CAT f (ix2 (row j e) q) = f j (ix2 e q) := by
  refine concatenate_ofFn_apply (t := S128x128) (s₁ := S8x128) 0 f _ rfl 8 rfl (ix2 (row j e) q) j ?_ (ix2 e q) ?_ ?_
  · show (8 * j.val + e.val) / 8 = j.val; omega
  · show e.val = (8 * j.val + e.val) % 8; omega
  · intro bb hb
    match bb with
    | ⟨0, _⟩ => exact absurd rfl hb
    | ⟨1, _⟩ => rfl

/-! ## The two blocks the body leaves -/

/-- The output block. -/
def YB (x bm cm d : FVec Ideal S128x128 .f32) (b a k : FVec Ideal S1x128 .f32) (h : Vec Ideal S16x2x64x128 .f32) : FVec Ideal S128x128 .f32 :=
  k0_pay2 (YS x (k0_pay8 bm cm) (k0_pay15 k0_pay6 (k0_pay9 x) (k0_pay10 d) (k0_pay13 b)) (AC d b a) k) (CAT fun j => YO j (k0_pay23 (AC d b a)) (k0_pay26 cm) (stj h j))

/-- The whole of a block, as the body loads it. -/
def l0 (u : Vec Ideal S128x128 .f32) : Vec Ideal S128x128 .f32 := View.ld u r0_0
/-- The whole of a row, as the body loads it. -/
def l1 (u : Vec Ideal S1x128 .f32) : Vec Ideal S1x128 .f32 := View.ld u r0_1
theorem l0_eq (u : Vec Ideal S128x128 .f32) : l0 u = u := View.ld_unit_lit inb_S128x128_S128x128_0_0 u (by decide)
theorem l1_eq (u : Vec Ideal S1x128 .f32) : l1 u = u := View.ld_unit_lit inb_S1x128_S1x128_0_0 u (by decide)
set_option maxHeartbeats 400000 in
/-- The output block the body leaves. -/
theorem out8 (h : Vec Ideal S16x2x64x128 .f32) : out0_8 x bm cm d b a k h = YB x bm cm d b a k h := by
  have e : out0_8 x bm cm d b a k h = View.canon (Val := Elt Ideal) [⟨r0_0, YB (l0 x) (l0 bm) (l0 cm) (l0 d) (l1 b) (l1 a) (l1 k) h⟩] := rfl
  rw [e, View.canon_cons_unit_lit _ _ _ (by decide)]
  simp only [l0_eq, l1_eq]

/-- One sequence's new state, over the blocks. -/
def HB (x bm d : FVec Ideal S128x128 .f32) (b a : FVec Ideal S1x128 .f32) (h : Vec Ideal S16x2x64x128 .f32) (j : Fin 16) : FVec Ideal S1x2x64x128 .f32 :=
  HN j (BitVec.ofNat 32 (8 * j.val)) (BitVec.ofNat 32 (8 * j.val + 8)) (k0_pay7 bm)
    (k0_pay24 k0_pay5 (k0_pay15 k0_pay6 (k0_pay9 x) (k0_pay10 d) (k0_pay13 b)) (AC d b a)) (k0_pay25 k0_pay5 (AC d b a)) (stj h j)
/-- All sequences' new states. -/
def HA (x bm d : FVec Ideal S128x128 .f32) (b a : FVec Ideal S1x128 .f32) (h : Vec Ideal S16x2x64x128 .f32) : Vec Ideal S16x2x64x128 .f32 :=
  fun y => HB x bm d b a h (y 0) (ix4 0 (y 1) (y 2) (y 3))
/-- A stored sequence's states are the block's. -/
theorem piece (h : Vec Ideal S16x2x64x128 .f32) (j : Fin 16) (y : S1x2x64x128.Idx) :
    HB x bm d b a h j y = HA x bm d b a h ((Rect.unit (s := S16x2x64x128) ![j.val, 0, 0, 0] S1x2x64x128.size (inb_seq j)).emb y) := by
  have hy : (Rect.unit (s := S16x2x64x128) ![j.val, 0, 0, 0] S1x2x64x128.size (inb_seq j)).emb y = ix4 j (y 1) (y 2) (y 3) := by
    funext q
    refine Fin.ext ?_
    match q with
    | ⟨0, _⟩ => show j.val + 1 * (y 0).val = j.val; have : (y 0).val < 1 := (y 0).isLt; omega
    | ⟨1, _⟩ => show 0 + 1 * (y 1).val = (y 1).val; omega
    | ⟨2, _⟩ => show 0 + 1 * (y 2).val = (y 2).val; omega
    | ⟨3, _⟩ => show 0 + 1 * (y 3).val = (y 3).val; omega
  have hz : y = ix4 0 (y 1) (y 2) (y 3) := (eq_ix4 y).trans (congrArg (fun q : Fin 1 => ix4 q (y 1) (y 2) (y 3)) (Fin.ext (by show (y 0).val = 0; have : (y 0).val < 1 := (y 0).isLt; omega)))
  rw [hy]
  exact congrArg (HB x bm d b a h j) hz

/-- The sixteen stores leave the states. -/
theorem HA_canon (h : Vec Ideal S16x2x64x128 .f32) : View.canon (Val := Elt Ideal) [⟨r0_17, HB x bm d b a h 15⟩, ⟨r0_16, HB x bm d b a h 14⟩, ⟨r0_15, HB x bm d b a h 13⟩, ⟨r0_14, HB x bm d b a h 12⟩, ⟨r0_13, HB x bm d b a h 11⟩, ⟨r0_12, HB x bm d b a h 10⟩, ⟨r0_11, HB x bm d b a h 9⟩, ⟨r0_10, HB x bm d b a h 8⟩, ⟨r0_9, HB x bm d b a h 7⟩, ⟨r0_8, HB x bm d b a h 6⟩, ⟨r0_7, HB x bm d b a h 5⟩, ⟨r0_6, HB x bm d b a h 4⟩, ⟨r0_5, HB x bm d b a h 3⟩, ⟨r0_4, HB x bm d b a h 2⟩, ⟨r0_3, HB x bm d b a h 1⟩, ⟨r0_2, HB x bm d b a h 0⟩] = HA x bm d b a h := by
  funext y
  refine View.canon_apply_of_pieces (HA x bm d b a h) _ (View.PiecesOf.mem ?_) y (cover0_9 _ _ _ _ _ _ _ _ _ _ _ _ _ _ _ _ y)
  exact ⟨piece x bm d b a h 15, piece x bm d b a h 14, piece x bm d b a h 13, piece x bm d b a h 12, piece x bm d b a h 11, piece x bm d b a h 10, piece x bm d b a h 9, piece x bm d b a h 8, piece x bm d b a h 7, piece x bm d b a h 6, piece x bm d b a h 5, piece x bm d b a h 4, piece x bm d b a h 3, piece x bm d b a h 2, piece x bm d b a h 1, piece x bm d b a h 0, trivial⟩

set_option maxHeartbeats 400000 in
/-- The states the body leaves. -/
theorem out9 (h : Vec Ideal S16x2x64x128 .f32) : out0_9 x bm cm d b a k h = HA x bm d b a h := by
  have e := HA_canon (l0 x) (l0 bm) (l0 d) (l1 b) (l1 a) h
  refine Eq.trans ?_ (e.trans (by simp only [l0_eq, l1_eq]))
  rfl

end Cert.Kernel10Ideal.Samp

end
-- ==== Proof.SampleVal.lean ====
module

public import proofs.«01_k».proof.Proof.SampleBody

@[expose] public section

set_option maxRecDepth 16384

noncomputable section

open Idealize.ShloMosaic Idealize.ShloMosaic.TcCoe Idealize.SL.Sem

namespace Cert.Kernel10Ideal.Samp

open Cert.Samp Cert.Kernel10Ideal Cert.Kernel10Ideal.Gen Cert.Kernel10Ideal.Value
open Cert.Scan (sp)

/-! ## The body's values over blocks that hold sixteen sequences and two heads -/

/-- The sequence of a block's place. -/
def sq (s : Fin 8) (j : Fin 16) : Fin 128 := ⟨16 * s.val + j.val, by omega⟩
/-- The head of a pair. -/
def hp (k : Fin 12) (i : Fin 2) : Fin 24 := ⟨2 * k.val + i.val, by omega⟩
/-- The head of a lane. -/
def hl (k : Fin 12) (q : Fin 128) : Fin 24 := hp k ⟨q.val / 64, by omega⟩
/-- The place of a lane in its head. -/
def pl (q : Fin 128) : Fin 64 := ⟨q.val % 64, by omega⟩
/-- A token's place among eight. -/
def w (t : Fin 4) : Fin 8 := ⟨t.val, by omega⟩

theorem w_lt (t : Fin 4) : (w t).val < 4 := t.isLt
theorem hl_lane0 (k : Fin 12) (q : Fin 128) : hl k (lane0 q) = hl k q := by
  have : ∀ q : Fin 128, (lane0 q).val / 64 = q.val / 64 := by decide +kernel
  exact congrArg (hp k) (Fin.ext (this q))
theorem gr_hp (k : Fin 12) (i : Fin 2) : gr (hp k i) = ⟨k.val / 3, by omega⟩ := Fin.ext (by show (2 * k.val + i.val) / 6 = k.val / 3; omega)
theorem gr_hl (k : Fin 12) (q : Fin 128) : gr (hl k q) = ⟨k.val / 3, by omega⟩ := gr_hp k _

/-- The sum over all rows of what only a sequence's tokens hold. -/
theorem sum_seq (j : Fin 16) (f : Fin 128 → EReal) (hf : ∀ s : Fin 128, ¬(s.val / 8 = j.val ∧ s.val % 8 < 4) → f s = 0) : ∑ s : Fin 128, f s = ∑ t : Fin 4, f (row j (w t)) :=
  (Fintype.sum_of_injective (fun t : Fin 4 => row j (w t)) (fun t t' h => Fin.ext (by have := congrArg Fin.val h; simp only [row, w] at this; omega)) _ f
    (fun s hs => hf s fun hh => hs ⟨⟨s.val % 8, hh.2⟩, Fin.ext (by show 8 * j.val + s.val % 8 = s.val; omega)⟩) (fun t => rfl)).symm

/-- The blocks hold sixteen sequences' tokens, each in eight rows, for two heads. -/
structure Held (A : Args) (s : Fin 8) (k : Fin 12) (x bm cm d : FVec Ideal S128x128 .f32) (b a kk : FVec Ideal S1x128 .f32) (h : Vec Ideal S16x2x64x128 .f32) : Prop where
  x : ∀ j e q, x (ix2 (row j e) q) = if he : e.val < 4 then A.xs (sq s j) ⟨e.val, he⟩ (hl k q) (pl q) else 0
  bm : ∀ j e n, bm (ix2 (row j e) n) = if he : e.val < 4 then A.B (sq s j) ⟨e.val, he⟩ ⟨k.val / 3, by omega⟩ n else 0
  cm : ∀ j e n, cm (ix2 (row j e) n) = if he : e.val < 4 then A.C (sq s j) ⟨e.val, he⟩ ⟨k.val / 3, by omega⟩ n else 0
  d : ∀ j t q, d (ix2 (row j (w t)) q) = A.D (tok (sq s j) t) (hl k q)
  b : ∀ q, b (ix2 0 q) = A.b (hl k q)
  a : ∀ q, a (ix2 0 q) = -Ideal.exp (A.a (hl k q))
  kk : ∀ q, kk (ix2 0 q) = A.k (hl k q)
  h : ∀ j i p n, h (ix4 j i p n) = A.H (sq s j) (hp k i) p n

variable {A : Args} {s : Fin 8} {k : Fin 12} {x bm cm d : FVec Ideal S128x128 .f32} {b a kk : FVec Ideal S1x128 .f32} {h : Vec Ideal S16x2x64x128 .f32}
variable (I : Held A s k x bm cm d b a kk h)
include I

/-- The steps of the tokens. -/
theorem dt_tok (j : Fin 16) (t : Fin 4) (q : Fin 128) : k0_pay14 k0_pay6 d (k0_pay13 b) (ix2 (row j (w t)) q) = A.dt (sq s j) t (hl k q) := by
  rw [dt_apply, if_pos (by show (8 * j.val + t.val) % 8 < 4; omega), I.d, I.b]
  rfl
omit I in
/-- No step on a row without a token. -/
theorem dt_none (r q : Fin 128) (hr : ¬r.val % 8 < 4) : k0_pay14 (F := Ideal) k0_pay6 d (k0_pay13 b) (ix2 r q) = (0 : EReal) := by
  rw [dt_apply, if_neg hr]
/-- The running sums. -/
theorem AC_row (j : Fin 16) (e : Fin 8) (q : Fin 128) : AC d b a (ix2 (row j e) q) = ∑ t : Fin 4, if t.val ≤ e.val then A.dt (sq s j) t (hl k q) * -Ideal.exp (A.a (hl k q)) else 0 := by
  rw [AC_apply, sum_seq j]
  · refine Finset.sum_congr (M := EReal) rfl fun t _ => ?_
    rw [dt_tok I, I.a]
    exact if_congr (by show (8 * j.val + t.val) / 8 = (8 * j.val + e.val) / 8 ∧ 8 * j.val + t.val ≤ 8 * j.val + e.val ↔ t.val ≤ e.val; omega) rfl rfl
  · intro r hr
    by_cases h1 : r.val % 8 < 4
    · exact if_neg fun hh => hr ⟨hh.1.trans (by show (8 * j.val + e.val) / 8 = j.val; omega), h1⟩
    · rw [dt_none r q h1, zero_mul, ite_self]
/-- The running sums of the tokens. -/
theorem AC_tok (j : Fin 16) (t : Fin 4) (q : Fin 128) : AC d b a (ix2 (row j (w t)) q) = A.ac (sq s j) t (hl k q) := AC_row I j (w t) q
/-- The last running sum of a sequence. -/
theorem AC_last (j : Fin 16) (e : Fin 8) (q : Fin 128) : k0_pay22 k0_pay5 (AC d b a) (ix2 (row j e) q) = A.ac (sq s j) 3 (hl k q) := by
  rw [last_sum, Finset.sum_eq_single (M := EReal) (row j 7)]
  · rw [if_pos (by show (8 * j.val + 7) / 8 = (8 * j.val + e.val) / 8 ∧ (8 * j.val + 7) % 8 = 7; omega), AC_row I]
    refine Finset.sum_congr (M := EReal) rfl fun t _ => if_congr ?_ rfl rfl
    show t.val ≤ 7 ↔ t.val ≤ 3
    omega
  · intro r _ hr
    refine if_neg fun hh => hr (Fin.ext ?_)
    have h1 : r.val / 8 = (8 * j.val + e.val) / 8 := hh.1
    show r.val = 8 * j.val + 7
    omega
  · exact fun hh => absurd (Finset.mem_univ _) hh
/-- The scaled inputs of the tokens. -/
theorem E_tok (j : Fin 16) (t : Fin 4) (q : Fin 128) : k0_pay15 k0_pay6 x d (k0_pay13 b) (ix2 (row j (w t)) q) = A.xs (sq s j) t (hl k q) (pl q) * A.dt (sq s j) t (hl k q) := by
  rw [xdt_apply, dt_tok I, I.x, dif_pos (w_lt t)]
  rfl
omit I in
/-- No scaled input on a row without a token. -/
theorem E_none (r q : Fin 128) (hr : ¬r.val % 8 < 4) : k0_pay15 (F := Ideal) k0_pay6 x d (k0_pay13 b) (ix2 r q) = (0 : EReal) := by
  rw [xdt_apply, dt_none r q hr, mul_zero]
/-- What the earlier tokens give a token. -/
theorem sum_tok (j : Fin 16) (l : Fin 4) (q : Fin 128) :
    (∑ r : Fin 128, ((k0_pay8 (F := Ideal) bm cm (ix2 (row j (w l)) r) : EReal) * (if r.val / 8 = (row j (w l)).val / 8 ∧ r.val ≤ (row j (w l)).val then Ideal.exp (AC d b a (ix2 (row j (w l)) (lane0 q)) - AC d b a (ix2 r (lane0 q))) else 0)) * k0_pay15 k0_pay6 x d (k0_pay13 b) (ix2 r q))
      = ∑ t : Fin 4, A.xs (sq s j) t (hl k q) (pl q) * A.dt (sq s j) t (hl k q) * ((∑ n : Fin 128, A.C (sq s j) l (gr (hl k q)) n * A.B (sq s j) t (gr (hl k q)) n) * A.L (sq s j) l t (hl k q)) := by
  rw [sum_seq j]
  · refine Finset.sum_congr (M := EReal) rfl fun t _ => ?_
    rw [E_tok I, cb_apply, AC_tok I, AC_tok I, hl_lane0, gr_hl, mul_comm]
    congr 2
    · refine Finset.sum_congr (M := EReal) rfl fun n _ => ?_
      rw [I.cm, I.bm, dif_pos (w_lt l), dif_pos (w_lt t)]
      rfl
    · exact if_congr (by show (8 * j.val + t.val) / 8 = (8 * j.val + l.val) / 8 ∧ 8 * j.val + t.val ≤ 8 * j.val + l.val ↔ t.val ≤ l.val; omega) rfl rfl
  · intro r hr
    by_cases h1 : r.val % 8 < 4
    · rw [if_neg (fun hh => hr ⟨hh.1.trans (by show (8 * j.val + l.val) / 8 = j.val; omega), h1⟩), mul_zero, zero_mul]
    · rw [E_none r q h1, mul_zero]

omit I in
/-- The output block, entry by entry. -/
theorem YB_apply (j : Fin 16) (e : Fin 8) (q : Fin 128) : YB x bm cm d b a kk h (ix2 (row j e) q)
    = (∑ r : Fin 128, ((k0_pay8 (F := Ideal) bm cm (ix2 (row j e) r) : EReal) * (if r.val / 8 = (row j e).val / 8 ∧ r.val ≤ (row j e).val then Ideal.exp (AC d b a (ix2 (row j e) (lane0 q)) - AC d b a (ix2 r (lane0 q))) else 0)) * k0_pay15 k0_pay6 x d (k0_pay13 b) (ix2 r q))
      + kk (ix2 0 q) * x (ix2 (row j e) q) + (∑ n : Fin 128, cm (ix2 (row j e) n) * stj h j (ix4 0 ⟨q.val / 64, by omega⟩ ⟨q.val % 64, by omega⟩ n)) * Ideal.exp (AC d b a (ix2 (row j e) q)) := by
  have e1 : (k0_pay9 x : FVec Ideal S128x128 .f32) = x := by funext i; rw [eq_ix2 i]; pointwise [k0_pay9]
  have e2 : (k0_pay10 d : FVec Ideal S128x128 .f32) = d := by funext i; rw [eq_ix2 i]; pointwise [k0_pay10]
  have e3 : (k0_pay26 cm : FVec Ideal S128x128 .f32) = cm := by funext i; rw [eq_ix2 i]; pointwise [k0_pay26]
  unfold YB
  rw [e1, e2, e3]
  exact congrArg₂ (fun u v => u + v : EReal → EReal → EReal) (YS_apply x _ _ _ kk _ q) ((CAT_apply _ j e q).trans (YO_apply j _ cm (stj h j) e q))

/-- The output of a token. -/
theorem YB_tok (j : Fin 16) (l : Fin 4) (q : Fin 128) : YB x bm cm d b a kk h (ix2 (row j (w l)) q) = A.y (sq s j) l (hl k q) (pl q) := by
  rw [YB_apply, sum_tok I, AC_tok I, I.kk, I.x, dif_pos (w_lt l), add_right_comm]
  unfold Args.y
  congr 3
  refine Finset.sum_congr (M := EReal) rfl fun n _ => ?_
  rw [stj_apply, I.h, I.cm, dif_pos (w_lt l), mul_comm, gr_hl]
  rfl
/-- Nothing on a row without a token. -/
theorem YB_none (j : Fin 16) (e : Fin 8) (he : ¬e.val < 4) (q : Fin 128) : YB x bm cm d b a kk h (ix2 (row j e) q) = (0 : EReal) := by
  rw [YB_apply]
  simp only [cb_apply, I.cm, I.x, dif_neg he, zero_mul, mul_zero, Finset.sum_const_zero, add_zero]
/-- The state a sequence leaves. -/
theorem HA_held (j : Fin 16) (i : Fin 2) (p : Fin 64) (n : Fin 128) : HA x bm d b a h (ix4 j i p n) = A.hf (sq s j) (hp k i) p n := by
  have e1 : (k0_pay9 x : FVec Ideal S128x128 .f32) = x := by funext i; rw [eq_ix2 i]; pointwise [k0_pay9]
  have e2 : (k0_pay10 d : FVec Ideal S128x128 .f32) = d := by funext i; rw [eq_ix2 i]; pointwise [k0_pay10]
  have e4 : ∀ r n, (k0_pay7 bm : FVec Ideal S128x128 .bf16) (ix2 r n) = bm (ix2 r n) := fun r n => by pointwise [k0_pay7]
  have hq : hl k ⟨i.val * 64 + p.val, by omega⟩ = hp k i := congrArg (hp k) (Fin.ext (by show (i.val * 64 + p.val) / 64 = i.val; omega))
  have hpl : pl ⟨i.val * 64 + p.val, by omega⟩ = p := Fin.ext (by show (i.val * 64 + p.val) % 64 = p.val; omega)
  show HB x bm d b a h j (ix4 0 i p n) = _
  unfold HB
  rw [e1, e2, HN_apply, cd_apply, AC_last I, stj_apply, I.h, hq, sum_seq j]
  · unfold Args.hf
    congr 1
    refine Finset.sum_congr (M := EReal) rfl fun t _ => ?_
    rw [if_pos (by show (8 * j.val + t.val) / 8 = j.val; omega), xd_apply, E_tok I, AC_last I, AC_tok I, hq, hpl, e4, I.bm, dif_pos (w_lt t), gr_hp]
    rfl
  · intro r hr
    by_cases h1 : r.val % 8 < 4
    · exact if_neg fun hh => hr ⟨hh, h1⟩
    · rw [xd_apply, E_none r _ h1, zero_mul, zero_mul, ite_self]

end Cert.Kernel10Ideal.Samp

end
-- ==== Proof.SampleKernel.lean ====
module

public import proofs.«01_k».proof.Proof.SampleVal

@[expose] public section

set_option maxRecDepth 16384

noncomputable section

open Idealize.ShloMosaic Idealize.ShloMosaic.TcCoe Idealize.SL.Sem

namespace Cert.Kernel10Ideal.Samp

open Cert.Samp Cert.Kernel10Ideal Cert.Kernel10Ideal.Gen Cert.Kernel10Ideal.Value

/-! ## The arrays the host prepares -/

/-- The tokens' rows, each sequence in eight rows. -/
def hX (X : FVec Ideal S128x4x2560 .f32) : FVec Ideal S1024x2560 .f32 :=
  shapeCast S1024x2560 (pad S128x8x2560 ![0, 0, 0] ![0, 4, 0] ![0, 0, 0] X (sitofp .f32 (constantI S_ 32 0#32)) pads_S128x4x2560_S128x8x2560_000_040_000 h_S_) shapeCasts_S128x8x2560_S1024x2560
/-- The raw steps, a lane for each channel, each sequence in eight rows. -/
def hD (D : FVec Ideal S512x24 .f32) : FVec Ideal S1024x1536 .f32 :=
  shapeCast S1024x1536 (pad S128x8x1536 ![0, 0, 0] ![0, 4, 0] ![0, 0, 0] (shapeCast S128x4x1536 (shapeCast S512x1536 (broadcastInDim S512x24x64 ![0, 1] bcast_S512x24_S512x24x64_0_1 D) shapeCasts_S512x24x64_S512x1536) shapeCasts_S512x1536_S128x4x1536)
    (sitofp .f32 (constantI S_ 32 0#32)) pads_S128x4x1536_S128x8x1536_000_040_000 h_S_) shapeCasts_S128x8x1536_S1024x1536
/-- A head's number, a lane for each channel. -/
def hV (v : FVec Ideal S24 .f32) : FVec Ideal S1x1536 .f32 := shapeCast S1x1536 (shapeCast S1536 (broadcastInDim S24x64 ![0] bcast_S24_S24x64_0 v) shapeCasts_S24x64_S1536) shapeCasts_S1536_S1x1536
/-- The rate, a lane for each channel. -/
def hR (v : FVec Ideal S24 .f32) : FVec Ideal S1x1536 .f32 := Host.negf (shapeCast S1x1536 (Host.exp (shapeCast S1536 (broadcastInDim S24x64 ![0] bcast_S24_S24x64_0 v) shapeCasts_S24x64_S1536)) shapeCasts_S1536_S1x1536)

theorem zero_int : (FloatOps.sitofp (F := Ideal) .f32 (0#32) : EReal) = 0 := by show ((BitVec.toInt 0#32 : ℝ) : EReal) = 0; simp
theorem hX_apply (X : FVec Ideal S128x4x2560 .f32) (r : Fin 1024) (k : Fin 2560) :
    hX X (ix2 r k) = if h : r.val % 8 < 4 then X (ix3 ⟨r.val / 8, by omega⟩ ⟨r.val % 8, h⟩ k) else 0 := by
  pointwise [hX]
  by_cases h : r.val % 8 < 4
  · rw [dif_pos h, dif_pos ⟨by omega, h⟩]
  · rw [dif_neg h, dif_neg (fun hh => h hh.2)]; exact zero_int
theorem hD_apply (D : FVec Ideal S512x24 .f32) (r : Fin 1024) (k : Fin 1536) :
    hD D (ix2 r k) = if h : r.val % 8 < 4 then D (ix2 (tok ⟨r.val / 8, by omega⟩ ⟨r.val % 8, h⟩) ⟨k.val / 64, by omega⟩) else 0 := by
  pointwise [hD]
  by_cases h : r.val % 8 < 4
  · rw [dif_pos h, dif_pos ⟨by omega, h⟩]
    exact congrArg (fun u => D (ix2 u ⟨k.val / 64, by omega⟩)) (Fin.ext (by show r.val / 8 * 4 + r.val % 8 = 4 * (r.val / 8) + r.val % 8; omega))
  · rw [dif_neg h, dif_neg (fun hh => h hh.2)]; exact zero_int
theorem hV_apply (v : FVec Ideal S24 .f32) (k : Fin 1536) : hV v (ix2 0 k) = v (ix1 ⟨k.val / 64, by omega⟩) := by
  pointwise [hV]
theorem hR_apply (v : FVec Ideal S24 .f32) (k : Fin 1536) : hR v (ix2 0 k) = -Ideal.exp (v (ix1 ⟨k.val / 64, by omega⟩)) := by
  pointwise [hR]

variable (m : (ℓ : Loc nD τ sig) → Buf (Elt Ideal) ℓ) (c : Dev nD)

/-- The samples' scan's arguments, as the memory holds them. -/
def args : Args where
  X s l k := (m ((c : Thread nD τ).loc main_arg0) : Vec Ideal S128x4x2560 .f32) (ix3 s l k)
  D r h := (m ((c : Thread nD τ).loc main_arg1) : Vec Ideal S512x24 .f32) (ix2 r h)
  b h := (m ((c : Thread nD τ).loc main_arg2) : Vec Ideal S24 .f32) (ix1 h)
  a h := (m ((c : Thread nD τ).loc main_arg3) : Vec Ideal S24 .f32) (ix1 h)
  k h := (m ((c : Thread nD τ).loc main_arg4) : Vec Ideal S24 .f32) (ix1 h)
  H s h p n := (m ((c : Thread nD τ).loc main_arg5) : Vec Ideal S128x24x64x128 .f32) (ix4 s h p n)

/-- The tokens' rows the call takes. -/
theorem V_x : (V m c main_v17 : Vec Ideal S1024x2560 .f32) = hX (m ((c : Thread nD τ).loc main_arg0)) := by
  unfold V
  simp only [List.flatten_cons, List.flatten_nil, List.append_nil, List.cons_append, List.nil_append, hostOps0, hostOps0_1, hostOps0_2, hostOps0_3, hostOps0_4, StableHlo.TRef.unary, StableHlo.TRef.binary, StableHlo.TRef.toBuf, StableHlo.TRef.ofBuf, cast_eq]
  after_results
  rfl
/-- The raw steps the call takes. -/
theorem V_d : (V m c main_v15 : Vec Ideal S1024x1536 .f32) = hD (m ((c : Thread nD τ).loc main_arg1)) := by
  unfold V
  simp only [List.flatten_cons, List.flatten_nil, List.append_nil, List.cons_append, List.nil_append, hostOps0, hostOps0_1, hostOps0_2, hostOps0_3, hostOps0_4, StableHlo.TRef.unary, StableHlo.TRef.binary, StableHlo.TRef.toBuf, StableHlo.TRef.ofBuf, cast_eq]
  after_results
  rfl
/-- The bias the call takes. -/
theorem V_b : (V m c main_v4 : Vec Ideal S1x1536 .f32) = hV (m ((c : Thread nD τ).loc main_arg2)) := by
  unfold V
  simp only [List.flatten_cons, List.flatten_nil, List.append_nil, List.cons_append, List.nil_append, hostOps0, hostOps0_1, hostOps0_2, hostOps0_3, hostOps0_4, StableHlo.TRef.unary, StableHlo.TRef.binary, StableHlo.TRef.toBuf, StableHlo.TRef.ofBuf, cast_eq]
  after_results
  rfl
/-- The rate the call takes. -/
theorem V_a : (V m c main_v9 : Vec Ideal S1x1536 .f32) = hR (m ((c : Thread nD τ).loc main_arg3)) := by
  unfold V
  simp only [List.flatten_cons, List.flatten_nil, List.append_nil, List.cons_append, List.nil_append, hostOps0, hostOps0_1, hostOps0_2, hostOps0_3, hostOps0_4, StableHlo.TRef.unary, StableHlo.TRef.binary, StableHlo.TRef.toBuf, StableHlo.TRef.ofBuf, cast_eq]
  after_results
  rfl
/-- The skip the call takes. -/
theorem V_k : (V m c main_v12 : Vec Ideal S1x1536 .f32) = hV (m ((c : Thread nD τ).loc main_arg4)) := by
  unfold V
  simp only [List.flatten_cons, List.flatten_nil, List.append_nil, List.cons_append, List.nil_append, hostOps0, hostOps0_1, hostOps0_2, hostOps0_3, hostOps0_4, StableHlo.TRef.unary, StableHlo.TRef.binary, StableHlo.TRef.toBuf, StableHlo.TRef.ofBuf, cast_eq]
  after_results
  rfl

/-! ## What a grid point takes and leaves -/

/-- The printed index maps, decided over the grid. -/
theorem idxs : ∀ t : Fin cfg0.N, win0_0.index t = ![t.val / 12, t.val % 12] ∧ win0_1.index t = ![t.val / 12, 12 + t.val % 12 / 3] ∧ win0_2.index t = ![t.val / 12, 16 + t.val % 12 / 3]
    ∧ win0_3.index t = ![t.val / 12, t.val % 12] ∧ win0_4.index t = ![0, t.val % 12] ∧ win0_5.index t = ![0, t.val % 12] ∧ win0_6.index t = ![0, t.val % 12]
    ∧ win0_7.index t = ![t.val / 12, t.val % 12, 0, 0] ∧ win0_8.index t = ![t.val / 12, t.val % 12] ∧ win0_9.index t = ![t.val / 12, t.val % 12, 0, 0] :=
  (by decide +kernel : ∀ t : Fin grid0.N, _)

/-- A point's sixteen sequences. -/
def ts (t : Fin cfg0.N) : Fin 8 := ⟨t.val / 12, by have : t.val < 96 := lt_of_lt_of_eq t.isLt N_0; omega⟩
/-- A point's two heads. -/
def tk (t : Fin cfg0.N) : Fin 12 := ⟨t.val % 12, by omega⟩
/-- A row of a point's among all. -/
def gr8 (s : Fin 8) (r : Fin 128) : Fin 1024 := ⟨128 * s.val + r.val, by omega⟩
/-- A lane of a pair among the channels. -/
def ln (k : Fin 12) (q : Fin 128) : Fin 1536 := ⟨128 * k.val + q.val, by omega⟩

theorem in0 (t : Fin cfg0.N) (r q : Fin 128) : (iblk m c 0 t : Vec Ideal S128x128 .f32) (ix2 r q) = (V m c main_v17 : Vec Ideal S1024x2560 .f32) (ix2 (gr8 (ts t) r) ⟨128 * (tk t).val + q.val, by omega⟩) := by
  unfold gr8 ts tk
  blk_ext [iblk, idxs t]
theorem in1 (t : Fin cfg0.N) (r q : Fin 128) : (iblk m c 1 t : Vec Ideal S128x128 .f32) (ix2 r q) = (V m c main_v17 : Vec Ideal S1024x2560 .f32) (ix2 (gr8 (ts t) r) ⟨128 * (12 + (tk t).val / 3) + q.val, by omega⟩) := by
  unfold gr8 ts tk
  blk_ext [iblk, idxs t]
theorem in2 (t : Fin cfg0.N) (r q : Fin 128) : (iblk m c 2 t : Vec Ideal S128x128 .f32) (ix2 r q) = (V m c main_v17 : Vec Ideal S1024x2560 .f32) (ix2 (gr8 (ts t) r) ⟨128 * (16 + (tk t).val / 3) + q.val, by omega⟩) := by
  unfold gr8 ts tk
  blk_ext [iblk, idxs t]
theorem in3 (t : Fin cfg0.N) (r q : Fin 128) : (iblk m c 3 t : Vec Ideal S128x128 .f32) (ix2 r q) = (V m c main_v15 : Vec Ideal S1024x1536 .f32) (ix2 (gr8 (ts t) r) (ln (tk t) q)) := by
  unfold gr8 ts tk ln
  blk_ext [iblk, idxs t]
theorem in4 (t : Fin cfg0.N) (q : Fin 128) : (iblk m c 4 t : Vec Ideal S1x128 .f32) (ix2 0 q) = (V m c main_v4 : Vec Ideal S1x1536 .f32) (ix2 0 (ln (tk t) q)) := by
  unfold tk ln
  blk_ext [iblk, idxs t]
theorem in5 (t : Fin cfg0.N) (q : Fin 128) : (iblk m c 5 t : Vec Ideal S1x128 .f32) (ix2 0 q) = (V m c main_v9 : Vec Ideal S1x1536 .f32) (ix2 0 (ln (tk t) q)) := by
  unfold tk ln
  blk_ext [iblk, idxs t]
theorem in6 (t : Fin cfg0.N) (q : Fin 128) : (iblk m c 6 t : Vec Ideal S1x128 .f32) (ix2 0 q) = (V m c main_v12 : Vec Ideal S1x1536 .f32) (ix2 0 (ln (tk t) q)) := by
  unfold tk ln
  blk_ext [iblk, idxs t]
theorem in7 (t : Fin cfg0.N) (j : Fin 16) (i : Fin 2) (p : Fin 64) (n : Fin 128) : (iblk m c 7 t : Vec Ideal S16x2x64x128 .f32) (ix4 j i p n) = (args m c).H (sq (ts t) j) (hp (tk t) i) p n := by
  unfold args sq hp ts tk
  blk_ext [iblk, V, idxs t, V_main_arg5]

/-- A row of a sequence of a point. -/
theorem gr8_row (s : Fin 8) (j : Fin 16) (e : Fin 8) : (gr8 s (row j e)).val / 8 = (sq s j).val ∧ (gr8 s (row j e)).val % 8 = e.val :=
  ⟨by show (128 * s.val + (8 * j.val + e.val)) / 8 = 16 * s.val + j.val; omega, by show (128 * s.val + (8 * j.val + e.val)) % 8 = e.val; omega⟩
/-- The rows of tokens, at a sequence's row. -/
theorem hX_row (X : FVec Ideal S128x4x2560 .f32) (s : Fin 8) (j : Fin 16) (e : Fin 8) (k : Fin 2560) :
    hX X (ix2 (gr8 s (row j e)) k) = if he : e.val < 4 then X (ix3 (sq s j) ⟨e.val, he⟩ k) else 0 := by
  rw [hX_apply]
  have h := gr8_row s j e
  by_cases he : e.val < 4
  · rw [dif_pos he, dif_pos (h.2 ▸ he)]
    exact congrArg₂ (fun a b => X (ix3 a b k)) (Fin.ext h.1) (Fin.ext h.2)
  · rw [dif_neg he, dif_neg (h.2 ▸ he)]
/-- A lane's head. -/
theorem ln_head (k : Fin 12) (q : Fin 128) : (⟨(ln k q).val / 64, by omega⟩ : Fin 24) = hl k q := Fin.ext (by show (128 * k.val + q.val) / 64 = 2 * k.val + q.val / 64; omega)

/-- Equal places of the outputs. -/
theorem y_congr (A : Args) {b b' : Fin 128} {l l' : Fin 4} {h h' : Fin 24} {p p' : Fin 64} (e0 : b = b') (e1 : l = l') (e2 : h = h') (e3 : p = p') : A.y b l h p = A.y b' l' h' p' := by
  subst e0 e1 e2 e3; rfl
/-- Equal places of the states. -/
theorem hf_congr (A : Args) {b b' : Fin 128} {h h' : Fin 24} {p p' : Fin 64} {n n' : Fin 128} (e0 : b = b') (e1 : h = h') (e2 : p = p') (e3 : n = n') : A.hf b h p n = A.hf b' h' p' n' := by
  subst e0 e1 e2 e3; rfl
/-- The output at a token's row. -/
theorem o_tok (A : Args) (s : Fin 8) (j : Fin 16) (e : Fin 8) (he : e.val < 4) (k : Fin 12) (q : Fin 128) : A.o (gr8 s (row j e)) (ln k q) = A.y (sq s j) ⟨e.val, he⟩ (hl k q) (pl q) := by
  have h := gr8_row s j e
  unfold Args.o
  rw [dif_pos (h.2 ▸ he)]
  exact y_congr A (Fin.ext h.1) (Fin.ext h.2) (ln_head k q) (Fin.ext (by show (128 * k.val + q.val) % 64 = q.val % 64; omega))
/-- The output at a row past the tokens. -/
theorem o_none (A : Args) (s : Fin 8) (j : Fin 16) (e : Fin 8) (he : ¬ e.val < 4) (k : Fin 12) (q : Fin 128) : A.o (gr8 s (row j e)) (ln k q) = 0 := by
  unfold Args.o
  rw [dif_neg ((gr8_row s j e).2 ▸ he)]

/-- A point's blocks hold its sequences. -/
theorem held (t : Fin cfg0.N) : Held (args m c) (ts t) (tk t) (iblk m c 0 t) (iblk m c 1 t) (iblk m c 2 t) (iblk m c 3 t) (iblk m c 4 t) (iblk m c 5 t) (iblk m c 6 t) (iblk m c 7 t) where
  x j e q := (in0 m c t _ q).trans ((congrFun (V_x m c) _).trans ((hX_row _ _ j e _).trans (by
    by_cases he : e.val < 4
    · rw [dif_pos he, dif_pos he]
      exact congrArg (fun u => (args m c).X (sq (ts t) j) ⟨e.val, he⟩ u) (Fin.ext (by show 128 * (tk t).val + q.val = 64 * (2 * (tk t).val + q.val / 64) + q.val % 64; omega))
    · rw [dif_neg he, dif_neg he])))
  bm j e n := (in1 m c t _ n).trans ((congrFun (V_x m c) _).trans ((hX_row _ _ j e _).trans (by
    by_cases he : e.val < 4
    · rw [dif_pos he, dif_pos he]
      exact congrArg (fun u => (args m c).X (sq (ts t) j) ⟨e.val, he⟩ u) (Fin.ext (by show 128 * (12 + (tk t).val / 3) + n.val = 1536 + (128 * ((tk t).val / 3) + n.val); omega))
    · rw [dif_neg he, dif_neg he])))
  cm j e n := (in2 m c t _ n).trans ((congrFun (V_x m c) _).trans ((hX_row _ _ j e _).trans (by
    by_cases he : e.val < 4
    · rw [dif_pos he, dif_pos he]
      exact congrArg (fun u => (args m c).X (sq (ts t) j) ⟨e.val, he⟩ u) (Fin.ext (by show 128 * (16 + (tk t).val / 3) + n.val = 2048 + (128 * ((tk t).val / 3) + n.val); omega))
    · rw [dif_neg he, dif_neg he])))
  d j u q := (in3 m c t _ q).trans ((congrFun (V_d m c) _).trans ((hD_apply _ _ _).trans (by
    have h := gr8_row (ts t) j (w u)
    rw [dif_pos (h.2 ▸ w_lt u), ln_head]
    exact congrArg₂ (fun a b => (args m c).D (tok a b) (hl (tk t) q)) (Fin.ext h.1) (Fin.ext h.2))))
  b q := (in4 m c t q).trans ((congrFun (V_b m c) _).trans ((hV_apply _ _).trans (congrArg (args m c).b (ln_head _ q))))
  a q := (in5 m c t q).trans ((congrFun (V_a m c) _).trans ((hR_apply _ _).trans (congrArg (fun u => -Ideal.exp ((args m c).a u)) (ln_head _ q))))
  kk q := (in6 m c t q).trans ((congrFun (V_k m c) _).trans ((hV_apply _ _).trans (congrArg (args m c).k (ln_head _ q))))
  h j i p n := in7 m c t j i p n

/-- A point's output block. -/
theorem out_eq (t : Fin cfg0.N) (r q : Fin 128) : out0_8 (iblk m c 0 t) (iblk m c 1 t) (iblk m c 2 t) (iblk m c 3 t) (iblk m c 4 t) (iblk m c 5 t) (iblk m c 6 t) (iblk m c 7 t) (ix2 r q) = (args m c).o (gr8 (ts t) r) (ln (tk t) q) := by
  rw [out8]
  have hr : r = row ⟨r.val / 8, by omega⟩ ⟨r.val % 8, by omega⟩ := Fin.ext (by show r.val = 8 * (r.val / 8) + r.val % 8; omega)
  generalize (⟨r.val / 8, _⟩ : Fin 16) = j at hr
  generalize (⟨r.val % 8, _⟩ : Fin 8) = e at hr
  subst hr
  by_cases he : e.val < 4
  · exact (YB_tok (held m c t) j ⟨e.val, he⟩ q).trans (o_tok (args m c) (ts t) j e he (tk t) q).symm
  · exact (YB_none (held m c t) j e he q).trans (o_none (args m c) (ts t) j e he (tk t) q).symm

/-- The outputs' array ends at the samples' scan's outputs. -/
theorem final8 : (dats m 0 c).arrAt 8 cfg0.N = fun i : S1024x1536.Idx => (args m c).o (i 0) (i 1) := by
  refine (dats m 0 c).arrAt_eq_of_covers 8 _ (by decide +kernel) fun t hf y => ?_
  blk_simp
  rw [after0_8]
  have hi : win0_8.index t = ![t.val / 12, t.val % 12] := (idxs t).2.2.2.2.2.2.2.2.1
  refine (congrArg _ (eq_ix2 y)).trans ((out_eq m c t (y 0) (y 1)).trans (congrArg₂ (args m c).o (Fin.ext ?_) (Fin.ext ?_)))
  · show 128 * (t.val / 12) + (y 0).val = win0_8.index t (0 : Fin 2) * 128 + 1 * (y 0).val
    rw [hi]
    show 128 * (t.val / 12) + (y 0).val = t.val / 12 * 128 + 1 * (y 0).val
    omega
  · show 128 * (t.val % 12) + (y 1).val = win0_8.index t (1 : Fin 2) * 128 + 1 * (y 1).val
    rw [hi]
    show 128 * (t.val % 12) + (y 1).val = t.val % 12 * 128 + 1 * (y 1).val
    omega

/-- A point's states. -/
theorem state_eq (t : Fin cfg0.N) (j : Fin 16) (i : Fin 2) (p : Fin 64) (n : Fin 128) : out0_9 (iblk m c 0 t) (iblk m c 1 t) (iblk m c 2 t) (iblk m c 3 t) (iblk m c 4 t) (iblk m c 5 t) (iblk m c 6 t) (iblk m c 7 t) (ix4 j i p n)
    = (args m c).hf (sq (ts t) j) (hp (tk t) i) p n := by
  rw [out9]
  exact HA_held (held m c t) j i p n

/-- The states' array ends at the samples' scan's states. -/
theorem final9 : (dats m 0 c).arrAt 9 cfg0.N = fun i : S128x24x64x128.Idx => (args m c).hf (i 0) (i 1) (i 2) (i 3) := by
  refine (dats m 0 c).arrAt_eq_of_covers 9 _ (by decide +kernel) fun t hf y => ?_
  blk_simp
  rw [after0_9]
  have hi : win0_9.index t = ![t.val / 12, t.val % 12, 0, 0] := (idxs t).2.2.2.2.2.2.2.2.2
  refine (congrArg _ (eq_ix4 y)).trans ((state_eq m c t (y 0) (y 1) (y 2) (y 3)).trans ?_)
  have e0 : sq (ts t) (y 0) = ((win0_9.blk t).view.emb y : S128x24x64x128.Idx) 0 := Fin.ext (by
    show 16 * (t.val / 12) + (y 0).val = win0_9.index t (0 : Fin 4) * 16 + 1 * (y 0).val
    rw [hi]
    show 16 * (t.val / 12) + (y 0).val = t.val / 12 * 16 + 1 * (y 0).val
    omega)
  have e1 : hp (tk t) (y 1) = ((win0_9.blk t).view.emb y : S128x24x64x128.Idx) 1 := Fin.ext (by
    show 2 * (t.val % 12) + (y 1).val = win0_9.index t (1 : Fin 4) * 2 + 1 * (y 1).val
    rw [hi]
    show 2 * (t.val % 12) + (y 1).val = t.val % 12 * 2 + 1 * (y 1).val
    omega)
  have e2 : (y 2 : Fin 64) = ((win0_9.blk t).view.emb y : S128x24x64x128.Idx) 2 := Fin.ext (by
    show (y 2).val = win0_9.index t (2 : Fin 4) * 64 + 1 * (y 2).val
    rw [hi]
    show (y 2).val = 0 * 64 + 1 * (y 2).val
    omega)
  have e3 : (y 3 : Fin 128) = ((win0_9.blk t).view.emb y : S128x24x64x128.Idx) 3 := Fin.ext (by
    show (y 3).val = win0_9.index t (3 : Fin 4) * 128 + 1 * (y 3).val
    rw [hi]
    show (y 3).val = 0 * 128 + 1 * (y 3).val
    omega)
  exact hf_congr (args m c) e0 e1 e2 e3

end Cert.Kernel10Ideal.Samp

end
-- ==== Proof.SampleRef.lean ====
module

public import proofs.«01_k».proof.Proof.SampleSpec
public import proofs.«01_k».proof.Proof.RefScan
public import proofs.«01_k».proof.Proof.Gen.Reference10Ideal.Run
public import Idealize.ShloMosaic.Lib.Pointwise

@[expose] public section

set_option maxRecDepth 16384

noncomputable section

open Idealize.ShloMosaic Idealize.ShloMosaic.TcCoe Idealize.SL.Sem

namespace Cert.Reference10Ideal.Samp

open Cert.Reference10Ideal Cert.Reference10Ideal.Gen Cert.Reference10Ideal.Value Cert.Samp Idealize.ShloMosaic.StableHlo
open Cert.Scan (sp cumsum_last)

/-! ## The samples' scan as the reference computes it -/

/-- The head of a group and a head of the group. -/
def hg (g : Fin 4) (j : Fin 6) : Fin 24 := ⟨g.val * 6 + j.val, by omega⟩
theorem gr_hg (g : Fin 4) (j : Fin 6) : gr (hg g j) = g := by
  apply Fin.ext; show (g.val * 6 + j.val) / 6 = g.val; omega

/-- The raw steps with their bias. -/
def raw (D : FVec Ideal S512x24 .f32) (b : FVec Ideal S24 .f32) : FVec Ideal S128x4x24 .f32 :=
  addf (shapeCast _ D shapeCasts_S512x24_S128x4x24) (broadcastInDim S128x4x24 ![0, 1, 2] bcast_S1x1x24_S128x4x24_0_1_2 (broadcastInDim S1x1x24 ![2] bcast_S24_S1x1x24_2 b))
/-- Zeros. -/
def zr : FVec Ideal S128x4x24 .f32 := broadcastInDim S128x4x24 ![] bcast_S_S128x4x24 (constant S_ .f32 0x00000000#32)
/-- The softplus. -/
def soft (Y : FVec Ideal S128x4x24 .f32) : FVec Ideal S128x4x24 .f32 :=
  select (cmpf .une (subf Y zr) (subf Y zr)) (addf Y zr) (addf (maximumf Y zr) (Host.log1p (Host.exp (Host.negf (Host.absf (subf Y zr))))))
/-- The steps times the rate. -/
def rate (T : FVec Ideal S128x4x24 .f32) (a : FVec Ideal S24 .f32) : FVec Ideal S128x4x6x4 .f32 :=
  transpose S128x4x6x4 [0, 2, 3, 1] (shapeCast _ (mulf T (broadcastInDim S128x4x24 ![0, 1, 2] bcast_S1x1x24_S128x4x24_0_1_2 (broadcastInDim S1x1x24 ![2] bcast_S24_S1x1x24_2 (Host.negf (Host.exp a))))) shapeCasts_S128x4x24_S128x4x4x6) transposes_S128x4x4x6_S128x4x6x4_0_2_3_1
/-- The running sums. -/
def acum (R : FVec Ideal S128x4x6x4 .f32) : FVec Ideal S128x4x6x4 .f32 :=
  Host.reduceWindowAdd ![1, 1, 1, 4] ![1, 1, 1, 1] ![0, 0, 0, 3] ![0, 0, 0, 0] R (broadcastInDim S_ ![] bcast_S_S_ (constant S_ .f32 0x00000000#32)) reduceWindows_S128x4x6x4_S128x4x6x4_w1s1p0_0_w1s1p0_0_w1s1p0_0_w4s1p3_0 h_S_
/-- The channels by heads. -/
def chs (X : FVec Ideal S128x4x2560 .f32) : FVec Ideal S128x4x4x6x64 .f32 :=
  shapeCast _ (extractStridedSlice S128x4x1536 ![0, 0, 0] X slices_S128x4x2560_S128x4x1536_0_0_0) shapeCasts_S128x4x1536_S128x4x4x6x64
/-- The readouts. -/
def rdo (X : FVec Ideal S128x4x2560 .f32) : FVec Ideal S128x4x4x128 .f32 :=
  shapeCast _ (extractStridedSlice S128x4x512 ![0, 0, 2048] X slices_S128x4x2560_S128x4x512_0_0_2048) shapeCasts_S128x4x512_S128x4x4x128
/-- The keys. -/
def kys (X : FVec Ideal S128x4x2560 .f32) : FVec Ideal S128x4x4x128 .f32 :=
  shapeCast _ (extractStridedSlice S128x4x512 ![0, 0, 1536] X slices_S128x4x2560_S128x4x512_0_0_1536) shapeCasts_S128x4x512_S128x4x4x128
/-- The channels times the steps. -/
def xdt (S : FVec Ideal S128x4x4x6x64 .f32) (T : FVec Ideal S128x4x24 .f32) : FVec Ideal S128x4x4x6x64 .f32 :=
  mulf S (broadcastInDim S128x4x4x6x64 ![0, 1, 2, 3, 4] bcast_S128x4x4x6x1_S128x4x4x6x64_0_1_2_3_4 (broadcastInDim S128x4x4x6x1 ![0, 1, 2, 3] bcast_S128x4x4x6_S128x4x4x6x1_0_1_2_3 (shapeCast _ T shapeCasts_S128x4x24_S128x4x4x6)))
/-- The mask of the earlier tokens. -/
def tri : IVec S128x4x6x4x4 1 :=
  broadcastInDim S128x4x6x4x4 ![3, 4] bcast_S4x4_S128x4x6x4x4_3_4 (select (cmpi .sge (addi (iotaInDim S4x4 32 0) (broadcastInDim S4x4 ![] bcast_S_S4x4 (constantI S_ 32 0#32))) (iotaInDim S4x4 32 1)) (broadcastInDim S4x4 ![] bcast_S_S4x4 (constantI S_ 1 1#1)) (broadcastInDim S4x4 ![] bcast_S_S4x4 (constantI S_ 1 0#1)))
/-- Zeros of the decays' shape. -/
def zz : FVec Ideal S128x4x6x4x4 .f32 := broadcastInDim S128x4x6x4x4 ![] bcast_S_S128x4x6x4x4 (id (constant S_ .f32 0x00000000#32))
/-- The decay between two tokens. -/
def lm (Q : FVec Ideal S128x4x6x4 .f32) : FVec Ideal S128x4x6x4x4 .f32 :=
  select tri (Host.exp (select tri (subf (broadcastInDim S128x4x6x4x4 ![0, 1, 2, 3, 4] bcast_S128x4x6x4x1_S128x4x6x4x4_0_1_2_3_4 (broadcastInDim S128x4x6x4x1 ![0, 1, 2, 3] bcast_S128x4x6x4_S128x4x6x4x1_0_1_2_3 Q)) (broadcastInDim S128x4x6x4x4 ![0, 1, 2, 3, 4] bcast_S128x4x6x1x4_S128x4x6x4x4_0_1_2_3_4 (broadcastInDim S128x4x6x1x4 ![0, 1, 2, 4] bcast_S128x4x6x4_S128x4x6x1x4_0_1_2_4 Q))) zz)) zz
/-- What the earlier tokens give. -/
def ydg (E : FVec Ideal S128x4x4x6x64 .f32) (K R : FVec Ideal S128x4x4x128 .f32) (M : FVec Ideal S128x4x6x4x4 .f32) : FVec Ideal S128x4x4x6x64 .f32 :=
  transpose S128x4x4x6x64 [0, 4, 1, 2, 3] (Host.dotGeneral dot_S128x4x4x6x64_S128x4x6x4x4_S128x4x6x64x4_1_4_4_3_023_012 none E (mulf (broadcastInDim S128x4x6x4x4 ![0, 1, 2, 3, 4] bcast_S128x4x1x4x4_S128x4x6x4x4_0_1_2_3_4 (broadcastInDim S128x4x1x4x4 ![0, 1, 3, 4] bcast_S128x4x4x4_S128x4x1x4x4_0_1_3_4 (Host.dotGeneral dot_S128x4x4x128_S128x4x4x128_S128x4x4x4_3_3_1_1_02_02 none R K))) M)) transposes_S128x4x6x64x4_S128x4x4x6x64_0_4_1_2_3
/-- What the state gives. -/
def yof (H : FVec Ideal S128x24x64x128 .f32) (R : FVec Ideal S128x4x4x128 .f32) (Q : FVec Ideal S128x4x6x4 .f32) : FVec Ideal S128x4x4x6x64 .f32 :=
  mulf (transpose S128x4x4x6x64 [0, 4, 1, 2, 3] (Host.dotGeneral dot_S128x4x6x64x128_S128x4x4x128_S128x4x6x64x4_4_3_23_1_01_02 none (shapeCast _ H shapeCasts_S128x24x64x128_S128x4x6x64x128) R) transposes_S128x4x6x64x4_S128x4x4x6x64_0_4_1_2_3) (broadcastInDim S128x4x4x6x64 ![0, 1, 2, 3, 4] bcast_S128x4x4x6x1_S128x4x4x6x64_0_1_2_3_4 (broadcastInDim S128x4x4x6x1 ![0, 1, 2, 3] bcast_S128x4x4x6_S128x4x4x6x1_0_1_2_3 (transpose S128x4x4x6 [0, 3, 1, 2] (Host.exp Q) transposes_S128x4x6x4_S128x4x4x6_0_3_1_2)))
/-- The skip. -/
def skp (k : FVec Ideal S24 .f32) (S : FVec Ideal S128x4x4x6x64 .f32) : FVec Ideal S128x4x4x6x64 .f32 :=
  mulf (broadcastInDim S128x4x4x6x64 ![0, 1, 2, 3, 4] bcast_S1x1x4x6x1_S128x4x4x6x64_0_1_2_3_4 (broadcastInDim S1x1x4x6x1 ![2, 3, 4] bcast_S4x6x1_S1x1x4x6x1_2_3_4 (broadcastInDim S4x6x1 ![0, 1] bcast_S4x6_S4x6x1_0_1 (shapeCast _ k shapeCasts_S24_S4x6)))) S
/-- The rows of eight, from the tokens. -/
def rows8 (Y : FVec Ideal S128x4x4x6x64 .f32) : FVec Ideal S1024x1536 .f32 :=
  shapeCast _ (pad S128x8x1536 ![0, 0, 0] ![0, 4, 0] ![0, 0, 0] (shapeCast _ Y shapeCasts_S128x4x4x6x64_S128x4x1536) (sitofp .f32 (constantI S_ 32 0#32)) pads_S128x4x1536_S128x8x1536_000_040_000 h_S_) shapeCasts_S128x8x1536_S1024x1536
/-- The last running sum. -/
def lst (Q : FVec Ideal S128x4x6x4 .f32) : FVec Ideal S128x4x6x1 .f32 := extractStridedSlice S128x4x6x1 ![0, 0, 0, 3] Q slices_S128x4x6x4_S128x4x6x1_0_0_0_3
/-- The state a sequence leaves. -/
def hfin (H : FVec Ideal S128x24x64x128 .f32) (Q : FVec Ideal S128x4x6x4 .f32) (E : FVec Ideal S128x4x4x6x64 .f32) (K : FVec Ideal S128x4x4x128 .f32) : FVec Ideal S128x24x64x128 .f32 :=
  shapeCast _ (addf (mulf (shapeCast _ H shapeCasts_S128x24x64x128_S128x4x6x64x128) (broadcastInDim S128x4x6x64x128 ![0, 1, 2, 3, 4] bcast_S128x4x6x1x1_S128x4x6x64x128_0_1_2_3_4 (broadcastInDim S128x4x6x1x1 ![0, 1, 2] bcast_S128x4x6_S128x4x6x1x1_0_1_2 (Host.exp (shapeCast _ (lst Q) shapeCasts_S128x4x6x1_S128x4x6))))) (Host.dotGeneral dot_S128x4x4x6x64_S128x4x4x128_S128x4x6x64x128_1_1_34_3_02_02 none (mulf E (broadcastInDim S128x4x4x6x64 ![0, 1, 2, 3, 4] bcast_S128x4x4x6x1_S128x4x4x6x64_0_1_2_3_4 (broadcastInDim S128x4x4x6x1 ![0, 1, 2, 3] bcast_S128x4x4x6_S128x4x4x6x1_0_1_2_3 (transpose S128x4x4x6 [0, 3, 1, 2] (Host.exp (subf (broadcastInDim S128x4x6x4 ![0, 1, 2, 3] bcast_S128x4x6x1_S128x4x6x4_0_1_2_3 (lst Q)) Q)) transposes_S128x4x6x4_S128x4x4x6_0_3_1_2)))) K)) shapeCasts_S128x4x6x64x128_S128x24x64x128

/-! ## The same, entry by entry -/

theorem raw_apply (D : FVec Ideal S512x24 .f32) (b : FVec Ideal S24 .f32) (s : Fin 128) (l : Fin 4) (h : Fin 24) :
    raw D b (ix3 s l h) = D (ix2 ⟨4 * s.val + l.val, by omega⟩ h) + b (ix1 h) := by
  pointwise [raw]
  exact congrArg (fun q => D (ix2 q h) + b (ix1 h)) (Fin.ext (by show s.val * 4 + l.val = 4 * s.val + l.val; omega))
theorem soft_apply (Y : FVec Ideal S128x4x24 .f32) (s : Fin 128) (l : Fin 4) (h : Fin 24) : soft Y (ix3 s l h) = sp (Y (ix3 s l h)) := by
  pointwise [soft, zr]
  rw [if_neg (fun h => h rfl)]
  rfl
theorem rate_apply (T : FVec Ideal S128x4x24 .f32) (a : FVec Ideal S24 .f32) (s : Fin 128) (g : Fin 4) (j : Fin 6) (l : Fin 4) :
    rate T a (ix4 s g j l) = T (ix3 s l (hg g j)) * -Ideal.exp (a (ix1 (hg g j))) := by
  pointwise [rate]
  rfl
theorem acum_apply (R : FVec Ideal S128x4x6x4 .f32) (s : Fin 128) (g : Fin 4) (j : Fin 6) (l : Fin 4) :
    acum R (ix4 s g j l) = ∑ q : Fin 4, if q.val ≤ l.val then R (ix4 s g j q) else (0 : EReal) :=
  have hz : ∀ i, (broadcastInDim S_ ![] bcast_S_S_ (constant (F := Ideal) S_ FTy.f32 0#32) : Vec Ideal S_ .f32) i = (0 : EReal) := fun i => by pointwise
  cumsum_last (N := 4) (Nm1 := 3) rfl R _ hz _ _ s g j l
theorem chs_apply (X : FVec Ideal S128x4x2560 .f32) (s : Fin 128) (l : Fin 4) (g : Fin 4) (j : Fin 6) (p : Fin 64) :
    chs X (ix5 s l g j p) = X (ix3 s l ⟨64 * (hg g j).val + p.val, by omega⟩) := by
  pointwise [chs]
  exact congrArg (fun q => X (ix3 s l q)) (Fin.ext (by show g.val * 384 + j.val * 64 + p.val = 64 * (g.val * 6 + j.val) + p.val; omega))
theorem rdo_apply (X : FVec Ideal S128x4x2560 .f32) (s : Fin 128) (l : Fin 4) (g : Fin 4) (n : Fin 128) :
    rdo X (ix4 s l g n) = X (ix3 s l ⟨2048 + (128 * g.val + n.val), by omega⟩) := by
  pointwise [rdo]
  exact congrArg (fun q => X (ix3 s l q)) (Fin.ext (by show 2048 + (g.val * 128 + n.val) = 2048 + (128 * g.val + n.val); omega))
theorem kys_apply (X : FVec Ideal S128x4x2560 .f32) (s : Fin 128) (l : Fin 4) (g : Fin 4) (n : Fin 128) :
    kys X (ix4 s l g n) = X (ix3 s l ⟨1536 + (128 * g.val + n.val), by omega⟩) := by
  pointwise [kys]
  exact congrArg (fun q => X (ix3 s l q)) (Fin.ext (by show 1536 + (g.val * 128 + n.val) = 1536 + (128 * g.val + n.val); omega))
theorem xdt_apply (S : FVec Ideal S128x4x4x6x64 .f32) (T : FVec Ideal S128x4x24 .f32) (s : Fin 128) (l : Fin 4) (g : Fin 4) (j : Fin 6) (p : Fin 64) :
    xdt S T (ix5 s l g j p) = S (ix5 s l g j p) * T (ix3 s l (hg g j)) := by
  pointwise [xdt]
  rfl
theorem sge_eq : ∀ l s : Fin 4, IntOp.cmpi CmpIPredicate.sge (IntOp.addi (BitVec.ofNat 32 l.val) 0#32) (BitVec.ofNat 32 s.val) = if s.val ≤ l.val then 1#1 else 0#1 := by
  decide +kernel
theorem tri_apply (s : Fin 128) (g : Fin 4) (j : Fin 6) (l q : Fin 4) : tri (ix5 s g j l q) = if q.val ≤ l.val then 1#1 else 0#1 := by
  pointwise [tri]
  rw [sge_eq]
  split <;> rfl
theorem zero_lit : (constant (F := Ideal) S_ .f32 0#32 : FVec Ideal S_ .f32) ix0 = (0 : EReal) := by pointwise
theorem zero_int : (FloatOps.sitofp (F := Ideal) .f32 (0#32) : EReal) = 0 := by show ((BitVec.toInt 0#32 : ℝ) : EReal) = 0; simp
theorem lm_apply (Q : FVec Ideal S128x4x6x4 .f32) (s : Fin 128) (g : Fin 4) (j : Fin 6) (l q : Fin 4) :
    lm Q (ix5 s g j l q) = if q.val ≤ l.val then Ideal.exp (Q (ix4 s g j l) - Q (ix4 s g j q)) else 0 := by
  pointwise [lm, zz]
  rw [tri_apply]
  by_cases h : q.val ≤ l.val
  · simp only [if_pos h]; rfl
  · simp only [if_neg h]; exact zero_lit
theorem ydg_apply (E : FVec Ideal S128x4x4x6x64 .f32) (K R : FVec Ideal S128x4x4x128 .f32) (M : FVec Ideal S128x4x6x4x4 .f32) (s : Fin 128) (l : Fin 4) (g : Fin 4) (j : Fin 6) (p : Fin 64) :
    ydg E K R M (ix5 s l g j p) = ∑ q : Fin 4, E (ix5 s q g j p) * ((∑ n : Fin 128, R (ix4 s l g n) * K (ix4 s q g n)) * M (ix5 s g j l q)) := by
  pointwise [ydg]
theorem yof_apply (H : FVec Ideal S128x24x64x128 .f32) (R : FVec Ideal S128x4x4x128 .f32) (Q : FVec Ideal S128x4x6x4 .f32) (s : Fin 128) (l : Fin 4) (g : Fin 4) (j : Fin 6) (p : Fin 64) :
    yof H R Q (ix5 s l g j p) = (∑ n : Fin 128, H (ix4 s (hg g j) p n) * R (ix4 s l g n)) * Ideal.exp (Q (ix4 s g j l)) := by
  pointwise [yof]
  rfl
theorem skp_apply (k : FVec Ideal S24 .f32) (S : FVec Ideal S128x4x4x6x64 .f32) (s : Fin 128) (l : Fin 4) (g : Fin 4) (j : Fin 6) (p : Fin 64) :
    skp k S (ix5 s l g j p) = k (ix1 (hg g j)) * S (ix5 s l g j p) := by
  pointwise [skp]
  rfl
theorem rows8_apply (Y : FVec Ideal S128x4x4x6x64 .f32) (r : Fin 1024) (k : Fin 1536) :
    rows8 Y (ix2 r k) = if h : r.val % 8 < 4 then Y (ix5 ⟨r.val / 8, by omega⟩ ⟨r.val % 8, h⟩ ⟨k.val / 384, by omega⟩ ⟨k.val / 64 % 6, by omega⟩ ⟨k.val % 64, by omega⟩) else 0 := by
  pointwise [rows8]
  by_cases h : r.val % 8 < 4
  · rw [dif_pos h, dif_pos ⟨by omega, h⟩]
  · rw [dif_neg h, dif_neg (fun hh => h hh.2)]; exact zero_int
theorem hfin_apply (H : FVec Ideal S128x24x64x128 .f32) (Q : FVec Ideal S128x4x6x4 .f32) (E : FVec Ideal S128x4x4x6x64 .f32) (K : FVec Ideal S128x4x4x128 .f32) (s : Fin 128) (h : Fin 24) (p : Fin 64) (n : Fin 128) :
    hfin H Q E K (ix4 s h p n) = H (ix4 s h p n) * Ideal.exp (Q (ix4 s ⟨h.val / 6, by omega⟩ ⟨h.val % 6, by omega⟩ 3))
      + ∑ q : Fin 4, E (ix5 s q ⟨h.val / 6, by omega⟩ ⟨h.val % 6, by omega⟩ p) * Ideal.exp (Q (ix4 s ⟨h.val / 6, by omega⟩ ⟨h.val % 6, by omega⟩ 3) - Q (ix4 s ⟨h.val / 6, by omega⟩ ⟨h.val % 6, by omega⟩ q)) * K (ix4 s q ⟨h.val / 6, by omega⟩ n) := by
  pointwise [hfin, lst]

/-! ## The reference's results -/

variable (m : (ℓ : Loc nD τ sig) → Buf (Elt Ideal) ℓ) (ρ : Dev nD → PrngReg) (c : Dev nD)

/-- The samples' scan's arguments, as the memory holds them. -/
def args : Args where
  X s l k := (m ((c.tc : Thread nD τ).loc main_arg0) : Vec Ideal S128x4x2560 .f32) (ix3 s l k)
  D r h := (m ((c.tc : Thread nD τ).loc main_arg1) : Vec Ideal S512x24 .f32) (ix2 r h)
  b h := (m ((c.tc : Thread nD τ).loc main_arg2) : Vec Ideal S24 .f32) (ix1 h)
  a h := (m ((c.tc : Thread nD τ).loc main_arg3) : Vec Ideal S24 .f32) (ix1 h)
  k h := (m ((c.tc : Thread nD τ).loc main_arg4) : Vec Ideal S24 .f32) (ix1 h)
  H s h p n := (m ((c.tc : Thread nD τ).loc main_arg5) : Vec Ideal S128x24x64x128 .f32) (ix4 s h p n)

/-- The channels held. -/
abbrev eX := chs (m ((c.tc : Thread nD τ).loc main_arg0))
/-- The keys held. -/
abbrev eK := kys (m ((c.tc : Thread nD τ).loc main_arg0))
/-- The readouts held. -/
abbrev eR := rdo (m ((c.tc : Thread nD τ).loc main_arg0))
/-- The steps held. -/
abbrev eT := soft (raw (m ((c.tc : Thread nD τ).loc main_arg1)) (m ((c.tc : Thread nD τ).loc main_arg2)))
/-- The running sums held. -/
abbrev eQ := acum (rate (eT m c) (m ((c.tc : Thread nD τ).loc main_arg3)))

/-- The outputs the reference leaves. -/
def outY : FVec Ideal S1024x1536 .f32 :=
  rows8 (addf (addf (ydg (xdt (eX m c) (eT m c)) (eK m c) (eR m c) (lm (eQ m c))) (yof (m ((c.tc : Thread nD τ).loc main_arg5)) (eR m c) (eQ m c))) (skp (m ((c.tc : Thread nD τ).loc main_arg4)) (eX m c)))
/-- The state the reference leaves. -/
def outH : FVec Ideal S128x24x64x128 .f32 := hfin (m ((c.tc : Thread nD τ).loc main_arg5)) (eQ m c) (xdt (eX m c) (eT m c)) (eK m c)

theorem eT_apply (s : Fin 128) (l : Fin 4) (h : Fin 24) : eT m c (ix3 s l h) = (args m c).dt s l h := by
  unfold eT
  rw [soft_apply, raw_apply]
  rfl
theorem eQ_apply (s : Fin 128) (g : Fin 4) (j : Fin 6) (l : Fin 4) : eQ m c (ix4 s g j l) = (args m c).ac s l (hg g j) := by
  unfold eQ
  rw [acum_apply]
  simp only [rate_apply, eT_apply]
  rfl
theorem eE_apply (s : Fin 128) (l : Fin 4) (g : Fin 4) (j : Fin 6) (p : Fin 64) : xdt (eX m c) (eT m c) (ix5 s l g j p) = (args m c).xs s l (hg g j) p * (args m c).dt s l (hg g j) := by
  rw [xdt_apply, eT_apply]
  unfold eX
  rw [chs_apply]
  rfl
/-- One entry of the outputs before their rows of eight. -/
theorem y_apply (s : Fin 128) (l : Fin 4) (g : Fin 4) (j : Fin 6) (p : Fin 64) :
    addf (addf (ydg (xdt (eX m c) (eT m c)) (eK m c) (eR m c) (lm (eQ m c))) (yof (m ((c.tc : Thread nD τ).loc main_arg5)) (eR m c) (eQ m c))) (skp (m ((c.tc : Thread nD τ).loc main_arg4)) (eX m c)) (ix5 s l g j p) = (args m c).y s l (hg g j) p := by
  refine (congrArg₂ (fun a b => a + b : EReal → EReal → EReal) (congrArg₂ (fun a b => a + b : EReal → EReal → EReal) (ydg_apply _ _ _ _ s l g j p) (yof_apply _ _ _ s l g j p)) (skp_apply _ _ s l g j p)).trans ?_
  simp only [eE_apply, kys_apply, rdo_apply, lm_apply, eQ_apply, chs_apply]
  unfold Args.y
  rw [gr_hg]
  rfl
theorem hg_of (h : Fin 24) : hg ⟨h.val / 6, by omega⟩ ⟨h.val % 6, by omega⟩ = h := Fin.ext (by show h.val / 6 * 6 + h.val % 6 = h.val; omega)
/-- The reference's outputs, entry by entry. -/
theorem outY_eq (i : S1024x1536.Idx) : outY m c i = (args m c).o (i 0) (i 1) := by
  have key : ∀ (r : Fin 1024) (k : Fin 1536), outY m c (ix2 r k) = (args m c).o r k := fun r k => by
    unfold outY Args.o
    rw [rows8_apply]
    by_cases h : r.val % 8 < 4
    · rw [dif_pos h, dif_pos h, y_apply]
      exact congrArg (fun q => (args m c).y _ _ q _) (Fin.ext (by show k.val / 384 * 6 + k.val / 64 % 6 = k.val / 64; omega))
    · rw [dif_neg h, dif_neg h]
  exact (congrArg _ (eq_ix2 i)).trans (key (i 0) (i 1))
/-- The reference's state, entry by entry. -/
theorem outH_eq (i : S128x24x64x128.Idx) : outH m c i = (args m c).hf (i 0) (i 1) (i 2) (i 3) := by
  have key : ∀ (s : Fin 128) (h : Fin 24) (p : Fin 64) (n : Fin 128), outH m c (ix4 s h p n) = (args m c).hf s h p n := fun s h p n => by
    unfold outH Args.hf
    rw [hfin_apply]
    simp only [eE_apply, eQ_apply, kys_apply, hg_of]
    rfl
  exact (congrArg _ (eq_ix4 i)).trans (key (i 0) (i 1) (i 2) (i 3))

/-- The reference runs, leaves the samples' scan's outputs and states, and keeps its arguments. -/
theorem run : θ_run defs (onTc (τ := τ) (main (F := Ideal))) ⟨m, fun _ => 0, ρ⟩ fun r => ∀ c : Dev nD,
      r.2.mem ((c.tc : Thread nD τ).loc main_v72) = (fun i : S1024x1536.Idx => (args m c).o (i 0) (i 1))
      ∧ r.2.mem ((c.tc : Thread nD τ).loc main_v73) = (fun i : S128x24x64x128.Idx => (args m c).hf (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (funext fun i => outY_eq m c i), (h c).2.1.trans (funext fun i => outH_eq m c i), (h c).2.2⟩) (Value.run m ρ)

end Cert.Reference10Ideal.Samp

end
-- ==== Proof.NormSpec.lean ====
module

public import Idealize.ShloMosaic.Lib.Pointwise

@[expose] public section

noncomputable section

open Idealize.ShloMosaic Idealize.ShloMosaic.TcCoe Idealize.SL.Sem

namespace Cert.GNorm

/-! ## The gated norm, as a function of its arguments -/

/-- A channel times its gate's product with the gate's own sigmoid. -/
def gated (y z : EReal) : EReal := y * (z * Ideal.div 1 (1 + Ideal.exp (-z)))

/-- The channels a channel is normed with: the 384 of its group. -/
def grp (k : Fin 1536) (i : Fin 384) : Fin 1536 := ⟨384 * (k.val / 384) + i.val, by omega⟩

/-- A row's channel divided by the root of its group's mean square, the norm's smallest summand under the root. -/
def gnorm (u : Fin 1536 → EReal) (k : Fin 1536) : EReal :=
  u k * Ideal.rsqrt (Ideal.div (∑ i : Fin 384, u (grp k i) * u (grp k i)) (Ideal.ofBits FTy.f32 0x43C00000#32) + Ideal.ofBits FTy.f32 0x358637BD#32)

/-- What the gated norm takes: the rows, their gates, the gain. -/
structure Args where
  /-- rows -/
  y : Fin 8704 → Fin 1536 → EReal
  /-- gates -/
  z : Fin 8704 → Fin 1536 → EReal
  /-- gain -/
  g : Fin 1536 → EReal

/-- The gated norm's rows. -/
def Args.o (A : Args) (r : Fin 8704) (k : Fin 1536) : EReal := gnorm (fun i => gated (A.y r i) (A.z r i)) k * A.g k

end Cert.GNorm

end
-- ==== Proof.NormKernel.lean ====
module

public import proofs.«01_k».proof.Proof.NormSpec
public import proofs.«01_k».proof.Proof.Gen.Kernel14Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel14Ideal.Norm

open Cert.GNorm Cert.Kernel14Ideal Cert.Kernel14Ideal.Gen Cert.Kernel14Ideal.Value

/-! ## What the body computes from its loads -/

/-- A group's columns of a block. -/
def col (j : ℕ) (hj : j < 4) (q : Fin 384) : Fin 1536 := ⟨384 * j + q.val, by omega⟩

/-- A block's gated rows. -/
def uB (y z : Vec Ideal S512x1536 .f32) (p : Fin 512) (k : Fin 1536) : EReal := gated (y (ix2 p k)) (z (ix2 p k))

/-- The gated rows, as the body computes them. -/
theorem pay1_apply (z y : Vec Ideal S512x1536 .f32) (p : Fin 512) (k : Fin 1536) : (k0_pay1 z y : FVec Ideal S512x1536 .f32) (ix2 p k) = uB y z p k := by
  unfold uB gated
  pointwise [k0_pay1]
  rw [zero_sub]

/-- A group's channels are normed with one another. -/
theorem grp_col (j : ℕ) (hj : j < 4) (q i : Fin 384) : grp (col j hj q) i = col j hj i := Fin.ext (by
  show 384 * ((384 * j + q.val) / 384) + i.val = 384 * j + i.val
  omega)

/-- A group's norm, the group's columns written out. -/
theorem gnorm_col (u : Fin 1536 → EReal) (j : ℕ) (hj : j < 4) (q : Fin 384) : gnorm u (col j hj q)
    = u (col j hj q) * Ideal.rsqrt (Ideal.div (∑ i : Fin 384, u (col j hj i) * u (col j hj i)) (Ideal.ofBits FTy.f32 0x43C00000#32) + Ideal.ofBits FTy.f32 0x358637BD#32) := by
  unfold gnorm
  simp only [grp_col]

variable (z y : Vec Ideal S512x1536 .f32) (g : Vec Ideal S1x384 .f32) (p : Fin 512) (q : Fin 384)

/-- The first group's columns. -/
theorem pay2_apply : (k0_pay2 z y g : FVec Ideal S512x384 .bf16) (ix2 p q) = gnorm (uB y z p) (col 0 (by decide) q) * g (ix2 0 q) := by
  rw [gnorm_col]
  simp only [← pay1_apply]
  unfold k0_pay2
  generalize (k0_pay1 z y : FVec Ideal S512x1536 .f32) = u
  pointwise
  simp only [col, Nat.mul_zero, Nat.zero_add]

/-- The second group's columns. -/
theorem pay4_apply : (k0_pay4 (k0_pay3 z y) g : FVec Ideal S512x384 .bf16) (ix2 p q) = gnorm (uB y z p) (col 1 (by decide) q) * g (ix2 0 q) := by
  rw [gnorm_col]
  simp only [← pay1_apply]
  unfold k0_pay4 k0_pay3
  generalize (k0_pay1 z y : FVec Ideal S512x1536 .f32) = u
  pointwise
  rfl

/-- The third group's columns. -/
theorem pay5_apply : (k0_pay5 (k0_pay1 z y) g : FVec Ideal S512x384 .bf16) (ix2 p q) = gnorm (uB y z p) (col 2 (by decide) q) * g (ix2 0 q) := by
  rw [gnorm_col]
  simp only [← pay1_apply]
  unfold k0_pay5
  generalize (k0_pay1 z y : FVec Ideal S512x1536 .f32) = u
  pointwise
  rfl

/-- The last group's columns. -/
theorem pay6_apply : (k0_pay6 (k0_pay1 z y) g : FVec Ideal S512x384 .bf16) (ix2 p q) = gnorm (uB y z p) (col 3 (by decide) q) * g (ix2 0 q) := by
  rw [gnorm_col]
  simp only [← pay1_apply]
  unfold k0_pay6
  generalize (k0_pay1 z y : FVec Ideal S512x1536 .f32) = u
  pointwise
  rfl

/-- A block after the body. -/
def NB (y z : Vec Ideal S512x1536 .f32) (g : Vec Ideal S1x1536 .f32) : Vec Ideal S512x1536 .bf16 :=
  fun i => gnorm (uB y z (i 0)) (i 1) * g (ix2 0 (i 1))

/-- A group's columns of the gain. -/
theorem ld_g (g : Vec Ideal S1x1536 .f32) (j : ℕ) (hj : j < 4) (h : ∀ a, ![0, 384 * j] a + ![1, 384] a ≤ S1x1536.size a) (q : Fin 384) :
    View.ld g (Rect.unit (![0, 384 * j] : Fin 2 → ℕ) ![1, 384] h) (ix2 0 q) = g (ix2 0 (col j hj q)) := by
  refine congrArg g (funext fun a => Fin.ext ?_)
  match a with
  | ⟨0, _⟩ => show 0 + 1 * 0 = 0; omega
  | ⟨1, _⟩ => show 384 * j + 1 * q.val = 384 * j + q.val; omega

/-- A stored group of columns is the block's, once its entries are. -/
theorem piece (y z : Vec Ideal S512x1536 .f32) (g : Vec Ideal S1x1536 .f32) (j : ℕ) (hj : j < 4) (h : ∀ a, ![0, 384 * j] a + ![1, 384] a ≤ S1x1536.size a)
    (ho : ∀ a, ![0, 384 * j] a + ![512, 384] a ≤ S512x1536.size a) (f : Vec Ideal S512x384 .bf16)
    (e : ∀ p q, f (ix2 p q) = gnorm (uB y z p) (col j hj q) * View.ld g (Rect.unit (![0, 384 * j] : Fin 2 → ℕ) ![1, 384] h) (ix2 0 q)) (x : S512x384.Idx) :
    f x = NB y z g ((Rect.unit (s := S512x1536) (![0, 384 * j] : Fin 2 → ℕ) ![512, 384] ho).emb x) := by
  have hx : (Rect.unit (s := S512x1536) (![0, 384 * j] : Fin 2 → ℕ) ![512, 384] ho).emb x = ix2 (x 0) (col j hj (x 1)) := by
    funext a
    refine Fin.ext ?_
    match a with
    | ⟨0, _⟩ => show 0 + 1 * (x 0).val = (x 0).val; omega
    | ⟨1, _⟩ => show 384 * j + 1 * (x 1).val = 384 * j + (x 1).val; omega
  rw [hx]
  exact (congrArg f (eq_ix2 x)).trans ((e _ _).trans (congrArg (gnorm (uB y z (x 0)) (col j hj (x 1)) * ·) (ld_g g j hj h (x 1))))

/-! ## What a grid point takes and leaves -/

variable (m : (ℓ : Loc nD τ sig) → Buf (Elt Ideal) ℓ) (c : Dev nD)

/-- The printed index maps, decided over the grid. -/
theorem idxs : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- A point's row among all. -/
def row (t : Fin cfg0.N) (p : Fin 512) : Fin 8704 := ⟨512 * t.val + p.val, by have := lt_of_lt_of_eq t.isLt N_0; omega⟩

/-- The gated norm's arguments, as the memory holds them. -/
def args : Args where
  y r k := (m ((c : Thread nD τ).loc main_arg0) : Vec Ideal S8704x1536 .f32) (ix2 r k)
  z r k := (m ((c : Thread nD τ).loc main_arg1) : Vec Ideal S8704x4864 .f32) (ix2 r ⟨k.val, by omega⟩)
  g k := (m ((c : Thread nD τ).loc main_arg2) : Vec Ideal S1x1536 .f32) (ix2 0 k)

/-- A point's rows. -/
theorem in0 (t : Fin cfg0.N) (p : Fin 512) (k : Fin 1536) : (iblk m c 0 t : Vec Ideal S512x1536 .f32) (ix2 p k) = (args m c).y (row t p) k := by
  unfold args row
  blk_ext [iblk, V, idxs t, V_main_arg0]

/-- A point's gates. -/
theorem in1 (t : Fin cfg0.N) (p : Fin 512) (k : Fin 1536) : (X0_1 m c t : Vec Ideal S512x1536 .f32) (ix2 p k) = (args m c).z (row t p) k := by
  unfold X0_1 Pipeline.Window.fill
  rw [dif_pos (moved0_1 t _)]
  have h0 := congrFun (idxs t).2.1 0
  have h1 := congrFun (idxs t).2.1 1
  show V m c main_arg1 _ = _
  rw [V_main_arg1]
  refine congrArg (m ((c : Thread nD τ).loc main_arg1)) (funext fun a => Fin.ext ?_)
  match a with
  | ⟨0, _⟩ =>
    show win0_1.index t (0 : Fin 2) * 512 + 1 * p.val = _
    rw [h0]
    show t.val * 512 + 1 * p.val = 512 * t.val + p.val
    omega
  | ⟨1, _⟩ =>
    show win0_1.index t (1 : Fin 2) * 1536 + 1 * k.val = _
    rw [h1]
    show 0 * 1536 + 1 * k.val = k.val
    omega

/-- The gain the call takes. -/
theorem V_g : (V m c main_v1 : Vec Ideal S1x1536 .f32) = shapeCast S1x1536 (shapeCast S1536 (m ((c : Thread nD τ).loc main_arg2) : Vec Ideal S1x1536 .f32) shapeCasts_S1x1536_S1536) shapeCasts_S1536_S1x1536 := by
  unfold V
  simp only [List.flatten_cons, List.flatten_nil, List.append_nil, List.cons_append, List.nil_append, hostOps0]
  after_results
  rfl

/-- The gain, flattened and made a row again. -/
theorem g_apply (g : Vec Ideal S1x1536 .f32) (k : Fin 1536) : (shapeCast S1x1536 (shapeCast S1536 g shapeCasts_S1x1536_S1536) shapeCasts_S1536_S1x1536 : Vec Ideal S1x1536 .f32) (ix2 0 k) = g (ix2 0 k) := by
  pointwise

/-- A point's gain. -/
theorem in2 (t : Fin cfg0.N) (k : Fin 1536) : (iblk m c 2 t : Vec Ideal S1x1536 .f32) (ix2 0 k) = (args m c).g k := by
  have e : (iblk m c 2 t : Vec Ideal S1x1536 .f32) (ix2 0 k) = (V m c main_v1 : Vec Ideal S1x1536 .f32) (ix2 0 k) := by
    blk_ext [iblk, idxs t]
  exact e.trans ((congrFun (V_g m c) _).trans (g_apply _ k))

/-- A point's block after the body. -/
theorem out3 (t : Fin cfg0.N) : outsAt0 m c t = NB (iblk m c 0 t) (X0_1 m c t) (iblk m c 2 t) := by
  unfold outsAt0
  frame_out
  funext y
  refine View.canon_apply_of_pieces (NB (iblk m c 0 t) (X0_1 m c t) (iblk m c 2 t)) _ (View.PiecesOf.mem ?_) y ?_
  · exact ⟨piece _ _ _ 3 (by decide) _ inb_S512x1536_S512x384_0_1152 _ (pay6_apply _ _ _), piece _ _ _ 2 (by decide) _ inb_S512x1536_S512x384_0_768 _ (pay5_apply _ _ _), piece _ _ _ 1 (by decide) _ inb_S512x1536_S512x384_0_384 _ (pay4_apply _ _ _), piece _ _ _ 0 (by decide) _ inb_S512x1536_S512x384_0_0 _ (pay2_apply _ _ _), trivial⟩
  · exact View.cover_of_tiledL _ ![512, 384] (by sl_kernel_rfl) y

/-- A point's block holds its rows' gated norm. -/
theorem out_eq (t : Fin cfg0.N) (p : Fin 512) (k : Fin 1536) : (outsAt0 m c t : Vec Ideal S512x1536 .bf16) (ix2 p k) = (args m c).o (row t p) k := by
  rw [out3]
  show gnorm (uB (iblk m c 0 t) (X0_1 m c t) p) k * (iblk m c 2 t : Vec Ideal S1x1536 .f32) (ix2 0 k) = _
  rw [in2]
  unfold Args.o
  congr 2
  funext i
  unfold uB
  rw [in0, in1]

/-- The array ends at the rows' gated norm. -/
theorem final3 : (dats m 0 c).arrAt 3 cfg0.N = fun i : S8704x1536.Idx => (args m c).o (i 0) (i 1) := by
  refine (dats m 0 c).arrAt_eq_of_covers 3 _ (by decide +kernel) fun t hf y => ?_
  blk_simp
  rw [after0_3]
  have hi : win0_3.index t = ![t.val, 0] := (idxs t).2.2.2
  refine (congrArg _ (eq_ix2 y)).trans ((out_eq m c t (y 0) (y 1)).trans (congrArg₂ (args m c).o (Fin.ext ?_) (Fin.ext ?_)))
  · show 512 * t.val + (y 0).val = win0_3.index t (0 : Fin 2) * 512 + 1 * (y 0).val
    rw [hi]
    show 512 * t.val + (y 0).val = t.val * 512 + 1 * (y 0).val
    omega
  · show (y 1).val = win0_3.index t (1 : Fin 2) * 1536 + 1 * (y 1).val
    rw [hi]
    show (y 1).val = 0 * 1536 + 1 * (y 1).val
    omega

end Cert.Kernel14Ideal.Norm

end
-- ==== Proof.NormRef.lean ====
module

public import proofs.«01_k».proof.Proof.NormSpec
public import proofs.«01_k».proof.Proof.Gen.Reference14Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference14Ideal.Norm

open Cert.GNorm Cert.Reference14Ideal Cert.Reference14Ideal.Gen Cert.Reference14Ideal.Value

/-! ## The reference's result as the gated norm of its arguments -/

/-- The gated rows, as the reference writes them. -/
def gate (y : FVec Ideal S8704x1536 .f32) (z : FVec Ideal S8704x4864 .f32) : FVec Ideal S8704x1536 .f32 :=
  mulf y (mulf (extractStridedSlice S8704x1536 ![0, 0] z slices_S8704x4864_S8704x1536_0_0) (Host.divf (broadcastInDim S8704x1536 ![] bcast_S_S8704x1536 (constant S_ .f32 0x3F800000#32)) (addf (broadcastInDim S8704x1536 ![] bcast_S_S8704x1536 (constant S_ .f32 0x3F800000#32)) (Host.exp (Host.negf (extractStridedSlice S8704x1536 ![0, 0] z slices_S8704x4864_S8704x1536_0_0))))))

/-- The gated rows, entry by entry. -/
theorem gate_apply (y : FVec Ideal S8704x1536 .f32) (z : FVec Ideal S8704x4864 .f32) (r : Fin 8704) (k : Fin 1536) :
    gate y z (ix2 r k) = gated (y (ix2 r k)) (z (ix2 r ⟨k.val, by omega⟩)) := by
  unfold gated
  pointwise [gate]

/-- The rows by groups. -/
def byGroup (u : FVec Ideal S8704x1536 .f32) : FVec Ideal S8704x4x384 .f32 := shapeCast S8704x4x384 u shapeCasts_S8704x1536_S8704x4x384

/-- The rows by groups, entry by entry. -/
theorem byGroup_apply (u : FVec Ideal S8704x1536 .f32) (r : Fin 8704) (j : Fin 4) (q : Fin 384) :
    byGroup u (ix3 r j q) = u (ix2 r ⟨384 * j.val + q.val, by omega⟩) := by
  pointwise [byGroup]
  exact congrArg u (congrArg (ix2 r) (Fin.ext (by show j.val * 384 + q.val = 384 * j.val + q.val; omega)))

/-- The norm by groups. -/
def norms (x : FVec Ideal S8704x4x384 .f32) : FVec Ideal S8704x4x384 .f32 :=
  mulf x (broadcastInDim S8704x4x384 ![0, 1, 2] bcast_S8704x4x1_S8704x4x384_0_1_2 (Host.rsqrt (addf (Host.divf (broadcastInDim S8704x4x1 ![0, 1] bcast_S8704x4_S8704x4x1_0_1 (Host.reduceAdd (mulf x x) (constant S_ .f32 0x00000000#32) reducesTo_S8704x4x384_S8704x4_d2 h_S_)) (broadcastInDim S8704x4x1 ![] bcast_S_S8704x4x1 (constant S_ .f32 0x43C00000#32))) (broadcastInDim S8704x4x1 ![] bcast_S_S8704x4x1 (constant S_ .f32 0x358637BD#32)))))

/-- The norm by groups, entry by entry. -/
theorem norms_apply (x : FVec Ideal S8704x4x384 .f32) (r : Fin 8704) (j : Fin 4) (q : Fin 384) :
    norms x (ix3 r j q) = x (ix3 r j q) * Ideal.rsqrt (Ideal.div (∑ i : Fin 384, x (ix3 r j i) * x (ix3 r j i)) (Ideal.ofBits FTy.f32 0x43C00000#32) + Ideal.ofBits FTy.f32 0x358637BD#32) := by
  pointwise [norms]

/-- The rows out of their groups, times the gain. -/
def out (x : FVec Ideal S8704x4x384 .f32) (g : FVec Ideal S1x1536 .f32) : FVec Ideal S8704x1536 .bf16 :=
  truncf .bf16 (mulf (shapeCast S8704x1536 x shapeCasts_S8704x4x384_S8704x1536) (broadcastInDim S8704x1536 ![0, 1] bcast_S1x1536_S8704x1536_0_1 (broadcastInDim S1x1536 ![1] bcast_S1536_S1x1536_1 (shapeCast S1536 g shapeCasts_S1x1536_S1536)))) bitsLt_bf16_f32

/-- The rows out of their groups, entry by entry. -/
theorem out_apply (x : FVec Ideal S8704x4x384 .f32) (g : FVec Ideal S1x1536 .f32) (r : Fin 8704) (k : Fin 1536) :
    out x g (ix2 r k) = x (ix3 r ⟨k.val / 384, by omega⟩ ⟨k.val % 384, by omega⟩) * g (ix2 0 k) := by
  pointwise [out]

variable (m : (ℓ : Loc nD τ sig) → Buf (Elt Ideal) ℓ) (ρ : Dev nD → PrngReg) (c : Dev nD)

/-- The gated norm's arguments, as the memory holds them. -/
def args : Args where
  y r k := (m ((c.tc : Thread nD τ).loc main_arg0) : Vec Ideal S8704x1536 .f32) (ix2 r k)
  z r k := (m ((c.tc : Thread nD τ).loc main_arg1) : Vec Ideal S8704x4864 .f32) (ix2 r ⟨k.val, by omega⟩)
  g k := (m ((c.tc : Thread nD τ).loc main_arg2) : Vec Ideal S1x1536 .f32) (ix2 0 k)

/-- The norm of gated rows is the gated norm. -/
theorem norms_gate (y : FVec Ideal S8704x1536 .f32) (z : FVec Ideal S8704x4864 .f32) (r : Fin 8704) (k : Fin 1536) :
    norms (byGroup (gate y z)) (ix3 r ⟨k.val / 384, by omega⟩ ⟨k.val % 384, by omega⟩) = gnorm (fun i => gated (y (ix2 r i)) (z (ix2 r ⟨i.val, by omega⟩))) k := by
  rw [norms_apply]
  simp only [byGroup_apply, gate_apply]
  unfold gnorm
  congr 1
  congr <;> exact Nat.div_add_mod _ _

/-- The reference's result, entry by entry. -/
theorem out_eq (i : S8704x1536.Idx) :
    out (norms (byGroup (gate (m ((c.tc : Thread nD τ).loc main_arg0)) (m ((c.tc : Thread nD τ).loc main_arg1))))) (m ((c.tc : Thread nD τ).loc main_arg2)) i = (args m c).o (i 0) (i 1) :=
  (congrArg _ (eq_ix2 i)).trans ((out_apply _ _ (i 0) (i 1)).trans (congrArg (· * (m ((c.tc : Thread nD τ).loc main_arg2) : Vec Ideal S1x1536 .f32) (ix2 0 (i 1))) (norms_gate _ _ (i 0) (i 1))))

/-- The reference runs, leaves its rows' gated norm, and keeps its arguments. -/
theorem run : θ_run defs (onTc (τ := τ) (main (F := Ideal))) ⟨m, fun _ => 0, ρ⟩ fun r => ∀ c : Dev nD,
      r.2.mem ((c.tc : Thread nD τ).loc main_v19) = (fun i : S8704x1536.Idx => (args m c).o (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun i => out_eq m c i), (h c).2⟩) (Value.run m ρ)

end Cert.Reference14Ideal.Norm

end
-- ==== Proof.ConvSpec.lean ====
module

public import Idealize.ShloMosaic.Lib.Pointwise

@[expose] public section

noncomputable section

open Idealize.ShloMosaic Idealize.ShloMosaic.TcCoe Idealize.SL.Sem

namespace Cert.Conv

/-! ## The causal convolution, as a function of its arguments -/

/-- A value times its own sigmoid. -/
def silu (a : EReal) : EReal := a * Ideal.div 1 (1 + Ideal.exp (-a))

/-- A channel's bias and its last four values, each by its tap: `x d` is the value `d` rows before. -/
def taps (b : EReal) (w x : Fin 4 → EReal) : EReal := b + x 0 * w 3 + x 1 * w 2 + x 2 * w 1 + x 3 * w 0

/-- The same sum, from the oldest value on. -/
theorem taps_rev (b : EReal) (w x : Fin 4 → EReal) : b + x 3 * w 0 + x 2 * w 1 + x 1 * w 2 + x 0 * w 3 = taps b w x := by
  unfold taps
  abel

/-- What the prompt's convolution takes: the projected columns, the taps, the bias. -/
structure Args where
  /-- the projected columns -/
  z : Fin 8704 → Fin 4864 → EReal
  /-- taps -/
  w : Fin 4 → Fin 2560 → EReal
  /-- bias -/
  b : Fin 2560 → EReal

/-- The channel's value `d` rows before row `r`, nothing before the first row. -/
def Args.p (A : Args) (r : Fin 8192) (k : Fin 2560) (d : Fin 4) : EReal :=
  if h : d.val ≤ r.val then A.z ⟨r.val - d.val, by omega⟩ ⟨1536 + k.val, by omega⟩ else 0
/-- The prompt's convolved channels. -/
def Args.o (A : Args) (r : Fin 8192) (k : Fin 2560) : EReal := silu (taps (A.b k) (fun j => A.w j k) (A.p r k))

/-- What the samples' convolution takes: the tokens' channels, the three before them, the taps, the bias. -/
structure SArgs where
  /-- the tokens' channels -/
  x : Fin 128 → Fin 4 → Fin 2560 → EReal
  /-- the channels before them -/
  s : Fin 128 → Fin 3 → Fin 2560 → EReal
  /-- taps -/
  w : Fin 4 → Fin 2560 → EReal
  /-- bias -/
  b : Fin 2560 → EReal

/-- A row of a sequence's eight, nothing past the four tokens. -/
def SArgs.row (A : SArgs) (i : Fin 128) (e : Fin 8) (k : Fin 2560) : EReal := if h : e.val < 4 then A.x i ⟨e.val, h⟩ k else 0
/-- The channel's value `d` rows before row `e`, the held ones before the first. -/
def SArgs.p (A : SArgs) (i : Fin 128) (e : Fin 8) (k : Fin 2560) (d : Fin 4) : EReal :=
  if h : d.val ≤ e.val then A.row i ⟨e.val - d.val, by omega⟩ k else A.s i ⟨3 + e.val - d.val, by omega⟩ k
/-- The samples' convolved channels. -/
def SArgs.o (A : SArgs) (i : Fin 128) (e : Fin 8) (k : Fin 2560) : EReal := silu (taps (A.b k) (fun j => A.w j k) (A.p i e k))

end Cert.Conv

end
-- ==== Proof.ConvARef.lean ====
module

public import proofs.«01_k».proof.Proof.ConvSpec
public import proofs.«01_k».proof.Proof.Gen.Reference12Ideal.Run
public import Idealize.ShloMosaic.Lib.Pointwise

@[expose] public section

set_option maxRecDepth 16384

noncomputable section

open Idealize.ShloMosaic Idealize.ShloMosaic.TcCoe Idealize.SL.Sem

namespace Cert.Reference12Ideal.Conv

open Cert.Conv Cert.Reference12Ideal Cert.Reference12Ideal.Gen Cert.Reference12Ideal.Value

variable (m : (ℓ : Loc nD τ sig) → Buf (Elt Ideal) ℓ) (c : Dev nD)

/-- The prompt's convolution's arguments, as the memory holds them. -/
def args : Args where
  z r k := (m ((c.tc : Thread nD τ).loc main_arg0) : Vec Ideal S8704x4864 .f32) (ix2 r k)
  w j k := (m ((c.tc : Thread nD τ).loc main_arg1) : Vec Ideal S1x4x2560 .f32) (ix3 0 j k)
  b k := (m ((c.tc : Thread nD τ).loc main_arg2) : Vec Ideal S1x2560 .f32) (ix2 0 k)

/-- Three rows of zeros and the prompt's behind them. -/
def cat (x : FVec Ideal S8704x4864 .f32) : FVec Ideal S1x8195x2560 .f32 :=
  concatenate S1x8195x2560 1 [⟨S1x3x2560, (broadcastInDim S1x3x2560 ![] bcast_S_S1x3x2560 (constant S_ .f32 0x00000000#32))⟩, ⟨S1x8192x2560, (broadcastInDim S1x8192x2560 ![1, 2] bcast_S8192x2560_S1x8192x2560_1_2 (extractStridedSlice S8192x2560 ![0, 1536] x slices_S8704x4864_S8192x2560_0_1536))⟩] concatenates_S1x3x2560_S1x8192x2560_S1x8195x2560_d1
/-- The rows, entry by entry. -/
theorem cat_apply (x : FVec Ideal S8704x4864 .f32) (r : Fin 8195) (k : Fin 2560) :
    cat x (ix3 0 r k) = if h : r.val < 3 then 0 else x (ix2 ⟨r.val - 3, by omega⟩ ⟨1536 + k.val, by omega⟩) := by
  pointwise [cat]

/-- The sum of the taps, as the reference writes it. -/
def pre (u : FVec Ideal S1x8195x2560 .f32) (w : FVec Ideal S1x4x2560 .f32) (b : FVec Ideal S1x2560 .f32) : FVec Ideal S1x8192x2560 .f32 :=
  addf (addf (addf (addf (broadcastInDim S1x8192x2560 ![0, 1, 2] bcast_S1x1x2560_S1x8192x2560_0_1_2 (broadcastInDim S1x1x2560 ![2] bcast_S2560_S1x1x2560_2 (shapeCast _ b shapeCasts_S1x2560_S2560)))
    (mulf (extractStridedSlice S1x8192x2560 ![0, 0, 0] u slices_S1x8195x2560_S1x8192x2560_0_0_0) (broadcastInDim S1x8192x2560 ![0, 1, 2] bcast_S1x1x2560_S1x8192x2560_0_1_2 (broadcastInDim S1x1x2560 ![2] bcast_S2560_S1x1x2560_2 (shapeCast _ (extractStridedSlice S1x2560 ![0, 0] (shapeCast _ w shapeCasts_S1x4x2560_S4x2560) slices_S4x2560_S1x2560_0_0) shapeCasts_S1x2560_S2560)))))
    (mulf (extractStridedSlice S1x8192x2560 ![0, 1, 0] u slices_S1x8195x2560_S1x8192x2560_0_1_0) (broadcastInDim S1x8192x2560 ![0, 1, 2] bcast_S1x1x2560_S1x8192x2560_0_1_2 (broadcastInDim S1x1x2560 ![2] bcast_S2560_S1x1x2560_2 (shapeCast _ (extractStridedSlice S1x2560 ![1, 0] (shapeCast _ w shapeCasts_S1x4x2560_S4x2560) slices_S4x2560_S1x2560_1_0) shapeCasts_S1x2560_S2560)))))
    (mulf (extractStridedSlice S1x8192x2560 ![0, 2, 0] u slices_S1x8195x2560_S1x8192x2560_0_2_0) (broadcastInDim S1x8192x2560 ![0, 1, 2] bcast_S1x1x2560_S1x8192x2560_0_1_2 (broadcastInDim S1x1x2560 ![2] bcast_S2560_S1x1x2560_2 (shapeCast _ (extractStridedSlice S1x2560 ![2, 0] (shapeCast _ w shapeCasts_S1x4x2560_S4x2560) slices_S4x2560_S1x2560_2_0) shapeCasts_S1x2560_S2560)))))
    (mulf (extractStridedSlice S1x8192x2560 ![0, 3, 0] u slices_S1x8195x2560_S1x8192x2560_0_3_0) (broadcastInDim S1x8192x2560 ![0, 1, 2] bcast_S1x1x2560_S1x8192x2560_0_1_2 (broadcastInDim S1x1x2560 ![2] bcast_S2560_S1x1x2560_2 (shapeCast _ (extractStridedSlice S1x2560 ![3, 0] (shapeCast _ w shapeCasts_S1x4x2560_S4x2560) slices_S4x2560_S1x2560_3_0) shapeCasts_S1x2560_S2560))))
/-- The sum, entry by entry. -/
theorem pre_apply (u : FVec Ideal S1x8195x2560 .f32) (w : FVec Ideal S1x4x2560 .f32) (b : FVec Ideal S1x2560 .f32) (r : Fin 8192) (k : Fin 2560) :
    pre u w b (ix3 0 r k) = b (ix2 0 k) + u (ix3 0 ⟨r.val, by omega⟩ k) * w (ix3 0 0 k) + u (ix3 0 ⟨1 + r.val, by omega⟩ k) * w (ix3 0 1 k) + u (ix3 0 ⟨2 + r.val, by omega⟩ k) * w (ix3 0 2 k)
      + u (ix3 0 ⟨3 + r.val, by omega⟩ k) * w (ix3 0 3 k) := by
  pointwise [pre]
/-- A sum times its sigmoid, as the reference writes it. -/
def swish (u : FVec Ideal S1x8192x2560 .f32) : FVec Ideal S1x8192x2560 .f32 :=
  mulf u (Host.divf (broadcastInDim S1x8192x2560 ![] bcast_S_S1x8192x2560 (constant S_ .f32 0x3F800000#32)) (addf (broadcastInDim S1x8192x2560 ![] bcast_S_S1x8192x2560 (constant S_ .f32 0x3F800000#32)) (Host.exp (Host.negf u))))
/-- It, entry by entry. -/
theorem swish_apply (u : FVec Ideal S1x8192x2560 .f32) (r : Fin 8192) (k : Fin 2560) : swish u (ix3 0 r k) = silu (u (ix3 0 r k)) := by
  unfold silu
  pointwise [swish]

/-- A row of the padded ones, as one before a row. -/
theorem cat_row (r : Fin 8192) (k : Fin 2560) (d : Fin 4) (n : Fin 8195) (hn : n.val + d.val = 3 + r.val) :
    cat (m ((c.tc : Thread nD τ).loc main_arg0)) (ix3 0 n k) = (args m c).p r k d := by
  rw [cat_apply]
  unfold Args.p
  by_cases h : d.val ≤ r.val
  · rw [dif_pos h, dif_neg (by omega)]
    exact congrArg (fun u => (args m c).z u ⟨1536 + k.val, by omega⟩) (Fin.ext (by show n.val - 3 = r.val - d.val; omega))
  · rw [dif_neg h, dif_pos (by omega)]

/-- The value, entry by entry. -/
theorem res_apply (r : Fin 8192) (k : Fin 2560) : (res_main_v36 m c : Vec Ideal S1x8192x2560 .f32) (ix3 0 r k) = (args m c).o r k := by
  have e : (res_main_v36 m c : Vec Ideal S1x8192x2560 .f32)
      = swish (pre (cat (m ((c.tc : Thread nD τ).loc main_arg0))) (m ((c.tc : Thread nD τ).loc main_arg1)) (m ((c.tc : Thread nD τ).loc main_arg2))) := rfl
  rw [e, swish_apply, pre_apply]
  unfold Args.o
  rw [cat_row m c r k 3 _ (by show r.val + 3 = 3 + r.val; omega), cat_row m c r k 2 _ (by show 1 + r.val + 2 = 3 + r.val; omega), cat_row m c r k 1 _ (by show 2 + r.val + 1 = 3 + r.val; omega), cat_row m c r k 0 _ (by show 3 + r.val + 0 = 3 + r.val; omega)]
  exact congrArg silu (taps_rev ((args m c).b k) (fun j => (args m c).w j k) ((args m c).p r k))

/-- The value at any index. -/
theorem res_eq (i : S1x8192x2560.Idx) : (res_main_v36 m c : Vec Ideal S1x8192x2560 .f32) i = (args m c).o (i 1) (i 2) :=
  (congrArg (res_main_v36 m c : Vec Ideal S1x8192x2560 .f32) ((eq_ix3 i).trans (congrArg (fun u : Fin 1 => ix3 u (i 1) (i 2)) (Subsingleton.elim (α := Fin 1) (i 0) 0)))).trans (res_apply m c (i 1) (i 2))

/-- The reference runs, leaves the prompt's convolved channels, and keeps its arguments. -/
theorem run (ρ : Dev nD → PrngReg) : θ_run defs (onTc (τ := τ) (main (F := Ideal))) ⟨m, fun _ => 0, ρ⟩ fun r => ∀ c : Dev nD,
      r.2.mem ((c.tc : Thread nD τ).loc main_v36) = (fun i : S1x8192x2560.Idx => (args m c).o (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun i => res_eq m c i), (h c).2⟩) (Value.run m ρ)

end Cert.Reference12Ideal.Conv

end
-- ==== Proof.ConvAKernel.lean ====
module

public import proofs.«01_k».proof.Proof.ConvSpec
public import proofs.«01_k».proof.Proof.Gen.Kernel12Ideal.Value
public import Idealize.ShloMosaic.Lib.Pipeline.ValueKit
public import Idealize.ShloMosaic.Lib.Pipeline.ReadBack
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.Kernel12Ideal.Conv

open Cert.Conv Cert.Kernel12Ideal Cert.Kernel12Ideal.Gen Cert.Kernel12Ideal.Value

/-! ## What the body computes from its loads -/

/-- The eight rows held and a block's rows behind them. -/
def cat (v : FVec Ideal S8x512 .f32) (x : FVec Ideal S1024x512 .f32) : FVec Ideal S1032x512 .f32 := concatenate S1032x512 0 [⟨S8x512, v⟩, ⟨S1024x512, x⟩] concatenates_S8x512_S1024x512_S1032x512_d0
/-- The rows, entry by entry. -/
theorem cat_apply (v : FVec Ideal S8x512 .f32) (x : FVec Ideal S1024x512 .f32) (r : Fin 1032) (q : Fin 512) :
    cat v x (ix2 r q) = if h : r.val < 8 then v (ix2 ⟨r.val, h⟩ q) else x (ix2 ⟨r.val - 8, by omega⟩ q) := by
  pointwise [cat]
/-- The block's rows moved on by `n`. -/
def moved (n : BitVec 32) (v : FVec Ideal S8x512 .f32) (x : FVec Ideal S1024x512 .f32) : FVec Ideal S1024x512 .f32 :=
  extractStridedSlice S1024x512 ![8, 0] (dynamicRotate 0 n none (cat v x) rotates_S1032x512_d0) slices_S1032x512_o8_0_S1024x512
/-- The rows moved on, entry by entry. -/
theorem moved_apply (n : BitVec 32) (hn : n.toNat ≤ 8) (v : FVec Ideal S8x512 .f32) (x : FVec Ideal S1024x512 .f32) (r : Fin 1024) (q : Fin 512) :
    moved n v x (ix2 r q) = if h : n.toNat ≤ r.val then x (ix2 ⟨r.val - n.toNat, by omega⟩ q) else v (ix2 ⟨8 + r.val - n.toNat, by omega⟩ q) := by
  have e : moved n v x (ix2 r q) = dynamicRotate 0 n none (cat v x) rotates_S1032x512_d0 (ix2 ⟨8 + r.val, by omega⟩ q) := by
    unfold moved
    generalize dynamicRotate 0 n none (cat v x) rotates_S1032x512_d0 = u
    pointwise
  rw [e, dynamicRotate_apply 0 n (cat v x) rotates_S1032x512_d0 _ (ix2 (⟨8 + r.val - n.toNat, by omega⟩ : Fin 1032) q) (fun b => ?_), cat_apply]
  · by_cases h : n.toNat ≤ r.val
    · rw [dif_pos h, dif_neg (by show ¬ 8 + r.val - n.toNat < 8; omega)]
      exact congrArg (fun u => x (ix2 u q)) (Fin.ext (by show 8 + r.val - n.toNat - 8 = r.val - n.toNat; omega))
    · rw [dif_neg h, dif_pos (by show 8 + r.val - n.toNat < 8; omega)]
  · match b with
    | ⟨0, _⟩ =>
      refine Eq.trans ?_ (if_pos rfl).symm
      show 8 + r.val - n.toNat = (8 + r.val + 1032 - n.toNat % 1032) % 1032
      omega
    | ⟨1, _⟩ => exact (if_neg (fun h => by cases h)).symm

/-- The sum of the taps, as the body computes it. -/
theorem pay5_apply (v3 : Vec Ideal S1x1024x512 .f32) (v5 : Vec Ideal S8x512 .f32) (v7 v9 v17 v24 v31 : Vec Ideal S1x512 .f32) (r : Fin 1024) (q : Fin 512) :
    (k0_pay5 v3 v5 v7 v9 v17 v24 v31 : FVec Ideal S1024x512 .f32) (ix2 r q)
      = v7 (ix2 0 q) + v3 (ix3 0 r q) * v9 (ix2 0 q) + moved 1#32 v5 (k0_pay4 v3) (ix2 r q) * v17 (ix2 0 q) + moved 2#32 v5 (k0_pay4 v3) (ix2 r q) * v24 (ix2 0 q)
        + moved 3#32 v5 (k0_pay4 v3) (ix2 r q) * v31 (ix2 0 q) := by
  have e : (k0_pay5 v3 v5 v7 v9 v17 v24 v31 : FVec Ideal S1024x512 .f32)
      = addf (addf (addf (addf (broadcastTo S1024x512 (shapeCast S1x512 v7 shapeCasts_S1x512_S1x512) broadcasts_S1x512_S1024x512)
          (mulf (shapeCast S1024x512 v3 shapeCasts_S1x1024x512_S1024x512) (broadcastTo S1024x512 (shapeCast S1x512 v9 shapeCasts_S1x512_S1x512) broadcasts_S1x512_S1024x512)))
          (mulf (moved 1#32 v5 (k0_pay4 v3)) (broadcastTo S1024x512 (shapeCast S1x512 v17 shapeCasts_S1x512_S1x512) broadcasts_S1x512_S1024x512)))
          (mulf (moved 2#32 v5 (k0_pay4 v3)) (broadcastTo S1024x512 (shapeCast S1x512 v24 shapeCasts_S1x512_S1x512) broadcasts_S1x512_S1024x512)))
          (mulf (moved 3#32 v5 (k0_pay4 v3)) (broadcastTo S1024x512 (shapeCast S1x512 v31 shapeCasts_S1x512_S1x512) broadcasts_S1x512_S1024x512)) := rfl
  rw [e]
  generalize moved 1#32 v5 (k0_pay4 v3) = m1
  generalize moved 2#32 v5 (k0_pay4 v3) = m2
  generalize moved 3#32 v5 (k0_pay4 v3) = m3
  pointwise
/-- A sum times its sigmoid, as the body computes it. -/
theorem pay1_apply (u : FVec Ideal S1024x512 .f32) (r : Fin 1024) (q : Fin 512) : (k0_pay1 u : FVec Ideal S1x1024x512 .f32) (ix3 0 r q) = silu (u (ix2 r q)) := by
  unfold silu
  pointwise [k0_pay1]
  rw [zero_sub]
/-- The block's rows. -/
theorem pay4_apply (x : Vec Ideal S1x1024x512 .f32) (r : Fin 1024) (q : Fin 512) : (k0_pay4 x : FVec Ideal S1024x512 .f32) (ix2 r q) = x (ix3 0 r q) := by
  pointwise [k0_pay4]
/-- The held rows. -/
theorem pay3_apply (x : Vec Ideal S1x8x512 .f32) (r : Fin 8) (q : Fin 512) : (k0_pay3 x : FVec Ideal S8x512 .f32) (ix2 r q) = x (ix3 0 r q) := by
  pointwise [k0_pay3]

/-- The block's last rows. -/
theorem pay2_apply (x : FVec Ideal S1024x512 .f32) (r : Fin 8) (q : Fin 512) : (k0_pay2 x : FVec Ideal S8x512 .f32) (ix2 r q) = x (ix2 ⟨1016 + r.val, by omega⟩ q) := by
  pointwise [k0_pay2]

variable (m : (ℓ : Loc nD τ sig) → Buf (Elt Ideal) ℓ) (c : Dev nD)

/-- The prompt's convolution's arguments, as the memory holds them. -/
def args : Args where
  z r k := (m ((c : Thread nD τ).loc main_arg0) : Vec Ideal S8704x4864 .f32) (ix2 r k)
  w j k := (m ((c : Thread nD τ).loc main_arg1) : Vec Ideal S1x4x2560 .f32) (ix3 0 j k)
  b k := (m ((c : Thread nD τ).loc main_arg2) : Vec Ideal S1x2560 .f32) (ix2 0 k)

/-! ## What the host hands the call -/

/-- The columns the call takes. -/
theorem V_z : (V m c main_v0 : Vec Ideal S1x8704x4864 .f32) = broadcastInDim S1x8704x4864 ![1, 2] bcast_S8704x4864_S1x8704x4864_1_2 (m ((c : Thread nD τ).loc main_arg0) : Vec Ideal S8704x4864 .f32) := by
  unfold V
  simp only [List.flatten_cons, List.flatten_nil, List.append_nil, List.cons_append, List.nil_append, hostOps0, StableHlo.TRef.unary, StableHlo.TRef.binary, StableHlo.TRef.toBuf, StableHlo.TRef.ofBuf, cast_eq]
  after_results
/-- The zeros before the first row. -/
theorem V_s : (V m c main_v1 : Vec Ideal S1x8x2560 .f32) = (broadcastInDim S1x8x2560 ![] bcast_S_S1x8x2560 (constant S_ .f32 0x00000000#32) : FVec Ideal S1x8x2560 .f32) := by
  unfold V
  simp only [List.flatten_cons, List.flatten_nil, List.append_nil, List.cons_append, List.nil_append, hostOps0, StableHlo.TRef.unary, StableHlo.TRef.binary, StableHlo.TRef.toBuf, StableHlo.TRef.ofBuf, cast_eq]
  after_results
/-- The taps the call takes. -/
theorem V_w : (V m c main_v2 : Vec Ideal S4x2560 .f32) = shapeCast S4x2560 (m ((c : Thread nD τ).loc main_arg1) : Vec Ideal S1x4x2560 .f32) shapeCasts_S1x4x2560_S4x2560 := by
  unfold V
  simp only [List.flatten_cons, List.flatten_nil, List.append_nil, List.cons_append, List.nil_append, hostOps0, StableHlo.TRef.unary, StableHlo.TRef.binary, StableHlo.TRef.toBuf, StableHlo.TRef.ofBuf, cast_eq]
  after_results
  rfl
/-- The bias the call takes. -/
theorem V_b : (V m c main_v4 : Vec Ideal S1x2560 .f32) = shapeCast S1x2560 (shapeCast S2560 (m ((c : Thread nD τ).loc main_arg2) : Vec Ideal S1x2560 .f32) shapeCasts_S1x2560_S2560) shapeCasts_S2560_S1x2560 := by
  unfold V
  simp only [List.flatten_cons, List.flatten_nil, List.append_nil, List.cons_append, List.nil_append, hostOps0, StableHlo.TRef.unary, StableHlo.TRef.binary, StableHlo.TRef.toBuf, StableHlo.TRef.ofBuf, cast_eq]
  after_results
  rfl
theorem z_apply (z : FVec Ideal S8704x4864 .f32) (r : Fin 8704) (k : Fin 4864) : (broadcastInDim S1x8704x4864 ![1, 2] bcast_S8704x4864_S1x8704x4864_1_2 z : FVec Ideal S1x8704x4864 .f32) (ix3 0 r k) = z (ix2 r k) := by
  pointwise
theorem s_apply (i : Fin 1) (r : Fin 8) (k : Fin 2560) : (broadcastInDim S1x8x2560 ![] bcast_S_S1x8x2560 (constant S_ .f32 0x00000000#32) : FVec Ideal S1x8x2560 .f32) (ix3 i r k) = 0 := by
  pointwise
theorem w_apply (w : FVec Ideal S1x4x2560 .f32) (j : Fin 4) (k : Fin 2560) : (shapeCast S4x2560 w shapeCasts_S1x4x2560_S4x2560 : FVec Ideal S4x2560 .f32) (ix2 j k) = w (ix3 0 j k) := by
  pointwise
theorem b_apply (b : FVec Ideal S1x2560 .f32) (k : Fin 2560) : (shapeCast S1x2560 (shapeCast S2560 b shapeCasts_S1x2560_S2560 : FVec Ideal S2560 .f32) shapeCasts_S2560_S1x2560 : FVec Ideal S1x2560 .f32) (ix2 0 k) = b (ix2 0 k) := by
  pointwise

/-! ## What a grid point takes and leaves -/

/-- The printed index maps, decided over the grid. -/
theorem idxs : ∀ t : Fin cfg0.N, win0_0.index t = ![0, t.val % 8, 3 + t.val / 8] ∧ win0_1.index t = ![0, 0, t.val / 8] ∧ win0_2.index t = ![0, t.val / 8] ∧ win0_3.index t = ![0, t.val / 8] ∧ win0_4.index t = ![0, t.val % 8, t.val / 8] :=
  (by decide +kernel : ∀ t : Fin grid0.N, _)
/-- A row of a point's among the prompt's. -/
def gr (t : Fin cfg0.N) (r : Fin 1024) : Fin 8192 := ⟨1024 * (t.val % 8) + r.val, by omega⟩
/-- A lane of a point's among the channels. -/
def ln (t : Fin cfg0.N) (q : Fin 512) : Fin 2560 := ⟨512 * (t.val / 8) + q.val, by have : t.val < 40 := lt_of_lt_of_eq t.isLt N_0; omega⟩

theorem in0 (t : Fin cfg0.N) (r : Fin 1024) (q : Fin 512) : (X0_0 m c t : Vec Ideal S1x1024x512 .f32) (ix3 0 r q) = (args m c).z ⟨(gr t r).val, by omega⟩ ⟨1536 + (ln t q).val, by omega⟩ := by
  unfold X0_0 Pipeline.Window.fill
  rw [dif_pos (moved0_0 t _)]
  have h0 := congrFun (idxs t).1 0
  have h1 := congrFun (idxs t).1 1
  have h2 := congrFun (idxs t).1 2
  refine Eq.trans ?_ ((congrFun (V_z m c) (ix3 0 ⟨(gr t r).val, by omega⟩ ⟨1536 + (ln t q).val, by omega⟩)).trans (z_apply _ _ _))
  show V m c main_v0 _ = V m c main_v0 _
  refine congrArg (V m c main_v0) (funext fun a => Fin.ext ?_)
  match a with
  | ⟨0, _⟩ =>
    show win0_0.index t (0 : Fin 3) * 1 + 1 * 0 = 0
    rw [h0]
    rfl
  | ⟨1, _⟩ =>
    show win0_0.index t (1 : Fin 3) * 1024 + 1 * r.val = 1024 * (t.val % 8) + r.val
    rw [h1]
    show t.val % 8 * 1024 + 1 * r.val = 1024 * (t.val % 8) + r.val
    omega
  | ⟨2, _⟩ =>
    show win0_0.index t (2 : Fin 3) * 512 + 1 * q.val = 1536 + (512 * (t.val / 8) + q.val)
    rw [h2]
    show (3 + t.val / 8) * 512 + 1 * q.val = 1536 + (512 * (t.val / 8) + q.val)
    omega
theorem in1 (t : Fin cfg0.N) (e : Fin 8) (q : Fin 512) : (iblk m c 1 t : Vec Ideal S1x8x512 .f32) (ix3 0 e q) = (0 : EReal) := by
  refine Eq.trans ?_ ((congrFun (V_s m c) (ix3 0 e (ln t q))).trans (s_apply _ _ _))
  unfold ln
  blk_ext [iblk, idxs t]
theorem in2 (t : Fin cfg0.N) (j : Fin 4) (q : Fin 512) : (iblk m c 2 t : Vec Ideal S4x512 .f32) (ix2 j q) = (args m c).w j (ln t q) := by
  refine Eq.trans ?_ ((congrFun (V_w m c) (ix2 j (ln t q))).trans (w_apply _ j _))
  unfold ln
  blk_ext [iblk, idxs t]
theorem in3 (t : Fin cfg0.N) (q : Fin 512) : (iblk m c 3 t : Vec Ideal S1x512 .f32) (ix2 0 q) = (args m c).b (ln t q) := by
  refine Eq.trans ?_ ((congrFun (V_b m c) (ix2 0 (ln t q))).trans (b_apply _ _))
  unfold ln
  blk_ext [iblk, idxs t]

/-- A row of the taps. -/
theorem tap_apply (w : Vec Ideal S4x512 .f32) (o : ℕ) (ho : o < 4) (h) (q : Fin 512) : (View.ld w (Rect.unit ![o, 0] ![1, 512] h) : Vec Ideal S1x512 .f32) (ix2 0 q) = w (ix2 ⟨o, ho⟩ q) := by
  show w _ = w _
  refine congrArg w (funext fun a => Fin.ext ?_)
  match a with
  | ⟨0, _⟩ => show o + 1 * 0 = o; omega
  | ⟨1, _⟩ => show 0 + 1 * q.val = q.val; omega

/-- What a point leaves, given the eight rows held before its own. -/
abbrev outOf (t : Fin cfg0.N) (s : Vec Ideal S8x512 .f32) : Vec Ideal S1x1024x512 .f32 := k0_pay1 (k0_pay5 (X0_0 m c t) s (iblk m c 3 t)
    (View.ld (iblk m c 2 t) (Rect.unit ![3, 0] ![1, 512] inb_S4x512_S1x512_3_0)) (View.ld (iblk m c 2 t) (Rect.unit ![2, 0] ![1, 512] inb_S4x512_S1x512_2_0))
    (View.ld (iblk m c 2 t) (Rect.unit ![1, 0] ![1, 512] inb_S4x512_S1x512_1_0)) (View.ld (iblk m c 2 t) (Rect.unit ![0, 0] ![1, 512] inb_S4x512_S1x512_0_0)))

theorem outA (t : Fin cfg0.N) (h0 : t.val % 8 = 0) : (outsAt0 m c t.val t.isLt).1 = outOf m c t (k0_pay3 (iblk m c 1 t)) := by
  rw [outsAt0_A m c t h0]
  dsimp only
  frame_out
  rfl
theorem scrA (t : Fin cfg0.N) (h0 : t.val % 8 = 0) : (outsAt0 m c t.val t.isLt).2 = k0_pay2 (k0_pay4 (X0_0 m c t)) := by
  rw [outsAt0_A m c t h0]
  dsimp only
  frame_out
theorem outB (t : Fin cfg0.N) (h0 : ¬t.val % 8 = 0) : (outsAt0 m c t.val t.isLt).1 = outOf m c t (outsAt0 m c (t.val - 1) (Nat.lt_of_le_of_lt (Nat.sub_le _ _) t.isLt)).2 := by
  rw [outsAt0_B m c t h0]
  dsimp only
  frame_out
  simp only [read_unread_whole]
  rfl
theorem scrB (t : Fin cfg0.N) (h0 : ¬t.val % 8 = 0) : (outsAt0 m c t.val t.isLt).2 = k0_pay2 (k0_pay4 (X0_0 m c t)) := by
  rw [outsAt0_B m c t h0]
  dsimp only
  frame_out

/-- The rows a point takes: its own and the last eight before them. -/
structure Held (t : Fin cfg0.N) (s : Vec Ideal S8x512 .f32) : Prop where
  /-- none before the first -/
  zero : t.val % 8 = 0 → ∀ e q, s (ix2 e q) = 0
  /-- else the last eight -/
  last : ∀ (h : ¬t.val % 8 = 0) (e : Fin 8) (q : Fin 512), s (ix2 e q) = (args m c).z ⟨1024 * (t.val % 8) + e.val - 8, by omega⟩ ⟨1536 + (ln t q).val, by omega⟩

/-- The row `d` before. -/
theorem moved_eq (t : Fin cfg0.N) (s : Vec Ideal S8x512 .f32) (hs : Held m c t s) (n : BitVec 32) (d : Fin 4) (hd : n.toNat = d.val) (r : Fin 1024) (q : Fin 512) :
    moved n s (k0_pay4 (X0_0 m c t)) (ix2 r q) = (args m c).p (gr t r) (ln t q) d := by
  have hr : (gr t r).val = 1024 * (t.val % 8) + r.val := rfl
  rw [moved_apply n (by omega)]
  unfold Args.p
  by_cases h : d.val ≤ r.val
  · rw [dif_pos (show n.toNat ≤ r.val by omega), dif_pos (show d.val ≤ (gr t r).val by omega)]
    refine (pay4_apply _ _ q).trans ((in0 m c t _ q).trans (congrArg (fun u => (args m c).z u ⟨1536 + (ln t q).val, by omega⟩) (Fin.ext ?_)))
    show 1024 * (t.val % 8) + (r.val - n.toNat) = (gr t r).val - d.val
    omega
  · rw [dif_neg (show ¬ n.toNat ≤ r.val by omega)]
    by_cases h0 : t.val % 8 = 0
    · rw [dif_neg (show ¬ d.val ≤ (gr t r).val by omega)]
      exact hs.zero h0 _ _
    · rw [dif_pos (show d.val ≤ (gr t r).val by omega)]
      refine (hs.last h0 _ q).trans (congrArg (fun u => (args m c).z u ⟨1536 + (ln t q).val, by omega⟩) (Fin.ext ?_))
      show 1024 * (t.val % 8) + (8 + r.val - n.toNat) - 8 = (gr t r).val - d.val
      omega

/-- A point's output block, given the rows held. -/
theorem outOf_eq (t : Fin cfg0.N) (s : Vec Ideal S8x512 .f32) (hs : Held m c t s) (r : Fin 1024) (q : Fin 512) : outOf m c t s (ix3 0 r q) = (args m c).o (gr t r) (ln t q) := by
  refine (pay1_apply _ r q).trans ?_
  unfold Args.o
  refine congrArg silu ((pay5_apply _ _ _ _ _ _ _ r q).trans ?_)
  rw [moved_eq m c t s hs 1#32 1 rfl, moved_eq m c t s hs 2#32 2 rfl, moved_eq m c t s hs 3#32 3 rfl, in3 m c t q, in0 m c t r q]
  rw [tap_apply (iblk m c 2 t) 3 (by omega) inb_S4x512_S1x512_3_0 q, tap_apply (iblk m c 2 t) 2 (by omega) inb_S4x512_S1x512_2_0 q, tap_apply (iblk m c 2 t) 1 (by omega) inb_S4x512_S1x512_1_0 q, tap_apply (iblk m c 2 t) 0 (by omega) inb_S4x512_S1x512_0_0 q]
  rw [in2 m c t _ q, in2 m c t _ q, in2 m c t _ q, in2 m c t _ q]
  rfl

/-- A point leaves its last eight rows. -/
theorem scr_eq (t : Fin cfg0.N) (e : Fin 8) (q : Fin 512) : (outsAt0 m c t.val t.isLt).2 (ix2 e q) = (args m c).z ⟨1024 * (t.val % 8) + (1016 + e.val), by omega⟩ ⟨1536 + (ln t q).val, by omega⟩ := by
  have h : (outsAt0 m c t.val t.isLt).2 = k0_pay2 (k0_pay4 (X0_0 m c t)) := by
    by_cases h0 : t.val % 8 = 0
    · exact scrA m c t h0
    · exact scrB m c t h0
  exact (congrFun h _).trans ((pay2_apply _ e q).trans ((pay4_apply _ _ q).trans (in0 m c t _ q)))

/-- A point's output block. -/
theorem out_eq (t : Fin cfg0.N) (r : Fin 1024) (q : Fin 512) : (outsAt0 m c t.val t.isLt).1 (ix3 0 r q) = (args m c).o (gr t r) (ln t q) := by
  by_cases h0 : t.val % 8 = 0
  · exact (congrFun (outA m c t h0) _).trans (outOf_eq m c t _ ⟨fun _ e q => (pay3_apply _ e q).trans (in1 m c t e q), fun h => absurd h0 h⟩ r q)
  · refine (congrFun (outB m c t h0) _).trans (outOf_eq m c t _ ⟨fun h => absurd h h0, fun _ e q => ?_⟩ r q)
    refine (scr_eq m c ⟨t.val - 1, Nat.lt_of_le_of_lt (Nat.sub_le _ _) t.isLt⟩ e q).trans (congrArg₂ (args m c).z (Fin.ext ?_) (Fin.ext ?_))
    · show 1024 * ((t.val - 1) % 8) + (1016 + e.val) = 1024 * (t.val % 8) + e.val - 8
      omega
    · show 1536 + (512 * ((t.val - 1) / 8) + q.val) = 1536 + (512 * (t.val / 8) + q.val)
      omega

/-- The array ends at the prompt's convolved channels. -/
theorem final4 : (dats m 0 c).arrAt 4 cfg0.N = fun i : S1x8192x2560.Idx => (args m c).o (i 1) (i 2) := by
  refine (dats m 0 c).arrAt_eq_of_covers 4 _ (by decide +kernel) fun t hf y => ?_
  blk_simp
  rw [after0_4]
  have hi : win0_4.index t = ![0, t.val % 8, t.val / 8] := (idxs t).2.2.2.2
  have hy : y = ix3 (0 : Fin 1) (y 1) (y 2) := (eq_ix3 y).trans (congrArg (fun u : Fin 1 => ix3 u (y 1) (y 2)) (Subsingleton.elim _ _))
  refine (congrArg _ hy).trans ((out_eq m c t (y 1) (y 2)).trans (congrArg₂ (args m c).o (Fin.ext ?_) (Fin.ext ?_)))
  · show 1024 * (t.val % 8) + (y 1).val = win0_4.index t (1 : Fin 3) * 1024 + 1 * (y 1).val
    rw [hi]
    show 1024 * (t.val % 8) + (y 1).val = t.val % 8 * 1024 + 1 * (y 1).val
    omega
  · show 512 * (t.val / 8) + (y 2).val = win0_4.index t (2 : Fin 3) * 512 + 1 * (y 2).val
    rw [hi]
    show 512 * (t.val / 8) + (y 2).val = t.val / 8 * 512 + 1 * (y 2).val
    omega

end Cert.Kernel12Ideal.Conv

end
-- ==== Proof.ConvSRef.lean ====
module

public import proofs.«01_k».proof.Proof.ConvSpec
public import proofs.«01_k».proof.Proof.Gen.Reference13Ideal.Run
public import Idealize.ShloMosaic.Lib.Pointwise

@[expose] public section

set_option maxRecDepth 16384

noncomputable section

open Idealize.ShloMosaic Idealize.ShloMosaic.TcCoe Idealize.SL.Sem

namespace Cert.Reference13Ideal.Conv

open Cert.Conv Cert.Reference13Ideal Cert.Reference13Ideal.Gen Cert.Reference13Ideal.Value

variable (m : (ℓ : Loc nD τ sig) → Buf (Elt Ideal) ℓ) (c : Dev nD)

/-- The samples' convolution's arguments, as the memory holds them. -/
def args : SArgs where
  x i l k := (m ((c.tc : Thread nD τ).loc main_arg0) : Vec Ideal S128x4x2560 .f32) (ix3 i l k)
  s i l k := (m ((c.tc : Thread nD τ).loc main_arg1) : Vec Ideal S1x128x3x2560 .f32) (ix4 0 i l k)
  w j k := (m ((c.tc : Thread nD τ).loc main_arg2) : Vec Ideal S1x4x2560 .f32) (ix3 0 j k)
  b k := (m ((c.tc : Thread nD τ).loc main_arg3) : Vec Ideal S1x2560 .f32) (ix2 0 k)

/-- The held rows and the tokens' behind them. -/
def cat (s : FVec Ideal S1x128x3x2560 .f32) (x : FVec Ideal S128x4x2560 .f32) : FVec Ideal S128x11x2560 .f32 :=
  concatenate S128x11x2560 1 [⟨S128x3x2560, (shapeCast S128x3x2560 s shapeCasts_S1x128x3x2560_S128x3x2560)⟩, ⟨S128x8x2560, (pad S128x8x2560 ![0, 0, 0] ![0, 4, 0] ![0, 0, 0] x (sitofp .f32 (constantI S_ 32 0#32)) pads_S128x4x2560_S128x8x2560_000_040_000 h_S_)⟩] concatenates_S128x3x2560_S128x8x2560_S128x11x2560_d1
theorem zero_int : (FloatOps.sitofp (F := Ideal) .f32 (0#32) : EReal) = 0 := by show ((BitVec.toInt 0#32 : ℝ) : EReal) = 0; simp
/-- The rows, entry by entry. -/
theorem cat_apply (s : FVec Ideal S1x128x3x2560 .f32) (x : FVec Ideal S128x4x2560 .f32) (i : Fin 128) (r : Fin 11) (k : Fin 2560) :
    cat s x (ix3 i r k) = if h : r.val < 3 then s (ix4 0 i ⟨r.val, h⟩ k) else if h' : r.val - 3 < 4 then x (ix3 i ⟨r.val - 3, h'⟩ k) else 0 := by
  pointwise [cat]
  by_cases h : r.val < 3
  · rw [dif_pos h, dif_pos h]
  · rw [dif_neg h, dif_neg h]
    by_cases h' : r.val - 3 < 4
    · rw [dif_pos h', dif_pos h']
    · rw [dif_neg h', dif_neg h']; exact zero_int

/-- The sum of the taps, as the reference writes it. -/
def pre (u : FVec Ideal S128x11x2560 .f32) (w : FVec Ideal S1x4x2560 .f32) (b : FVec Ideal S1x2560 .f32) : FVec Ideal S128x8x2560 .f32 :=
  addf (addf (addf (addf (broadcastInDim S128x8x2560 ![0, 1, 2] bcast_S1x1x2560_S128x8x2560_0_1_2 (broadcastInDim S1x1x2560 ![2] bcast_S2560_S1x1x2560_2 (shapeCast _ b shapeCasts_S1x2560_S2560)))
    (mulf (extractStridedSlice S128x8x2560 ![0, 0, 0] u slices_S128x11x2560_S128x8x2560_0_0_0) (broadcastInDim S128x8x2560 ![0, 1, 2] bcast_S1x1x2560_S128x8x2560_0_1_2 (broadcastInDim S1x1x2560 ![2] bcast_S2560_S1x1x2560_2 (shapeCast _ (extractStridedSlice S1x2560 ![0, 0] (shapeCast _ w shapeCasts_S1x4x2560_S4x2560) slices_S4x2560_S1x2560_0_0) shapeCasts_S1x2560_S2560)))))
    (mulf (extractStridedSlice S128x8x2560 ![0, 1, 0] u slices_S128x11x2560_S128x8x2560_0_1_0) (broadcastInDim S128x8x2560 ![0, 1, 2] bcast_S1x1x2560_S128x8x2560_0_1_2 (broadcastInDim S1x1x2560 ![2] bcast_S2560_S1x1x2560_2 (shapeCast _ (extractStridedSlice S1x2560 ![1, 0] (shapeCast _ w shapeCasts_S1x4x2560_S4x2560) slices_S4x2560_S1x2560_1_0) shapeCasts_S1x2560_S2560)))))
    (mulf (extractStridedSlice S128x8x2560 ![0, 2, 0] u slices_S128x11x2560_S128x8x2560_0_2_0) (broadcastInDim S128x8x2560 ![0, 1, 2] bcast_S1x1x2560_S128x8x2560_0_1_2 (broadcastInDim S1x1x2560 ![2] bcast_S2560_S1x1x2560_2 (shapeCast _ (extractStridedSlice S1x2560 ![2, 0] (shapeCast _ w shapeCasts_S1x4x2560_S4x2560) slices_S4x2560_S1x2560_2_0) shapeCasts_S1x2560_S2560)))))
    (mulf (extractStridedSlice S128x8x2560 ![0, 3, 0] u slices_S128x11x2560_S128x8x2560_0_3_0) (broadcastInDim S128x8x2560 ![0, 1, 2] bcast_S1x1x2560_S128x8x2560_0_1_2 (broadcastInDim S1x1x2560 ![2] bcast_S2560_S1x1x2560_2 (shapeCast _ (extractStridedSlice S1x2560 ![3, 0] (shapeCast _ w shapeCasts_S1x4x2560_S4x2560) slices_S4x2560_S1x2560_3_0) shapeCasts_S1x2560_S2560))))
/-- The sum, entry by entry. -/
theorem pre_apply (u : FVec Ideal S128x11x2560 .f32) (w : FVec Ideal S1x4x2560 .f32) (b : FVec Ideal S1x2560 .f32) (i : Fin 128) (r : Fin 8) (k : Fin 2560) :
    pre u w b (ix3 i r k) = b (ix2 0 k) + u (ix3 i ⟨r.val, by omega⟩ k) * w (ix3 0 0 k) + u (ix3 i ⟨1 + r.val, by omega⟩ k) * w (ix3 0 1 k) + u (ix3 i ⟨2 + r.val, by omega⟩ k) * w (ix3 0 2 k)
      + u (ix3 i ⟨3 + r.val, by omega⟩ k) * w (ix3 0 3 k) := by
  pointwise [pre]
/-- A sum times its sigmoid, as the reference writes it. -/
def swish (u : FVec Ideal S128x8x2560 .f32) : FVec Ideal S128x8x2560 .f32 :=
  mulf u (Host.divf (broadcastInDim S128x8x2560 ![] bcast_S_S128x8x2560 (constant S_ .f32 0x3F800000#32)) (addf (broadcastInDim S128x8x2560 ![] bcast_S_S128x8x2560 (constant S_ .f32 0x3F800000#32)) (Host.exp (Host.negf u))))
/-- It, entry by entry. -/
theorem swish_apply (u : FVec Ideal S128x8x2560 .f32) (i : Fin 128) (r : Fin 8) (k : Fin 2560) : swish u (ix3 i r k) = silu (u (ix3 i r k)) := by
  unfold silu
  pointwise [swish]

/-- A row of the padded ones, as one before a row. -/
theorem cat_row (i : Fin 128) (r : Fin 8) (k : Fin 2560) (d : Fin 4) (n : Fin 11) (hn : n.val + d.val = 3 + r.val) :
    cat (m ((c.tc : Thread nD τ).loc main_arg1)) (m ((c.tc : Thread nD τ).loc main_arg0)) (ix3 i n k) = (args m c).p i r k d := by
  rw [cat_apply]
  unfold SArgs.p SArgs.row
  by_cases h : d.val ≤ r.val
  · have e : n.val - 3 = r.val - d.val := by omega
    rw [dif_pos h, dif_neg (by omega)]
    by_cases h' : r.val - d.val < 4
    · rw [dif_pos h', dif_pos (e ▸ h')]
      exact congrArg (fun u => (args m c).x i u k) (Fin.ext e)
    · rw [dif_neg h', dif_neg (e ▸ h')]
  · rw [dif_neg h, dif_pos (by omega)]
    exact congrArg (fun u => (args m c).s i u k) (Fin.ext (by show n.val = 3 + r.val - d.val; omega))

/-- The value, entry by entry. -/
theorem res_apply (i : Fin 128) (r : Fin 8) (k : Fin 2560) : (res_main_v35 m c : Vec Ideal S128x8x2560 .f32) (ix3 i r k) = (args m c).o i r k := by
  have e : (res_main_v35 m c : Vec Ideal S128x8x2560 .f32)
      = swish (pre (cat (m ((c.tc : Thread nD τ).loc main_arg1)) (m ((c.tc : Thread nD τ).loc main_arg0))) (m ((c.tc : Thread nD τ).loc main_arg2)) (m ((c.tc : Thread nD τ).loc main_arg3))) := rfl
  rw [e, swish_apply, pre_apply]
  unfold SArgs.o
  rw [cat_row m c i r k 3 _ (by show r.val + 3 = 3 + r.val; omega), cat_row m c i r k 2 _ (by show 1 + r.val + 2 = 3 + r.val; omega), cat_row m c i r k 1 _ (by show 2 + r.val + 1 = 3 + r.val; omega), cat_row m c i r k 0 _ (by show 3 + r.val + 0 = 3 + r.val; omega)]
  exact congrArg silu (taps_rev ((args m c).b k) (fun j => (args m c).w j k) ((args m c).p i r k))

/-- The reference runs, leaves the samples' convolved channels, and keeps its arguments. -/
theorem run (ρ : Dev nD → PrngReg) : θ_run defs (onTc (τ := τ) (main (F := Ideal))) ⟨m, fun _ => 0, ρ⟩ fun r => ∀ c : Dev nD,
      r.2.mem ((c.tc : Thread nD τ).loc main_v35) = (fun i : S128x8x2560.Idx => (args m c).o (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (funext fun i => (congrArg _ (eq_ix3 i)).trans (res_apply m c (i 0) (i 1) (i 2))), (h c).2⟩) (Value.run m ρ)

end Cert.Reference13Ideal.Conv

end
-- ==== Proof.ConvSKernel.lean ====
module

public import proofs.«01_k».proof.Proof.ConvSpec
public import proofs.«01_k».proof.Proof.Gen.Kernel13Ideal.Value
public import Idealize.ShloMosaic.Lib.Pipeline.ValueKit
public import Idealize.ShloMosaic.Lib.Pipeline.ReadBack
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.Kernel13Ideal.Conv

open Cert.Conv Cert.Kernel13Ideal Cert.Kernel13Ideal.Gen Cert.Kernel13Ideal.Value

/-! ## What the body computes from its loads -/

/-- The eight rows held and a block's rows behind them. -/
def cat (v x : FVec Ideal S8x2560 .f32) : FVec Ideal S16x2560 .f32 := concatenate S16x2560 0 [⟨S8x2560, v⟩, ⟨S8x2560, x⟩] concatenates_S8x2560_S8x2560_S16x2560_d0
/-- The rows, entry by entry. -/
theorem cat_apply (v x : FVec Ideal S8x2560 .f32) (r : Fin 16) (q : Fin 2560) :
    cat v x (ix2 r q) = if h : r.val < 8 then v (ix2 ⟨r.val, h⟩ q) else x (ix2 ⟨r.val - 8, by omega⟩ q) := by
  pointwise [cat]
/-- The block's rows moved on by `n`. -/
def moved (n : BitVec 32) (v x : FVec Ideal S8x2560 .f32) : FVec Ideal S8x2560 .f32 :=
  extractStridedSlice S8x2560 ![8, 0] (dynamicRotate 0 n none (cat v x) rotates_S16x2560_d0) slices_S16x2560_o8_0_S8x2560
/-- The rows moved on, entry by entry. -/
theorem moved_apply (n : BitVec 32) (hn : n.toNat ≤ 8) (v x : FVec Ideal S8x2560 .f32) (r : Fin 8) (q : Fin 2560) :
    moved n v x (ix2 r q) = if h : n.toNat ≤ r.val then x (ix2 ⟨r.val - n.toNat, by omega⟩ q) else v (ix2 ⟨8 + r.val - n.toNat, by omega⟩ q) := by
  have e : moved n v x (ix2 r q) = dynamicRotate 0 n none (cat v x) rotates_S16x2560_d0 (ix2 ⟨8 + r.val, by omega⟩ q) := by
    unfold moved
    generalize dynamicRotate 0 n none (cat v x) rotates_S16x2560_d0 = u
    pointwise
  rw [e, dynamicRotate_apply 0 n (cat v x) rotates_S16x2560_d0 _ (ix2 (⟨8 + r.val - n.toNat, by omega⟩ : Fin 16) q) (fun b => ?_), cat_apply]
  · by_cases h : n.toNat ≤ r.val
    · rw [dif_pos h, dif_neg (by show ¬ 8 + r.val - n.toNat < 8; omega)]
      exact congrArg (fun u => x (ix2 u q)) (Fin.ext (by show 8 + r.val - n.toNat - 8 = r.val - n.toNat; omega))
    · rw [dif_neg h, dif_pos (by show 8 + r.val - n.toNat < 8; omega)]
  · match b with
    | ⟨0, _⟩ =>
      refine Eq.trans ?_ (if_pos rfl).symm
      show 8 + r.val - n.toNat = (8 + r.val + 16 - n.toNat % 16) % 16
      omega
    | ⟨1, _⟩ => exact (if_neg (fun h => by cases h)).symm

/-- The sum of the taps, as the body computes it. -/
theorem pay5_apply (v3 : Vec Ideal S1x8x2560 .f32) (v5 : Vec Ideal S8x2560 .f32) (v7 v9 v17 v24 v31 : Vec Ideal S1x2560 .f32) (r : Fin 8) (q : Fin 2560) :
    (k0_pay5 v3 v5 v7 v9 v17 v24 v31 : FVec Ideal S8x2560 .f32) (ix2 r q)
      = v7 (ix2 0 q) + v3 (ix3 0 r q) * v9 (ix2 0 q) + moved 1#32 v5 (k0_pay4 v3) (ix2 r q) * v17 (ix2 0 q) + moved 2#32 v5 (k0_pay4 v3) (ix2 r q) * v24 (ix2 0 q)
        + moved 3#32 v5 (k0_pay4 v3) (ix2 r q) * v31 (ix2 0 q) := by
  have e : (k0_pay5 v3 v5 v7 v9 v17 v24 v31 : FVec Ideal S8x2560 .f32)
      = addf (addf (addf (addf (broadcastTo S8x2560 (shapeCast S1x2560 v7 shapeCasts_S1x2560_S1x2560) broadcasts_S1x2560_S8x2560)
          (mulf (shapeCast S8x2560 v3 shapeCasts_S1x8x2560_S8x2560) (broadcastTo S8x2560 (shapeCast S1x2560 v9 shapeCasts_S1x2560_S1x2560) broadcasts_S1x2560_S8x2560)))
          (mulf (moved 1#32 v5 (k0_pay4 v3)) (broadcastTo S8x2560 (shapeCast S1x2560 v17 shapeCasts_S1x2560_S1x2560) broadcasts_S1x2560_S8x2560)))
          (mulf (moved 2#32 v5 (k0_pay4 v3)) (broadcastTo S8x2560 (shapeCast S1x2560 v24 shapeCasts_S1x2560_S1x2560) broadcasts_S1x2560_S8x2560)))
          (mulf (moved 3#32 v5 (k0_pay4 v3)) (broadcastTo S8x2560 (shapeCast S1x2560 v31 shapeCasts_S1x2560_S1x2560) broadcasts_S1x2560_S8x2560)) := rfl
  rw [e]
  generalize moved 1#32 v5 (k0_pay4 v3) = m1
  generalize moved 2#32 v5 (k0_pay4 v3) = m2
  generalize moved 3#32 v5 (k0_pay4 v3) = m3
  pointwise
/-- A sum times its sigmoid, as the body computes it. -/
theorem pay1_apply (u : FVec Ideal S8x2560 .f32) (r : Fin 8) (q : Fin 2560) : (k0_pay1 u : FVec Ideal S1x8x2560 .f32) (ix3 0 r q) = silu (u (ix2 r q)) := by
  unfold silu
  pointwise [k0_pay1]
  rw [zero_sub]
/-- The block's rows. -/
theorem pay4_apply (x : Vec Ideal S1x8x2560 .f32) (r : Fin 8) (q : Fin 2560) : (k0_pay4 x : FVec Ideal S8x2560 .f32) (ix2 r q) = x (ix3 0 r q) := by
  pointwise [k0_pay4]
/-- The held rows. -/
theorem pay3_apply (x : Vec Ideal S1x8x2560 .f32) (r : Fin 8) (q : Fin 2560) : (k0_pay3 x : FVec Ideal S8x2560 .f32) (ix2 r q) = x (ix3 0 r q) := by
  pointwise [k0_pay3]

variable (m : (ℓ : Loc nD τ sig) → Buf (Elt Ideal) ℓ) (c : Dev nD)

/-- The samples' convolution's arguments, as the memory holds them. -/
def args : SArgs where
  x i l k := (m ((c : Thread nD τ).loc main_arg0) : Vec Ideal S128x4x2560 .f32) (ix3 i l k)
  s i l k := (m ((c : Thread nD τ).loc main_arg1) : Vec Ideal S1x128x3x2560 .f32) (ix4 0 i l k)
  w j k := (m ((c : Thread nD τ).loc main_arg2) : Vec Ideal S1x4x2560 .f32) (ix3 0 j k)
  b k := (m ((c : Thread nD τ).loc main_arg3) : Vec Ideal S1x2560 .f32) (ix2 0 k)

/-! ## What the host hands the call -/

/-- The tokens, each sequence in eight rows. -/
def hX (X : FVec Ideal S128x4x2560 .f32) : FVec Ideal S128x8x2560 .f32 := pad S128x8x2560 ![0, 0, 0] ![0, 4, 0] ![0, 0, 0] X (sitofp .f32 (constantI S_ 32 0#32)) pads_S128x4x2560_S128x8x2560_000_040_000 h_S_
/-- The held values, in the last three of eight rows. -/
def hS (s : FVec Ideal S1x128x3x2560 .f32) : FVec Ideal S128x8x2560 .f32 :=
  concatenate S128x8x2560 1 [⟨S128x5x2560, broadcastInDim S128x5x2560 ![] bcast_S_S128x5x2560 (constant S_ .f32 0x00000000#32)⟩, ⟨S128x3x2560, shapeCast S128x3x2560 s shapeCasts_S1x128x3x2560_S128x3x2560⟩] concatenates_S128x5x2560_S128x3x2560_S128x8x2560_d1

theorem zero_int : (FloatOps.sitofp (F := Ideal) .f32 (0#32) : EReal) = 0 := by show ((BitVec.toInt 0#32 : ℝ) : EReal) = 0; simp
theorem hX_apply (X : FVec Ideal S128x4x2560 .f32) (i : Fin 128) (e : Fin 8) (k : Fin 2560) : hX X (ix3 i e k) = if h : e.val < 4 then X (ix3 i ⟨e.val, h⟩ k) else 0 := by
  pointwise [hX]
  by_cases h : e.val < 4
  · rw [dif_pos h, dif_pos h]
  · rw [dif_neg h, dif_neg h]; exact zero_int
theorem hS_apply (s : FVec Ideal S1x128x3x2560 .f32) (i : Fin 128) (l : Fin 3) (k : Fin 2560) : hS s (ix3 i ⟨5 + l.val, by omega⟩ k) = s (ix4 0 i l k) := by
  pointwise [hS]

/-- The tokens the call takes. -/
theorem V_x : (V m c main_v3 : Vec Ideal S128x8x2560 .f32) = hX (m ((c : Thread nD τ).loc main_arg0)) := by
  unfold V
  simp only [List.flatten_cons, List.flatten_nil, List.append_nil, List.cons_append, List.nil_append, hostOps0, hostOps0_1, hostOps0_2, StableHlo.TRef.unary, StableHlo.TRef.binary, StableHlo.TRef.toBuf, StableHlo.TRef.ofBuf, cast_eq]
  after_results
  rfl
/-- The held values the call takes. -/
theorem V_s : (V m c main_v2 : Vec Ideal S128x8x2560 .f32) = hS (m ((c : Thread nD τ).loc main_arg1)) := by
  unfold V
  simp only [List.flatten_cons, List.flatten_nil, List.append_nil, List.cons_append, List.nil_append, hostOps0, hostOps0_1, hostOps0_2, StableHlo.TRef.unary, StableHlo.TRef.binary, StableHlo.TRef.toBuf, StableHlo.TRef.ofBuf, cast_eq]
  after_results
  rfl
/-- The taps the call takes. -/
theorem V_w : (V m c main_v4 : Vec Ideal S4x2560 .f32) = shapeCast S4x2560 (m ((c : Thread nD τ).loc main_arg2) : Vec Ideal S1x4x2560 .f32) shapeCasts_S1x4x2560_S4x2560 := by
  unfold V
  simp only [List.flatten_cons, List.flatten_nil, List.append_nil, List.cons_append, List.nil_append, hostOps0, hostOps0_1, hostOps0_2, StableHlo.TRef.unary, StableHlo.TRef.binary, StableHlo.TRef.toBuf, StableHlo.TRef.ofBuf, cast_eq]
  after_results
  rfl
/-- The bias the call takes. -/
theorem V_b : (V m c main_v6 : Vec Ideal S1x2560 .f32) = shapeCast S1x2560 (shapeCast S2560 (m ((c : Thread nD τ).loc main_arg3) : Vec Ideal S1x2560 .f32) shapeCasts_S1x2560_S2560) shapeCasts_S2560_S1x2560 := by
  unfold V
  simp only [List.flatten_cons, List.flatten_nil, List.append_nil, List.cons_append, List.nil_append, hostOps0, hostOps0_1, hostOps0_2, StableHlo.TRef.unary, StableHlo.TRef.binary, StableHlo.TRef.toBuf, StableHlo.TRef.ofBuf, cast_eq]
  after_results
  rfl
theorem w_apply (w : FVec Ideal S1x4x2560 .f32) (j : Fin 4) (k : Fin 2560) : (shapeCast S4x2560 w shapeCasts_S1x4x2560_S4x2560 : FVec Ideal S4x2560 .f32) (ix2 j k) = w (ix3 0 j k) := by
  pointwise
theorem b_apply (b : FVec Ideal S1x2560 .f32) (k : Fin 2560) : (shapeCast S1x2560 (shapeCast S2560 b shapeCasts_S1x2560_S2560 : FVec Ideal S2560 .f32) shapeCasts_S2560_S1x2560 : FVec Ideal S1x2560 .f32) (ix2 0 k) = b (ix2 0 k) := by
  pointwise

/-! ## What a grid point takes and leaves -/

/-- The printed index maps, decided over the grid. -/
theorem idxs : ∀ t : Fin cfg0.N, win0_0.index t = ![t.val, 0, 0] ∧ win0_1.index t = ![t.val, 0, 0] ∧ win0_2.index t = ![0, 0] ∧ win0_3.index t = ![0, 0] ∧ win0_4.index t = ![t.val, 0, 0] :=
  (by decide +kernel : ∀ t : Fin grid0.N, _)
/-- A point's sequence. -/
def sq (t : Fin cfg0.N) : Fin 128 := ⟨t.val, lt_of_lt_of_eq t.isLt N_0⟩

theorem in0 (t : Fin cfg0.N) (e : Fin 8) (k : Fin 2560) : (iblk m c 0 t : Vec Ideal S1x8x2560 .f32) (ix3 0 e k) = (V m c main_v3 : Vec Ideal S128x8x2560 .f32) (ix3 (sq t) e k) := by
  unfold sq
  blk_ext [iblk, idxs t]
theorem in1 (t : Fin cfg0.N) (e : Fin 8) (k : Fin 2560) : (iblk m c 1 t : Vec Ideal S1x8x2560 .f32) (ix3 0 e k) = (V m c main_v2 : Vec Ideal S128x8x2560 .f32) (ix3 (sq t) e k) := by
  unfold sq
  blk_ext [iblk, idxs t]
theorem in2 (t : Fin cfg0.N) (j : Fin 4) (k : Fin 2560) : (iblk m c 2 t : Vec Ideal S4x2560 .f32) (ix2 j k) = (args m c).w j k := by
  refine Eq.trans ?_ ((congrFun (V_w m c) (ix2 j k)).trans (w_apply _ j k))
  blk_ext [iblk, idxs t]
theorem in3 (t : Fin cfg0.N) (k : Fin 2560) : (iblk m c 3 t : Vec Ideal S1x2560 .f32) (ix2 0 k) = (args m c).b k := by
  refine Eq.trans ?_ ((congrFun (V_b m c) (ix2 0 k)).trans (b_apply _ k))
  blk_ext [iblk, idxs t]
/-- A row of the point's. -/
theorem row_eq (t : Fin cfg0.N) (e : Fin 8) (k : Fin 2560) : (iblk m c 0 t : Vec Ideal S1x8x2560 .f32) (ix3 0 e k) = (args m c).row (sq t) e k :=
  (in0 m c t e k).trans ((congrFun (V_x m c) _).trans (hX_apply _ _ _ _))
/-- A held row of the point's. -/
theorem held_eq (t : Fin cfg0.N) (l : Fin 3) (k : Fin 2560) : (iblk m c 1 t : Vec Ideal S1x8x2560 .f32) (ix3 0 ⟨5 + l.val, by omega⟩ k) = (args m c).s (sq t) l k :=
  (in1 m c t _ k).trans ((congrFun (V_s m c) _).trans (hS_apply _ _ _ _))

/-- A row of the taps. -/
theorem tap_apply (w : Vec Ideal S4x2560 .f32) (o : ℕ) (ho : o < 4) (h) (q : Fin 2560) : (View.ld w (Rect.unit ![o, 0] ![1, 2560] h) : Vec Ideal S1x2560 .f32) (ix2 0 q) = w (ix2 ⟨o, ho⟩ q) := by
  show w _ = w _
  refine congrArg w (funext fun a => Fin.ext ?_)
  match a with
  | ⟨0, _⟩ => show o + 1 * 0 = o; omega
  | ⟨1, _⟩ => show 0 + 1 * q.val = q.val; omega

/-- The row `d` before. -/
theorem moved_eq (t : Fin cfg0.N) (n : BitVec 32) (d : Fin 4) (hd : n.toNat = d.val) (r : Fin 8) (q : Fin 2560) :
    moved n (k0_pay3 (iblk m c 1 t)) (k0_pay4 (iblk m c 0 t)) (ix2 r q) = (args m c).p (sq t) r q d := by
  rw [moved_apply n (by omega)]
  unfold SArgs.p
  by_cases h : d.val ≤ r.val
  · rw [dif_pos h, dif_pos (hd ▸ h)]
    refine (pay4_apply _ _ q).trans ((row_eq m c t _ q).trans (congrArg (fun u => (args m c).row (sq t) u q) (Fin.ext ?_)))
    show r.val - n.toNat = r.val - d.val
    omega
  · rw [dif_neg h, dif_neg (hd ▸ h)]
    refine (pay3_apply _ _ q).trans (Eq.trans ?_ (held_eq m c t ⟨3 + r.val - d.val, by omega⟩ q))
    refine congrArg (fun u => (iblk m c 1 t : Vec Ideal S1x8x2560 .f32) (ix3 0 u q)) (Fin.ext ?_)
    show 8 + r.val - n.toNat = 5 + (3 + r.val - d.val)
    omega

/-- A point's output block. -/
theorem out4 (t : Fin cfg0.N) : (outsAt0 m c t : Vec Ideal S1x8x2560 .f32) = k0_pay1 (k0_pay5 (iblk m c 0 t) (k0_pay3 (iblk m c 1 t)) (iblk m c 3 t)
    (View.ld (iblk m c 2 t) (Rect.unit ![3, 0] ![1, 2560] inb_S4x2560_S1x2560_3_0)) (View.ld (iblk m c 2 t) (Rect.unit ![2, 0] ![1, 2560] inb_S4x2560_S1x2560_2_0))
    (View.ld (iblk m c 2 t) (Rect.unit ![1, 0] ![1, 2560] inb_S4x2560_S1x2560_1_0)) (View.ld (iblk m c 2 t) (Rect.unit ![0, 0] ![1, 2560] inb_S4x2560_S1x2560_0_0))) := by
  unfold outsAt0
  frame_out
  rfl
/-- Its entries. -/
theorem out_eq (t : Fin cfg0.N) (r : Fin 8) (q : Fin 2560) : (outsAt0 m c t : Vec Ideal S1x8x2560 .f32) (ix3 0 r q) = (args m c).o (sq t) r q := by
  refine (congrFun (out4 m c t) _).trans ((pay1_apply _ r q).trans ?_)
  unfold SArgs.o
  refine congrArg silu ((pay5_apply _ _ _ _ _ _ _ r q).trans ?_)
  rw [moved_eq m c t 1#32 1 rfl, moved_eq m c t 2#32 2 rfl, moved_eq m c t 3#32 3 rfl, in3 m c t q, row_eq m c t r q]
  rw [tap_apply (iblk m c 2 t) 3 (by omega) inb_S4x2560_S1x2560_3_0 q, tap_apply (iblk m c 2 t) 2 (by omega) inb_S4x2560_S1x2560_2_0 q, tap_apply (iblk m c 2 t) 1 (by omega) inb_S4x2560_S1x2560_1_0 q, tap_apply (iblk m c 2 t) 0 (by omega) inb_S4x2560_S1x2560_0_0 q]
  rw [in2 m c t _ q, in2 m c t _ q, in2 m c t _ q, in2 m c t _ q]
  rfl

/-- The array ends at the samples' convolved channels. -/
theorem final4 : (dats m 0 c).arrAt 4 cfg0.N = fun i : S128x8x2560.Idx => (args m c).o (i 0) (i 1) (i 2) := by
  refine (dats m 0 c).arrAt_eq_of_covers 4 _ (by decide +kernel) fun t hf y => ?_
  blk_simp
  rw [after0_4]
  have hi : win0_4.index t = ![t.val, 0, 0] := (idxs t).2.2.2.2
  have hy : y = ix3 (0 : Fin 1) (y 1) (y 2) := (eq_ix3 y).trans (congrArg (fun u : Fin 1 => ix3 u (y 1) (y 2)) (Subsingleton.elim _ _))
  have e0 : sq t = ((win0_4.blk t).view.emb y : S128x8x2560.Idx) 0 := Fin.ext (by
    have hz : (y 0).val = 0 := by have := (y 0).isLt; exact Nat.lt_one_iff.mp this
    show t.val = win0_4.index t (0 : Fin 3) * 1 + 1 * (y 0).val
    rw [hi, hz]
    show t.val = t.val * 1 + 1 * 0
    omega)
  have e1 : (y 1 : Fin 8) = ((win0_4.blk t).view.emb y : S128x8x2560.Idx) 1 := Fin.ext (by
    show (y 1).val = win0_4.index t (1 : Fin 3) * 8 + 1 * (y 1).val
    rw [hi]
    show (y 1).val = 0 * 8 + 1 * (y 1).val
    omega)
  have e2 : (y 2 : Fin 2560) = ((win0_4.blk t).view.emb y : S128x8x2560.Idx) 2 := Fin.ext (by
    show (y 2).val = win0_4.index t (2 : Fin 3) * 2560 + 1 * (y 2).val
    rw [hi]
    show (y 2).val = 0 * 2560 + 1 * (y 2).val
    omega)
  refine (congrArg _ hy).trans ((out_eq m c t (y 1) (y 2)).trans ?_)
  rw [e0]
  exact congrArg₂ ((args m c).o _) e1 e2

end Cert.Kernel13Ideal.Conv

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent
public import proofs.«01_k».proof.Proof.KernelValue
public import proofs.«01_k».proof.Proof.RefValue
public import proofs.«01_k».proof.Proof.FfnValue
public import proofs.«01_k».proof.Proof.FfnRef
public import proofs.«01_k».proof.Proof.ProjAKernel
public import proofs.«01_k».proof.Proof.ProjARef
public import proofs.«01_k».proof.Proof.ProjSKernel
public import proofs.«01_k».proof.Proof.ProjSRef
public import proofs.«01_k».proof.Proof.MemKernel
public import proofs.«01_k».proof.Proof.MemRef
public import proofs.«01_k».proof.Proof.OutKernel
public import proofs.«01_k».proof.Proof.OutRef
public import proofs.«01_k».proof.Proof.CastKernel
public import proofs.«01_k».proof.Proof.CastRef
public import proofs.«01_k».proof.Proof.CastDownKernel
public import proofs.«01_k».proof.Proof.CastDownRef
public import proofs.«01_k».proof.Proof.SampleKernel
public import proofs.«01_k».proof.Proof.SampleRef
public import proofs.«01_k».proof.Proof.NormKernel
public import proofs.«01_k».proof.Proof.NormRef
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.ConvARef
public import proofs.«01_k».proof.Proof.ConvAKernel
public import proofs.«01_k».proof.Proof.ConvSRef
public import proofs.«01_k».proof.Proof.ConvSKernel

@[expose] public section

noncomputable section

namespace Cert.Proof

open Idealize.ShloMosaic Idealize.SL.Sem Cert.Kernel

/-- `Cert.quiescent_Kernel`: the kernel runs, keeps its arguments and ends quiescent. -/
theorem frame_kernel : Cert.quiescent_Kernel := fun m ρ _ => Cert.Kernel.Gen.frame m ρ
/-- `Cert.quiescent_KernelIdeal`: the same of the kernel over the reals. -/
theorem frame_ideal : Cert.quiescent_KernelIdeal := fun m ρ _ => Cert.KernelIdeal.Gen.frame m ρ
/-- `Cert.quiescent_ReferenceIdeal`: the reference runs and keeps its arguments; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Scan.run m ρ)

/-- Arguments that agree are one scan's arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Scan.args m' c = Cert.KernelIdeal.Scan.args m c := by
  unfold Cert.ReferenceIdeal.Scan.args Cert.KernelIdeal.Scan.args
  rw [h0, h1, h2, h3, h4]

/-- `Cert.algebraic_KernelIdeal_ReferenceIdeal`: the kernel's output and last state are the chunked scan of its arguments, and so are the reference's. -/
theorem algebraic : Cert.algebraic_KernelIdeal_ReferenceIdeal := by
  intro m ρ m' ρ' _ hagree
  refine ⟨fun c => Cert.KernelIdeal.Value.G7 m c, fun c => Cert.KernelIdeal.Value.G8 m c, Cert.KernelIdeal.Value.run m ρ, ?_⟩
  refine (θ_run _ _ _).mono (fun r h c => ⟨?_, ?_, (h c).2⟩) (Cert.ReferenceIdeal.Scan.run m' ρ')
  · have e := args_eq m m' c (hagree c).1 (hagree c).2.1 (hagree c).2.2.1 (hagree c).2.2.2.1 (hagree c).2.2.2.2
    refine Eq.trans ?_ (Cert.KernelIdeal.Scan.G7_eq m c).symm
    rw [← e]
    funext i
    exact (congrArg _ (eq_ix2 i)).trans ((h c).1.1 (i 0) (i 1))
  · have e := args_eq m m' c (hagree c).1 (hagree c).2.1 (hagree c).2.2.1 (hagree c).2.2.2.1 (hagree c).2.2.2.2
    refine Eq.trans ?_ (Cert.KernelIdeal.Scan.G8_eq m c).symm
    unfold Cert.KernelIdeal.Scan.stOf
    rw [← e]
    funext i
    exact (congrArg _ (eq_ix3 i)).trans ((h c).1.2 (i 0) (i 1) (i 2))

/-! ## The feed-forward network -/

/-- `Cert.quiescent_Kernel2`: the kernel runs, keeps its arguments and ends quiescent. -/
theorem frame_kernel2 : Cert.quiescent_Kernel2 := fun m ρ _ => Cert.Kernel2.Gen.frame m ρ
/-- `Cert.quiescent_Kernel2Ideal`: the same of the kernel over the reals. -/
theorem frame_ideal2 : Cert.quiescent_Kernel2Ideal := fun m ρ _ => Cert.Kernel2Ideal.Gen.frame m ρ
/-- `Cert.quiescent_Reference2Ideal`: the reference runs and keeps its arguments; it declares no semaphore. -/
theorem frame_reference2 : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Ffn.run m ρ)

/-- Arguments that agree are one half step's arguments. -/
theorem args_eq2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    Cert.Reference2Ideal.Ffn.args m' c = Cert.Kernel2Ideal.Ffn.args m c := by
  unfold Cert.Reference2Ideal.Ffn.args Cert.Kernel2Ideal.Ffn.args
  rw [h0, h1, h2, h3, h4]

/-- `Cert.algebraic_Kernel2Ideal_Reference2Ideal`: the kernel's rows and normed rows are the half step of its arguments, and so are the reference's. -/
theorem algebraic2 : Cert.algebraic_Kernel2Ideal_Reference2Ideal := by
  intro m ρ m' ρ' _ hagree
  refine ⟨fun c => Cert.Kernel2Ideal.Value.G6 m c, fun c => Cert.Kernel2Ideal.Value.G7 m c, Cert.Kernel2Ideal.Value.run m ρ, ?_⟩
  refine (θ_run _ _ _).mono (fun r h c => ?_) (Cert.Reference2Ideal.Ffn.run m' ρ')
  have e := args_eq2 m m' c (hagree c).1 (hagree c).2.1 (hagree c).2.2.1 (hagree c).2.2.2.1 (hagree c).2.2.2.2
  refine ⟨(h c).1.trans ?_, (h c).2.1.trans ?_, (h c).2.2⟩
  · refine Eq.trans ?_ (Cert.Kernel2Ideal.Ffn.G6_eq m c).symm
    rw [← e]
  · refine Eq.trans ?_ (Cert.Kernel2Ideal.Ffn.G7_eq m c).symm
    rw [← e]

/-! ## The attention layer's projection -/

/-- `Cert.quiescent_Kernel3`: the kernel runs, keeps its arguments and ends quiescent. -/
theorem frame_kernel3 : Cert.quiescent_Kernel3 := fun m ρ _ => Cert.Kernel3.Gen.frame m ρ
/-- `Cert.quiescent_Kernel3Ideal`: the same of the kernel over the reals. -/
theorem frame_ideal3 : Cert.quiescent_Kernel3Ideal := fun m ρ _ => Cert.Kernel3Ideal.Gen.frame m ρ
/-- `Cert.quiescent_Reference3Ideal`: the reference runs and keeps its arguments; it declares no semaphore. -/
theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Proj.run m ρ)

/-- Arguments that agree give the projection the same values. -/
theorem args_eq3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) :
    Cert.Reference3Ideal.Proj.args m' c = Cert.Kernel3Ideal.Proj.args m c := by
  unfold Cert.Reference3Ideal.Proj.args Cert.Kernel3Ideal.Proj.args
  rw [h0, h1, h2]

/-- `Cert.algebraic_Kernel3Ideal_Reference3Ideal`: the kernel's array is the projection of its arguments, and so is the reference's. -/
theorem algebraic3 : Cert.algebraic_Kernel3Ideal_Reference3Ideal := by
  intro m ρ m' ρ' _ hagree
  refine ⟨fun c => Cert.Kernel3Ideal.Value.G3 m c, Cert.Kernel3Ideal.Value.run m ρ, ?_⟩
  refine (θ_run _ _ _).mono (fun r h c => ?_) (Cert.Reference3Ideal.Proj.run m' ρ')
  have e := args_eq3 m m' c (hagree c).1 (hagree c).2.1 (hagree c).2.2
  refine ⟨(h c).1.trans ?_, (h c).2⟩
  refine Eq.trans ?_ (Cert.Kernel3Ideal.Proj.G3_eq m c).symm
  rw [← e]

/-! ## The state-space layer's projection -/

/-- `Cert.quiescent_Kernel4`: the kernel runs, keeps its arguments and ends quiescent. -/
theorem frame_kernel4 : Cert.quiescent_Kernel4 := fun m ρ _ => Cert.Kernel4.Gen.frame m ρ
/-- `Cert.quiescent_Kernel4Ideal`: the same of the kernel over the reals. -/
theorem frame_ideal4 : Cert.quiescent_Kernel4Ideal := fun m ρ _ => Cert.Kernel4Ideal.Gen.frame m ρ
/-- `Cert.quiescent_Reference4Ideal`: the reference runs and keeps its arguments; it declares no semaphore. -/
theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Proj.run m ρ)

/-- Arguments that agree give the projection the same values. -/
theorem args_eq4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    Cert.Reference4Ideal.Proj.args m' c = Cert.Kernel4Ideal.Proj.args m c := by
  unfold Cert.Reference4Ideal.Proj.args Cert.Kernel4Ideal.Proj.args
  rw [h0, h1, h2]

/-- `Cert.algebraic_Kernel4Ideal_Reference4Ideal`: the kernel's array is the projection of its arguments, and so is the reference's. -/
theorem algebraic4 : Cert.algebraic_Kernel4Ideal_Reference4Ideal := by
  intro m ρ m' ρ' _ hagree
  refine ⟨fun c => Cert.Kernel4Ideal.Value.G3 m c, Cert.Kernel4Ideal.Value.run m ρ, ?_⟩
  refine (θ_run _ _ _).mono (fun r h c => ?_) (Cert.Reference4Ideal.Proj.run m' ρ')
  have e := args_eq4 m m' c (hagree c).1 (hagree c).2.1 (hagree c).2.2
  refine ⟨(h c).1.trans ?_, (h c).2⟩
  refine Eq.trans ?_ (Cert.Kernel4Ideal.Proj.G3_eq m c).symm
  rw [← e]

/-! ## The memory's keys and values -/

/-- `Cert.quiescent_Kernel5`: the kernel runs, keeps its arguments and ends quiescent. -/
theorem frame_kernel5 : Cert.quiescent_Kernel5 := fun m ρ _ => Cert.Kernel5.Gen.frame m ρ
/-- `Cert.quiescent_Kernel5Ideal`: the same of the kernel over the reals. -/
theorem frame_ideal5 : Cert.quiescent_Kernel5Ideal := fun m ρ _ => Cert.Kernel5Ideal.Gen.frame m ρ
/-- `Cert.quiescent_Reference5Ideal`: the reference runs and keeps its arguments; it declares no semaphore. -/
theorem frame_reference5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Proj.run m ρ)

/-- Arguments that agree give the projection the same values. -/
theorem args_eq5 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    Cert.Reference5Ideal.Proj.args m' c = Cert.Kernel5Ideal.Proj.args m c := by
  unfold Cert.Reference5Ideal.Proj.args Cert.Kernel5Ideal.Proj.args
  rw [h0, h1, h2]

/-- `Cert.algebraic_Kernel5Ideal_Reference5Ideal`: what the kernel leaves is the projection of its arguments, and so is what the reference leaves. -/
theorem algebraic5 : Cert.algebraic_Kernel5Ideal_Reference5Ideal := by
  intro m ρ m' ρ' _ hagree
  refine ⟨fun c => (Cert.Kernel5Ideal.Gen.dats m 0 c).arrAt 3 Cert.Kernel5Ideal.cfg0.N, Cert.Kernel5Ideal.Value.run_blocks m ρ, ?_⟩
  refine (θ_run _ _ _).mono (fun r h c => ?_) (Cert.Reference5Ideal.Proj.run m' ρ')
  have e := args_eq5 m m' c (hagree c).1 (hagree c).2.1 (hagree c).2.2
  refine ⟨(h c).1.trans ?_, (h c).2⟩
  · refine Eq.trans ?_ (Cert.Kernel5Ideal.Proj.final3 m c).symm
    rw [← e]

/-! ## The way out -/

/-- `Cert.quiescent_Kernel6`: the kernel runs, keeps its arguments and ends quiescent. -/
theorem frame_kernel6 : Cert.quiescent_Kernel6 := fun m ρ _ => Cert.Kernel6.Gen.frame m ρ
/-- `Cert.quiescent_Kernel6Ideal`: the same of the kernel over the reals. -/
theorem frame_ideal6 : Cert.quiescent_Kernel6Ideal := fun m ρ _ => Cert.Kernel6Ideal.Gen.frame m ρ
/-- `Cert.quiescent_Reference6Ideal`: the reference runs and keeps its arguments; it declares no semaphore. -/
theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Proj.run m ρ)

/-- Arguments that agree give the way out the same values. -/
theorem args_eq6 (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h0 : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0))
    (h1 : m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1))
    (h2 : m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2))
    (h3 : m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) :
    Cert.Reference6Ideal.Proj.args m' c = Cert.Kernel6Ideal.Proj.args m c := by
  unfold Cert.Reference6Ideal.Proj.args Cert.Kernel6Ideal.Proj.args
  rw [h0, h1, h2, h3]

/-- `Cert.algebraic_Kernel6Ideal_Reference6Ideal`: what the kernel leaves is the way out of its arguments, and so is what the reference leaves. -/
theorem algebraic6 : Cert.algebraic_Kernel6Ideal_Reference6Ideal := by
  intro m ρ m' ρ' _ hagree
  refine ⟨fun c => (Cert.Kernel6Ideal.Gen.dats m 0 c).arrAt 5 Cert.Kernel6Ideal.cfg0.N, Cert.Kernel6Ideal.Value.run_blocks m ρ, ?_⟩
  refine (θ_run _ _ _).mono (fun r h c => ?_) (Cert.Reference6Ideal.Proj.run m' ρ')
  have e := args_eq6 m m' c (hagree c).1 (hagree c).2.1 (hagree c).2.2.1 (hagree c).2.2.2
  refine ⟨(h c).1.trans ?_, (h c).2⟩
  · refine Eq.trans ?_ (Cert.Kernel6Ideal.Proj.final5 m c).symm
    rw [← e]

/-! ## The feed-forward network's columns, cast -/

/-- `Cert.quiescent_Kernel7`: the kernel runs, keeps its arguments and ends quiescent. -/
theorem frame_kernel7 : Cert.quiescent_Kernel7 := fun m ρ _ => Cert.Kernel7.Gen.frame m ρ
/-- `Cert.quiescent_Kernel7Ideal`: the same of the kernel over the reals. -/
theorem frame_ideal7 : Cert.quiescent_Kernel7Ideal := fun m ρ _ => Cert.Kernel7Ideal.Gen.frame m ρ
/-- `Cert.quiescent_Reference7Ideal`: the reference runs and keeps its arguments; it declares no semaphore. -/
theorem frame_reference7 : Cert.quiescent_Reference7Ideal := fun m ρ _ =>
  (θ_run Cert.Reference7Ideal.defs _ _).mono (fun r h => ⟨fun c => (h c).2.2, Idealize.ShloMosaic.sem_eq_zero_of_no_sems (by decide) r.2⟩)
    (Cert.Reference7Ideal.Cast.run m ρ)

/-- Arguments that agree give the columns the same values. -/
theorem args_eq7 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (h0 : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) :
    Cert.Reference7Ideal.Cast.W m' c = Cert.Kernel7Ideal.Cast.W m c := by
  unfold Cert.Reference7Ideal.Cast.W Cert.Kernel7Ideal.Cast.W
  rw [h0]

/-- `Cert.algebraic_Kernel7Ideal_Reference7Ideal`: what the kernel leaves is the columns of its arguments, and so is what the reference leaves. -/
theorem algebraic7 : Cert.algebraic_Kernel7Ideal_Reference7Ideal := by
  intro m ρ m' ρ' _ hagree
  refine ⟨fun c => (Cert.Kernel7Ideal.Gen.dats m 0 c).arrAt 2 Cert.Kernel7Ideal.cfg0.N, fun c => (Cert.Kernel7Ideal.Gen.dats m 0 c).arrAt 3 Cert.Kernel7Ideal.cfg0.N, Cert.Kernel7Ideal.Value.run_blocks m ρ, ?_⟩
  refine (θ_run _ _ _).mono (fun r h c => ?_) (Cert.Reference7Ideal.Cast.run m' ρ')
  have e := args_eq7 m m' c (hagree c)
  refine ⟨(h c).1.trans ?_, (h c).2.1.trans ?_, (h c).2.2⟩
  · refine Eq.trans ?_ (Cert.Kernel7Ideal.Cast.final2 m c).symm
    rw [← e]
  · refine Eq.trans ?_ (Cert.Kernel7Ideal.Cast.final3 m c).symm
    rw [← e]

/-! ## The feed-forward network's way down, cast -/

/-- `Cert.quiescent_Kernel8`: the kernel runs, keeps its arguments and ends quiescent. -/
theorem frame_kernel8 : Cert.quiescent_Kernel8 := fun m ρ _ => Cert.Kernel8.Gen.frame m ρ
/-- `Cert.quiescent_Kernel8Ideal`: the same of the kernel over the reals. -/
theorem frame_ideal8 : Cert.quiescent_Kernel8Ideal := fun m ρ _ => Cert.Kernel8Ideal.Gen.frame m ρ
/-- `Cert.quiescent_Reference8Ideal`: the reference runs and keeps its arguments; it declares no semaphore. -/
theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Cast.run m ρ)

/-- Arguments that agree give the rows the same values. -/
theorem args_eq8 (m : (ℓ : Loc Cert.Kernel8Ideal.nD Cert.Kernel8Ideal.τ Cert.Kernel8Ideal.sig) → Buf (Elt Ideal) ℓ)
    (m' : (ℓ : Loc Cert.Reference8Ideal.nD Cert.Reference8Ideal.τ Cert.Reference8Ideal.sig) → Buf (Elt Ideal) ℓ) (c : Dev Cert.Kernel8Ideal.nD)
    (h0 : m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) :
    Cert.Reference8Ideal.Cast.W m' c = Cert.Kernel8Ideal.Cast.W m c := by
  unfold Cert.Reference8Ideal.Cast.W Cert.Kernel8Ideal.Cast.W
  rw [h0]

/-- `Cert.algebraic_Kernel8Ideal_Reference8Ideal`: what the kernel leaves is the rows of its arguments, and so is what the reference leaves. -/
theorem algebraic8 : Cert.algebraic_Kernel8Ideal_Reference8Ideal := by
  intro m ρ m' ρ' _ hagree
  refine ⟨fun c => (Cert.Kernel8Ideal.Gen.dats m 0 c).arrAt 1 Cert.Kernel8Ideal.cfg0.N, Cert.Kernel8Ideal.Value.run_blocks m ρ, ?_⟩
  refine (θ_run _ _ _).mono (fun r h c => ?_) (Cert.Reference8Ideal.Cast.run m' ρ')
  have e := args_eq8 m m' c (hagree c)
  refine ⟨(h c).1.trans ?_, (h c).2⟩
  · refine Eq.trans ?_ (Cert.Kernel8Ideal.Cast.final1 m c).symm
    rw [← e]

/-! ## The samples' state-space scan -/

/-- `Cert.quiescent_Kernel10`: the kernel runs, keeps its arguments and ends quiescent. -/
theorem frame_kernel10 : Cert.quiescent_Kernel10 := fun m ρ _ => Cert.Kernel10.Gen.frame m ρ
/-- `Cert.quiescent_Kernel10Ideal`: the same of the kernel over the reals. -/
theorem frame_ideal10 : Cert.quiescent_Kernel10Ideal := fun m ρ _ => Cert.Kernel10Ideal.Gen.frame m ρ
/-- `Cert.quiescent_Reference10Ideal`: the reference runs and keeps its arguments; it declares no semaphore. -/
theorem frame_reference10 : Cert.quiescent_Reference10Ideal := fun m ρ _ =>
  (θ_run Cert.Reference10Ideal.defs _ _).mono (fun r h => ⟨fun c => (h c).2.2, Idealize.ShloMosaic.sem_eq_zero_of_no_sems (by decide) r.2⟩)
    (Cert.Reference10Ideal.Samp.run m ρ)

/-- Arguments that agree give the samples' scan the same values. -/
theorem args_eq10 (m : (ℓ : Loc Cert.Kernel10Ideal.nD Cert.Kernel10Ideal.τ Cert.Kernel10Ideal.sig) → Buf (Elt Ideal) ℓ)
    (m' : (ℓ : Loc Cert.Reference10Ideal.nD Cert.Reference10Ideal.τ Cert.Reference10Ideal.sig) → Buf (Elt Ideal) ℓ) (c : Dev Cert.Kernel10Ideal.nD)
    (h0 : m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0))
    (h1 : m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1))
    (h2 : m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2))
    (h3 : m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3))
    (h4 : m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4))
    (h5 : m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) :
    Cert.Reference10Ideal.Samp.args m' c = Cert.Kernel10Ideal.Samp.args m c := by
  unfold Cert.Reference10Ideal.Samp.args Cert.Kernel10Ideal.Samp.args
  rw [h0, h1, h2, h3, h4, h5]

/-- `Cert.algebraic_Kernel10Ideal_Reference10Ideal`: what the kernel leaves is the samples' scan of its arguments, and so is what the reference leaves. -/
theorem algebraic10 : Cert.algebraic_Kernel10Ideal_Reference10Ideal := by
  intro m ρ m' ρ' _ hagree
  refine ⟨fun c => (Cert.Kernel10Ideal.Gen.dats m 0 c).arrAt 8 Cert.Kernel10Ideal.cfg0.N, fun c => (Cert.Kernel10Ideal.Gen.dats m 0 c).arrAt 9 Cert.Kernel10Ideal.cfg0.N, Cert.Kernel10Ideal.Value.run_blocks m ρ, ?_⟩
  refine (θ_run _ _ _).mono (fun r h c => ?_) (Cert.Reference10Ideal.Samp.run m' ρ')
  have e := args_eq10 m m' c (hagree c).1 (hagree c).2.1 (hagree c).2.2.1 (hagree c).2.2.2.1 (hagree c).2.2.2.2.1 (hagree c).2.2.2.2.2
  refine ⟨(h c).1.trans ?_, (h c).2.1.trans ?_, (h c).2.2⟩
  · refine Eq.trans ?_ (Cert.Kernel10Ideal.Samp.final8 m c).symm
    rw [← e]
  · refine Eq.trans ?_ (Cert.Kernel10Ideal.Samp.final9 m c).symm
    rw [← e]

/-! ## The prompt's causal convolution -/

/-- `Cert.quiescent_Kernel12`: the kernel runs, keeps its arguments and ends quiescent. -/
theorem frame_kernel12 : Cert.quiescent_Kernel12 := fun m ρ _ => Cert.Kernel12.Gen.frame m ρ
/-- `Cert.quiescent_Kernel12Ideal`: the same of the kernel over the reals. -/
theorem frame_ideal12 : Cert.quiescent_Kernel12Ideal := fun m ρ _ => Cert.Kernel12Ideal.Gen.frame m ρ
/-- `Cert.quiescent_Reference12Ideal`: the reference runs and keeps its arguments; it declares no semaphore. -/
theorem frame_reference12 : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Conv.run m ρ)

/-- Arguments that agree give the prompt's convolution the same values. -/
theorem args_eq12 (m : (ℓ : Loc Cert.Kernel12Ideal.nD Cert.Kernel12Ideal.τ Cert.Kernel12Ideal.sig) → Buf (Elt Ideal) ℓ)
    (m' : (ℓ : Loc Cert.Reference12Ideal.nD Cert.Reference12Ideal.τ Cert.Reference12Ideal.sig) → Buf (Elt Ideal) ℓ) (c : Dev Cert.Kernel12Ideal.nD)
    (h0 : m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0))
    (h1 : m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1))
    (h2 : m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) :
    Cert.Reference12Ideal.Conv.args m' c = Cert.Kernel12Ideal.Conv.args m c := by
  unfold Cert.Reference12Ideal.Conv.args Cert.Kernel12Ideal.Conv.args
  rw [h0, h1, h2]

/-- `Cert.algebraic_Kernel12Ideal_Reference12Ideal`: what the kernel leaves is the prompt's convolution of its arguments, and so is what the reference leaves. -/
theorem algebraic12 : Cert.algebraic_Kernel12Ideal_Reference12Ideal := by
  intro m ρ m' ρ' _ hagree
  refine ⟨fun c => (Cert.Kernel12Ideal.Gen.dats m 0 c).arrAt 4 Cert.Kernel12Ideal.cfg0.N, Cert.Kernel12Ideal.Value.run_blocks m ρ, ?_⟩
  refine (θ_run _ _ _).mono (fun r h c => ?_) (Cert.Reference12Ideal.Conv.run m' ρ')
  have e := args_eq12 m m' c (hagree c).1 (hagree c).2.1 (hagree c).2.2
  refine ⟨(h c).1.trans ?_, (h c).2⟩
  · refine Eq.trans ?_ (Cert.Kernel12Ideal.Conv.final4 m c).symm
    rw [← e]

/-! ## The samples' causal convolution -/

/-- `Cert.quiescent_Kernel13`: the kernel runs, keeps its arguments and ends quiescent. -/
theorem frame_kernel13 : Cert.quiescent_Kernel13 := fun m ρ _ => Cert.Kernel13.Gen.frame m ρ
/-- `Cert.quiescent_Kernel13Ideal`: the same of the kernel over the reals. -/
theorem frame_ideal13 : Cert.quiescent_Kernel13Ideal := fun m ρ _ => Cert.Kernel13Ideal.Gen.frame m ρ
/-- `Cert.quiescent_Reference13Ideal`: the reference runs and keeps its arguments; it declares no semaphore. -/
theorem frame_reference13 : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Conv.run m ρ)

/-- Arguments that agree give the samples' convolution the same values. -/
theorem args_eq13 (m : (ℓ : Loc Cert.Kernel13Ideal.nD Cert.Kernel13Ideal.τ Cert.Kernel13Ideal.sig) → Buf (Elt Ideal) ℓ)
    (m' : (ℓ : Loc Cert.Reference13Ideal.nD Cert.Reference13Ideal.τ Cert.Reference13Ideal.sig) → Buf (Elt Ideal) ℓ) (c : Dev Cert.Kernel13Ideal.nD)
    (h0 : m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0))
    (h1 : m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1))
    (h2 : m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2))
    (h3 : m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) :
    Cert.Reference13Ideal.Conv.args m' c = Cert.Kernel13Ideal.Conv.args m c := by
  unfold Cert.Reference13Ideal.Conv.args Cert.Kernel13Ideal.Conv.args
  rw [h0, h1, h2, h3]

/-- `Cert.algebraic_Kernel13Ideal_Reference13Ideal`: what the kernel leaves is the samples' convolution of its arguments, and so is what the reference leaves. -/
theorem algebraic13 : Cert.algebraic_Kernel13Ideal_Reference13Ideal := by
  intro m ρ m' ρ' _ hagree
  refine ⟨fun c => (Cert.Kernel13Ideal.Gen.dats m 0 c).arrAt 4 Cert.Kernel13Ideal.cfg0.N, Cert.Kernel13Ideal.Value.run_blocks m ρ, ?_⟩
  refine (θ_run _ _ _).mono (fun r h c => ?_) (Cert.Reference13Ideal.Conv.run m' ρ')
  have e := args_eq13 m m' c (hagree c).1 (hagree c).2.1 (hagree c).2.2.1 (hagree c).2.2.2
  refine ⟨(h c).1.trans ?_, (h c).2⟩
  · refine Eq.trans ?_ (Cert.Kernel13Ideal.Conv.final4 m c).symm
    rw [← e]

/-! ## The gated norm -/

/-- `Cert.quiescent_Kernel14`: the kernel runs, keeps its arguments and ends quiescent. -/
theorem frame_kernel14 : Cert.quiescent_Kernel14 := fun m ρ _ => Cert.Kernel14.Gen.frame m ρ
/-- `Cert.quiescent_Kernel14Ideal`: the same of the kernel over the reals. -/
theorem frame_ideal14 : Cert.quiescent_Kernel14Ideal := fun m ρ _ => Cert.Kernel14Ideal.Gen.frame m ρ
/-- `Cert.quiescent_Reference14Ideal`: the reference runs and keeps its arguments; it declares no semaphore. -/
theorem frame_reference14 : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Norm.run m ρ)

/-- Arguments that agree give the gated norm the same values. -/
theorem args_eq14 (m : (ℓ : Loc Cert.Kernel14Ideal.nD Cert.Kernel14Ideal.τ Cert.Kernel14Ideal.sig) → Buf (Elt Ideal) ℓ)
    (m' : (ℓ : Loc Cert.Reference14Ideal.nD Cert.Reference14Ideal.τ Cert.Reference14Ideal.sig) → Buf (Elt Ideal) ℓ) (c : Dev Cert.Kernel14Ideal.nD)
    (h0 : m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0))
    (h1 : m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1))
    (h2 : m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) :
    Cert.Reference14Ideal.Norm.args m' c = Cert.Kernel14Ideal.Norm.args m c := by
  unfold Cert.Reference14Ideal.Norm.args Cert.Kernel14Ideal.Norm.args
  rw [h0, h1, h2]

/-- `Cert.algebraic_Kernel14Ideal_Reference14Ideal`: what the kernel leaves is the gated norm of its arguments, and so is what the reference leaves. -/
theorem algebraic14 : Cert.algebraic_Kernel14Ideal_Reference14Ideal := by
  intro m ρ m' ρ' _ hagree
  refine ⟨fun c => (Cert.Kernel14Ideal.Gen.dats m 0 c).arrAt 3 Cert.Kernel14Ideal.cfg0.N, Cert.Kernel14Ideal.Value.run_blocks m ρ, ?_⟩
  refine (θ_run _ _ _).mono (fun r h c => ?_) (Cert.Reference14Ideal.Norm.run m' ρ')
  have e := args_eq14 m m' c (hagree c).1 (hagree c).2.1 (hagree c).2.2
  refine ⟨(h c).1.trans ?_, (h c).2⟩
  · refine Eq.trans ?_ (Cert.Kernel14Ideal.Norm.final3 m c).symm
    rw [← e]

/-- The certificate's claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel10.Gen.facts, Cert.Kernel10Ideal.Gen.facts, Cert.Reference10Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  frame_kernel, frame_ideal, frame_reference,
  frame_kernel2, frame_ideal2, frame_reference2,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel10, frame_ideal10, frame_reference10,
  frame_kernel12, frame_ideal12, frame_reference12,
  frame_kernel13, frame_ideal13, frame_reference13,
  frame_kernel14, frame_ideal14, frame_reference14,
  trivial, algebraic, trivial, algebraic2, trivial, algebraic3, trivial, algebraic4, trivial, algebraic5, trivial, algebraic6, trivial, algebraic7, trivial, algebraic8, trivial, algebraic10, trivial, algebraic12, trivial, algebraic13, trivial, algebraic14⟩

end Cert.Proof

end
